-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v68) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v36)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v36) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v43) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v37)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v37) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v26) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S16x2304x1024 : Shape := ⟨3, ![16, 2304, 1024]⟩
abbrev S2x16x2304x1024 : Shape := ⟨4, ![2, 16, 2304, 1024]⟩
abbrev S1x16x2304x1024 : Shape := ⟨4, ![1, 16, 2304, 1024]⟩
abbrev S_ : Shape := ⟨0, ![]⟩

class Facts : Prop where
  slices_S2x16x2304x1024_S1x16x2304x1024_0_0_0_0 : S2x16x2304x1024.Slices ![0, 0, 0, 0] S1x16x2304x1024
  shapeCasts_S1x16x2304x1024_S16x2304x1024 : S1x16x2304x1024.ShapeCasts S16x2304x1024
  bitsLt_bf16_f32 : FTy.bits .bf16 < FTy.bits .f32
  bcast_S_S16x2304x1024 : S_.BroadcastsInDim S16x2304x1024 (![] : Fin 0 → Fin S16x2304x1024.rank)

variable [Facts]

def fn_part1 {F : FTy → Type} [FloatOps F] (main_arg4 : FVec F S16x2304x1024 .bf16) (main_v5 : FVec F S16x2304x1024 .bf16) (main_v9 : IVec S16x2304x1024 1) (main_v12 : IVec S16x2304x1024 1) (main_v16 : IVec S16x2304x1024 1) (main_v19 : IVec S16x2304x1024 1) : IVec S16x2304x1024 1 :=
  let main_v20 : FVec F S16x2304x1024 .f32 := (extf .f32 · bitsLt_bf16_f32) main_arg4
  let main_v21 : FVec F S16x2304x1024 .f32 := Host.absf main_v20
  let main_cst_3 : FVec F S_ .f32 := constant S_ .f32 0x7F800000#32
  let main_v22 : FVec F S16x2304x1024 .f32 := broadcastInDim S16x2304x1024 ![] bcast_S_S16x2304x1024 main_cst_3
  let main_v23 : IVec S16x2304x1024 1 := cmpf .olt main_v21 main_v22
  let main_v24 : FVec F S16x2304x1024 .f32 := (extf .f32 · bitsLt_bf16_f32) main_v5
  let main_v25 : FVec F S16x2304x1024 .f32 := Host.absf main_v24
  let main_cst_4 : FVec F S_ .f32 := constant S_ .f32 0x7F800000#32
  let main_v26 : FVec F S16x2304x1024 .f32 := broadcastInDim S16x2304x1024 ![] bcast_S_S16x2304x1024 main_cst_4
  let main_v27 : IVec S16x2304x1024 1 := cmpf .olt main_v25 main_v26
  let main_v28 : IVec S16x2304x1024 1 := andi main_v9 main_v12
  let main_v29 : IVec S16x2304x1024 1 := andi main_v28 main_v16
  let main_v30 : IVec S16x2304x1024 1 := andi main_v29 main_v19
  let main_v31 : IVec S16x2304x1024 1 := andi main_v30 main_v23
  let main_v32 : IVec S16x2304x1024 1 := andi main_v31 main_v27
  main_v32

def fn {F : FTy → Type} [FloatOps F] (main_arg0 : FVec F S16x2304x1024 .bf16) (main_arg1 : FVec F S2x16x2304x1024 .f32) (main_arg2 : FVec F S2x16x2304x1024 .bf16) (main_arg3 : FVec F S16x2304x1024 .f32) (main_arg4 : FVec F S16x2304x1024 .bf16) (main_arg5 : FVec F S2x16x2304x1024 .bf16) : IVec S16x2304x1024 1 :=
  let main_v0 : FVec F S1x16x2304x1024 .f32 := (extractStridedSlice S1x16x2304x1024 ![0, 0, 0, 0] · slices_S2x16x2304x1024_S1x16x2304x1024_0_0_0_0) main_arg1
  let main_v1 : FVec F S16x2304x1024 .f32 := shapeCast S16x2304x1024 main_v0 shapeCasts_S1x16x2304x1024_S16x2304x1024
  let main_v2 : FVec F S1x16x2304x1024 .bf16 := (extractStridedSlice S1x16x2304x1024 ![0, 0, 0, 0] · slices_S2x16x2304x1024_S1x16x2304x1024_0_0_0_0) main_arg2
  let main_v3 : FVec F S16x2304x1024 .bf16 := shapeCast S16x2304x1024 main_v2 shapeCasts_S1x16x2304x1024_S16x2304x1024
  let main_v4 : FVec F S1x16x2304x1024 .bf16 := (extractStridedSlice S1x16x2304x1024 ![0, 0, 0, 0] · slices_S2x16x2304x1024_S1x16x2304x1024_0_0_0_0) main_arg5
  let main_v5 : FVec F S16x2304x1024 .bf16 := shapeCast S16x2304x1024 main_v4 shapeCasts_S1x16x2304x1024_S16x2304x1024
  let main_v6 : FVec F S16x2304x1024 .f32 := (extf .f32 · bitsLt_bf16_f32) main_arg0
  let main_v7 : FVec F S16x2304x1024 .f32 := Host.absf main_v6
  let main_cst : FVec F S_ .f32 := constant S_ .f32 0x7F800000#32
  let main_v8 : FVec F S16x2304x1024 .f32 := broadcastInDim S16x2304x1024 ![] bcast_S_S16x2304x1024 main_cst
  let main_v9 : IVec S16x2304x1024 1 := cmpf .olt main_v7 main_v8
  let main_v10 : FVec F S16x2304x1024 .f32 := Host.absf main_v1
  let main_cst_0 : FVec F S_ .f32 := constant S_ .f32 0x7F800000#32
  let main_v11 : FVec F S16x2304x1024 .f32 := broadcastInDim S16x2304x1024 ![] bcast_S_S16x2304x1024 main_cst_0
  let main_v12 : IVec S16x2304x1024 1 := cmpf .olt main_v10 main_v11
  let main_v13 : FVec F S16x2304x1024 .f32 := (extf .f32 · bitsLt_bf16_f32) main_v3
  let main_v14 : FVec F S16x2304x1024 .f32 := Host.absf main_v13
  let main_cst_1 : FVec F S_ .f32 := constant S_ .f32 0x7F800000#32
  let main_v15 : FVec F S16x2304x1024 .f32 := broadcastInDim S16x2304x1024 ![] bcast_S_S16x2304x1024 main_cst_1
  let main_v16 : IVec S16x2304x1024 1 := cmpf .olt main_v14 main_v15
  let main_v17 : FVec F S16x2304x1024 .f32 := Host.absf main_arg3
  let main_cst_2 : FVec F S_ .f32 := constant S_ .f32 0x7F800000#32
  let main_v18 : FVec F S16x2304x1024 .f32 := broadcastInDim S16x2304x1024 ![] bcast_S_S16x2304x1024 main_cst_2
  let main_v19 : IVec S16x2304x1024 1 := cmpf .olt main_v17 main_v18
  fn_part1 (F := F) main_arg4 main_v5 main_v9 main_v12 main_v16 main_v19
-- ==== Pre_finite4.lean ====
abbrev S16x2304x1024 : Shape := ⟨3, ![16, 2304, 1024]⟩
abbrev S2x16x2304x1024 : Shape := ⟨4, ![2, 16, 2304, 1024]⟩
abbrev S16x64 : Shape := ⟨2, ![16, 64]⟩
abbrev S1024 : Shape := ⟨1, ![1024]⟩
abbrev S1024x1024 : Shape := ⟨2, ![1024, 1024]⟩
abbrev S16x2048x1024 : Shape := ⟨3, ![16, 2048, 1024]⟩
abbrev S16x1024 : Shape := ⟨2, ![16, 1024]⟩
abbrev S_ : Shape := ⟨0, ![]⟩

class Facts : Prop where
  bcast_S_S16x2304x1024 : S_.BroadcastsInDim S16x2304x1024 (![] : Fin 0 → Fin S16x2304x1024.rank)
  reducesTo_S16x2304x1024_S_d0_1_2 : S16x2304x1024.ReducesTo [0, 1, 2] S_
  h_S_ : 0 < S_.numel
  bitsLt_bf16_f32 : FTy.bits .bf16 < FTy.bits .f32
  bcast_S_S2x16x2304x1024 : S_.BroadcastsInDim S2x16x2304x1024 (![] : Fin 0 → Fin S2x16x2304x1024.rank)
  reducesTo_S2x16x2304x1024_S_d0_1_2_3 : S2x16x2304x1024.ReducesTo [0, 1, 2, 3] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_v3 : IVec S_ 1) (main_v8 : IVec S_ 1) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v3 main_v8
  let main_v19 : IVec S_ 1 := andi main_v18 main_v13
  let main_v20 : IVec S_ 1 := andi main_v19 main_v17
  main_v20

def fn {F : FTy → Type} [FloatOps F] (main_arg0 : FVec F S16x2304x1024 .f32) (main_arg1 : FVec F S16x2304x1024 .bf16) (main_arg2 : FVec F S2x16x2304x1024 .bf16) (main_arg3 : FVec F S16x2304x1024 .f32) (main_arg4 : FVec F S16x2304x1024 .bf16) (main_arg5 : FVec F S16x64 .f32) (main_arg6 : FVec F S1024 .f32) (main_arg7 : FVec F S1024 .f32) (main_arg8 : FVec F S1024x1024 .f32) (main_arg9 : FVec F S16x2048x1024 .f32) (main_arg10 : FVec F S16x1024 .f32) : IVec S_ 1 :=
  let main_v0 : FVec F S16x2304x1024 .f32 := Host.absf main_arg0
  let main_cst : FVec F S_ .f32 := constant S_ .f32 0x7F800000#32
  let main_v1 : FVec F S16x2304x1024 .f32 := broadcastInDim S16x2304x1024 ![] bcast_S_S16x2304x1024 main_cst
  let main_v2 : IVec S16x2304x1024 1 := cmpf .olt main_v0 main_v1
  let main_c : IVec S_ 1 := constantI S_ 1 1#1
  let main_v3 : IVec S_ 1 := (fun x v => Host.reduce IntOp.andi x v reducesTo_S16x2304x1024_S_d0_1_2 h_S_) main_v2 main_c
  let main_v4 : FVec F S16x2304x1024 .f32 := (extf .f32 · bitsLt_bf16_f32) main_arg1
  let main_v5 : FVec F S16x2304x1024 .f32 := Host.absf main_v4
  let main_cst_0 : FVec F S_ .f32 := constant S_ .f32 0x7F800000#32
  let main_v6 : FVec F S16x2304x1024 .f32 := broadcastInDim S16x2304x1024 ![] bcast_S_S16x2304x1024 main_cst_0
  let main_v7 : IVec S16x2304x1024 1 := cmpf .olt main_v5 main_v6
  let main_c_1 : IVec S_ 1 := constantI S_ 1 1#1
  let main_v8 : IVec S_ 1 := (fun x v => Host.reduce IntOp.andi x v reducesTo_S16x2304x1024_S_d0_1_2 h_S_) main_v7 main_c_1
  let main_v9 : FVec F S2x16x2304x1024 .f32 := (extf .f32 · bitsLt_bf16_f32) main_arg2
  let main_v10 : FVec F S2x16x2304x1024 .f32 := Host.absf main_v9
  let main_cst_2 : FVec F S_ .f32 := constant S_ .f32 0x7F800000#32
  let main_v11 : FVec F S2x16x2304x1024 .f32 := broadcastInDim S2x16x2304x1024 ![] bcast_S_S2x16x2304x1024 main_cst_2
  let main_v12 : IVec S2x16x2304x1024 1 := cmpf .olt main_v10 main_v11
  let main_c_3 : IVec S_ 1 := constantI S_ 1 1#1
  let main_v13 : IVec S_ 1 := (fun x v => Host.reduce IntOp.andi x v reducesTo_S2x16x2304x1024_S_d0_1_2_3 h_S_) main_v12 main_c_3
  let main_v14 : FVec F S16x64 .f32 := Host.absf main_arg5
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_v3 main_v8 main_v13 main_v16
-- ==== Kernel.lean ====
abbrev S16x2304x1024 : Shape := ⟨3, ![16, 2304, 1024]⟩
abbrev S2x16x2304x1024 : Shape := ⟨4, ![2, 16, 2304, 1024]⟩
abbrev S1x256x1024 : Shape := ⟨3, ![1, 256, 1024]⟩
abbrev S1x1x256x1024 : Shape := ⟨4, ![1, 1, 256, 1024]⟩
abbrev S4x64x256 : Shape := ⟨3, ![4, 64, 256]⟩
abbrev S4x4x128x256 : Shape := ⟨4, ![4, 4, 128, 256]⟩
abbrev S4x4x64x256 : Shape := ⟨4, ![4, 4, 64, 256]⟩
abbrev S64x64 : Shape := ⟨2, ![64, 64]⟩
abbrev S64x256 : Shape := ⟨2, ![64, 256]⟩
abbrev S256x256 : Shape := ⟨2, ![256, 256]⟩
abbrev S1x1x64x1024 : Shape := ⟨4, ![1, 1, 64, 1024]⟩
abbrev S64x1024 : Shape := ⟨2, ![64, 1024]⟩
abbrev S1x1024 : Shape := ⟨2, ![1, 1024]⟩
abbrev S1x64x1024 : Shape := ⟨3, ![1, 64, 1024]⟩
abbrev S128x256 : Shape := ⟨2, ![128, 256]⟩
abbrev S1x64x256 : Shape := ⟨3, ![1, 64, 256]⟩
abbrev S256x128 : Shape := ⟨2, ![256, 128]⟩
abbrev S192x256 : Shape := ⟨2, ![192, 256]⟩
abbrev S128x1024 : Shape := ⟨2, ![128, 1024]⟩
abbrev S1024x128 : Shape := ⟨2, ![1024, 128]⟩
abbrev S1x1x64x256 : Shape := ⟨4, ![1, 1, 64, 256]⟩
abbrev S256x1 : Shape := ⟨2, ![256, 1]⟩
abbrev S1x1x128x256 : Shape := ⟨4, ![1, 1, 128, 256]⟩

abbrev nBuf : Space → Nat
  | .hbm => 7
  | .vmem => 18
  | .smem => 0
  | _ => 0

abbrev bufTy : (tb : Table) → Fin (tcTables nBuf tb) → BufTy
  | .hbm, ⟨0, _⟩ => ⟨S16x2304x1024, .bf16⟩
  | .hbm, ⟨1, _⟩ => ⟨S2x16x2304x1024, .f32⟩
  | .hbm, ⟨2, _⟩ => ⟨S2x16x2304x1024, .bf16⟩
  | .hbm, ⟨3, _⟩ => ⟨S16x2304x1024, .f32⟩
  | .hbm, ⟨4, _⟩ => ⟨S16x2304x1024, .bf16⟩
  | .hbm, ⟨5, _⟩ => ⟨S2x16x2304x1024, .bf16⟩
  | .hbm, ⟨6, _⟩ => ⟨S16x2304x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1x256x1024, .f32⟩
  | .local _ .vmem, ⟨3, _⟩ => ⟨S1x1x256x1024, .f32⟩
  | .local _ .vmem, ⟨4, _⟩ => ⟨S1x1x256x1024, .bf16⟩
  | .local _ .vmem, ⟨5, _⟩ => ⟨S1x1x256x1024, .bf16⟩
  | .local _ .vmem, ⟨6, _⟩ => ⟨S1x256x1024, .f32⟩
  | .local _ .vmem, ⟨7, _⟩ => ⟨S1x256x1024, .f32⟩
  | .local _ .vmem, ⟨8, _⟩ => ⟨S1x256x1024, .bf16⟩
  | .local _ .vmem, ⟨9, _⟩ => ⟨S1x256x1024, .bf16⟩
  | .local _ .vmem, ⟨10, _⟩ => ⟨S1x1x256x1024, .bf16⟩
  | .local _ .vmem, ⟨11, _⟩ => ⟨S1x1x256x1024, .bf16⟩
  | .local _ .vmem, ⟨12, _⟩ => ⟨S1x256x1024, .f32⟩
  | .local _ .vmem, ⟨13, _⟩ => ⟨S1x256x1024, .f32⟩
  | .local _ .vmem, ⟨14, _⟩ => ⟨S4x64x256, .f32⟩
  | .local _ .vmem, ⟨15, _⟩ => ⟨S4x4x128x256, .bf16⟩
  | .local _ .vmem, ⟨16, _⟩ => ⟨S4x4x64x256, .f32⟩
  | .local _ .vmem, ⟨17, _⟩ => ⟨S4x4x64x256, .f32⟩
  | _, _ => ⟨S16x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16x2304x1024 : Shape := ⟨3, ![16, 2304, 1024]⟩
abbrev S2x16x2304x1024 : Shape := ⟨4, ![2, 16, 2304, 1024]⟩
abbrev S1x16x2304x1024 : Shape := ⟨4, ![1, 16, 2304, 1024]⟩
abbrev S16x2304x16x64 : Shape := ⟨4, ![16, 2304, 16, 64]⟩
abbrev S_ : Shape := ⟨0, ![]⟩
abbrev S16x16x64x64 : Shape := ⟨4, ![16, 16, 64, 64]⟩
abbrev S2304x16x16x64 : Shape := ⟨4, ![2304, 16, 16, 64]⟩
abbrev S1x16x16x64 : Shape := ⟨4, ![1, 16, 16, 64]⟩
abbrev S16x16x64 : Shape := ⟨3, ![16, 16, 64]⟩
abbrev S16x16x1x64 : Shape := ⟨4, ![16, 16, 1, 64]⟩
abbrev S16x16x64x1 : Shape := ⟨4, ![16, 16, 64, 1]⟩

abbrev nBuf : Space → Nat
  | .hbm => 101
  | .vmem => 0
  | .smem => 0
  | _ => 0

abbrev bufTy : (tb : Table) → Fin (tcTables nBuf tb) → BufTy
  | .hbm, ⟨0, _⟩ => ⟨S16x2304x1024, .bf16⟩
  | .hbm, ⟨1, _⟩ => ⟨S2x16x2304x1024, .f32⟩
  | .hbm, ⟨2, _⟩ => ⟨S2x16x2304x1024, .bf16⟩
  | .hbm, ⟨3, _⟩ => ⟨S16x2304x1024, .f32⟩
  | .hbm, ⟨4, _⟩ => ⟨S16x2304x1024, .bf16⟩
  | .hbm, ⟨5, _⟩ => ⟨S2x16x2304x1024, .bf16⟩
  | .hbm, ⟨6, _⟩ => ⟨S1x16x2304x1024, .f32⟩
  | .hbm, ⟨7, _⟩ => ⟨S16x2304x1024, .f32⟩
  | .hbm, ⟨8, _⟩ => ⟨S16x2304x1024, .f32⟩
  | .hbm, ⟨9, _⟩ => ⟨S1x16x2304x1024, .bf16⟩
  | .hbm, ⟨10, _⟩ => ⟨S16x2304x1024, .bf16⟩
  | .hbm, ⟨11, _⟩ => ⟨S1x16x2304x1024, .bf16⟩
  | .hbm, ⟨12, _⟩ => ⟨S16x2304x1024, .bf16⟩
  | .hbm, ⟨13, _⟩ => ⟨S16x2304x1024, .f32⟩
  | .hbm, ⟨14, _⟩ => ⟨S16x2304x16x64, .f32⟩
  | .hbm, ⟨15, _⟩ => ⟨S16x2304x16x64, .f32⟩
  | .hbm, ⟨16, _⟩ => ⟨S16x2304x1024, .f32⟩
  | .hbm, ⟨17, _⟩ => ⟨S16x2304x16x64, .f32⟩
  | .hbm, ⟨18, _⟩ => ⟨S16x2304x16x64, .f32⟩
  | .hbm, ⟨19, _⟩ => ⟨S16x2304x1024, .f32⟩
  | .hbm, ⟨20, _⟩ => ⟨S16x2304x16x64, .f32⟩
  | .hbm, ⟨21, _⟩ => ⟨S16x2304x1024, .f32⟩
  | .hbm, ⟨22, _⟩ => ⟨S16x2304x16x64, .f32⟩
  | .hbm, ⟨23, _⟩ => ⟨S_, .f32⟩
  | .hbm, ⟨24, _⟩ => ⟨S16x16x64x64, .f32⟩
  | .hbm, ⟨25, _⟩ => ⟨S2304x16x16x64, .f32⟩
  | .hbm, ⟨26, _⟩ => ⟨S2304x16x16x64, .f32⟩
  | .hbm, ⟨27, _⟩ => ⟨S2304x16x16x64, .f32⟩
  | .hbm, ⟨28, _⟩ => ⟨S2304x16x16x64, .f32⟩
  | .hbm, ⟨29, _⟩ => ⟨S2304x16x16x64, .f32⟩
  | .hbm, ⟨30, _⟩ => ⟨S2304x16x16x64, .f32⟩
  | .hbm, ⟨31, _⟩ => ⟨S_, .f32⟩
  | .hbm, ⟨32, _⟩ => ⟨S2304x16x16x64, .f32⟩
  | .hbm, ⟨33, _⟩ => ⟨S_, .i32⟩
  | .hbm, ⟨34, _⟩ => ⟨S2304x16x16x64, .f32⟩
  | .hbm, ⟨35, _⟩ => ⟨S2304x16x16x64, .f32⟩
  | .hbm, ⟨36, _⟩ => ⟨S2304x16x16x64, .f32⟩
  | .hbm, ⟨37, _⟩ => ⟨S2304x16x16x64, .f32⟩
  | .hbm, ⟨38, _⟩ => ⟨S2304x16x16x64, .f32⟩
  | .hbm, ⟨39, _⟩ => ⟨S2304x16x16x64, .f32⟩
  | .hbm, ⟨40, _⟩ => ⟨S_, .i32⟩
  | .hbm, ⟨41, _⟩ => ⟨S16x16x64x64, .f32⟩
  | .hbm, ⟨42, _⟩ => ⟨S2304x16x16x64, .f32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S1x16x16x64, .f32⟩
  | .hbm, ⟨49, _⟩ => ⟨S16x16x64, .f32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x16x16x64, .f32⟩
  | .hbm, ⟨54, _⟩ => ⟨S16x16x64, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x16x16x64, .f32⟩
  | .hbm, ⟨59, _⟩ => ⟨S16x16x64, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1x16x16x64, .f32⟩
  | .hbm, ⟨64, _⟩ => ⟨S16x16x64, .f32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1x16x16x64, .f32⟩
  | .hbm, ⟨69, _⟩ => ⟨S16x16x64, .f32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1x16x16x64, .f32⟩
  | .hbm, ⟨74, _⟩ => ⟨S16x16x64, .f32⟩
  | .hbm, ⟨75, _⟩ => ⟨S16x16x64, .f32⟩
  | .hbm, ⟨76, _⟩ => ⟨S16x16x1x64, .f32⟩
  | .hbm, ⟨77, _⟩ => ⟨S16x16x64x64, .f32⟩
  | .hbm, ⟨78, _⟩ => ⟨S16x16x64x64, .f32⟩
  | .hbm, ⟨79, _⟩ => ⟨S16x16x64x1, .f32⟩
  | .hbm, ⟨80, _⟩ => ⟨S16x16x1x64, .f32⟩
  | .hbm, ⟨81, _⟩ => ⟨S16x16x64x64, .f32⟩
  | .hbm, ⟨82, _⟩ => ⟨S16x16x64x64, .f32⟩
  | .hbm, ⟨83, _⟩ => ⟨S16x16x64x64, .f32⟩
  | .hbm, ⟨84, _⟩ => ⟨S16x16x64x64, .f32⟩
  | .hbm, ⟨85, _⟩ => ⟨S16x16x64x1, .f32⟩
  | .hbm, ⟨86, _⟩ => ⟨S16x16x1x64, .f32⟩
  | .hbm, ⟨87, _⟩ => ⟨S16x16x64x64, .f32⟩
  | .hbm, ⟨88, _⟩ => ⟨S16x16x64x64, .f32⟩
  | .hbm, ⟨89, _⟩ => ⟨S16x16x64x64, .f32⟩
  | .hbm, ⟨90, _⟩ => ⟨S16x16x64x64, .f32⟩
  | .hbm, ⟨91, _⟩ => ⟨S16x16x64, .f32⟩
  | .hbm, ⟨92, _⟩ => ⟨S1x16x16x64, .f32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S2304x16x16x64, .f32⟩
  | .hbm, ⟨97, _⟩ => ⟨S_, .i32⟩
  | .hbm, ⟨98, _⟩ => ⟨S_, .i32⟩
  | .hbm, ⟨99, _⟩ => ⟨S16x2304x16x64, .f32⟩
  | .hbm, ⟨100, _⟩ => ⟨S16x2304x1024, .f32⟩
  | _, _ => ⟨S16x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_c : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev main_v25_3 : Ref sig .tc := ⟨.hbm, 37, rfl⟩
abbrev main_v25_4 : Ref sig .tc := ⟨.hbm, 38, rfl⟩
abbrev main_v25_5 : Ref sig .tc := ⟨.hbm, 39, rfl⟩
abbrev main_v25_6 : Ref sig .tc := ⟨.hbm, 40, rfl⟩
abbrev main_v25_7 : Ref sig .tc := ⟨.hbm, 41, rfl⟩
abbrev main_v25_8 : Ref sig .tc := ⟨.hbm, 42, rfl⟩
abbrev main_while0c_c_9 : Ref sig .tc := ⟨.hbm, 43, rfl⟩
abbrev main_while0c_v28 : Ref sig .tc := ⟨.hbm, 44, rfl⟩
abbrev main_while0b_call0_c : Ref sig .tc := ⟨.hbm, 45, rfl⟩
abbrev main_while0b_call0_c_0 : Ref sig .tc := ⟨.hbm, 46, rfl⟩
abbrev main_while0b_call0_c_1 : Ref sig .tc := ⟨.hbm, 47, rfl⟩
abbrev main_while0b_call0_v0 : Ref sig .tc := ⟨.hbm, 48, rfl⟩
abbrev main_while0b_v28 : Ref sig .tc := ⟨.hbm, 49, rfl⟩
abbrev main_while0b_call1_c : Ref sig .tc := ⟨.hbm, 50, rfl⟩
abbrev main_while0b_call1_c_0 : Ref sig .tc := ⟨.hbm, 51, rfl⟩
abbrev main_while0b_call1_c_1 : Ref sig .tc := ⟨.hbm, 52, rfl⟩
abbrev main_while0b_call1_v0 : Ref sig .tc := ⟨.hbm, 53, rfl⟩
abbrev main_while0b_v29 : Ref sig .tc := ⟨.hbm, 54, rfl⟩
abbrev main_while0b_call2_c : Ref sig .tc := ⟨.hbm, 55, rfl⟩
abbrev main_while0b_call2_c_0 : Ref sig .tc := ⟨.hbm, 56, rfl⟩
abbrev main_while0b_call2_c_1 : Ref sig .tc := ⟨.hbm, 57, rfl⟩
abbrev main_while0b_call2_v0 : Ref sig .tc := ⟨.hbm, 58, rfl⟩
abbrev main_while0b_v30 : Ref sig .tc := ⟨.hbm, 59, rfl⟩
abbrev main_while0b_call3_c : Ref sig .tc := ⟨.hbm, 60, rfl⟩
abbrev main_while0b_call3_c_0 : Ref sig .tc := ⟨.hbm, 61, rfl⟩
abbrev main_while0b_call3_c_1 : Ref sig .tc := ⟨.hbm, 62, rfl⟩
abbrev main_while0b_call3_v0 : Ref sig .tc := ⟨.hbm, 63, rfl⟩
abbrev main_while0b_v31 : Ref sig .tc := ⟨.hbm, 64, rfl⟩
abbrev main_while0b_call4_c : Ref sig .tc := ⟨.hbm, 65, rfl⟩
abbrev main_while0b_call4_c_0 : Ref sig .tc := ⟨.hbm, 66, rfl⟩
abbrev main_while0b_call4_c_1 : Ref sig .tc := ⟨.hbm, 67, rfl⟩
abbrev main_while0b_call4_v0 : Ref sig .tc := ⟨.hbm, 68, rfl⟩
abbrev main_while0b_v32 : Ref sig .tc := ⟨.hbm, 69, rfl⟩
abbrev main_while0b_call5_c : Ref sig .tc := ⟨.hbm, 70, rfl⟩
abbrev main_while0b_call5_c_0 : Ref sig .tc := ⟨.hbm, 71, rfl⟩
abbrev main_while0b_call5_c_1 : Ref sig .tc := ⟨.hbm, 72, rfl⟩
abbrev main_while0b_call5_v0 : Ref sig .tc := ⟨.hbm, 73, rfl⟩
abbrev main_while0b_v33 : Ref sig .tc := ⟨.hbm, 74, rfl⟩
abbrev main_while0b_v34 : Ref sig .tc := ⟨.hbm, 75, rfl⟩
abbrev main_while0b_v35 : Ref sig .tc := ⟨.hbm, 76, rfl⟩
abbrev main_while0b_v36 : Ref sig .tc := ⟨.hbm, 77, rfl⟩
abbrev main_while0b_v37 : Ref sig .tc := ⟨.hbm, 78, rfl⟩
abbrev main_while0b_v38 : Ref sig .tc := ⟨.hbm, 79, rfl⟩
abbrev main_while0b_v39 : Ref sig .tc := ⟨.hbm, 80, rfl⟩
abbrev main_while0b_v40 : Ref sig .tc := ⟨.hbm, 81, rfl⟩
abbrev main_while0b_v41 : Ref sig .tc := ⟨.hbm, 82, rfl⟩
abbrev main_while0b_v42 : Ref sig .tc := ⟨.hbm, 83, rfl⟩
abbrev main_while0b_v43 : Ref sig .tc := ⟨.hbm, 84, rfl⟩
abbrev main_while0b_v44 : Ref sig .tc := ⟨.hbm, 85, rfl⟩
abbrev main_while0b_v45 : Ref sig .tc := ⟨.hbm, 86, rfl⟩
abbrev main_while0b_v46 : Ref sig .tc := ⟨.hbm, 87, rfl⟩
abbrev main_while0b_v47 : Ref sig .tc := ⟨.hbm, 88, rfl⟩
abbrev main_while0b_v48 : Ref sig .tc := ⟨.hbm, 89, rfl⟩
abbrev main_while0b_v49 : Ref sig .tc := ⟨.hbm, 90, rfl⟩
abbrev main_while0b_v50 : Ref sig .tc := ⟨.hbm, 91, rfl⟩
abbrev main_while0b_call6_v0 : Ref sig .tc := ⟨.hbm, 92, rfl⟩
abbrev main_while0b_call6_c : Ref sig .tc := ⟨.hbm, 93, rfl⟩
abbrev main_while0b_call6_c_0 : Ref sig .tc := ⟨.hbm, 94, rfl⟩
abbrev main_while0b_call6_c_1 : Ref sig .tc := ⟨.hbm, 95, rfl⟩
abbrev main_while0b_v51 : Ref sig .tc := ⟨.hbm, 96, rfl⟩
abbrev main_while0b_c_9 : Ref sig .tc := ⟨.hbm, 97, rfl⟩
abbrev main_while0b_v52 : Ref sig .tc := ⟨.hbm, 98, rfl⟩
abbrev main_v26 : Ref sig .tc := ⟨.hbm, 99, rfl⟩
abbrev main_v27 : Ref sig .tc := ⟨.hbm, 100, rfl⟩

abbrev nD : Nat := 1
abbrev τ : Topo := Topo.v7x

variable {F : FTy → Type} [FloatOps F]

abbrev main_while0_count : Scf.Loop 32 := ⟨0#32, 2304#32, 1#32⟩
-- ==== Kernel2.lean ====
abbrev S16x16x256x1024 : Shape := ⟨4, ![16, 16, 256, 1024]⟩
abbrev S16x16x256x1 : Shape := ⟨4, ![16, 16, 256, 1]⟩
abbrev S4x16x1024x1024 : Shape := ⟨4, ![4, 16, 1024, 1024]⟩
abbrev S4x1x256x1024 : Shape := ⟨4, ![4, 1, 256, 1024]⟩
abbrev S4x1x256x1 : Shape := ⟨4, ![4, 1, 256, 1]⟩
abbrev S1x1x1024x1024 : Shape := ⟨4, ![1, 1, 1024, 1024]⟩
abbrev S1024x1024 : Shape := ⟨2, ![1024, 1024]⟩
abbrev S4x256x1024 : Shape := ⟨3, ![4, 256, 1024]⟩
abbrev S4x256x1 : Shape := ⟨3, ![4, 256, 1]⟩
abbrev S1024x1 : Shape := ⟨2, ![1024, 1]⟩

abbrev nBuf : Space → Nat
  | .hbm => 6
  | .vmem => 15
  | .smem => 0
  | _ => 0

abbrev bufTy : (tb : Table) → Fin (tcTables nBuf tb) → BufTy
  | .hbm, ⟨0, _⟩ => ⟨S16x16x256x1024, .bf16⟩
  | .hbm, ⟨1, _⟩ => ⟨S16x16x256x1, .f32⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S16x16x256x1024, .bf16⟩
  | .local _ .vmem, ⟨0, _⟩ => ⟨S4x1x256x1024, .bf16⟩
  | .local _ .vmem, ⟨1, _⟩ => ⟨S4x1x256x1024, .bf16⟩
  | .local _ .vmem, ⟨2, _⟩ => ⟨S4x1x256x1, .f32⟩
  | .local _ .vmem, ⟨3, _⟩ => ⟨S4x1x256x1, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S4x1x256x1024, .bf16⟩
  | .local _ .vmem, ⟨11, _⟩ => ⟨S4x1x256x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | _, _ => ⟨S16x16x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S4x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S16x16x256x1024 : Shape := ⟨4, ![16, 16, 256, 1024]⟩
abbrev S16x16x256x1 : Shape := ⟨4, ![16, 16, 256, 1]⟩
abbrev S4x16x1024x1024 : Shape := ⟨4, ![4, 16, 1024, 1024]⟩
abbrev S1x16x1024x1024 : Shape := ⟨4, ![1, 16, 1024, 1024]⟩
abbrev S16x1024x1024 : Shape := ⟨3, ![16, 1024, 1024]⟩
abbrev S16x1024x16x256 : Shape := ⟨4, ![16, 1024, 16, 256]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S16x16x256x1024, .bf16⟩
  | .hbm, ⟨1, _⟩ => ⟨S16x16x256x1, .f32⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S16x16x256x1024, .f32⟩
  | .hbm, ⟨6, _⟩ => ⟨S1x16x1024x1024, .f32⟩
  | .hbm, ⟨7, _⟩ => ⟨S16x1024x1024, .f32⟩
  | .hbm, ⟨8, _⟩ => ⟨S1x16x1024x1024, .f32⟩
  | .hbm, ⟨9, _⟩ => ⟨S16x1024x1024, .f32⟩
  | .hbm, ⟨10, _⟩ => ⟨S1x16x1024x1024, .f32⟩
  | .hbm, ⟨11, _⟩ => ⟨S16x1024x1024, .f32⟩
  | .hbm, ⟨12, _⟩ => ⟨S16x1024x16x256, .f32⟩
  | .hbm, ⟨13, _⟩ => ⟨S16x16x256x1024, .f32⟩
  | .hbm, ⟨14, _⟩ => ⟨S16x16x256x1024, .f32⟩
  | .hbm, ⟨15, _⟩ => ⟨S16x16x256x1024, .f32⟩
  | .hbm, ⟨16, _⟩ => ⟨S_, .f32⟩
  | .hbm, ⟨17, _⟩ => ⟨S16x16x256x1024, .f32⟩
  | .hbm, ⟨18, _⟩ => ⟨S16x16x256x1024, .f32⟩
  | .hbm, ⟨19, _⟩ => ⟨S_, .f32⟩
  | .hbm, ⟨20, _⟩ => ⟨S16x16x256x1024, .f32⟩
  | .hbm, ⟨21, _⟩ => ⟨S16x16x256x1024, .f32⟩
  | .hbm, ⟨22, _⟩ => ⟨S16x16x256x1024, .f32⟩
  | .hbm, ⟨23, _⟩ => ⟨S16x1024x16x256, .f32⟩
  | .hbm, ⟨24, _⟩ => ⟨S16x16x256x1024, .f32⟩
  | .hbm, ⟨25, _⟩ => ⟨S16x16x256x1024, .f32⟩
  | .hbm, ⟨26, _⟩ => ⟨S16x1024x16x256, .f32⟩
  | .hbm, ⟨27, _⟩ => ⟨S16x16x256x1024, .f32⟩
  | .hbm, ⟨28, _⟩ => ⟨S16x16x256x1024, .f32⟩
  | .hbm, ⟨29, _⟩ => ⟨S16x16x256x1024, .f32⟩
  | .hbm, ⟨30, _⟩ => ⟨S16x16x256x1024, .bf16⟩
  | _, _ => ⟨S16x16x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]
-- ==== Kernel3.lean ====
abbrev S16x16x32x1024 : Shape := ⟨4, ![16, 16, 32, 1024]⟩
abbrev S16x16x32x1 : Shape := ⟨4, ![16, 16, 32, 1]⟩
abbrev S4x16x1024x1024 : Shape := ⟨4, ![4, 16, 1024, 1024]⟩
abbrev S16x1x32x1024 : Shape := ⟨4, ![16, 1, 32, 1024]⟩
abbrev S16x1x32x1 : Shape := ⟨4, ![16, 1, 32, 1]⟩
abbrev S1x1x1024x1024 : Shape := ⟨4, ![1, 1, 1024, 1024]⟩
abbrev S1024x1024 : Shape := ⟨2, ![1024, 1024]⟩
abbrev S16x32x1024 : Shape := ⟨3, ![16, 32, 1024]⟩
abbrev S512x1024 : Shape := ⟨2, ![512, 1024]⟩
abbrev S16x32x1 : Shape := ⟨3, ![16, 32, 1]⟩
abbrev S512x1 : Shape := ⟨2, ![512, 1]⟩

abbrev nBuf : Space → Nat
  | .hbm => 6
  | .vmem => 15
  | .smem => 0
  | _ => 0

abbrev bufTy : (tb : Table) → Fin (tcTables nBuf tb) → BufTy
  | .hbm, ⟨0, _⟩ => ⟨S16x16x32x1024, .bf16⟩
  | .hbm, ⟨1, _⟩ => ⟨S16x16x32x1, .f32⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S16x16x32x1024, .bf16⟩
  | .local _ .vmem, ⟨0, _⟩ => ⟨S16x1x32x1024, .bf16⟩
  | .local _ .vmem, ⟨1, _⟩ => ⟨S16x1x32x1024, .bf16⟩
  | .local _ .vmem, ⟨2, _⟩ => ⟨S16x1x32x1, .f32⟩
  | .local _ .vmem, ⟨3, _⟩ => ⟨S16x1x32x1, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S16x1x32x1024, .bf16⟩
  | .local _ .vmem, ⟨11, _⟩ => ⟨S16x1x32x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | _, _ => ⟨S16x16x32x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S16x1x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1x32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x1x32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S16x16x32x1024 : Shape := ⟨4, ![16, 16, 32, 1024]⟩
abbrev S16x16x32x1 : Shape := ⟨4, ![16, 16, 32, 1]⟩
abbrev S4x16x1024x1024 : Shape := ⟨4, ![4, 16, 1024, 1024]⟩
abbrev S1x16x1024x1024 : Shape := ⟨4, ![1, 16, 1024, 1024]⟩
abbrev S16x1024x1024 : Shape := ⟨3, ![16, 1024, 1024]⟩
abbrev S16x1024x16x32 : Shape := ⟨4, ![16, 1024, 16, 32]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S16x16x32x1024, .bf16⟩
  | .hbm, ⟨1, _⟩ => ⟨S16x16x32x1, .f32⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S16x16x32x1024, .f32⟩
  | .hbm, ⟨6, _⟩ => ⟨S1x16x1024x1024, .f32⟩
  | .hbm, ⟨7, _⟩ => ⟨S16x1024x1024, .f32⟩
  | .hbm, ⟨8, _⟩ => ⟨S1x16x1024x1024, .f32⟩
  | .hbm, ⟨9, _⟩ => ⟨S16x1024x1024, .f32⟩
  | .hbm, ⟨10, _⟩ => ⟨S1x16x1024x1024, .f32⟩
  | .hbm, ⟨11, _⟩ => ⟨S16x1024x1024, .f32⟩
  | .hbm, ⟨12, _⟩ => ⟨S16x1024x16x32, .f32⟩
  | .hbm, ⟨13, _⟩ => ⟨S16x16x32x1024, .f32⟩
  | .hbm, ⟨14, _⟩ => ⟨S16x16x32x1024, .f32⟩
  | .hbm, ⟨15, _⟩ => ⟨S16x16x32x1024, .f32⟩
  | .hbm, ⟨16, _⟩ => ⟨S_, .f32⟩
  | .hbm, ⟨17, _⟩ => ⟨S16x16x32x1024, .f32⟩
  | .hbm, ⟨18, _⟩ => ⟨S16x16x32x1024, .f32⟩
  | .hbm, ⟨19, _⟩ => ⟨S_, .f32⟩
  | .hbm, ⟨20, _⟩ => ⟨S16x16x32x1024, .f32⟩
  | .hbm, ⟨21, _⟩ => ⟨S16x16x32x1024, .f32⟩
  | .hbm, ⟨22, _⟩ => ⟨S16x16x32x1024, .f32⟩
  | .hbm, ⟨23, _⟩ => ⟨S16x1024x16x32, .f32⟩
  | .hbm, ⟨24, _⟩ => ⟨S16x16x32x1024, .f32⟩
  | .hbm, ⟨25, _⟩ => ⟨S16x16x32x1024, .f32⟩
  | .hbm, ⟨26, _⟩ => ⟨S16x1024x16x32, .f32⟩
  | .hbm, ⟨27, _⟩ => ⟨S16x16x32x1024, .f32⟩
  | .hbm, ⟨28, _⟩ => ⟨S16x16x32x1024, .f32⟩
  | .hbm, ⟨29, _⟩ => ⟨S16x16x32x1024, .f32⟩
  | .hbm, ⟨30, _⟩ => ⟨S16x16x32x1024, .bf16⟩
  | _, _ => ⟨S16x16x32x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]
-- ==== Kernel4.lean ====
abbrev S16x2304x1024 : Shape := ⟨3, ![16, 2304, 1024]⟩
abbrev S2x16x2304x1024 : Shape := ⟨4, ![2, 16, 2304, 1024]⟩
abbrev S16x64 : Shape := ⟨2, ![16, 64]⟩
abbrev S1024 : Shape := ⟨1, ![1024]⟩
abbrev S1024x1024 : Shape := ⟨2, ![1024, 1024]⟩
abbrev S16x2048x1024 : Shape := ⟨3, ![16, 2048, 1024]⟩
abbrev S16x1024 : Shape := ⟨2, ![16, 1024]⟩
abbrev S16x1x1024 : Shape := ⟨3, ![16, 1, 1024]⟩
abbrev S1x1024 : Shape := ⟨2, ![1, 1024]⟩
abbrev S1x256x1024 : Shape := ⟨3, ![1, 256, 1024]⟩
abbrev S2x1x256x1024 : Shape := ⟨4, ![2, 1, 256, 1024]⟩
abbrev S1x1x1024 : Shape := ⟨3, ![1, 1, 1024]⟩
abbrev S256x1024 : Shape := ⟨2, ![256, 1024]⟩
abbrev S256x256 : Shape := ⟨2, ![256, 256]⟩
abbrev S1x1x256x1024 : Shape := ⟨4, ![1, 1, 256, 1024]⟩

abbrev nBuf : Space → Nat
  | .hbm => 17
  | .vmem => 20
  | .smem => 0
  | _ => 0

abbrev bufTy : (tb : Table) → Fin (tcTables nBuf tb) → BufTy
  | .hbm, ⟨0, _⟩ => ⟨S16x2304x1024, .f32⟩
  | .hbm, ⟨1, _⟩ => ⟨S16x2304x1024, .bf16⟩
  | .hbm, ⟨2, _⟩ => ⟨S2x16x2304x1024, .bf16⟩
  | .hbm, ⟨3, _⟩ => ⟨S16x2304x1024, .f32⟩
  | .hbm, ⟨4, _⟩ => ⟨S16x2304x1024, .bf16⟩
  | .hbm, ⟨5, _⟩ => ⟨S16x64, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S16x2048x1024, .f32⟩
  | .hbm, ⟨10, _⟩ => ⟨S16x1024, .f32⟩
  | .hbm, ⟨11, _⟩ => ⟨S1024x1024, .bf16⟩
  | .hbm, ⟨12, _⟩ => ⟨S16x1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S2x1x256x1024, .bf16⟩
  | .local _ .vmem, ⟨5, _⟩ => ⟨S2x1x256x1024, .bf16⟩
  | .local _ .vmem, ⟨6, _⟩ => ⟨S1x256x1024, .f32⟩
  | .local _ .vmem, ⟨7, _⟩ => ⟨S1x256x1024, .f32⟩
  | .local _ .vmem, ⟨8, _⟩ => ⟨S1x256x1024, .bf16⟩
  | .local _ .vmem, ⟨9, _⟩ => ⟨S1x256x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1024x1024, .bf16⟩
  | .local _ .vmem, ⟨14, _⟩ => ⟨S1x256x1024, .f32⟩
  | .local _ .vmem, ⟨15, _⟩ => ⟨S1x256x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x256x1024, .f32⟩
  | .local _ .vmem, ⟨19, _⟩ => ⟨S1x256x1024, .f32⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![c0_i32.toNat, arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S16x2304x1024 : Shape := ⟨3, ![16, 2304, 1024]⟩
abbrev S2x16x2304x1024 : Shape := ⟨4, ![2, 16, 2304, 1024]⟩
abbrev S16x64 : Shape := ⟨2, ![16, 64]⟩
abbrev S1024 : Shape := ⟨1, ![1024]⟩
abbrev S1024x1024 : Shape := ⟨2, ![1024, 1024]⟩
abbrev S16x2048x1024 : Shape := ⟨3, ![16, 2048, 1024]⟩
abbrev S16x1024 : Shape := ⟨2, ![16, 1024]⟩
abbrev S1x16x2304x1024 : Shape := ⟨4, ![1, 16, 2304, 1024]⟩
abbrev S16x2048x16x64 : Shape := ⟨4, ![16, 2048, 16, 64]⟩
abbrev S_ : Shape := ⟨0, ![]⟩
abbrev S16x2048x16 : Shape := ⟨3, ![16, 2048, 16]⟩
abbrev S16x2048x16x1 : Shape := ⟨4, ![16, 2048, 16, 1]⟩
abbrev S1x1x1024 : Shape := ⟨3, ![1, 1, 1024]⟩
abbrev S1x1x16x64 : Shape := ⟨4, ![1, 1, 16, 64]⟩
abbrev S16x1x1024 : Shape := ⟨3, ![16, 1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S16x2304x1024, .bf16⟩
  | .hbm, ⟨2, _⟩ => ⟨S2x16x2304x1024, .bf16⟩
  | .hbm, ⟨3, _⟩ => ⟨S16x2304x1024, .f32⟩
  | .hbm, ⟨4, _⟩ => ⟨S16x2304x1024, .bf16⟩
  | .hbm, ⟨5, _⟩ => ⟨S16x64, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S16x2048x1024, .f32⟩
  | .hbm, ⟨10, _⟩ => ⟨S16x1024, .f32⟩
  | .hbm, ⟨11, _⟩ => ⟨S1x16x2304x1024, .bf16⟩
  | .hbm, ⟨12, _⟩ => ⟨S16x2304x1024, .bf16⟩
  | .hbm, ⟨13, _⟩ => ⟨S1x16x2304x1024, .bf16⟩
  | .hbm, ⟨14, _⟩ => ⟨S16x2304x1024, .bf16⟩
  | .hbm, ⟨15, _⟩ => ⟨S16x2048x1024, .f32⟩
  | .hbm, ⟨16, _⟩ => ⟨S16x2048x16x64, .f32⟩
  | .hbm, ⟨17, _⟩ => ⟨S16x2048x1024, .bf16⟩
  | .hbm, ⟨18, _⟩ => ⟨S16x2048x1024, .f32⟩
  | .hbm, ⟨19, _⟩ => ⟨S16x2048x16x64, .f32⟩
  | .hbm, ⟨20, _⟩ => ⟨S16x2048x1024, .f32⟩
  | .hbm, ⟨21, _⟩ => ⟨S16x2048x16x64, .f32⟩
  | .hbm, ⟨22, _⟩ => ⟨S16x2048x1024, .bf16⟩
  | .hbm, ⟨23, _⟩ => ⟨S16x2048x1024, .f32⟩
  | .hbm, ⟨24, _⟩ => ⟨S16x2048x16x64, .f32⟩
  | .hbm, ⟨25, _⟩ => ⟨S16x2048x1024, .bf16⟩
  | .hbm, ⟨26, _⟩ => ⟨S16x2048x1024, .f32⟩
  | .hbm, ⟨27, _⟩ => ⟨S16x2048x16x64, .f32⟩
  | .hbm, ⟨28, _⟩ => ⟨S_, .f32⟩
  | .hbm, ⟨29, _⟩ => ⟨S16x2048x16, .f32⟩
  | .hbm, ⟨30, _⟩ => ⟨S16x2048x16x1, .f32⟩
  | .hbm, ⟨31, _⟩ => ⟨S_, .f32⟩
  | .hbm, ⟨32, _⟩ => ⟨S16x2048x16x1, .f32⟩
  | .hbm, ⟨33, _⟩ => ⟨S16x2048x16x1, .f32⟩
  | .hbm, ⟨34, _⟩ => ⟨S16x2048x16x64, .f32⟩
  | .hbm, ⟨35, _⟩ => ⟨S16x2048x16x64, .f32⟩
  | .hbm, ⟨36, _⟩ => ⟨S16x2048x16x64, .f32⟩
  | .hbm, ⟨37, _⟩ => ⟨S_, .f32⟩
  | .hbm, ⟨38, _⟩ => ⟨S16x2048x16, .f32⟩
  | .hbm, ⟨39, _⟩ => ⟨S16x2048x16x1, .f32⟩
  | .hbm, ⟨40, _⟩ => ⟨S_, .f32⟩
  | .hbm, ⟨41, _⟩ => ⟨S16x2048x16x1, .f32⟩
  | .hbm, ⟨42, _⟩ => ⟨S16x2048x16x1, .f32⟩
  | .hbm, ⟨43, _⟩ => ⟨S16x2048x16x64, .f32⟩
  | .hbm, ⟨44, _⟩ => ⟨S16x2048x16x64, .f32⟩
  | .hbm, ⟨45, _⟩ => ⟨S_, .f32⟩
  | .hbm, ⟨46, _⟩ => ⟨S16x2048x16x1, .f32⟩
  | .hbm, ⟨47, _⟩ => ⟨S16x2048x16x1, .f32⟩
  | .hbm, ⟨48, _⟩ => ⟨S16x2048x16x1, .f32⟩
  | .hbm, ⟨49, _⟩ => ⟨S16x2048x16x64, .f32⟩
  | .hbm, ⟨50, _⟩ => ⟨S16x2048x16x64, .f32⟩
  | .hbm, ⟨51, _⟩ => ⟨S16x2048x1024, .f32⟩
  | .hbm, ⟨52, _⟩ => ⟨S1x1x1024, .f32⟩
  | .hbm, ⟨53, _⟩ => ⟨S16x2048x1024, .f32⟩
  | .hbm, ⟨54, _⟩ => ⟨S16x2048x1024, .f32⟩
  | .hbm, ⟨55, _⟩ => ⟨S1x1x1024, .f32⟩
  | .hbm, ⟨56, _⟩ => ⟨S16x2048x1024, .f32⟩
  | .hbm, ⟨57, _⟩ => ⟨S16x2048x1024, .f32⟩
  | .hbm, ⟨58, _⟩ => ⟨S16x2048x16x64, .f32⟩
  | .hbm, ⟨59, _⟩ => ⟨S1x1x16x64, .f32⟩
  | .hbm, ⟨60, _⟩ => ⟨S16x2048x16x64, .f32⟩
  | .hbm, ⟨61, _⟩ => ⟨S16x2048x16x64, .f32⟩
  | .hbm, ⟨62, _⟩ => ⟨S_, .f32⟩
  | .hbm, ⟨63, _⟩ => ⟨S16x2048x16, .f32⟩
  | .hbm, ⟨64, _⟩ => ⟨S16x2048x16x1, .f32⟩
  | .hbm, ⟨65, _⟩ => ⟨S_, .f32⟩
  | .hbm, ⟨66, _⟩ => ⟨S16x2048x16x1, .f32⟩
  | .hbm, ⟨67, _⟩ => ⟨S16x2048x16x1, .f32⟩
  | .hbm, ⟨68, _⟩ => ⟨S16x2048x16x64, .f32⟩
  | .hbm, ⟨69, _⟩ => ⟨S1x1x16x64, .f32⟩
  | .hbm, ⟨70, _⟩ => ⟨S16x2048x16x64, .f32⟩
  | .hbm, ⟨71, _⟩ => ⟨S16x2048x16x64, .f32⟩
  | .hbm, ⟨72, _⟩ => ⟨S_, .f32⟩
  | .hbm, ⟨73, _⟩ => ⟨S16x2048x16, .f32⟩
  | .hbm, ⟨74, _⟩ => ⟨S16x2048x16x1, .f32⟩
  | .hbm, ⟨75, _⟩ => ⟨S16x2048x16x1, .f32⟩
  | .hbm, ⟨76, _⟩ => ⟨S16x2048x16x64, .f32⟩
  | .hbm, ⟨77, _⟩ => ⟨S16x2048x16x64, .f32⟩
  | .hbm, ⟨78, _⟩ => ⟨S16x2048x1024, .f32⟩
  | .hbm, ⟨79, _⟩ => ⟨S16x2048x1024, .f32⟩
  | .hbm, ⟨80, _⟩ => ⟨S16x2048x1024, .bf16⟩
  | .hbm, ⟨81, _⟩ => ⟨S16x2048x1024, .f32⟩
  | .hbm, ⟨82, _⟩ => ⟨S16x2048x1024, .f32⟩
  | .hbm, ⟨83, _⟩ => ⟨S16x1x1024, .f32⟩
  | .hbm, ⟨84, _⟩ => ⟨S16x2048x1024, .f32⟩
  | .hbm, ⟨85, _⟩ => ⟨S16x2048x1024, .f32⟩
  | .hbm, ⟨86, _⟩ => ⟨S16x2048x1024, .f32⟩
  | .hbm, ⟨87, _⟩ => ⟨S16x2048x1024, .f32⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_6 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Kernel5.lean ====
abbrev S16x2048x1024 : Shape := ⟨3, ![16, 2048, 1024]⟩
abbrev S1024 : Shape := ⟨1, ![1024]⟩
abbrev S16x1024 : Shape := ⟨2, ![16, 1024]⟩
abbrev S16x1x1024 : Shape := ⟨3, ![16, 1, 1024]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S2048x4096 : Shape := ⟨2, ![2048, 4096]⟩
abbrev S256x512 : Shape := ⟨2, ![256, 512]⟩
abbrev S1x1024 : Shape := ⟨2, ![1, 1024]⟩
abbrev S16x2x2048x1024 : Shape := ⟨4, ![16, 2, 2048, 1024]⟩
abbrev S1x512x1024 : Shape := ⟨3, ![1, 512, 1024]⟩
abbrev S1x1x1024 : Shape := ⟨3, ![1, 1, 1024]⟩
abbrev S1x2x512x1024 : Shape := ⟨4, ![1, 2, 512, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S512x512 : Shape := ⟨2, ![512, 512]⟩
abbrev S1x1x512x256 : Shape := ⟨4, ![1, 1, 512, 256]⟩

abbrev nBuf : Space → Nat
  | .hbm => 87
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S16x1x1024, .f32⟩
  | .hbm, ⟨5, _⟩ => ⟨S16x1x1024, .f32⟩
  | .hbm, ⟨6, _⟩ => ⟨S2048, .i32⟩
  | .hbm, ⟨7, _⟩ => ⟨S2048x1, .i32⟩
  | .hbm, ⟨8, _⟩ => ⟨S1x2048, .i32⟩
  | .hbm, ⟨9, _⟩ => ⟨S2048x2048, .i32⟩
  | .hbm, ⟨10, _⟩ => ⟨S2048x2048, .i32⟩
  | .hbm, ⟨11, _⟩ => ⟨S2048x2048, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S2048x2048, .i32⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i1⟩
  | .hbm, ⟨23, _⟩ => ⟨S_, .i32⟩
  | .hbm, ⟨24, _⟩ => ⟨S2048x2048, .i32⟩
  | .hbm, ⟨25, _⟩ => ⟨S2048x2048, .i1⟩
  | .hbm, ⟨26, _⟩ => ⟨S_, .i32⟩
  | .hbm, ⟨27, _⟩ => ⟨S_, .i1⟩
  | .hbm, ⟨28, _⟩ => ⟨S2048x2048, .i1⟩
  | .hbm, ⟨29, _⟩ => ⟨S2048x2048, .i1⟩
  | .hbm, ⟨30, _⟩ => ⟨S2048x2048, .i1⟩
  | .hbm, ⟨31, _⟩ => ⟨S2048x2048, .i32⟩
  | .hbm, ⟨32, _⟩ => ⟨S2048x2048, .i32⟩
  | .hbm, ⟨33, _⟩ => ⟨S2048x2048, .i32⟩
  | .hbm, ⟨34, _⟩ => ⟨S2048x2048, .f32⟩
  | .hbm, ⟨35, _⟩ => ⟨S_, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S256, .i32⟩
  | .hbm, ⟨41, _⟩ => ⟨S256x1, .i32⟩
  | .hbm, ⟨42, _⟩ => ⟨S1x256, .i32⟩
  | .hbm, ⟨43, _⟩ => ⟨S256x256, .i32⟩
  | .hbm, ⟨44, _⟩ => ⟨S256x256, .i32⟩
  | .hbm, ⟨45, _⟩ => ⟨S256x256, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S256x256, .i32⟩
  | .hbm, ⟨53, _⟩ => ⟨S256x256, .i32⟩
  | .hbm, ⟨54, _⟩ => ⟨S_, .i32⟩
  | .hbm, ⟨55, _⟩ => ⟨S256x256, .i32⟩
  | .hbm, ⟨56, _⟩ => ⟨S256x256, .i1⟩
  | .hbm, ⟨57, _⟩ => ⟨S_, .i32⟩
  | .hbm, ⟨58, _⟩ => ⟨S256x256, .i32⟩
  | .hbm, ⟨59, _⟩ => ⟨S256x256, .i1⟩
  | .hbm, ⟨60, _⟩ => ⟨S_, .i32⟩
  | .hbm, ⟨61, _⟩ => ⟨S_, .i1⟩
  | .hbm, ⟨62, _⟩ => ⟨S256x256, .i1⟩
  | .hbm, ⟨63, _⟩ => ⟨S256x256, .i1⟩
  | .hbm, ⟨64, _⟩ => ⟨S256x256, .i1⟩
  | .hbm, ⟨65, _⟩ => ⟨S256x256, .i32⟩
  | .hbm, ⟨66, _⟩ => ⟨S256x256, .i32⟩
  | .hbm, ⟨67, _⟩ => ⟨S256x256, .i32⟩
  | .hbm, ⟨68, _⟩ => ⟨S256x256, .f32⟩
  | .hbm, ⟨69, _⟩ => ⟨S_, .f32⟩
  | .hbm, ⟨70, _⟩ => ⟨S256x256, .f32⟩
  | .hbm, ⟨71, _⟩ => ⟨S256x256, .f32⟩
  | .hbm, ⟨72, _⟩ => ⟨S256x256, .f32⟩
  | .hbm, ⟨73, _⟩ => ⟨S256x256, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S2048x2048, .f32⟩
  | .hbm, ⟨79, _⟩ => ⟨S2048x4096, .f32⟩
  | .hbm, ⟨80, _⟩ => ⟨S2048x4096, .bf16⟩
  | .hbm, ⟨81, _⟩ => ⟨S256x512, .f32⟩
  | .hbm, ⟨82, _⟩ => ⟨S256x512, .f32⟩
  | .hbm, ⟨83, _⟩ => ⟨S256x512, .f32⟩
  | .hbm, ⟨84, _⟩ => ⟨S256x512, .bf16⟩
  | .hbm, ⟨85, _⟩ => ⟨S1x1024, .f32⟩
  | .hbm, ⟨86, _⟩ => ⟨S16x2x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S256x512, .bf16⟩
  | .local _ .vmem, ⟨8, _⟩ => ⟨S1x2x512x1024, .bf16⟩
  | .local _ .vmem, ⟨9, _⟩ => ⟨S1x2x512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v8 : Ref sig .tc := ⟨.hbm, 33, rfl⟩
abbrev main_v9 : Ref sig .tc := ⟨.hbm, 34, rfl⟩
abbrev main_cst : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_0 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c_1 : Ref sig .tc := ⟨.hbm, 54, rfl⟩
abbrev main_call1_v5 : Ref sig .tc := ⟨.hbm, 55, rfl⟩
abbrev main_call1_v6 : Ref sig .tc := ⟨.hbm, 56, rfl⟩
abbrev main_call1_c_2 : Ref sig .tc := ⟨.hbm, 57, rfl⟩
abbrev main_call1_v7 : Ref sig .tc := ⟨.hbm, 58, rfl⟩
abbrev main_call1_v8 : Ref sig .tc := ⟨.hbm, 59, rfl⟩
abbrev main_call1_c_3 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_v20 : Ref sig .tc := ⟨.hbm, 67, rfl⟩
abbrev main_v21 : Ref sig .tc := ⟨.hbm, 68, rfl⟩
abbrev main_cst_1 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_cst_2 : Ref sig .tc := ⟨.hbm, 74, rfl⟩
abbrev main_v26 : Ref sig .tc := ⟨.hbm, 75, rfl⟩
abbrev main_cst_3 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S16x2048x1024 : Shape := ⟨3, ![16, 2048, 1024]⟩
abbrev S1024 : Shape := ⟨1, ![1024]⟩
abbrev S16x1024 : Shape := ⟨2, ![16, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2048x4x256 : Shape := ⟨4, ![16, 2048, 4, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S16x1x2048x4x256 : Shape := ⟨5, ![16, 1, 2048, 4, 256]⟩
abbrev S16x2x2048x4x256 : Shape := ⟨5, ![16, 2, 2048, 4, 256]⟩
abbrev S16x2x2048x1024 : Shape := ⟨4, ![16, 2, 2048, 1024]⟩

abbrev nBuf : Space → Nat
  | .hbm => 75
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S16x2048x1024, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S16x2048x1, .f32⟩
  | .hbm, ⟨15, _⟩ => ⟨S16x2048x1024, .f32⟩
  | .hbm, ⟨16, _⟩ => ⟨S16x2048x1024, .f32⟩
  | .hbm, ⟨17, _⟩ => ⟨S1x1x1024, .f32⟩
  | .hbm, ⟨18, _⟩ => ⟨S16x2048x1024, .f32⟩
  | .hbm, ⟨19, _⟩ => ⟨S16x2048x1024, .f32⟩
  | .hbm, ⟨20, _⟩ => ⟨S16x1x1024, .f32⟩
  | .hbm, ⟨21, _⟩ => ⟨S_, .f32⟩
  | .hbm, ⟨22, _⟩ => ⟨S16x1x1024, .f32⟩
  | .hbm, ⟨23, _⟩ => ⟨S16x1x1024, .f32⟩
  | .hbm, ⟨24, _⟩ => ⟨S16x2048x1024, .f32⟩
  | .hbm, ⟨25, _⟩ => ⟨S16x2048x1024, .f32⟩
  | .hbm, ⟨26, _⟩ => ⟨S16x1x1024, .f32⟩
  | .hbm, ⟨27, _⟩ => ⟨S16x2048x1024, .f32⟩
  | .hbm, ⟨28, _⟩ => ⟨S16x2048x1024, .f32⟩
  | .hbm, ⟨29, _⟩ => ⟨S16x2048x4x256, .f32⟩
  | .hbm, ⟨30, _⟩ => ⟨S256, .i32⟩
  | .hbm, ⟨31, _⟩ => ⟨S256x1, .i32⟩
  | .hbm, ⟨32, _⟩ => ⟨S1x256, .i32⟩
  | .hbm, ⟨33, _⟩ => ⟨S256x256, .i32⟩
  | .hbm, ⟨34, _⟩ => ⟨S256x256, .i32⟩
  | .hbm, ⟨35, _⟩ => ⟨S256x256, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S256x256, .i32⟩
  | .hbm, ⟨43, _⟩ => ⟨S256x256, .i32⟩
  | .hbm, ⟨44, _⟩ => ⟨S_, .i32⟩
  | .hbm, ⟨45, _⟩ => ⟨S256x256, .i32⟩
  | .hbm, ⟨46, _⟩ => ⟨S256x256, .i1⟩
  | .hbm, ⟨47, _⟩ => ⟨S_, .i32⟩
  | .hbm, ⟨48, _⟩ => ⟨S256x256, .i32⟩
  | .hbm, ⟨49, _⟩ => ⟨S256x256, .i1⟩
  | .hbm, ⟨50, _⟩ => ⟨S_, .i32⟩
  | .hbm, ⟨51, _⟩ => ⟨S_, .i1⟩
  | .hbm, ⟨52, _⟩ => ⟨S256x256, .i1⟩
  | .hbm, ⟨53, _⟩ => ⟨S256x256, .i1⟩
  | .hbm, ⟨54, _⟩ => ⟨S256x256, .i1⟩
  | .hbm, ⟨55, _⟩ => ⟨S256x256, .i32⟩
  | .hbm, ⟨56, _⟩ => ⟨S256x256, .i32⟩
  | .hbm, ⟨57, _⟩ => ⟨S256x256, .i32⟩
  | .hbm, ⟨58, _⟩ => ⟨S256x256, .f32⟩
  | .hbm, ⟨59, _⟩ => ⟨S_, .f32⟩
  | .hbm, ⟨60, _⟩ => ⟨S256x256, .f32⟩
  | .hbm, ⟨61, _⟩ => ⟨S256x256, .f32⟩
  | .hbm, ⟨62, _⟩ => ⟨S256x256, .f32⟩
  | .hbm, ⟨63, _⟩ => ⟨S256x256, .f32⟩
  | .hbm, ⟨64, _⟩ => ⟨S16x2048x4x256, .f32⟩
  | .hbm, ⟨65, _⟩ => ⟨S16x2048x4x256, .f32⟩
  | .hbm, ⟨66, _⟩ => ⟨S16x1x2048x4x256, .f32⟩
  | .hbm, ⟨67, _⟩ => ⟨S16x1x2048x4x256, .f32⟩
  | .hbm, ⟨68, _⟩ => ⟨S16x2x2048x4x256, .f32⟩
  | .hbm, ⟨69, _⟩ => ⟨S16x2x2048x1024, .f32⟩
  | .hbm, ⟨70, _⟩ => ⟨S_, .f32⟩
  | .hbm, ⟨71, _⟩ => ⟨S_, .f32⟩
  | .hbm, ⟨72, _⟩ => ⟨S16x2x2048x1024, .f32⟩
  | .hbm, ⟨73, _⟩ => ⟨S16x2x2048x1024, .f32⟩
  | .hbm, ⟨74, _⟩ => ⟨S16x2x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_call0_v0 : Ref sig .tc := ⟨.hbm, 37, rfl⟩
abbrev main_call0_c : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_c_1 : Ref sig .tc := ⟨.hbm, 44, rfl⟩
abbrev main_call0_v5 : Ref sig .tc := ⟨.hbm, 45, rfl⟩
abbrev main_call0_v6 : Ref sig .tc := ⟨.hbm, 46, rfl⟩
abbrev main_call0_c_2 : Ref sig .tc := ⟨.hbm, 47, rfl⟩
abbrev main_call0_v7 : Ref sig .tc := ⟨.hbm, 48, rfl⟩
abbrev main_call0_v8 : Ref sig .tc := ⟨.hbm, 49, rfl⟩
abbrev main_call0_c_3 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_v28 : Ref sig .tc := ⟨.hbm, 57, rfl⟩
abbrev main_v29 : Ref sig .tc := ⟨.hbm, 58, rfl⟩
abbrev main_cst_3 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_4 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩

abbrev nD : Nat := 1
abbrev τ : Topo := Topo.v7x

variable {F : FTy → Type} [FloatOps F]
-- ==== Kernel6.lean ====
abbrev S16x2x2048x1024 : Shape := ⟨4, ![16, 2, 2048, 1024]⟩
abbrev S1024x1024 : Shape := ⟨2, ![1024, 1024]⟩
abbrev S1024 : Shape := ⟨1, ![1024]⟩
abbrev S16x2048x1024 : Shape := ⟨3, ![16, 2048, 1024]⟩
abbrev S16x1024 : Shape := ⟨2, ![16, 1024]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S2048x4096 : Shape := ⟨2, ![2048, 4096]⟩
abbrev S256x512 : Shape := ⟨2, ![256, 512]⟩
abbrev S16x1x1024 : Shape := ⟨3, ![16, 1, 1024]⟩
abbrev S16x4096x1024 : Shape := ⟨3, ![16, 4096, 1024]⟩
abbrev S1x1024 : Shape := ⟨2, ![1, 1024]⟩
abbrev S512x4096 : Shape := ⟨2, ![512, 4096]⟩
abbrev S1x4096x1024 : Shape := ⟨3, ![1, 4096, 1024]⟩
abbrev S1x512x1024 : Shape := ⟨3, ![1, 512, 1024]⟩
abbrev S1x1x1024 : Shape := ⟨3, ![1, 1, 1024]⟩
abbrev S4096x1024 : Shape := ⟨2, ![4096, 1024]⟩
abbrev S512x1024 : Shape := ⟨2, ![512, 1024]⟩

abbrev nBuf : Space → Nat
  | .hbm => 89
  | .vmem => 12
  | .smem => 0
  | _ => 0

abbrev bufTy : (tb : Table) → Fin (tcTables nBuf tb) → BufTy
  | .hbm, ⟨0, _⟩ => ⟨S16x2x2048x1024, .bf16⟩
  | .hbm, ⟨1, _⟩ => ⟨S1024x1024, .f32⟩
  | .hbm, ⟨2, _⟩ => ⟨S1024, .f32⟩
  | .hbm, ⟨3, _⟩ => ⟨S16x2048x1024, .f32⟩
  | .hbm, ⟨4, _⟩ => ⟨S16x1024, .f32⟩
  | .hbm, ⟨5, _⟩ => ⟨S2048, .i32⟩
  | .hbm, ⟨6, _⟩ => ⟨S2048x1, .i32⟩
  | .hbm, ⟨7, _⟩ => ⟨S1x2048, .i32⟩
  | .hbm, ⟨8, _⟩ => ⟨S2048x2048, .i32⟩
  | .hbm, ⟨9, _⟩ => ⟨S2048x2048, .i32⟩
  | .hbm, ⟨10, _⟩ => ⟨S2048x2048, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S2048x2048, .i32⟩
  | .hbm, ⟨18, _⟩ => ⟨S2048x2048, .i32⟩
  | .hbm, ⟨19, _⟩ => ⟨S_, .i32⟩
  | .hbm, ⟨20, _⟩ => ⟨S2048x2048, .i32⟩
  | .hbm, ⟨21, _⟩ => ⟨S2048x2048, .i1⟩
  | .hbm, ⟨22, _⟩ => ⟨S_, .i32⟩
  | .hbm, ⟨23, _⟩ => ⟨S2048x2048, .i32⟩
  | .hbm, ⟨24, _⟩ => ⟨S2048x2048, .i1⟩
  | .hbm, ⟨25, _⟩ => ⟨S_, .i32⟩
  | .hbm, ⟨26, _⟩ => ⟨S_, .i1⟩
  | .hbm, ⟨27, _⟩ => ⟨S2048x2048, .i1⟩
  | .hbm, ⟨28, _⟩ => ⟨S2048x2048, .i1⟩
  | .hbm, ⟨29, _⟩ => ⟨S2048x2048, .i1⟩
  | .hbm, ⟨30, _⟩ => ⟨S2048x2048, .i32⟩
  | .hbm, ⟨31, _⟩ => ⟨S2048x2048, .i32⟩
  | .hbm, ⟨32, _⟩ => ⟨S2048x2048, .i32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S256, .i32⟩
  | .hbm, ⟨40, _⟩ => ⟨S256x1, .i32⟩
  | .hbm, ⟨41, _⟩ => ⟨S1x256, .i32⟩
  | .hbm, ⟨42, _⟩ => ⟨S256x256, .i32⟩
  | .hbm, ⟨43, _⟩ => ⟨S256x256, .i32⟩
  | .hbm, ⟨44, _⟩ => ⟨S256x256, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S256x256, .i32⟩
  | .hbm, ⟨52, _⟩ => ⟨S256x256, .i32⟩
  | .hbm, ⟨53, _⟩ => ⟨S_, .i32⟩
  | .hbm, ⟨54, _⟩ => ⟨S256x256, .i32⟩
  | .hbm, ⟨55, _⟩ => ⟨S256x256, .i1⟩
  | .hbm, ⟨56, _⟩ => ⟨S_, .i32⟩
  | .hbm, ⟨57, _⟩ => ⟨S256x256, .i32⟩
  | .hbm, ⟨58, _⟩ => ⟨S256x256, .i1⟩
  | .hbm, ⟨59, _⟩ => ⟨S_, .i32⟩
  | .hbm, ⟨60, _⟩ => ⟨S_, .i1⟩
  | .hbm, ⟨61, _⟩ => ⟨S256x256, .i1⟩
  | .hbm, ⟨62, _⟩ => ⟨S256x256, .i1⟩
  | .hbm, ⟨63, _⟩ => ⟨S256x256, .i1⟩
  | .hbm, ⟨64, _⟩ => ⟨S256x256, .i32⟩
  | .hbm, ⟨65, _⟩ => ⟨S256x256, .i32⟩
  | .hbm, ⟨66, _⟩ => ⟨S256x256, .i32⟩
  | .hbm, ⟨67, _⟩ => ⟨S256x256, .f32⟩
  | .hbm, ⟨68, _⟩ => ⟨S_, .f32⟩
  | .hbm, ⟨69, _⟩ => ⟨S256x256, .f32⟩
  | .hbm, ⟨70, _⟩ => ⟨S256x256, .f32⟩
  | .hbm, ⟨71, _⟩ => ⟨S256x256, .f32⟩
  | .hbm, ⟨72, _⟩ => ⟨S256x256, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S2048x2048, .f32⟩
  | .hbm, ⟨78, _⟩ => ⟨S2048x4096, .f32⟩
  | .hbm, ⟨79, _⟩ => ⟨S2048x4096, .bf16⟩
  | .hbm, ⟨80, _⟩ => ⟨S256x512, .f32⟩
  | .hbm, ⟨81, _⟩ => ⟨S256x512, .f32⟩
  | .hbm, ⟨82, _⟩ => ⟨S256x512, .f32⟩
  | .hbm, ⟨83, _⟩ => ⟨S256x512, .bf16⟩
  | .hbm, ⟨84, _⟩ => ⟨S1024x1024, .bf16⟩
  | .hbm, ⟨85, _⟩ => ⟨S16x1x1024, .f32⟩
  | .hbm, ⟨86, _⟩ => ⟨S16x4096x1024, .bf16⟩
  | .hbm, ⟨87, _⟩ => ⟨S1x1024, .f32⟩
  | .hbm, ⟨88, _⟩ => ⟨S16x2048x1024, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x512x1024, .f32⟩
  | .local _ .vmem, ⟨11, _⟩ => ⟨S1x512x1024, .f32⟩
  | _, _ => ⟨S16x2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_0 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_v5 : Ref sig .tc := ⟨.hbm, 54, rfl⟩
abbrev main_call1_v6 : Ref sig .tc := ⟨.hbm, 55, rfl⟩
abbrev main_call1_c_2 : Ref sig .tc := ⟨.hbm, 56, rfl⟩
abbrev main_call1_v7 : Ref sig .tc := ⟨.hbm, 57, rfl⟩
abbrev main_call1_v8 : Ref sig .tc := ⟨.hbm, 58, rfl⟩
abbrev main_call1_c_3 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_v18 : Ref sig .tc := ⟨.hbm, 66, rfl⟩
abbrev main_v19 : Ref sig .tc := ⟨.hbm, 67, rfl⟩
abbrev main_cst_1 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_cst_2 : Ref sig .tc := ⟨.hbm, 73, rfl⟩
abbrev main_v24 : Ref sig .tc := ⟨.hbm, 74, rfl⟩
abbrev main_cst_3 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S16x2x2048x1024 : Shape := ⟨4, ![16, 2, 2048, 1024]⟩
abbrev S1024x1024 : Shape := ⟨2, ![1024, 1024]⟩
abbrev S1024 : Shape := ⟨1, ![1024]⟩
abbrev S16x2048x1024 : Shape := ⟨3, ![16, 2048, 1024]⟩
abbrev S16x1024 : Shape := ⟨2, ![16, 1024]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S16x1x2048x1024 : Shape := ⟨4, ![16, 1, 2048, 1024]⟩
abbrev S16x1024x2048 : Shape := ⟨3, ![16, 1024, 2048]⟩
abbrev S16x1x1024 : Shape := ⟨3, ![16, 1, 1024]⟩
abbrev S1x1x1024 : Shape := ⟨3, ![1, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16x2x2048x1024, .bf16⟩
  | .hbm, ⟨1, _⟩ => ⟨S1024x1024, .f32⟩
  | .hbm, ⟨2, _⟩ => ⟨S1024, .f32⟩
  | .hbm, ⟨3, _⟩ => ⟨S16x2048x1024, .f32⟩
  | .hbm, ⟨4, _⟩ => ⟨S16x1024, .f32⟩
  | .hbm, ⟨5, _⟩ => ⟨S2048, .i32⟩
  | .hbm, ⟨6, _⟩ => ⟨S2048x1, .i32⟩
  | .hbm, ⟨7, _⟩ => ⟨S1x2048, .i32⟩
  | .hbm, ⟨8, _⟩ => ⟨S2048x2048, .i32⟩
  | .hbm, ⟨9, _⟩ => ⟨S2048x2048, .i32⟩
  | .hbm, ⟨10, _⟩ => ⟨S2048x2048, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S2048x2048, .i32⟩
  | .hbm, ⟨18, _⟩ => ⟨S2048x2048, .i32⟩
  | .hbm, ⟨19, _⟩ => ⟨S_, .i32⟩
  | .hbm, ⟨20, _⟩ => ⟨S2048x2048, .i32⟩
  | .hbm, ⟨21, _⟩ => ⟨S2048x2048, .i1⟩
  | .hbm, ⟨22, _⟩ => ⟨S_, .i32⟩
  | .hbm, ⟨23, _⟩ => ⟨S2048x2048, .i32⟩
  | .hbm, ⟨24, _⟩ => ⟨S2048x2048, .i1⟩
  | .hbm, ⟨25, _⟩ => ⟨S_, .i32⟩
  | .hbm, ⟨26, _⟩ => ⟨S_, .i1⟩
  | .hbm, ⟨27, _⟩ => ⟨S2048x2048, .i1⟩
  | .hbm, ⟨28, _⟩ => ⟨S2048x2048, .i1⟩
  | .hbm, ⟨29, _⟩ => ⟨S2048x2048, .i1⟩
  | .hbm, ⟨30, _⟩ => ⟨S2048x2048, .i32⟩
  | .hbm, ⟨31, _⟩ => ⟨S2048x2048, .i32⟩
  | .hbm, ⟨32, _⟩ => ⟨S2048x2048, .i32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S16x2x2048x1024, .f32⟩
  | .hbm, ⟨40, _⟩ => ⟨S16x1x2048x1024, .f32⟩
  | .hbm, ⟨41, _⟩ => ⟨S16x2048x1024, .f32⟩
  | .hbm, ⟨42, _⟩ => ⟨S16x1024x2048, .f32⟩
  | .hbm, ⟨43, _⟩ => ⟨S16x2048x1024, .f32⟩
  | .hbm, ⟨44, _⟩ => ⟨S2048x2048, .f32⟩
  | .hbm, ⟨45, _⟩ => ⟨S16x1x2048x1024, .f32⟩
  | .hbm, ⟨46, _⟩ => ⟨S16x2048x1024, .f32⟩
  | .hbm, ⟨47, _⟩ => ⟨S16x1024x2048, .f32⟩
  | .hbm, ⟨48, _⟩ => ⟨S16x2048x1024, .f32⟩
  | .hbm, ⟨49, _⟩ => ⟨S16x2048x1024, .f32⟩
  | .hbm, ⟨50, _⟩ => ⟨S16x1x1024, .f32⟩
  | .hbm, ⟨51, _⟩ => ⟨S16x2048x1024, .f32⟩
  | .hbm, ⟨52, _⟩ => ⟨S1x1x1024, .f32⟩
  | .hbm, ⟨53, _⟩ => ⟨S16x2048x1024, .f32⟩
  | .hbm, ⟨54, _⟩ => ⟨S16x2048x1024, .f32⟩
  | .hbm, ⟨55, _⟩ => ⟨S16x2048x1024, .f32⟩
  | .hbm, ⟨56, _⟩ => ⟨S16x2048x1024, .f32⟩
  | .hbm, ⟨57, _⟩ => ⟨S16x2048x1024, .f32⟩
  | _, _ => ⟨S16x2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩

abbrev nD : Nat := 1
abbrev τ : Topo := Topo.v7x

variable {F : FTy → Type} [FloatOps F]
-- ==== Kernel7.lean ====
abbrev S16x16x2048 : Shape := ⟨3, ![16, 16, 2048]⟩
abbrev S16x16x256x1024 : Shape := ⟨4, ![16, 16, 256, 1024]⟩
abbrev S16x2048x1024 : Shape := ⟨3, ![16, 2048, 1024]⟩
abbrev S16x1024 : Shape := ⟨2, ![16, 1024]⟩
abbrev S1024 : Shape := ⟨1, ![1024]⟩
abbrev S16x2048x16 : Shape := ⟨3, ![16, 2048, 16]⟩
abbrev S16x4096x1024 : Shape := ⟨3, ![16, 4096, 1024]⟩
abbrev S16x1x1024 : Shape := ⟨3, ![16, 1, 1024]⟩
abbrev S1x1024 : Shape := ⟨2, ![1, 1024]⟩
abbrev S1x1024x16 : Shape := ⟨3, ![1, 1024, 16]⟩
abbrev S1x4096x1024 : Shape := ⟨3, ![1, 4096, 1024]⟩
abbrev S1x1024x1024 : Shape := ⟨3, ![1, 1024, 1024]⟩
abbrev S1x1x1024 : Shape := ⟨3, ![1, 1, 1024]⟩
abbrev S1x256 : Shape := ⟨2, ![1, 256]⟩
abbrev S1x1024x1 : Shape := ⟨3, ![1, 1024, 1]⟩
abbrev S1024x1 : Shape := ⟨2, ![1024, 1]⟩
abbrev S1024x256 : Shape := ⟨2, ![1024, 256]⟩
abbrev S1024x4096 : Shape := ⟨2, ![1024, 4096]⟩
abbrev S1024x1024 : Shape := ⟨2, ![1024, 1024]⟩
abbrev S4096x1024 : Shape := ⟨2, ![4096, 1024]⟩

abbrev nBuf : Space → Nat
  | .hbm => 10
  | .vmem => 11
  | .smem => 0
  | _ => 0

abbrev bufTy : (tb : Table) → Fin (tcTables nBuf tb) → BufTy
  | .hbm, ⟨0, _⟩ => ⟨S16x16x2048, .i32⟩
  | .hbm, ⟨1, _⟩ => ⟨S16x16x256x1024, .bf16⟩
  | .hbm, ⟨2, _⟩ => ⟨S16x2048x1024, .f32⟩
  | .hbm, ⟨3, _⟩ => ⟨S16x1024, .f32⟩
  | .hbm, ⟨4, _⟩ => ⟨S1024, .f32⟩
  | .hbm, ⟨5, _⟩ => ⟨S16x2048x16, .i32⟩
  | .hbm, ⟨6, _⟩ => ⟨S16x4096x1024, .bf16⟩
  | .hbm, ⟨7, _⟩ => ⟨S16x1x1024, .f32⟩
  | .hbm, ⟨8, _⟩ => ⟨S1x1024, .f32⟩
  | .hbm, ⟨9, _⟩ => ⟨S16x2048x1024, .f32⟩
  | .local _ .vmem, ⟨0, _⟩ => ⟨S1x1024x16, .i32⟩
  | .local _ .vmem, ⟨1, _⟩ => ⟨S1x1024x16, .i32⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | _, _ => ⟨S16x16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x16 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S16x16x2048 : Shape := ⟨3, ![16, 16, 2048]⟩
abbrev S16x16x256x1024 : Shape := ⟨4, ![16, 16, 256, 1024]⟩
abbrev S16x2048x1024 : Shape := ⟨3, ![16, 2048, 1024]⟩
abbrev S16x1024 : Shape := ⟨2, ![16, 1024]⟩
abbrev S1024 : Shape := ⟨1, ![1024]⟩
abbrev S_ : Shape := ⟨0, ![]⟩
abbrev S16x16x2048x1 : Shape := ⟨4, ![16, 16, 2048, 1]⟩
abbrev S16x16x2048x1024 : Shape := ⟨4, ![16, 16, 2048, 1024]⟩
abbrev S16x1x1024 : Shape := ⟨3, ![16, 1, 1024]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16x16x2048, .i32⟩
  | .hbm, ⟨1, _⟩ => ⟨S16x16x256x1024, .bf16⟩
  | .hbm, ⟨2, _⟩ => ⟨S16x2048x1024, .f32⟩
  | .hbm, ⟨3, _⟩ => ⟨S16x1024, .f32⟩
  | .hbm, ⟨4, _⟩ => ⟨S1024, .f32⟩
  | .hbm, ⟨5, _⟩ => ⟨S_, .i32⟩
  | .hbm, ⟨6, _⟩ => ⟨S16x16x2048, .i32⟩
  | .hbm, ⟨7, _⟩ => ⟨S16x16x2048, .i1⟩
  | .hbm, ⟨8, _⟩ => ⟨S_, .i32⟩
  | .hbm, ⟨9, _⟩ => ⟨S16x16x2048, .i32⟩
  | .hbm, ⟨10, _⟩ => ⟨S16x16x2048, .i1⟩
  | .hbm, ⟨11, _⟩ => ⟨S16x16x2048, .i1⟩
  | .hbm, ⟨12, _⟩ => ⟨S16x16x2048x1, .i32⟩
  | .hbm, ⟨13, _⟩ => ⟨S16x16x2048x1024, .bf16⟩
  | .hbm, ⟨14, _⟩ => ⟨S16x16x2048x1, .i1⟩
  | .hbm, ⟨15, _⟩ => ⟨S16x16x2048x1024, .f32⟩
  | .hbm, ⟨16, _⟩ => ⟨S_, .f32⟩
  | .hbm, ⟨17, _⟩ => ⟨S_, .f32⟩
  | .hbm, ⟨18, _⟩ => ⟨S16x16x2048x1024, .i1⟩
  | .hbm, ⟨19, _⟩ => ⟨S16x16x2048x1024, .f32⟩
  | .hbm, ⟨20, _⟩ => ⟨S16x16x2048x1024, .f32⟩
  | .hbm, ⟨21, _⟩ => ⟨S_, .f32⟩
  | .hbm, ⟨22, _⟩ => ⟨S16x2048x1024, .f32⟩
  | .hbm, ⟨23, _⟩ => ⟨S16x1x1024, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x2048, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S_, .f32⟩
  | .hbm, ⟨35, _⟩ => ⟨S16x2048x1, .f32⟩
  | .hbm, ⟨36, _⟩ => ⟨S16x2048x1, .f32⟩
  | .hbm, ⟨37, _⟩ => ⟨S16x2048x1, .f32⟩
  | .hbm, ⟨38, _⟩ => ⟨S16x2048x1024, .f32⟩
  | .hbm, ⟨39, _⟩ => ⟨S16x2048x1024, .f32⟩
  | .hbm, ⟨40, _⟩ => ⟨S1x1x1024, .f32⟩
  | .hbm, ⟨41, _⟩ => ⟨S16x2048x1024, .f32⟩
  | .hbm, ⟨42, _⟩ => ⟨S16x2048x1024, .f32⟩
  | _, _ => ⟨S16x16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Proof.Ffn.Body.lean ====
/- What one grid point of the expert feed-forward leaves in its output block and in its three weight scratches, and the
   blocks its windows read. -/
module

public import proofs.«01_k».proof.Proof.Gen.Kernel2Ideal.Value
public import Idealize.ShloMosaic.Lib.Pointwise

@[expose] public section

set_option maxRecDepth 16384

noncomputable section

namespace Cert.Proof.Ffn

open Idealize.ShloMosaic Idealize.ShloMosaic.TcCoe Idealize.SL.Sem
open Cert.Kernel2Ideal Cert.Kernel2Ideal.Gen

variable (m : (ℓ : Loc nD τ sig) → Buf (Elt Ideal) ℓ)

theorem zero4 : (![0, 0, 0, 0] : Fin 4 → Nat) = fun _ => 0 := funext fun a => by fin_cases a <;> rfl
theorem zero2 : (![0, 0] : Fin 2 → Nat) = fun _ => 0 := funext fun a => by fin_cases a <;> rfl

section
variable (c : Dev nD) (i : grid0.Coords) (a2 : Memref sig .tc .vmem S4x1x256x1024 .bf16) (h2 : a2.IsWhole) (a3 : Memref sig .tc .vmem S4x1x256x1 .f32) (h3 : a3.IsWhole) (a4 : Memref sig .tc .vmem S1x1x1024x1024 .f32) (h4 : a4.IsWhole) (a5 : Memref sig .tc .vmem S1x1x1024x1024 .f32) (h5 : a5.IsWhole) (a6 : Memref sig .tc .vmem S1x1x1024x1024 .f32) (h6 : a6.IsWhole) (a7 : Memref sig .tc .vmem S4x1x256x1024 .bf16) (h7 : a7.IsWhole) (a8 : Memref sig .tc .vmem S1024x1024 .bf16) (h8 : a8.IsWhole) (a9 : Memref sig .tc .vmem S1024x1024 .bf16) (h9 : a9.IsWhole) (a10 : Memref sig .tc .vmem S1024x1024 .bf16) (h10 : a10.IsWhole)
  (x0 : Vec Ideal S4x1x256x1024 .bf16) (x1 : Vec Ideal S4x1x256x1 .f32) (x2 x3 x4 : Vec Ideal S1x1x1024x1024 .f32)
  (s0 s1 s2 : Vec Ideal S1024x1024 .bf16)

/-- At an expert's first point the scratches take the expert's weights. -/
theorem scratch0_first (hc : cond0_0 i) :
    sout0_A_0 c i a2 h2 a3 h3 a4 h4 a5 h5 a6 h6 a7 h7 a8 h8 a9 h9 a10 h10 hc x0 x1 x2 x3 x4 = k0_pay2 x2 := by
  unfold sout0_A_0
  rw [View.read_writes_eq_canon _ _ _ (scover0_A_0 c i a2 h2 a3 h3 a4 h4 a5 h5 a6 h6 a7 h7 a8 h8 a9 h9 a10 h10 hc x0 x1 x2 x3 x4)]
  unfold kernelRun0_A
  dsimp only
  sl_unfold_words
  rw [View.canon_unit_zero zero2]
  simp only [View.readAt_eq_ld, h4.read_unread, View.ld_unit_zero (S := S1x1x1024x1024) zero4]

theorem scratch1_first (hc : cond0_0 i) :
    sout0_A_1 c i a2 h2 a3 h3 a4 h4 a5 h5 a6 h6 a7 h7 a8 h8 a9 h9 a10 h10 hc x0 x1 x2 x3 x4 = k0_pay3 x3 := by
  unfold sout0_A_1
  rw [View.read_writes_eq_canon _ _ _ (scover0_A_1 c i a2 h2 a3 h3 a4 h4 a5 h5 a6 h6 a7 h7 a8 h8 a9 h9 a10 h10 hc x0 x1 x2 x3 x4)]
  unfold kernelRun0_A
  dsimp only
  sl_unfold_words
  rw [View.canon_unit_zero zero2]
  simp only [View.readAt_eq_ld, h5.read_unread, View.ld_unit_zero (S := S1x1x1024x1024) zero4]

theorem scratch2_first (hc : cond0_0 i) :
    sout0_A_2 c i a2 h2 a3 h3 a4 h4 a5 h5 a6 h6 a7 h7 a8 h8 a9 h9 a10 h10 hc x0 x1 x2 x3 x4 = k0_pay4 x4 := by
  unfold sout0_A_2
  rw [View.read_writes_eq_canon _ _ _ (scover0_A_2 c i a2 h2 a3 h3 a4 h4 a5 h5 a6 h6 a7 h7 a8 h8 a9 h9 a10 h10 hc x0 x1 x2 x3 x4)]
  unfold kernelRun0_A
  dsimp only
  sl_unfold_words
  rw [View.canon_unit_zero zero2]
  simp only [View.readAt_eq_ld, h6.read_unread, View.ld_unit_zero (S := S1x1x1024x1024) zero4]

/-- The output block, where the weights were just stored. -/
theorem block_first (hc : cond0_0 i) :
    out0_A_5 c i a2 h2 a3 h3 a4 h4 a5 h5 a6 h6 a7 h7 a8 h8 a9 h9 a10 h10 hc x0 x1 x2 x3 x4
      = k0_pay1 (k0_pay5 x0 (k0_pay2 x2) (k0_pay3 x3) (k0_pay4 x4) x1) := by
  unfold out0_A_5
  rw [View.read_writes_eq_canon _ _ _ (cover0_A_5 c i a2 h2 a3 h3 a4 h4 a5 h5 a6 h6 a7 h7 a8 h8 a9 h9 a10 h10 hc x0 x1 x2 x3 x4)]
  unfold kernelRun0_A
  dsimp only
  sl_unfold_words
  rw [View.canon_unit_zero zero4]
  simp only [View.readCov_unit_zero (S := S1024x1024) _ zero2, View.readAt_eq_ld, h2.read_unread, h3.read_unread, h4.read_unread,
    h5.read_unread, h6.read_unread,
    View.ld_unit_zero (S := S1x1x1024x1024) zero4, View.ld_unit_zero (S := S4x1x256x1024) zero4,
    View.ld_unit_zero (S := S4x1x256x1) zero4]

/-- The output block, where the weights were stored before. -/
theorem block_later (hc : ¬cond0_0 i) :
    out0_B_5 c i a2 h2 a3 h3 a4 h4 a5 h5 a6 h6 a7 h7 a8 h8 a9 h9 a10 h10 hc x0 x1 x2 x3 x4 s0 s1 s2
      = k0_pay1 (k0_pay5 x0 s0 s1 s2 x1) := by
  unfold out0_B_5
  rw [View.read_writes_eq_canon _ _ _ (cover0_B_5 c i a2 h2 a3 h3 a4 h4 a5 h5 a6 h6 a7 h7 a8 h8 a9 h9 a10 h10 hc x0 x1 x2 x3 x4 s0 s1 s2)]
  unfold kernelRun0_B
  dsimp only
  sl_unfold_words
  rw [View.canon_unit_zero zero4]
  simp only [View.readAt_eq_ld, h2.read_unread, h3.read_unread, h8.read_unread, h9.read_unread, h10.read_unread,
    View.ld_unit_zero (S := S1024x1024) zero2, View.ld_unit_zero (S := S4x1x256x1024) zero4,
    View.ld_unit_zero (S := S4x1x256x1) zero4]

end

/-! ## The input blocks -/

/-- The blocks the windows read: at point `t`, samples `4 (t % 4) …` and expert `t / 4`; the weights' layer is the first. -/
theorem idx_tok : ∀ t : Fin cfg0.N, win0_0.index t = ![t.val % 4, t.val / 4, 0, 0] :=
  (by decide +kernel : ∀ t : Fin grid0.N, _)
theorem idx_gate : ∀ t : Fin cfg0.N, win0_1.index t = ![t.val % 4, t.val / 4, 0, 0] :=
  (by decide +kernel : ∀ t : Fin grid0.N, _)
theorem idx_w2 : ∀ t : Fin cfg0.N, win0_2.index t = ![0, t.val / 4, 0, 0] :=
  (by decide +kernel : ∀ t : Fin grid0.N, _)
theorem idx_w3 : ∀ t : Fin cfg0.N, win0_3.index t = ![0, t.val / 4, 0, 0] :=
  (by decide +kernel : ∀ t : Fin grid0.N, _)
theorem idx_w4 : ∀ t : Fin cfg0.N, win0_4.index t = ![0, t.val / 4, 0, 0] :=
  (by decide +kernel : ∀ t : Fin grid0.N, _)

theorem lt64 (t : Fin cfg0.N) : t.val < 64 := lt_of_lt_of_eq t.isLt N_0

theorem tok_apply (c : Dev nD) (t : Fin cfg0.N) (p : Fin 4) (s : Fin 256) (d : Fin 1024) :
    iblk m c 0 t (ix4 p 0 s d) = m ((c : Thread nD τ).loc main_arg0)
      (ix4 ⟨4 * (t.val % 4) + p.val, by omega⟩ ⟨t.val / 4, by have := lt64 t; omega⟩ s d) := by
  show m ((c : Thread nD τ).loc main_arg0) (((cfg0.win 0).blk t).view.emb (ix4 p 0 s d)) = _
  congr 1
  funext a
  apply Fin.ext
  match a with
  | ⟨0, _⟩ => show win0_0.index t (0 : Fin 4) * 4 + 1 * p.val = _; rw [idx_tok]; show t.val % 4 * 4 + 1 * p.val = 4 * (t.val % 4) + p.val; omega
  | ⟨1, _⟩ => show win0_0.index t (1 : Fin 4) * 1 + 1 * 0 = _; rw [idx_tok]; show t.val / 4 * 1 + 1 * 0 = t.val / 4; omega
  | ⟨2, _⟩ => show win0_0.index t (2 : Fin 4) * 256 + 1 * s.val = _; rw [idx_tok]; show 0 * 256 + 1 * s.val = s.val; omega
  | ⟨3, _⟩ => show win0_0.index t (3 : Fin 4) * 1024 + 1 * d.val = _; rw [idx_tok]; show 0 * 1024 + 1 * d.val = d.val; omega

theorem gate_apply (c : Dev nD) (t : Fin cfg0.N) (p : Fin 4) (s : Fin 256) :
    iblk m c 1 t (ix4 p 0 s 0) = m ((c : Thread nD τ).loc main_arg1)
      (ix4 ⟨4 * (t.val % 4) + p.val, by omega⟩ ⟨t.val / 4, by have := lt64 t; omega⟩ s 0) := by
  show m ((c : Thread nD τ).loc main_arg1) (((cfg0.win 1).blk t).view.emb (ix4 p 0 s 0)) = _
  congr 1
  funext a
  apply Fin.ext
  match a with
  | ⟨0, _⟩ => show win0_1.index t (0 : Fin 4) * 4 + 1 * p.val = _; rw [idx_gate]; show t.val % 4 * 4 + 1 * p.val = 4 * (t.val % 4) + p.val; omega
  | ⟨1, _⟩ => show win0_1.index t (1 : Fin 4) * 1 + 1 * 0 = _; rw [idx_gate]; show t.val / 4 * 1 + 1 * 0 = t.val / 4; omega
  | ⟨2, _⟩ => show win0_1.index t (2 : Fin 4) * 256 + 1 * s.val = _; rw [idx_gate]; show 0 * 256 + 1 * s.val = s.val; omega
  | ⟨3, _⟩ => show win0_1.index t (3 : Fin 4) * 1 + 1 * 0 = _; rw [idx_gate]; rfl

theorem w2_apply (c : Dev nD) (t : Fin cfg0.N) (k d : Fin 1024) :
    iblk m c 2 t (ix4 0 0 k d) = m ((c : Thread nD τ).loc main_arg2) (ix4 0 ⟨t.val / 4, by have := lt64 t; omega⟩ k d) := by
  show m ((c : Thread nD τ).loc main_arg2) (((cfg0.win 2).blk t).view.emb (ix4 0 0 k d)) = _
  congr 1
  funext a
  apply Fin.ext
  match a with
  | ⟨0, _⟩ => show win0_2.index t (0 : Fin 4) * 1 + 1 * 0 = _; rw [idx_w2]; rfl
  | ⟨1, _⟩ => show win0_2.index t (1 : Fin 4) * 1 + 1 * 0 = _; rw [idx_w2]; show t.val / 4 * 1 + 1 * 0 = t.val / 4; omega
  | ⟨2, _⟩ => show win0_2.index t (2 : Fin 4) * 1024 + 1 * k.val = _; rw [idx_w2]; show 0 * 1024 + 1 * k.val = k.val; omega
  | ⟨3, _⟩ => show win0_2.index t (3 : Fin 4) * 1024 + 1 * d.val = _; rw [idx_w2]; show 0 * 1024 + 1 * d.val = d.val; omega

theorem w3_apply (c : Dev nD) (t : Fin cfg0.N) (k d : Fin 1024) :
    iblk m c 3 t (ix4 0 0 k d) = m ((c : Thread nD τ).loc main_arg3) (ix4 0 ⟨t.val / 4, by have := lt64 t; omega⟩ k d) := by
  show m ((c : Thread nD τ).loc main_arg3) (((cfg0.win 3).blk t).view.emb (ix4 0 0 k d)) = _
  congr 1
  funext a
  apply Fin.ext
  match a with
  | ⟨0, _⟩ => show win0_3.index t (0 : Fin 4) * 1 + 1 * 0 = _; rw [idx_w3]; rfl
  | ⟨1, _⟩ => show win0_3.index t (1 : Fin 4) * 1 + 1 * 0 = _; rw [idx_w3]; show t.val / 4 * 1 + 1 * 0 = t.val / 4; omega
  | ⟨2, _⟩ => show win0_3.index t (2 : Fin 4) * 1024 + 1 * k.val = _; rw [idx_w3]; show 0 * 1024 + 1 * k.val = k.val; omega
  | ⟨3, _⟩ => show win0_3.index t (3 : Fin 4) * 1024 + 1 * d.val = _; rw [idx_w3]; show 0 * 1024 + 1 * d.val = d.val; omega

theorem w4_apply (c : Dev nD) (t : Fin cfg0.N) (k d : Fin 1024) :
    iblk m c 4 t (ix4 0 0 k d) = m ((c : Thread nD τ).loc main_arg4) (ix4 0 ⟨t.val / 4, by have := lt64 t; omega⟩ k d) := by
  show m ((c : Thread nD τ).loc main_arg4) (((cfg0.win 4).blk t).view.emb (ix4 0 0 k d)) = _
  congr 1
  funext a
  apply Fin.ext
  match a with
  | ⟨0, _⟩ => show win0_4.index t (0 : Fin 4) * 1 + 1 * 0 = _; rw [idx_w4]; rfl
  | ⟨1, _⟩ => show win0_4.index t (1 : Fin 4) * 1 + 1 * 0 = _; rw [idx_w4]; show t.val / 4 * 1 + 1 * 0 = t.val / 4; omega
  | ⟨2, _⟩ => show win0_4.index t (2 : Fin 4) * 1024 + 1 * k.val = _; rw [idx_w4]; show 0 * 1024 + 1 * k.val = k.val; omega
  | ⟨3, _⟩ => show win0_4.index t (3 : Fin 4) * 1024 + 1 * d.val = _; rw [idx_w4]; show 0 * 1024 + 1 * d.val = d.val; omega

end Cert.Proof.Ffn

end
-- ==== Proof.Ffn.Array.lean ====
/- The array the feed-forward's grid leaves: every block holds the feed-forward of its tokens with its expert's weights. -/
module

public import proofs.«01_k».proof.Proof.Ffn.Body

@[expose] public section

set_option maxRecDepth 16384

noncomputable section

namespace Cert.Proof.Ffn

open Idealize.ShloMosaic Idealize.ShloMosaic.TcCoe Idealize.SL.Sem
open Cert.Kernel2Ideal Cert.Kernel2Ideal.Gen

variable (m : (ℓ : Loc nD τ sig) → Buf (Elt Ideal) ℓ)

/-- Two points of one expert read the same weights. -/
theorem w2_same (c : Dev nD) (t u : Fin cfg0.N) (h : t.val / 4 = u.val / 4) : iblk m c 2 t = iblk m c 2 u := by
  have e : ∀ i j k l, iblk m c 2 t (ix4 i j k l) = iblk m c 2 u (ix4 i j k l) := by
    intro i j k l
    obtain rfl : i = 0 := Subsingleton.elim _ _
    obtain rfl : j = 0 := Subsingleton.elim _ _
    rw [w2_apply, w2_apply]; simp only [h]
  funext i
  rw [eq_ix4 i]
  exact e _ _ _ _
theorem w3_same (c : Dev nD) (t u : Fin cfg0.N) (h : t.val / 4 = u.val / 4) : iblk m c 3 t = iblk m c 3 u := by
  have e : ∀ i j k l, iblk m c 3 t (ix4 i j k l) = iblk m c 3 u (ix4 i j k l) := by
    intro i j k l
    obtain rfl : i = 0 := Subsingleton.elim _ _
    obtain rfl : j = 0 := Subsingleton.elim _ _
    rw [w3_apply, w3_apply]; simp only [h]
  funext i
  rw [eq_ix4 i]
  exact e _ _ _ _
theorem w4_same (c : Dev nD) (t u : Fin cfg0.N) (h : t.val / 4 = u.val / 4) : iblk m c 4 t = iblk m c 4 u := by
  have e : ∀ i j k l, iblk m c 4 t (ix4 i j k l) = iblk m c 4 u (ix4 i j k l) := by
    intro i j k l
    obtain rfl : i = 0 := Subsingleton.elim _ _
    obtain rfl : j = 0 := Subsingleton.elim _ _
    rw [w4_apply, w4_apply]; simp only [h]
  funext i
  rw [eq_ix4 i]
  exact e _ _ _ _

/-- After every point the scratches hold the weights of the point's expert. -/
theorem scratches (c : Dev nD) (n : ℕ) (h : n < cfg0.N) :
    (outsAt0 m c n h).2 = (k0_pay2 (iblk m c 2 ⟨n, h⟩), k0_pay3 (iblk m c 3 ⟨n, h⟩), k0_pay4 (iblk m c 4 ⟨n, h⟩)) := by
  induction n with
  | zero =>
    rw [outsAt0_A m c ⟨0, h⟩ rfl]
    simp only [scratch0_first, scratch1_first, scratch2_first]
  | succ n ih =>
    by_cases h0 : (n + 1) % 4 = 0
    · rw [outsAt0_A m c ⟨n + 1, h⟩ h0]
      simp only [scratch0_first, scratch1_first, scratch2_first]
    · have hn : n < cfg0.N := by omega
      have hd : (⟨n, hn⟩ : Fin cfg0.N).val / 4 = (⟨n + 1, h⟩ : Fin cfg0.N).val / 4 := by
        show n / 4 = (n + 1) / 4
        omega
      rw [outsAt0_B m c ⟨n + 1, h⟩ h0, ← w2_same m c _ _ hd, ← w3_same m c _ _ hd, ← w4_same m c _ _ hd]
      refine Eq.trans ?_ (ih hn)
      dsimp only [sout0_B_0, sout0_B_1, sout0_B_2]
      rfl

/-- The output block after every point. -/
theorem block (c : Dev nD) (t : Fin cfg0.N) :
    (outsAt0 m c t.val t.isLt).1 = k0_pay1 (k0_pay5 (iblk m c 0 t) (k0_pay2 (iblk m c 2 t)) (k0_pay3 (iblk m c 3 t)) (k0_pay4 (iblk m c 4 t)) (iblk m c 1 t)) := by
  by_cases h0 : t.val % 4 = 0
  · rw [outsAt0_A m c t h0]
    dsimp only
    rw [block_first]
  · have hn : t.val - 1 < cfg0.N := by omega
    have hd : (⟨t.val - 1, hn⟩ : Fin cfg0.N).val / 4 = t.val / 4 := by
      show (t.val - 1) / 4 = t.val / 4
      omega
    rw [outsAt0_B m c t h0]
    dsimp only
    rw [block_later, scratches m c (t.val - 1) hn, w2_same m c _ _ hd, w3_same m c _ _ hd, w4_same m c _ _ hd]

end Cert.Proof.Ffn

end
-- ==== Proof.Ffn.Sigmoid.lean ====
/- The logistic function as the kernel computes it, `0.5 * tanh (0.5 * h) + 0.5`, and as the reference does. -/
module

public import Idealize.ShloMosaic.Lib.Pointwise

@[expose] public section

noncomputable section

namespace Cert.Proof.Ffn

open Idealize.ShloMosaic

/-- The word of one half. -/
theorem half_word : Ideal.ofBits .f32 0x3F000000#32 = ((1 / 2 : ℝ) : EReal) := by
  simp [Ideal.ofBits, Ideal.ieee]
  rw [← EReal.coe_mul]
  norm_num

/-- On the reals. -/
theorem sigmoid_real (r : ℝ) : 1 / 2 * Real.tanh (1 / 2 * r) + 1 / 2 = 1 * (1 + Real.exp (-r))⁻¹ := by
  rw [Real.tanh_eq_sinh_div_cosh, Real.sinh_eq, Real.cosh_eq]
  have h : Real.exp (-r) = Real.exp (-(1 / 2 * r)) * Real.exp (-(1 / 2 * r)) := by
    rw [← Real.exp_add]; congr 1; ring
  have h1 : Real.exp (1 / 2 * r) * Real.exp (-(1 / 2 * r)) = 1 := by
    rw [← Real.exp_add]; simp
  have p := Real.exp_pos (1 / 2 * r)
  have q := Real.exp_pos (-(1 / 2 * r))
  rw [h]
  generalize Real.exp (1 / 2 * r) = x at *
  generalize Real.exp (-(1 / 2 * r)) = y at *
  have hx : x = y⁻¹ := eq_inv_of_mul_eq_one_left h1
  subst hx
  field_simp
  ring

/-- The two forms of the logistic function agree at every extended real. -/
theorem sigmoid_eq (h : EReal) :
    ((1 / 2 : ℝ) : EReal) * Ideal.tanh (((1 / 2 : ℝ) : EReal) * h) + ((1 / 2 : ℝ) : EReal)
      = Ideal.div 1 (1 + Ideal.exp (-h)) := by
  induction h with
  | bot =>
    rw [EReal.coe_mul_bot_of_pos (by norm_num), EReal.neg_bot]
    show ((1 / 2 : ℝ) : EReal) * (-1) + _ = Ideal.div 1 (1 + ⊤)
    rw [show (1 : EReal) + ⊤ = ⊤ from rfl]
    unfold Ideal.div
    rw [if_neg (by simp), EReal.inv_top, mul_zero]
    rw [show (-1 : EReal) = ((-1 : ℝ) : EReal) from rfl]
    norm_cast
    norm_num
  | top =>
    rw [EReal.coe_mul_top_of_pos (by norm_num), EReal.neg_top]
    show ((1 / 2 : ℝ) : EReal) * 1 + _ = Ideal.div 1 (1 + 0)
    unfold Ideal.div
    rw [add_zero, if_neg (by simp), mul_one]
    rw [show (1 : EReal) = ((1 : ℝ) : EReal) from rfl, ← EReal.coe_inv]
    norm_cast
    norm_num
  | coe r =>
    rw [← EReal.coe_mul, ← EReal.coe_neg, Ideal.tanh_coe, Ideal.exp_coe]
    unfold Ideal.div
    have p : (0 : ℝ) < 1 + Real.exp (-r) := by positivity
    rw [show (1 : EReal) = ((1 : ℝ) : EReal) from rfl, ← EReal.coe_add, if_neg (by
      intro h0
      exact p.ne' (EReal.coe_eq_zero.mp h0)), ← EReal.coe_inv, ← EReal.coe_mul, ← EReal.coe_mul, ← EReal.coe_add,
      sigmoid_real]

end Cert.Proof.Ffn

end
-- ==== Proof.Ffn.Entry.lean ====
/- One entry of the expert feed-forward, of the kernel's block and of the reference's array. -/
module

public import proofs.«01_k».proof.Proof.Ffn.Sigmoid
public import proofs.«01_k».proof.Proof.Gen.Kernel2Ideal.Value
public import proofs.«01_k».proof.Proof.Gen.Reference2Ideal.Run

@[expose] public section

set_option maxRecDepth 16384

noncomputable section

namespace Cert.Proof.Ffn

open Idealize.ShloMosaic

/-- One entry of the feed-forward: `x` a token, `wg`, `wu` the two input maps by (input, hidden), `wd` the output map's
    column, `g` the gate. -/
def entry (x : Fin 1024 → EReal) (wg wu : Fin 1024 → Fin 1024 → EReal) (wd : Fin 1024 → EReal) (g : EReal) : EReal :=
  (∑ f, (((∑ k, x k * wg k f) * Ideal.div 1 (1 + Ideal.exp (-(∑ k, x k * wg k f)))) * (∑ k, x k * wu k f)) * wd f) * g

section
open Cert.Kernel2Ideal Cert.Kernel2Ideal.Gen

theorem block_entry (x0 : Vec Ideal S4x1x256x1024 .bf16) (x1 : Vec Ideal S4x1x256x1 .f32) (x2 x3 x4 : Vec Ideal S1x1x1024x1024 .f32)
    (p : Fin 4) (s : Fin 256) (d : Fin 1024) :
    k0_pay1 (k0_pay5 x0 (k0_pay2 x2) (k0_pay3 x3) (k0_pay4 x4) x1) (ix4 p 0 s d)
      = entry (fun k => x0 (ix4 p 0 s k)) (fun k f => x2 (ix4 0 0 k f)) (fun k f => x3 (ix4 0 0 k f)) (fun f => x4 (ix4 0 0 f d)) (x1 (ix4 p 0 s 0)) := by
  unfold entry
  simp only [← sigmoid_eq, ← half_word]
  pointwise [k0_pay1, k0_pay2, k0_pay3, k0_pay4, k0_pay5]

end

section
open Cert.Reference2Ideal Cert.Reference2Ideal.Gen

theorem array_entry (x : FVec Ideal S16x16x256x1024 .bf16) (g : FVec Ideal S16x16x256x1 .f32) (wg wu wd : FVec Ideal S4x16x1024x1024 .f32)
    (b e : Fin 16) (s : Fin 256) (d : Fin 1024) :
    (truncf .bf16 (mulf (transpose S16x16x256x1024 [2, 0, 3, 1] (Host.dotGeneral dot_S16x1024x1024_S16x16x256x1024_S16x1024x16x256_1_3_2_02_0_1 none (shapeCast _ (extractStridedSlice S1x16x1024x1024 ![0, 0, 0, 0] wd slices_S4x16x1024x1024_S1x16x1024x1024_0_0_0_0) shapeCasts_S1x16x1024x1024_S16x1024x1024) (mulf (mulf (transpose S16x16x256x1024 [2, 0, 3, 1] (Host.dotGeneral dot_S16x1024x1024_S16x16x256x1024_S16x1024x16x256_1_3_2_02_0_1 none (shapeCast _ (extractStridedSlice S1x16x1024x1024 ![0, 0, 0, 0] wg slices_S4x16x1024x1024_S1x16x1024x1024_0_0_0_0) shapeCasts_S1x16x1024x1024_S16x1024x1024) (extf .f32 x bitsLt_bf16_f32)) transposes_S16x1024x16x256_S16x16x256x1024_2_0_3_1) (Host.divf (broadcastInDim S16x16x256x1024 ![] bcast_S_S16x16x256x1024 (constant S_ .f32 0x3F800000#32)) (addf (broadcastInDim S16x16x256x1024 ![] bcast_S_S16x16x256x1024 (constant S_ .f32 0x3F800000#32)) (Host.exp (Host.negf (transpose S16x16x256x1024 [2, 0, 3, 1] (Host.dotGeneral dot_S16x1024x1024_S16x16x256x1024_S16x1024x16x256_1_3_2_02_0_1 none (shapeCast _ (extractStridedSlice S1x16x1024x1024 ![0, 0, 0, 0] wg slices_S4x16x1024x1024_S1x16x1024x1024_0_0_0_0) shapeCasts_S1x16x1024x1024_S16x1024x1024) (extf .f32 x bitsLt_bf16_f32)) transposes_S16x1024x16x256_S16x16x256x1024_2_0_3_1)))))) (transpose S16x16x256x1024 [2, 0, 3, 1] (Host.dotGeneral dot_S16x1024x1024_S16x16x256x1024_S16x1024x16x256_1_3_2_02_0_1 none (shapeCast _ (extractStridedSlice S1x16x1024x1024 ![0, 0, 0, 0] wu slices_S4x16x1024x1024_S1x16x1024x1024_0_0_0_0) shapeCasts_S1x16x1024x1024_S16x1024x1024) (extf .f32 x bitsLt_bf16_f32)) transposes_S16x1024x16x256_S16x16x256x1024_2_0_3_1))) transposes_S16x1024x16x256_S16x16x256x1024_2_0_3_1) (broadcastInDim S16x16x256x1024 ![0, 1, 2, 3] bcast_S16x16x256x1_S16x16x256x1024_0_1_2_3 g)) bitsLt_bf16_f32 : FVec Ideal S16x16x256x1024 .bf16) (ix4 b e s d)
      = entry (fun k => x (ix4 b e s k)) (fun k f => wg (ix4 0 e k f)) (fun k f => wu (ix4 0 e k f)) (fun f => wd (ix4 0 e f d)) (g (ix4 b e s 0)) := by
  unfold entry
  pointwise
  have flip : ∀ (w : FVec Ideal S4x16x1024x1024 .f32) (f : Fin 1024),
      ∑ k, w (ix4 0 e k f) * x (ix4 b e s k) = ∑ k, x (ix4 b e s k) * w (ix4 0 e k f) :=
    fun w f => Finset.sum_congr rfl fun k _ => mul_comm _ _
  simp only [flip]
  congr 1
  exact Finset.sum_congr rfl fun f _ => mul_comm _ _

end

end Cert.Proof.Ffn

end
-- ==== Proof.Ffn.Value.lean ====
/- The expert feed-forward's value claim. -/
module

public import proofs.«01_k».proof.Proof.Ffn.Array
public import proofs.«01_k».proof.Proof.Ffn.Entry
public import proofs.«01_k».proof.Defs

@[expose] public section

set_option maxRecDepth 16384

noncomputable section

namespace Cert.Proof.Ffn

open Idealize.ShloMosaic Idealize.ShloMosaic.TcCoe Idealize.SL.Sem

section
open Cert.Kernel2Ideal Cert.Kernel2Ideal.Gen

variable (m : (ℓ : Loc nD τ sig) → Buf (Elt Ideal) ℓ)

/-- The kernel's array at an index: the feed-forward of that token, with that expert's weights. -/
theorem kernel_entry (c : Dev nD) (b e : Fin 16) (s : Fin 256) (d : Fin 1024) :
    Cert.Kernel2Ideal.Value.G5 m c (ix4 b e s d)
      = entry (fun k => m ((c : Thread nD τ).loc main_arg0) (ix4 b e s k)) (fun k f => m ((c : Thread nD τ).loc main_arg2) (ix4 0 e k f))
          (fun k f => m ((c : Thread nD τ).loc main_arg3) (ix4 0 e k f)) (fun f => m ((c : Thread nD τ).loc main_arg4) (ix4 0 e f d))
          (m ((c : Thread nD τ).loc main_arg1) (ix4 b e s 0)) := by
  have hp : Cert.Kernel2Ideal.Value.pt5Of (ix4 b e s d) = b.val / 4 + 4 * e.val := by
    have := b.isLt; have := e.isLt; have := s.isLt; have := d.isLt
    simp only [Cert.Kernel2Ideal.Value.pt5Of, Cert.Kernel2Ideal.Value.run5Of, ix4_0, ix4_1, ix4_2, ix4_3]
    omega
  have hN : b.val / 4 + 4 * e.val < cfg0.N := by
    have := b.isLt; have := e.isLt
    rw [show cfg0.N = 64 from N_0]; omega
  have hl : Cert.Kernel2Ideal.Value.loc5Of (ix4 b e s d) = ix4 ⟨b.val % 4, Nat.mod_lt _ (by decide)⟩ 0 s d := by
    funext a
    apply Fin.ext
    match a with
    | ⟨0, _⟩ => rfl
    | ⟨1, _⟩ => show e.val % 1 = 0; omega
    | ⟨2, _⟩ => show s.val % 256 = s.val; exact Nat.mod_eq_of_lt s.isLt
    | ⟨3, _⟩ => show d.val % 1024 = d.val; exact Nat.mod_eq_of_lt d.isLt
  have key : Cert.Kernel2Ideal.Value.G5 m c (ix4 b e s d)
      = (outsAt0 m c (b.val / 4 + 4 * e.val) hN).1 (ix4 ⟨b.val % 4, Nat.mod_lt _ (by decide)⟩ 0 s d) := by
    unfold Cert.Kernel2Ideal.Value.G5
    rw [dif_pos (by rw [hp]; exact hN), Cert.Kernel2Ideal.Value.outsAt0_sweep, hl]
    simp only [hp]
  rw [key, block m c ⟨b.val / 4 + 4 * e.val, hN⟩, block_entry]
  have h1 : (b.val / 4 + 4 * e.val) / 4 = e.val := by have := b.isLt; omega
  have h0 : 4 * ((b.val / 4 + 4 * e.val) % 4) + b.val % 4 = b.val := by have := b.isLt; omega
  simp only [tok_apply, gate_apply, w2_apply, w3_apply, w4_apply, h0, h1, Fin.eta]

end

/-- On agreeing arguments kernel and reference end with the same array. -/
theorem algebraic : Cert.algebraic_Kernel2Ideal_Reference2Ideal := by
  intro m ρ m' ρ' _ hagree
  refine ⟨fun c => Cert.Kernel2Ideal.Value.G5 m c, Cert.Kernel2Ideal.Value.run (F := Ideal) m ρ, ?_⟩
  refine (θ_run Cert.Reference2Ideal.defs _ _).mono (fun _ h c => ?_) (Cert.Reference2Ideal.Value.run (F := Ideal) m' ρ')
  obtain rfl : c = 0 := Subsingleton.elim _ _
  obtain ⟨e0, e1, e2, e3, e4⟩ := hagree 0
  refine ⟨(h 0).1.trans ?_, (h 0).2⟩
  refine funext fun (i : Cert.Kernel2Ideal.S16x16x256x1024.Idx) => ?_
  rw [eq_ix4 i]
  refine (array_entry _ _ _ _ _ _ _ _ _).trans ?_
  refine Eq.trans ?_ (kernel_entry m 0 _ _ _ _).symm
  rw [e0, e1, e2, e3, e4]

end Cert.Proof.Ffn

end
-- ==== Proof.Wkv.Math.lean ====
/- The recurrence's chunk over the real numbers: 64 steps of the recurrence are a few products of 64 × 64 matrices, with
   the inverse of a unit triangular matrix as a product of six factors. -/
module

public import Idealize.ShloMosaic.Lib.Pointwise
public import Mathlib.Analysis.SpecialFunctions.Exp
public import Mathlib.Data.Matrix.Mul
public import Mathlib.Tactic.Abel
public import Mathlib.Tactic.Ring
public import Mathlib.Tactic.NthRewrite

@[expose] public section

noncomputable section

namespace Cert.Proof.Wkv

open Finset Matrix

/-- 64 rows (tokens or keys) of 64 lanes. -/
abbrev Mat := Matrix (Fin 64) (Fin 64) ℝ

/-- A matrix below its diagonal. -/
def low (x : Mat) : Mat := fun p s => if s < p then x p s else 0
/-- A matrix below and on its diagonal. -/
def lowEq (x : Mat) : Mat := fun p s => if s ≤ p then x p s else 0

/-- The kernel's inverse of `1 - A`, by doubling. -/
def T0 (A : Mat) : Mat := 1 + A
def P0 (A : Mat) : Mat := A * A
def T1 (A : Mat) : Mat := T0 A + T0 A * P0 A
def P1 (A : Mat) : Mat := P0 A * P0 A
def T2 (A : Mat) : Mat := T1 A + T1 A * P1 A
def P2 (A : Mat) : Mat := P1 A * P1 A
def T3 (A : Mat) : Mat := T2 A + T2 A * P2 A
def P3 (A : Mat) : Mat := P2 A * P2 A
def T4 (A : Mat) : Mat := T3 A + T3 A * P3 A
def P4 (A : Mat) : Mat := P3 A * P3 A
def TM (A : Mat) : Mat := T4 A + T4 A * P4 A

theorem pow_low (X : Mat) (n : ℕ) : ∀ p s : Fin 64, p.val < s.val + n → (low X ^ n) p s = 0 := by
  induction n with
  | zero =>
    intro p s h
    have : p ≠ s := by rintro rfl; omega
    simp [Matrix.one_apply, this]
  | succ n ih =>
    intro p s h
    rw [pow_succ, Matrix.mul_apply]
    refine sum_eq_zero fun q _ => ?_
    by_cases hq : s < q
    · rw [ih p q (by have : s.val < q.val := hq; omega), zero_mul]
    · rw [show low X q s = 0 from if_neg hq, mul_zero]

theorem double (A : Mat) (t : Mat) (n : ℕ) (h : t * (1 - A) = 1 - A ^ n) : (t + t * A ^ n) * (1 - A) = 1 - A ^ (n + n) := by
  have hc : A ^ n * (1 - A) = (1 - A) * A ^ n := by
    rw [mul_sub, sub_mul, mul_one, one_mul, ← pow_succ, ← pow_succ']
  rw [add_mul, h, mul_assoc, hc, ← mul_assoc, h, sub_mul, one_mul, pow_add]
  abel

theorem TM_mul (X : Mat) : TM (low X) * (1 - low X) = 1 := by
  set A := low X with hA
  have e0 : P0 A = A ^ 2 := (pow_two A).symm
  have e1 : P1 A = A ^ 4 := by unfold P1; rw [e0, ← pow_add]
  have e2 : P2 A = A ^ 8 := by unfold P2; rw [e1, ← pow_add]
  have e3 : P3 A = A ^ 16 := by unfold P3; rw [e2, ← pow_add]
  have e4 : P4 A = A ^ 32 := by unfold P4; rw [e3, ← pow_add]
  have h0 : T0 A * (1 - A) = 1 - A ^ 2 := by
    unfold T0; rw [add_mul, one_mul, mul_sub, mul_one, pow_two]; abel
  have h1 : T1 A * (1 - A) = 1 - A ^ 4 := by unfold T1; rw [e0]; exact double A _ 2 h0
  have h2 : T2 A * (1 - A) = 1 - A ^ 8 := by unfold T2; rw [e1]; exact double A _ 4 h1
  have h3 : T3 A * (1 - A) = 1 - A ^ 16 := by unfold T3; rw [e2]; exact double A _ 8 h2
  have h4 : T4 A * (1 - A) = 1 - A ^ 32 := by unfold T4; rw [e3]; exact double A _ 16 h3
  have h5 : TM A * (1 - A) = 1 - A ^ 64 := by unfold TM; rw [e4]; exact double A _ 32 h4
  rw [h5, show A ^ 64 = 0 from ?_, sub_zero]
  funext p s
  exact pow_low X 64 p s (by have := p.isLt; omega)

/-! ## A chunk's data and its factors -/

/-- One chunk of one head: the recurrence's six inputs at 64 tokens. -/
structure Dat where
  r : Mat
  w : Mat
  k : Mat
  v : Mat
  a : Mat
  b : Mat

namespace Dat
variable (d : Dat)

/-- The log decays summed up to and with a token. -/
def cw : Mat := fun p j => ∑ s : Fin 64, if s ≤ p then d.w s j else 0
def r0 : Mat := fun p j => d.r p j * Real.exp (d.cw p j)
def a0 : Mat := fun p j => d.a p j * Real.exp (d.cw p j - d.w p j)
def ra : Mat := fun p j => d.r0 p j * Real.exp (0 - d.cw 31 j)
def aa : Mat := fun p j => d.a0 p j * Real.exp (0 - d.cw 31 j)
def kb : Mat := fun p j => d.k p j * Real.exp (d.cw 31 j - d.cw p j)
def bb : Mat := fun p j => d.b p j * Real.exp (d.cw 31 j - d.cw p j)
def ke : Mat := fun p j => d.k p j * (Real.exp (d.cw 31 j - d.cw p j) * Real.exp (d.cw 63 j - d.cw 31 j))
def be : Mat := fun p j => d.b p j * (Real.exp (d.cw 31 j - d.cw p j) * Real.exp (d.cw 63 j - d.cw 31 j))

def AB : Mat := low (d.aa * d.bbᵀ)
def RB : Mat := lowEq (d.ra * d.bbᵀ)
def AK : Mat := low (d.aa * d.kbᵀ)
def RK : Mat := lowEq (d.ra * d.kbᵀ)
def T : Mat := TM d.AB
/-- The state's left factors, its increment, and the outputs' part without a state. -/
def top : Mat := d.r0 + (d.RB * d.T) * d.a0
def bot : Mat := (d.beᵀ * d.T) * d.a0
def inc : Mat := (d.beᵀ * d.T) * (d.AK * d.v) + d.keᵀ * d.v
def part : Mat := (d.RB * d.T) * (d.AK * d.v) + d.RK * d.v
/-- The chunk's whole decay, on the key rows. -/
def dec : Mat := fun p _ => Real.exp (d.cw 63 p)
/-- The chunk's outputs and the state after it. -/
def y (S : Mat) : Mat := d.part + d.top * S
def scaled (S : Mat) : Mat := fun p s => d.dec p s * S p s
def next (S : Mat) : Mat := d.scaled S + d.bot * S + d.inc

/-- One step of the recurrence. -/
def step (p : Fin 64) (S : Mat) : Mat := fun j i =>
  Real.exp (d.w p j) * S j i + d.b p j * (∑ q, d.a p q * S q i) + d.k p j * d.v p i

/-- The sum of the log decays before token `n`. -/
def pre (n : ℕ) (j : Fin 64) : ℝ := ∑ s : Fin 64, if s.val < n then d.w s j else 0

theorem pre_zero (j : Fin 64) : d.pre 0 j = 0 := by simp [pre]
theorem cw_eq (p : Fin 64) (j : Fin 64) : d.cw p j = d.pre (p.val + 1) j := by
  unfold cw pre
  refine sum_congr rfl fun s _ => if_congr ?_ rfl rfl
  rw [Fin.le_def]; omega
theorem pre_succ (p : Fin 64) (j : Fin 64) : d.pre (p.val + 1) j = d.pre p.val j + d.w p j := by
  unfold pre
  have : ∀ s : Fin 64, (if s.val < p.val + 1 then d.w s j else 0) = (if s.val < p.val then d.w s j else 0) + (if s = p then d.w s j else 0) := by
    intro s
    rcases lt_trichotomy s.val p.val with h | h | h
    · have : s ≠ p := by rintro rfl; omega
      simp [h, this, Nat.lt_succ_of_lt h]
    · obtain rfl : s = p := Fin.ext h
      simp
    · have : s ≠ p := by rintro rfl; omega
      simp [this, show ¬ s.val < p.val + 1 by omega, show ¬ s.val < p.val by omega]
  rw [sum_congr rfl fun s _ => this s, sum_add_distrib, sum_ite_eq' univ p]
  simp

section
variable (S : ℕ → Mat) (hS : ∀ p : Fin 64, S (p.val + 1) = d.step p (S p.val))
include hS

/-- What each token adds along its removal key. -/
def U (S : ℕ → Mat) : Mat := fun p i => ∑ q, d.a p q * S p.val q i

theorem closed (n : ℕ) (hn : n ≤ 64) (j i : Fin 64) :
    S n j i = Real.exp (d.pre n j) * S 0 j i
      + ∑ s : Fin 64, if s.val < n then Real.exp (d.pre n j - d.pre (s.val + 1) j) * (d.b s j * d.U S s i + d.k s j * d.v s i) else 0 := by
  induction n with
  | zero => simp [pre_zero]
  | succ n ih =>
    have hp : n < 64 := by omega
    have h1 := congrFun (congrFun (hS ⟨n, hp⟩) j) i
    have h2 := d.pre_succ ⟨n, hp⟩ j
    simp only at h1 h2
    rw [h1]
    unfold step
    rw [ih (by omega), h2]
    have split : ∀ s : Fin 64, (if s.val < n + 1 then Real.exp (d.pre n j + d.w ⟨n, hp⟩ j - d.pre (s.val + 1) j) * (d.b s j * d.U S s i + d.k s j * d.v s i) else 0)
        = Real.exp (d.w ⟨n, hp⟩ j) * (if s.val < n then Real.exp (d.pre n j - d.pre (s.val + 1) j) * (d.b s j * d.U S s i + d.k s j * d.v s i) else 0)
          + (if s = ⟨n, hp⟩ then (d.b s j * d.U S s i + d.k s j * d.v s i) else 0) := by
      intro s
      rcases lt_trichotomy s.val n with h | h | h
      · have : s ≠ ⟨n, hp⟩ := by rintro rfl; simp at h
        rw [if_pos (by omega), if_pos h, if_neg this, add_zero, ← mul_assoc, ← Real.exp_add]
        congr 2; ring
      · obtain rfl : s = ⟨n, hp⟩ := Fin.ext h
        simp only [lt_add_iff_pos_right, zero_lt_one, if_true, lt_irrefl, if_false, mul_zero, zero_add]
        rw [h2, sub_self, Real.exp_zero, one_mul]
      · have : s ≠ ⟨n, hp⟩ := by rintro rfl; simp at h
        rw [if_neg (by omega), if_neg (by omega), if_neg this, mul_zero, add_zero]
    rw [sum_congr rfl fun s _ => split s, sum_add_distrib, ← mul_sum, sum_ite_eq' univ (⟨n, hp⟩ : Fin 64), if_pos (mem_univ _), Real.exp_add]
    show _ + _ + _ = _
    unfold U
    ring

/-- A row times a state: what the state before the chunk, and each token up to it, bring. -/
theorem rowTimes (x : Fin 64 → ℝ) (n : ℕ) (hn : n ≤ 64) (i : Fin 64) :
    ∑ q, x q * S n q i = ∑ q, (x q * Real.exp (d.pre n q)) * S 0 q i
      + ∑ s : Fin 64, (if s.val < n then ∑ q, x q * Real.exp (d.pre n q - d.pre (s.val + 1) q) * d.b s q else 0) * d.U S s i
      + ∑ s : Fin 64, (if s.val < n then ∑ q, x q * Real.exp (d.pre n q - d.pre (s.val + 1) q) * d.k s q else 0) * d.v s i := by
  have h : ∀ q, x q * S n q i = (x q * Real.exp (d.pre n q)) * S 0 q i
      + ∑ s : Fin 64, ((if s.val < n then x q * Real.exp (d.pre n q - d.pre (s.val + 1) q) * d.b s q else 0) * d.U S s i
        + (if s.val < n then x q * Real.exp (d.pre n q - d.pre (s.val + 1) q) * d.k s q else 0) * d.v s i) := by
    intro q
    rw [d.closed S hS n hn q i, mul_add, mul_sum]
    congr 1
    · ring
    · refine sum_congr rfl fun s _ => ?_
      split
      · ring
      · ring
  rw [sum_congr rfl fun q _ => h q, sum_add_distrib, sum_comm, add_assoc]
  congr 1
  rw [← sum_add_distrib]
  refine sum_congr rfl fun s _ => ?_
  rw [sum_add_distrib, ← sum_mul, ← sum_mul]
  split
  · rfl
  · simp

theorem U_eq : d.U S = d.T * (d.a0 * S 0 + d.AK * d.v) := by
  have e : ∀ p s q : Fin 64, d.aa p q * d.bb s q = d.a p q * Real.exp (d.pre p.val q - d.pre (s.val + 1) q) * d.b s q := by
    intro p s q
    unfold aa a0 bb
    rw [d.cw_eq p, d.cw_eq s, d.pre_succ p, add_sub_cancel_right]
    rw [show d.pre p.val q - d.pre (s.val + 1) q = d.pre p.val q + ((0 - d.cw 31 q) + (d.cw 31 q - d.pre (s.val + 1) q)) by ring, Real.exp_add, Real.exp_add]
    ring
  have e' : ∀ p s q : Fin 64, d.aa p q * d.kb s q = d.a p q * Real.exp (d.pre p.val q - d.pre (s.val + 1) q) * d.k s q := by
    intro p s q
    unfold aa a0 kb
    rw [d.cw_eq p, d.cw_eq s, d.pre_succ p, add_sub_cancel_right]
    rw [show d.pre p.val q - d.pre (s.val + 1) q = d.pre p.val q + ((0 - d.cw 31 q) + (d.cw 31 q - d.pre (s.val + 1) q)) by ring, Real.exp_add, Real.exp_add]
    ring
  have h : d.U S = d.a0 * S 0 + d.AB * d.U S + d.AK * d.v := by
    funext p i
    show ∑ q, d.a p q * S p.val q i = (d.a0 * S 0) p i + (d.AB * d.U S) p i + (d.AK * d.v) p i
    rw [d.rowTimes S hS (fun q => d.a p q) p.val (by omega) i]
    simp only [Matrix.mul_apply, AB, AK, low, Matrix.transpose_apply, e, e', Fin.lt_def]
    congr 3
    funext q
    unfold a0
    rw [d.cw_eq p, d.pre_succ p, add_sub_cancel_right]
  have h' : (1 - d.AB) * d.U S = d.a0 * S 0 + d.AK * d.v := by
    rw [sub_mul, one_mul]
    nth_rewrite 1 [h]
    abel
  rw [← h', ← mul_assoc]
  unfold T AB
  rw [TM_mul, one_mul]

/-- The chunk's outputs. -/
theorem y_eq (p i : Fin 64) : d.y (S 0) p i = ∑ q, d.r p q * S (p.val + 1) q i := by
  have e : ∀ p s q : Fin 64, d.ra p q * d.bb s q = d.r p q * Real.exp (d.pre (p.val + 1) q - d.pre (s.val + 1) q) * d.b s q := by
    intro p s q
    unfold ra r0 bb
    rw [d.cw_eq p, d.cw_eq s]
    rw [show d.pre (p.val + 1) q - d.pre (s.val + 1) q = d.pre (p.val + 1) q + ((0 - d.cw 31 q) + (d.cw 31 q - d.pre (s.val + 1) q)) by ring, Real.exp_add, Real.exp_add]
    ring
  have e' : ∀ p s q : Fin 64, d.ra p q * d.kb s q = d.r p q * Real.exp (d.pre (p.val + 1) q - d.pre (s.val + 1) q) * d.k s q := by
    intro p s q
    unfold ra r0 kb
    rw [d.cw_eq p, d.cw_eq s]
    rw [show d.pre (p.val + 1) q - d.pre (s.val + 1) q = d.pre (p.val + 1) q + ((0 - d.cw 31 q) + (d.cw 31 q - d.pre (s.val + 1) q)) by ring, Real.exp_add, Real.exp_add]
    ring
  have h : d.y (S 0) = d.r0 * S 0 + d.RB * d.U S + d.RK * d.v := by
    rw [d.U_eq S hS]
    unfold y part top
    simp only [mul_add, add_mul, mul_assoc]
    abel
  rw [h, d.rowTimes S hS (fun q => d.r p q) (p.val + 1) (by omega) i]
  show (d.r0 * S 0) p i + (d.RB * d.U S) p i + (d.RK * d.v) p i = _
  simp only [Matrix.mul_apply, RB, RK, lowEq, Matrix.transpose_apply, e, e', Fin.le_def, Nat.lt_succ_iff]
  congr 3
  funext q
  unfold r0
  rw [d.cw_eq p]

/-- The state after the chunk. -/
theorem next_eq : d.next (S 0) = S 64 := by
  have h : d.next (S 0) = d.scaled (S 0) + d.beᵀ * d.U S + d.keᵀ * d.v := by
    rw [d.U_eq S hS]
    unfold next bot inc
    simp only [mul_add, add_mul, mul_assoc]
    abel
  have e : ∀ s j : Fin 64, Real.exp (d.cw 31 j - d.cw s j) * Real.exp (d.cw 63 j - d.cw 31 j) = Real.exp (d.pre 64 j - d.pre (s.val + 1) j) := by
    intro s j
    rw [← Real.exp_add, d.cw_eq s, show d.cw 63 j = d.pre 64 j from d.cw_eq 63 j]
    congr 1; ring
  rw [h]
  funext j i
  rw [d.closed S hS 64 le_rfl j i]
  show d.dec j i * S 0 j i + (d.beᵀ * d.U S) j i + (d.keᵀ * d.v) j i = _
  simp only [Matrix.mul_apply, Matrix.transpose_apply, be, ke, dec, e, Fin.is_lt, if_true]
  rw [show d.cw 63 j = d.pre 64 j from d.cw_eq 63 j, add_assoc, ← sum_add_distrib]
  congr 1
  refine sum_congr rfl fun s _ => ?_
  ring

end
end Dat

end Cert.Proof.Wkv
-- ==== Proof.Wkv.Defs.lean ====
/- The recurrence's chunk as vector functions: what the kernel does with 64 tokens of four heads, and with the state of
   those heads, written once for every chunk and every group of heads. -/
module

public import proofs.«01_k».proof.Proof.Gen.KernelIdeal.Value

@[expose] public section

set_option maxRecDepth 16384

noncomputable section

namespace Cert.Proof.Wkv

open Idealize.ShloMosaic Idealize.ShloMosaic.TcCoe Idealize.SL.Sem
open Cert.KernelIdeal Cert.KernelIdeal.Gen

variable {F : FTy → Type} [FloatOps F]

/-- An index of the 256 lanes divided by 64, rounded down, as the kernel spells it. -/
def headOf (x : IVec S256x256 32) : IVec S256x256 32 :=
  select (andi (cmpi .ne (subi (extui 32 (cmpi .sgt x (broadcast S256x256 0#32)) natLt_1_32) (extui 32 (cmpi .slt x (broadcast S256x256 0#32)) natLt_1_32)) (broadcast S256x256 1#32))
      (cmpi .ne (remsi x (broadcast S256x256 64#32)) (broadcast S256x256 0#32)))
    (subi (divsi x (broadcast S256x256 64#32)) (broadcast S256x256 1#32)) (divsi x (broadcast S256x256 64#32))

/-- Where row and column belong to the same head. -/
def bd : IVec S256x256 1 :=
  cmpi .eq (headOf (iota .tc S256x256 32 [0] iota_S256x256_d0_w32)) (headOf (iota .tc S256x256 32 [1] iota_S256x256_d1_w32))

/-- The zero that the kernel's selects fall back to. -/
def z0 : F .f32 := Scalar.ofBits .f32 0x00000000#32

/-- Four heads side by side, each on its own diagonal block. -/
def bdg (z : FVec F S64x256 .f32) : FVec F S256x256 .bf16 :=
  truncf .bf16 (select bd (concatenate S256x256 0 [⟨S64x256, z⟩, ⟨S64x256, z⟩, ⟨S64x256, z⟩, ⟨S64x256, z⟩] concatenates_S64x256_S64x256_S64x256_S64x256_S256x256_d0)
    (broadcast S256x256 z0)) bitsLt_bf16_f32

def cat2 (x y : FVec F S64x256 .f32) : FVec F S128x256 .f32 :=
  concatenate S128x256 0 [⟨S64x256, x⟩, ⟨S64x256, y⟩] concatenates_S64x256_S64x256_S128x256_d0
def cat3 (x y z : FVec F S64x256 .f32) : FVec F S192x256 .f32 :=
  concatenate S192x256 0 [⟨S64x256, x⟩, ⟨S64x256, y⟩, ⟨S64x256, z⟩] concatenates_S64x256_S64x256_S64x256_S192x256_d0
def lo (x : FVec F S128x256 .f32) : FVec F S64x256 .f32 := extractStridedSlice S64x256 ![0, 0] x slices_S128x256_o0_0_S64x256
def hi (x : FVec F S128x256 .f32) : FVec F S64x256 .f32 := extractStridedSlice S64x256 ![64, 0] x slices_S128x256_o64_0_S64x256
def lo3 (x : FVec F S192x256 .f32) : FVec F S64x256 .f32 := extractStridedSlice S64x256 ![0, 0] x slices_S192x256_o0_0_S64x256
def mi3 (x : FVec F S192x256 .f32) : FVec F S64x256 .f32 := extractStridedSlice S64x256 ![64, 0] x slices_S192x256_o64_0_S64x256
def hi3 (x : FVec F S192x256 .f32) : FVec F S64x256 .f32 := extractStridedSlice S64x256 ![128, 0] x slices_S192x256_o128_0_S64x256

/-- 64, 128 and 192 rows times one matrix per head. -/
def mm1 (x : FVec F S64x256 .bf16) (z : FVec F S64x256 .f32) : FVec F S64x256 .f32 :=
  matmul dot_S64x256_S256x256_S64x256_1_0_0_1_n_n none x (bdg z) (constant S64x256 .f32 0x00000000#32)
def mm2 (x : FVec F S128x256 .bf16) (z : FVec F S64x256 .f32) : FVec F S128x256 .f32 :=
  matmul dot_S128x256_S256x256_S128x256_1_0_0_1_n_n none x (bdg z) (constant S128x256 .f32 0x00000000#32)
def mm3 (x : FVec F S192x256 .bf16) (z : FVec F S64x256 .f32) : FVec F S192x256 .f32 :=
  matmul dot_S192x256_S256x256_S192x256_1_0_0_1_n_n none x (bdg z) (constant S192x256 .f32 0x00000000#32)
/-- 128 rows times the transpose of one matrix per head. -/
def mmt (x : FVec F S128x256 .bf16) (z : FVec F S64x256 .f32) : FVec F S128x256 .f32 :=
  matmul dot_S128x256_S256x256_S128x256_1_1_0_0_n_n none x (bdg z) (constant S128x256 .f32 0x00000000#32)

/-- One head group's 256 lanes of a chunk. -/
def col (o : ℕ) (h : S64x1024.Slices ![0, o] S64x256) (x : FVec F S64x1024 .f32) : FVec F S64x256 .f32 :=
  extractStridedSlice S64x256 ![0, o] x h

/-! ## The chunk's factors -/

def row (x : Vec F S1x64x1024 .bf16) : FVec F S64x1024 .f32 :=
  extf .f32 (shapeCast S64x1024 x shapeCasts_S1x64x1024_S64x1024) bitsLt_bf16_f32
def row4 (x : Vec F S1x1x64x1024 .bf16) : FVec F S64x1024 .f32 :=
  extf .f32 (shapeCast S64x1024 x shapeCasts_S1x1x64x1024_S64x1024) bitsLt_bf16_f32
def lw (x : Vec F S1x1x64x1024 .f32) : FVec F S64x1024 .f32 := shapeCast S64x1024 x shapeCasts_S1x1x64x1024_S64x1024

/-- The log decays summed up to each token, through three pieces of each. -/
def cw (x : Vec F S1x1x64x1024 .f32) : FVec F S64x1024 .f32 :=
  let p : FVec F S64x1024 .bf16 := truncf .bf16 (lw x) bitsLt_bf16_f32
  let q : FVec F S64x1024 .f32 := subf (lw x) (extf .f32 p bitsLt_bf16_f32)
  let p2 : FVec F S64x1024 .bf16 := truncf .bf16 q bitsLt_bf16_f32
  let p3 : FVec F S64x1024 .bf16 := truncf .bf16 (subf q (extf .f32 p2 bitsLt_bf16_f32)) bitsLt_bf16_f32
  addf (addf (matmul dot_S64x64_S64x1024_S64x1024_1_0_0_1_n_n none k0_pay4 p (constant S64x1024 .f32 0x00000000#32))
      (matmul dot_S64x64_S64x1024_S64x1024_1_0_0_1_n_n none k0_pay4 p2 (constant S64x1024 .f32 0x00000000#32)))
    (matmul dot_S64x64_S64x1024_S64x1024_1_0_0_1_n_n none k0_pay4 p3 (constant S64x1024 .f32 0x00000000#32))
def cwEnd (x : Vec F S1x1x64x1024 .f32) : FVec F S1x1024 .f32 := extractStridedSlice S1x1024 ![63, 0] (cw x) slices_S64x1024_o63_0_S1x1024
def cwMid (x : Vec F S1x1x64x1024 .f32) : FVec F S1x1024 .f32 := extractStridedSlice S1x1024 ![31, 0] (cw x) slices_S64x1024_o31_0_S1x1024
def eInv (x : Vec F S1x1x64x1024 .f32) : FVec F S64x1024 .f32 := exp (subf (broadcastTo S64x1024 (cwMid x) broadcasts_S1x1024_S64x1024) (cw x))
def eMid (x : Vec F S1x1x64x1024 .f32) : FVec F S64x1024 .f32 :=
  broadcastTo S64x1024 (exp (subf (broadcast S1x1024 z0) (cwMid x))) broadcasts_S1x1024_S64x1024
def eEnd (x : Vec F S1x1x64x1024 .f32) : FVec F S64x1024 .f32 :=
  mulf (eInv x) (broadcastTo S64x1024 (exp (subf (cwEnd x) (cwMid x))) broadcasts_S1x1024_S64x1024)
def rIn (x : Vec F S1x1x64x1024 .f32) (r : Vec F S1x64x1024 .bf16) : FVec F S64x1024 .f32 := mulf (row r) (exp (cw x))
def aIn (x : Vec F S1x1x64x1024 .f32) (a : Vec F S1x64x1024 .bf16) : FVec F S64x1024 .f32 := mulf (row a) (exp (subf (cw x) (lw x)))

/-- What one chunk's lines of one head group bring: the eight factors and the values. -/
structure Ch (F : FTy → Type) where
  r0 : FVec F S64x256 .f32
  a0 : FVec F S64x256 .f32
  ra : FVec F S64x256 .f32
  aa : FVec F S64x256 .f32
  kb : FVec F S64x256 .f32
  bb : FVec F S64x256 .f32
  ke : FVec F S64x256 .f32
  be : FVec F S64x256 .f32
  v : FVec F S64x256 .f32

/-- They, from the loads. -/
def mk (o : ℕ) (h : S64x1024.Slices ![0, o] S64x256) (r : Vec F S1x64x1024 .bf16) (x : Vec F S1x1x64x1024 .f32) (k : Vec F S1x1x64x1024 .bf16)
    (v : Vec F S1x64x256 .f32) (a : Vec F S1x64x1024 .bf16) (b : Vec F S1x1x64x1024 .bf16) : Ch F where
  r0 := col o h (rIn x r)
  a0 := col o h (aIn x a)
  ra := col o h (mulf (rIn x r) (eMid x))
  aa := col o h (mulf (aIn x a) (eMid x))
  kb := col o h (mulf (row4 k) (eInv x))
  bb := col o h (mulf (row4 b) (eInv x))
  ke := col o h (mulf (row4 k) (eEnd x))
  be := col o h (mulf (row4 b) (eEnd x))
  v := shapeCast S64x256 v shapeCasts_S1x64x256_S64x256

/-! ## The chunk's own products -/

def xq (c : Ch F) : FVec F S128x256 .bf16 := truncf .bf16 (cat2 c.aa c.ra) bitsLt_bf16_f32
def gb (c : Ch F) : FVec F S128x256 .f32 := mmt (xq c) c.bb
def gk (c : Ch F) : FVec F S128x256 .f32 := mmt (xq c) c.kb
def strict (x : FVec F S64x256 .f32) : FVec F S64x256 .f32 := select k0_pay6 x (broadcast S64x256 z0)
def incl (x : FVec F S64x256 .f32) : FVec F S64x256 .f32 := select k0_pay7 x (broadcast S64x256 z0)
def aab (c : Ch F) : FVec F S64x256 .f32 := strict (lo (gb c))
def ft (c : Ch F) : FVec F S256x128 .f32 := transpose S256x128 [1, 0] (cat2 c.be c.ke) transposes_S128x256_p1_0_S256x128
def bet (c : Ch F) : FVec F S64x256 .f32 :=
  concatenate S64x256 1 [⟨S64x64, extractStridedSlice S64x64 ![0, 0] (ft c) slices_S256x128_o0_0_S64x64⟩, ⟨S64x64, extractStridedSlice S64x64 ![64, 0] (ft c) slices_S256x128_o64_0_S64x64⟩,
    ⟨S64x64, extractStridedSlice S64x64 ![128, 0] (ft c) slices_S256x128_o128_0_S64x64⟩, ⟨S64x64, extractStridedSlice S64x64 ![192, 0] (ft c) slices_S256x128_o192_0_S64x64⟩]
    concatenates_S64x64_S64x64_S64x64_S64x64_S64x256_d1
def ket (c : Ch F) : FVec F S64x256 .f32 :=
  concatenate S64x256 1 [⟨S64x64, extractStridedSlice S64x64 ![0, 64] (ft c) slices_S256x128_o0_64_S64x64⟩, ⟨S64x64, extractStridedSlice S64x64 ![64, 64] (ft c) slices_S256x128_o64_64_S64x64⟩,
    ⟨S64x64, extractStridedSlice S64x64 ![128, 64] (ft c) slices_S256x128_o128_64_S64x64⟩, ⟨S64x64, extractStridedSlice S64x64 ![192, 64] (ft c) slices_S256x128_o192_64_S64x64⟩]
    concatenates_S64x64_S64x64_S64x64_S64x64_S64x256_d1
def akrk (c : Ch F) : FVec F S192x256 .bf16 := truncf .bf16 (cat3 (strict (lo (gk c))) (incl (hi (gk c))) (ket c)) bitsLt_bf16_f32
def avk (c : Ch F) : FVec F S192x256 .f32 := mm3 (akrk c) c.v

/-- One doubling: the partial inverse and the power of the strict part go to the next. -/
def dbl (t p : FVec F S64x256 .f32) : FVec F S128x256 .f32 := mm2 (truncf .bf16 (cat2 t p) bitsLt_bf16_f32) p
def nextT (t p : FVec F S64x256 .f32) : FVec F S64x256 .f32 := addf t (lo (dbl t p))
def nextP (t p : FVec F S64x256 .f32) : FVec F S64x256 .f32 := hi (dbl t p)
def t0 (c : Ch F) : FVec F S64x256 .f32 := addf k0_pay8 (aab c)
def p0 (c : Ch F) : FVec F S64x256 .f32 := mm1 (truncf .bf16 (aab c) bitsLt_bf16_f32) (aab c)
def t1 (c : Ch F) : FVec F S64x256 .f32 := nextT (t0 c) (p0 c)
def p1 (c : Ch F) : FVec F S64x256 .f32 := nextP (t0 c) (p0 c)
def t2 (c : Ch F) : FVec F S64x256 .f32 := nextT (t1 c) (p1 c)
def p2 (c : Ch F) : FVec F S64x256 .f32 := nextP (t1 c) (p1 c)
def t3 (c : Ch F) : FVec F S64x256 .f32 := nextT (t2 c) (p2 c)
def p3 (c : Ch F) : FVec F S64x256 .f32 := nextP (t2 c) (p2 c)
def t4 (c : Ch F) : FVec F S64x256 .f32 := nextT (t3 c) (p3 c)
def p4 (c : Ch F) : FVec F S64x256 .f32 := nextP (t3 c) (p3 c)
def tm (c : Ch F) : FVec F S64x256 .f32 := addf (t4 c) (mm1 (truncf .bf16 (t4 c) bitsLt_bf16_f32) (p4 c))

def rbe (c : Ch F) : FVec F S128x256 .bf16 := truncf .bf16 (cat2 (incl (hi (gb c))) (bet c)) bitsLt_bf16_f32
def rt (c : Ch F) : FVec F S128x256 .bf16 := truncf .bf16 (mm2 (rbe c) (tm c)) bitsLt_bf16_f32
def za (c : Ch F) : FVec F S128x256 .f32 := mm2 (rt c) c.a0
def zv (c : Ch F) : FVec F S128x256 .f32 := mm2 (rt c) (lo3 (avk c))

/-- What the chunk leaves for the pass over the chunks: the state's two left factors, its increment, and the outputs'
    part that needs no state. -/
def lhsT (c : Ch F) : FVec F S1x1x64x256 .bf16 :=
  shapeCast S1x1x64x256 (truncf .bf16 (addf c.r0 (lo (za c))) bitsLt_bf16_f32) shapeCasts_S64x256_S1x1x64x256
def lhsB (c : Ch F) : FVec F S1x1x64x256 .bf16 :=
  shapeCast S1x1x64x256 (truncf .bf16 (hi (za c)) bitsLt_bf16_f32) shapeCasts_S64x256_S1x1x64x256
def inc (c : Ch F) : FVec F S1x1x64x256 .f32 := shapeCast S1x1x64x256 (addf (hi (zv c)) (hi3 (avk c))) shapeCasts_S64x256_S1x1x64x256
def yPart (c : Ch F) : FVec F S1x64x256 .f32 := shapeCast S1x64x256 (addf (lo (zv c)) (mi3 (avk c))) shapeCasts_S64x256_S1x64x256

/-- The four chunks' whole decays, as columns. -/
def ends (x0 x1 x2 x3 : Vec F S1x1x64x1024 .f32) : FVec F S1024x128 .f32 :=
  let i := iota .tc S128x1024 32 [0] iota_S128x1024_d0_w32
  let b (x : Vec F S1x1x64x1024 .f32) : FVec F S128x1024 .f32 :=
    broadcastTo S128x1024 (shapeCast S1x1024 (cwEnd x) shapeCasts_S1x1024_S1x1024) broadcasts_S1x1024_S128x1024
  exp (transpose S1024x128 [1, 0]
    (select (cmpi .eq i (broadcast S128x1024 3#32)) (b x3)
      (select (cmpi .eq i (broadcast S128x1024 2#32)) (b x2)
        (select (cmpi .eq i (broadcast S128x1024 1#32)) (b x1)
          (select (cmpi .eq i (broadcast S128x1024 0#32)) (b x0) (broadcast S128x1024 z0))))) transposes_S128x1024_p1_0_S1024x128)

/-- A column of them, laid along each head's key axis. -/
def wl (o j : ℕ) (h : S1024x128.Slices ![o, j] S256x1) (e : FVec F S1024x128 .f32) : FVec F S1x1x64x256 .f32 :=
  let f : FVec F S256x256 .f32 := select bd (broadcastTo S256x256 (shapeCast S256x1 (extractStridedSlice S256x1 ![o, j] e h) shapeCasts_S256x1_S256x1) broadcasts_S256x1_S256x256)
    (broadcast S256x256 z0)
  shapeCast S1x1x64x256 (addf (addf (addf (extractStridedSlice S64x256 ![0, 0] f slices_S256x256_o0_0_S64x256) (extractStridedSlice S64x256 ![64, 0] f slices_S256x256_o64_0_S64x256))
    (extractStridedSlice S64x256 ![128, 0] f slices_S256x256_o128_0_S64x256)) (extractStridedSlice S64x256 ![192, 0] f slices_S256x256_o192_0_S64x256))
    shapeCasts_S64x256_S1x1x64x256

/-! ## The pass over the chunks -/

/-- The two left factors times the state. -/
def zs (l : Vec F S1x1x128x256 .bf16) (s : Vec F S1x64x256 .f32) : FVec F S128x256 .f32 :=
  mm2 (shapeCast S128x256 l shapeCasts_S1x1x128x256_S128x256) (shapeCast S64x256 s shapeCasts_S1x64x256_S64x256)
def yAdd (l : Vec F S1x1x128x256 .bf16) (s : Vec F S1x64x256 .f32) (y : Vec F S1x64x256 .f32) : FVec F S1x64x256 .f32 :=
  shapeCast S1x64x256 (addf (shapeCast S64x256 y shapeCasts_S1x64x256_S64x256) (lo (zs l s))) shapeCasts_S64x256_S1x64x256
def sNext (l : Vec F S1x1x128x256 .bf16) (s : Vec F S1x64x256 .f32) (w n : Vec F S1x1x64x256 .f32) : FVec F S1x64x256 .f32 :=
  shapeCast S1x64x256 (addf (addf (mulf (shapeCast S64x256 w shapeCasts_S1x1x64x256_S64x256) (shapeCast S64x256 s shapeCasts_S1x64x256_S64x256)) (hi (zs l s)))
    (shapeCast S64x256 n shapeCasts_S1x1x64x256_S64x256)) shapeCasts_S64x256_S1x64x256

end Cert.Proof.Wkv
-- ==== Proof.Wkv.Loads.lean ====
/- What one grid point reads, chunk by chunk, and the states it passes through, over the chunk's vector functions. -/
module

public import proofs.«01_k».proof.Proof.Wkv.Defs
public import Idealize.ShloMosaic.Lib.Pipeline.ReadBack

@[expose] public section

set_option maxRecDepth 16384

noncomputable section

namespace Cert.Proof.Wkv

open Idealize.ShloMosaic Idealize.ShloMosaic.TcCoe Idealize.SL.Sem
open Cert.KernelIdeal Cert.KernelIdeal.Gen

variable {F : FTy → Type} [FloatOps F]

/-- The loads of one grid point: four chunks of 64 tokens, the values by chunk and head group. -/
structure Ld (F : FTy → Type) where
  r : Fin 4 → Vec F S1x64x1024 .bf16
  x : Fin 4 → Vec F S1x1x64x1024 .f32
  k : Fin 4 → Vec F S1x1x64x1024 .bf16
  v : Fin 4 → Fin 4 → Vec F S1x64x256 .f32
  a : Fin 4 → Vec F S1x64x1024 .bf16
  b : Fin 4 → Vec F S1x1x64x1024 .bf16

theorem inb3 (j : Fin 4) : ∀ k, (![0, 64 * j.val, 0] : Fin 3 → ℕ) k + S1x64x1024.size k ≤ S1x256x1024.size k := by revert j; decide
theorem inb3v (j g : Fin 4) : ∀ k, (![0, 64 * j.val, 256 * g.val] : Fin 3 → ℕ) k + S1x64x256.size k ≤ S1x256x1024.size k := by revert j g; decide
theorem inb4 (j : Fin 4) : ∀ k, (![0, 0, 64 * j.val, 0] : Fin 4 → ℕ) k + S1x1x64x1024.size k ≤ S1x1x256x1024.size k := by revert j; decide
theorem inbS (g : Fin 4) : ∀ k, (![g.val, 0, 0] : Fin 3 → ℕ) k + S1x64x256.size k ≤ S4x64x256.size k := by revert g; decide
theorem slG (g : Fin 4) : S64x1024.Slices ![0, 256 * g.val] S64x256 := by revert g; decide
theorem slW (g j : Fin 4) : S1024x128.Slices ![256 * g.val, j.val] S256x1 := by revert g j; decide

/-- The loads as the run names them, through the staging buffers. -/
def ldOf (arg2 : Memref sig .tc .vmem S1x256x1024 .bf16) (harg2 : arg2.IsWhole) (arg3 : Memref sig .tc .vmem S1x1x256x1024 .f32) (harg3 : arg3.IsWhole)
    (arg4 : Memref sig .tc .vmem S1x1x256x1024 .bf16) (harg4 : arg4.IsWhole) (arg5 : Memref sig .tc .vmem S1x256x1024 .f32) (harg5 : arg5.IsWhole)
    (arg6 : Memref sig .tc .vmem S1x256x1024 .bf16) (harg6 : arg6.IsWhole) (arg7 : Memref sig .tc .vmem S1x1x256x1024 .bf16) (harg7 : arg7.IsWhole)
    (x0 : Vec F S1x256x1024 .bf16) (x1 : Vec F S1x1x256x1024 .f32) (x2 : Vec F S1x1x256x1024 .bf16) (x3 : Vec F S1x256x1024 .f32)
    (x4 : Vec F S1x256x1024 .bf16) (x5 : Vec F S1x1x256x1024 .bf16) : Ld F where
  r j := View.readAt (Elt F) arg2.view (Rect.unit (s := S1x256x1024) ![0, 64 * j.val, 0] S1x64x1024.size (inb3 j)).toLoadRect (harg2.unread x0)
  x j := View.readAt (Elt F) arg3.view (Rect.unit (s := S1x1x256x1024) ![0, 0, 64 * j.val, 0] S1x1x64x1024.size (inb4 j)).toLoadRect (harg3.unread x1)
  k j := View.readAt (Elt F) arg4.view (Rect.unit (s := S1x1x256x1024) ![0, 0, 64 * j.val, 0] S1x1x64x1024.size (inb4 j)).toLoadRect (harg4.unread x2)
  v j g := View.readAt (Elt F) arg5.view (Rect.unit (s := S1x256x1024) ![0, 64 * j.val, 256 * g.val] S1x64x256.size (inb3v j g)).toLoadRect (harg5.unread x3)
  a j := View.readAt (Elt F) arg6.view (Rect.unit (s := S1x256x1024) ![0, 64 * j.val, 0] S1x64x1024.size (inb3 j)).toLoadRect (harg6.unread x4)
  b j := View.readAt (Elt F) arg7.view (Rect.unit (s := S1x1x256x1024) ![0, 0, 64 * j.val, 0] S1x1x64x1024.size (inb4 j)).toLoadRect (harg7.unread x5)

/-- Chunk `j`'s lines of head group `g`. -/
def C (l : Ld F) (j g : Fin 4) : Ch F := mk (256 * g.val) (slG g) (l.r j) (l.x j) (l.k j) (l.v j g) (l.a j) (l.b j)

/-- The chunk's decay over its whole length, for the state of head group `g`. -/
def W (l : Ld F) (j g : Fin 4) : FVec F S1x1x64x256 .f32 := wl (256 * g.val) j.val (slW g j) (ends (l.x 0) (l.x 1) (l.x 2) (l.x 3))

/-- The state's two left factors, one above the other. -/
def lf (c : Ch F) : Vec F S1x1x128x256 .bf16 := fun i =>
  if h : (i 2).val < 64 then lhsT c (fun a => match a with | ⟨0, _⟩ => i 0 | ⟨1, _⟩ => i 1 | ⟨2, _⟩ => ⟨(i 2).val, h⟩ | ⟨3, _⟩ => i 3)
  else lhsB c (fun a => match a with | ⟨0, _⟩ => i 0 | ⟨1, _⟩ => i 1 | ⟨2, _⟩ => ⟨(i 2).val - 64, by have : (i 2).val < 128 := (i 2).isLt; show _ < 64; omega⟩ | ⟨3, _⟩ => i 3)

/-- The states after one to four chunks. -/
def st1 (l : Ld F) (s : Fin 4 → Vec F S1x64x256 .f32) (g : Fin 4) : Vec F S1x64x256 .f32 := sNext (lf (C l 0 g)) (s g) (W l 0 g) (inc (C l 0 g))
def st2 (l : Ld F) (s : Fin 4 → Vec F S1x64x256 .f32) (g : Fin 4) : Vec F S1x64x256 .f32 := sNext (lf (C l 1 g)) (st1 l s g) (W l 1 g) (inc (C l 1 g))
def st3 (l : Ld F) (s : Fin 4 → Vec F S1x64x256 .f32) (g : Fin 4) : Vec F S1x64x256 .f32 := sNext (lf (C l 2 g)) (st2 l s g) (W l 2 g) (inc (C l 2 g))
def st4 (l : Ld F) (s : Fin 4 → Vec F S1x64x256 .f32) (g : Fin 4) : Vec F S1x64x256 .f32 := sNext (lf (C l 3 g)) (st3 l s g) (W l 3 g) (inc (C l 3 g))

/-- The output of chunk `j` and head group `g`, over the state the chunk starts from. -/
def yOut (l : Ld F) (j g : Fin 4) (s : Vec F S1x64x256 .f32) : FVec F S1x64x256 .f32 := yAdd (lf (C l j g)) s (yPart (C l j g))

/-- A read of 128 rows over two stores of 64. -/
theorem readHalves (v : View sig .tc .vmem S4x4x128x256 .bf16) (j g : ℕ) (c : Ch F)
    (i0 : ∀ a, (![j, g, 0, 0] : Fin 4 → ℕ) a + S1x1x64x256.size a ≤ S4x4x128x256.size a)
    (i1 : ∀ a, (![j, g, 64, 0] : Fin 4 → ℕ) a + S1x1x64x256.size a ≤ S4x4x128x256.size a)
    (i2 : ∀ a, (![j, g, 0, 0] : Fin 4 → ℕ) a + S1x1x128x256.size a ≤ S4x4x128x256.size a) (L : List (View.Piece (Elt F) S4x4x128x256 .bf16)) :
    v.readCov (⟨Rect.unit (s := S4x4x128x256) ![j, g, 64, 0] S1x1x64x256.size i1, lhsB c⟩ :: ⟨Rect.unit (s := S4x4x128x256) ![j, g, 0, 0] S1x1x64x256.size i0, lhsT c⟩ :: L)
      (Rect.unit (s := S4x4x128x256) ![j, g, 0, 0] S1x1x128x256.size i2).toLoadRect = lf c := by
  rw [View.readCov_eq_canon']
  funext i
  unfold lf
  split
  · rename_i h
    rw [View.canon_cons_of_not_mem]
    · have e : (Rect.unit (s := S4x4x128x256) ![j, g, 0, 0] S1x1x128x256.size i2).toLoadRect.idx i
          = (Rect.unit (s := S4x4x128x256) ![j, g, 0, 0] S1x1x64x256.size i0).emb
            (fun a => match a with | ⟨0, _⟩ => i 0 | ⟨1, _⟩ => i 1 | ⟨2, _⟩ => ⟨(i 2).val, h⟩ | ⟨3, _⟩ => i 3) := by
        funext a; apply Fin.ext
        match a with
        | ⟨0, _⟩ => rfl
        | ⟨1, _⟩ => rfl
        | ⟨2, _⟩ => rfl
        | ⟨3, _⟩ => rfl
      rw [e]
      exact View.canon_cons_emb _ _ _ _
    · intro hm
      obtain ⟨x, hx⟩ := LoadRect.exists_idx_of_mem (Rect.unit (s := S4x4x128x256) ![j, g, 64, 0] S1x1x64x256.size i1).toLoadRect hm
      have := congrArg (fun y => (y (2 : Fin 4)).val) hx
      have h1 : 64 + 1 * (x (2 : Fin 4)).val = 0 + 1 * (i 2).val := this
      omega
  · rename_i h
    have e : (Rect.unit (s := S4x4x128x256) ![j, g, 0, 0] S1x1x128x256.size i2).toLoadRect.idx i
        = (Rect.unit (s := S4x4x128x256) ![j, g, 64, 0] S1x1x64x256.size i1).emb
          (fun a => match a with | ⟨0, _⟩ => i 0 | ⟨1, _⟩ => i 1 | ⟨2, _⟩ => ⟨(i 2).val - 64, by have : (i 2).val < 128 := (i 2).isLt; show _ < 64; omega⟩ | ⟨3, _⟩ => i 3) := by
      funext a; apply Fin.ext
      match a with
      | ⟨0, _⟩ => rfl
      | ⟨1, _⟩ => rfl
      | ⟨2, _⟩ => show 0 + 1 * (i 2).val = 64 + 1 * ((i 2).val - 64); omega
      | ⟨3, _⟩ => rfl
    rw [e]
    exact View.canon_cons_emb _ _ _ _

end Cert.Proof.Wkv
-- ==== Proof.Wkv.Rep.lean ====
/- The chunk's vector functions on real numbers: each of the kernel's operations on four heads side by side is the
   operation on each head's matrix. -/
module

public import proofs.«01_k».proof.Proof.Wkv.Math
public import proofs.«01_k».proof.Proof.Wkv.Loads
public import Idealize.ShloMosaic.Lib.Pointwise

@[expose] public section

set_option maxRecDepth 16384

noncomputable section

namespace Cert.Proof.Wkv

open Idealize.ShloMosaic Idealize.ShloMosaic.TcCoe Idealize.SL.Sem
open Cert.KernelIdeal Cert.KernelIdeal.Gen
open Matrix

/-- A matrix for each of four heads. -/
abbrev Hm := Fin 4 → Mat
/-- The head of a lane, and the lane within it. -/
def hd (q : Fin 256) : Fin 4 := ⟨q.val / 64, by omega⟩
def ln (q : Fin 256) : Fin 64 := ⟨q.val % 64, by omega⟩
/-- Four heads' matrices side by side. -/
def E (M : Hm) : FVec Ideal S64x256 .f32 := fun i => let p : Fin 64 := i 0; let q : Fin 256 := i 1; ((M (hd q) p (ln q) : ℝ) : EReal)
theorem E_apply (M : Hm) (p : Fin 64) (q : Fin 256) : E M (ix2 p q) = ((M (hd q) p (ln q) : ℝ) : EReal) := rfl

theorem ext2 {f g : FVec Ideal S64x256 .f32} (h : ∀ (p : Fin 64) (q : Fin 256), f (ix2 p q) = g (ix2 p q)) : f = g :=
  funext fun i => by rw [eq_ix2 i]; exact h _ _
theorem ext128 {f g : FVec Ideal S128x256 .f32} (h : ∀ (p : Fin 128) (q : Fin 256), f (ix2 p q) = g (ix2 p q)) : f = g :=
  funext fun i => by rw [eq_ix2 i]; exact h _ _
theorem ext192 {f g : FVec Ideal S192x256 .f32} (h : ∀ (p : Fin 192) (q : Fin 256), f (ix2 p q) = g (ix2 p q)) : f = g :=
  funext fun i => by rw [eq_ix2 i]; exact h _ _

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The lanes are the heads' lanes. -/
def lanes : Fin 256 ≃ Fin 4 × Fin 64 where
  toFun k := (hd k, ln k)
  invFun x := ⟨64 * x.1.val + x.2.val, by omega⟩
  left_inv k := Fin.ext (by show 64 * (k.val / 64) + k.val % 64 = k.val; omega)
  right_inv x := Prod.ext (Fin.ext (by show (64 * x.1.val + x.2.val) / 64 = x.1.val; omega)) (Fin.ext (by show (64 * x.1.val + x.2.val) % 64 = x.2.val; omega))

theorem sum_lanes (f : Fin 4 → Fin 64 → EReal) : ∑ k : Fin 256, f (hd k) (ln k) = ∑ h, ∑ s, f h s := by
  rw [← Fintype.sum_prod_type']
  exact Fintype.sum_equiv lanes _ _ fun _ => rfl

/-! ## The masks -/

theorem head_word : ∀ n : Fin 256, (Scalar.select
        (IntOp.andi
          (IntOp.cmpi CmpIPredicate.ne
            (IntOp.subi (BitVec.setWidth 32 (IntOp.cmpi CmpIPredicate.sgt (BitVec.ofNat 32 n.val) 0#32))
              (BitVec.setWidth 32 (IntOp.cmpi CmpIPredicate.slt (BitVec.ofNat 32 n.val) 0#32)))
            1#32)
          (IntOp.cmpi CmpIPredicate.ne (IntOp.remsi ArithUnit.vector (BitVec.ofNat 32 n.val) 64#32) 0#32))
        (IntOp.subi (IntOp.divsi ArithUnit.vector (BitVec.ofNat 32 n.val) 64#32) 1#32)
        (IntOp.divsi ArithUnit.vector (BitVec.ofNat 32 n.val) 64#32) : BitVec 32) = BitVec.ofNat 32 (hd n).val := by
  decide +kernel
theorem lane_word : ∀ n : Fin 256, (Scalar.select
        (IntOp.andi
          (IntOp.xori
            (IntOp.cmpi CmpIPredicate.slt
              (IntOp.remsi ArithUnit.vector (BitVec.ofNat 32 n.val)
                (Scalar.select (Scalar.cmpi CmpIPredicate.eq 64#32 0#32) 1#32 64#32))
              0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 n.val)
              (Scalar.select (Scalar.cmpi CmpIPredicate.eq 64#32 0#32) 1#32 64#32))
            0#32))
        (IntOp.addi
          (IntOp.remsi ArithUnit.vector (BitVec.ofNat 32 n.val)
            (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 n.val)
          (Scalar.select (Scalar.cmpi CmpIPredicate.eq 64#32 0#32) 1#32 64#32)) : BitVec 32) = BitVec.ofNat 32 (ln n).val := by
  decide +kernel
theorem eq_word : ∀ a b : Fin 64, IntOp.cmpi CmpIPredicate.eq (BitVec.ofNat 32 a.val) (BitVec.ofNat 32 b.val) = if a = b then 1#1 else 0#1 := by
  decide +kernel
theorem eq_word4 : ∀ a b : Fin 4, IntOp.cmpi CmpIPredicate.eq (BitVec.ofNat 32 a.val) (BitVec.ofNat 32 b.val) = if a = b then 1#1 else 0#1 := by
  decide +kernel
theorem lt_word : ∀ a b : Fin 64, IntOp.cmpi CmpIPredicate.slt (BitVec.ofNat 32 a.val) (BitVec.ofNat 32 b.val) = if a < b then 1#1 else 0#1 := by
  decide +kernel
theorem le_word : ∀ a b : Fin 64, IntOp.cmpi CmpIPredicate.sle (BitVec.ofNat 32 a.val) (BitVec.ofNat 32 b.val) = if a ≤ b then 1#1 else 0#1 := by
  decide +kernel

theorem select_ite {α : Type} (c : Prop) [Decidable c] (x y : α) : Scalar.select (if c then 1#1 else 0#1) x y = if c then x else y := by
  split <;> rfl

theorem bd_apply (p q : Fin 256) : bd (ix2 p q) = if hd p = hd q then 1#1 else 0#1 := by
  pointwise [bd, headOf]
  rw [head_word, head_word, eq_word4]
theorem pay6_apply (p : Fin 64) (q : Fin 256) : k0_pay6 (ix2 p q) = if ln q < p then 1#1 else 0#1 := by
  pointwise [k0_pay6, k0_pay5]
  rw [lane_word, lt_word]
theorem pay7_apply (p : Fin 64) (q : Fin 256) : k0_pay7 (ix2 p q) = if ln q ≤ p then 1#1 else 0#1 := by
  pointwise [k0_pay7, k0_pay5]
  rw [lane_word, le_word]
theorem pay4_apply (p q : Fin 64) : (k0_pay4 (F := Ideal)) (ix2 p q) = if q ≤ p then 1 else 0 := by
  pointwise [k0_pay4]
  rw [le_word, select_ite]
theorem pay8_E : (k0_pay8 (F := Ideal)) = E 1 := by
  refine ext2 fun p q => ?_
  pointwise [k0_pay8, k0_pay5]
  rw [lane_word, eq_word, select_ite, E_apply, Pi.one_apply, Matrix.one_apply]
  by_cases h : ln q = p
  · rw [if_pos h, if_pos h.symm]; simp
  · rw [if_neg h, if_neg (Ne.symm h)]; simp

/-! ## Products -/

theorem bdg_E (M : Hm) (p q : Fin 256) : bdg (E M) (ix2 p q) = if hd p = hd q then ((M (hd q) (ln p) (ln q) : ℝ) : EReal) else 0 := by
  pointwise [bdg, bd_apply, z0]
  rw [select_ite]
  congr 1
  have e : ∀ (n : ℕ) (hn : n < 64) (h : n = p.val % 64), E M (ix2 ⟨n, hn⟩ q) = ((M (hd q) (ln p) (ln q) : ℝ) : EReal) := by
    intro n hn h
    subst h
    rfl
  have := p.isLt
  split
  · exact e _ _ (by omega)
  · split
    · exact e _ _ (by omega)
    · split
      · exact e _ _ (by omega)
      · exact e _ _ (by omega)

theorem sum_bdg (x : Fin 4 → Fin 64 → ℝ) (Z : Hm) (q : Fin 256) :
    ∑ k : Fin 256, ((x (hd k) (ln k) : ℝ) : EReal) * bdg (E Z) (ix2 k q) = ((∑ s, x (hd q) s * Z (hd q) s (ln q) : ℝ) : EReal) := by
  simp only [bdg_E]
  rw [sum_lanes (fun h s => ((x h s : ℝ) : EReal) * if h = hd q then ((Z (hd q) s (ln q) : ℝ) : EReal) else 0),
    Finset.sum_eq_single (hd q), coe_sum]
  · refine Finset.sum_congr rfl fun s _ => ?_
    rw [if_pos rfl, EReal.coe_mul]
  · intro h _ hne
    refine Finset.sum_eq_zero fun s _ => ?_
    rw [if_neg hne, mul_zero]
  · intro h; exact absurd (Finset.mem_univ _) h

theorem sum_bdgT (x : Fin 4 → Fin 64 → ℝ) (Z : Hm) (q : Fin 256) :
    ∑ k : Fin 256, ((x (hd k) (ln k) : ℝ) : EReal) * bdg (E Z) (ix2 q k) = ((∑ s, x (hd q) s * Z (hd q) (ln q) s : ℝ) : EReal) := by
  simp only [bdg_E]
  rw [sum_lanes (fun h s => ((x h s : ℝ) : EReal) * if hd q = h then ((Z h (ln q) s : ℝ) : EReal) else 0),
    Finset.sum_eq_single (hd q), coe_sum]
  · refine Finset.sum_congr rfl fun s _ => ?_
    rw [if_pos rfl, EReal.coe_mul]
  · intro h _ hne
    refine Finset.sum_eq_zero fun s _ => ?_
    rw [if_neg (Ne.symm hne), mul_zero]
  · intro h; exact absurd (Finset.mem_univ _) h

theorem cat2_apply (x y : FVec Ideal S64x256 .f32) (p : Fin 128) (q : Fin 256) :
    cat2 x y (ix2 p q) = if h : p.val < 64 then x (ix2 ⟨p.val, h⟩ q) else y (ix2 ⟨p.val - 64, by omega⟩ q) := by
  pointwise [cat2]
theorem cat3_apply (x y z : FVec Ideal S64x256 .f32) (p : Fin 192) (q : Fin 256) :
    cat3 x y z (ix2 p q) = if h : p.val < 64 then x (ix2 ⟨p.val, h⟩ q)
      else if h : p.val - 64 < 64 then y (ix2 ⟨p.val - 64, h⟩ q) else z (ix2 ⟨p.val - 64 - 64, by omega⟩ q) := by
  pointwise [cat3]

theorem lo_cat2 (x y : FVec Ideal S64x256 .f32) : lo (cat2 x y) = x := by
  refine ext2 fun p q => ?_
  pointwise [lo, cat2_apply]
theorem hi_cat2 (x y : FVec Ideal S64x256 .f32) : hi (cat2 x y) = y := by
  refine ext2 fun p q => ?_
  pointwise [hi, cat2_apply]
theorem lo3_cat3 (x y z : FVec Ideal S64x256 .f32) : lo3 (cat3 x y z) = x := by
  refine ext2 fun p q => ?_
  pointwise [lo3, cat3_apply]
theorem mi3_cat3 (x y z : FVec Ideal S64x256 .f32) : mi3 (cat3 x y z) = y := by
  refine ext2 fun p q => ?_
  pointwise [mi3, cat3_apply]
theorem hi3_cat3 (x y z : FVec Ideal S64x256 .f32) : hi3 (cat3 x y z) = z := by
  refine ext2 fun p q => ?_
  pointwise [hi3, cat3_apply]
  rw [dif_neg (by omega), dif_neg (by omega)]
  congr 2; apply Fin.ext; show 128 + p.val - 64 - 64 = p.val; omega

theorem row_sum (X Z : Hm) (p : Fin 64) (q : Fin 256) : ∑ k : Fin 256, E X (ix2 p k) * bdg (E Z) (ix2 k q) = E (X * Z) (ix2 p q) :=
  (sum_bdg (fun h s => X h p s) Z q).trans rfl
theorem row_sumT (X Z : Hm) (p : Fin 64) (q : Fin 256) : ∑ k : Fin 256, E X (ix2 p k) * bdg (E Z) (ix2 q k) = E (fun h => X h * (Z h)ᵀ) (ix2 p q) :=
  (sum_bdgT (fun h s => X h p s) Z q).trans rfl

theorem mm1_E (X Z : Hm) : mm1 (truncf .bf16 (E X) bitsLt_bf16_f32) (E Z) = E (X * Z) := by
  refine ext2 fun p q => ?_
  refine Eq.trans ?_ (row_sum X Z p q)
  pointwise [mm1]
theorem mm2_E (X Y Z : Hm) : mm2 (truncf .bf16 (cat2 (E X) (E Y)) bitsLt_bf16_f32) (E Z) = cat2 (E (X * Z)) (E (Y * Z)) := by
  refine ext128 fun p q => ?_
  have e : mm2 (truncf .bf16 (cat2 (E X) (E Y)) bitsLt_bf16_f32) (E Z) (ix2 p q) = ∑ k : Fin 256, cat2 (E X) (E Y) (ix2 p k) * bdg (E Z) (ix2 k q) := by
    pointwise [mm2]
  rw [e, cat2_apply]
  simp only [cat2_apply]
  split
  · exact row_sum _ _ _ _
  · exact row_sum _ _ _ _
theorem mm3_E (X Y V Z : Hm) :
    mm3 (truncf .bf16 (cat3 (E X) (E Y) (E V)) bitsLt_bf16_f32) (E Z) = cat3 (E (X * Z)) (E (Y * Z)) (E (V * Z)) := by
  refine ext192 fun p q => ?_
  have e : mm3 (truncf .bf16 (cat3 (E X) (E Y) (E V)) bitsLt_bf16_f32) (E Z) (ix2 p q) = ∑ k : Fin 256, cat3 (E X) (E Y) (E V) (ix2 p k) * bdg (E Z) (ix2 k q) := by
    pointwise [mm3]
  rw [e, cat3_apply]
  simp only [cat3_apply]
  split
  · exact row_sum _ _ _ _
  · split
    · exact row_sum _ _ _ _
    · exact row_sum _ _ _ _
theorem mmt_E (X Y Z : Hm) :
    mmt (truncf .bf16 (cat2 (E X) (E Y)) bitsLt_bf16_f32) (E Z) = cat2 (E (fun i => X i * (Z i)ᵀ)) (E (fun i => Y i * (Z i)ᵀ)) := by
  refine ext128 fun p q => ?_
  have e : mmt (truncf .bf16 (cat2 (E X) (E Y)) bitsLt_bf16_f32) (E Z) (ix2 p q) = ∑ k : Fin 256, cat2 (E X) (E Y) (ix2 p k) * bdg (E Z) (ix2 q k) := by
    pointwise [mmt]
  rw [e, cat2_apply]
  simp only [cat2_apply]
  split
  · exact row_sumT _ _ _ _
  · exact row_sumT _ _ _ _

theorem addf_E (X Y : Hm) : addf (E X) (E Y) = E (X + Y) := by
  refine ext2 fun p q => ?_
  pointwise [E_apply]
  exact (EReal.coe_add _ _).symm
theorem strict_E (X : Hm) : strict (E X) = E (fun h => low (X h)) := by
  refine ext2 fun p q => ?_
  pointwise [strict, pay6_apply, z0]
  rw [select_ite, E_apply, E_apply]
  unfold low
  split <;> rfl
theorem incl_E (X : Hm) : incl (E X) = E (fun h => lowEq (X h)) := by
  refine ext2 fun p q => ?_
  pointwise [incl, pay7_apply, z0]
  rw [select_ite, E_apply, E_apply]
  unfold lowEq
  split <;> rfl

/-! ## The chunk -/

/-- A chunk's vectors hold the factors of four heads' chunks. -/
structure Rep (c : Ch Ideal) (d : Fin 4 → Dat) : Prop where
  r0 : c.r0 = E (fun h => (d h).r0)
  a0 : c.a0 = E (fun h => (d h).a0)
  ra : c.ra = E (fun h => (d h).ra)
  aa : c.aa = E (fun h => (d h).aa)
  kb : c.kb = E (fun h => (d h).kb)
  bb : c.bb = E (fun h => (d h).bb)
  ke : c.ke = E (fun h => (d h).ke)
  be : c.be = E (fun h => (d h).be)
  v : c.v = E (fun h => (d h).v)

theorem E_turn (M : Hm) (p : Fin 64) (q : Fin 256) (a : Fin 64) (b : Fin 256)
    (e1 : a.val = q.val % 64) (e2 : b.val = 64 * (q.val / 64) + p.val) : E M (ix2 a b) = E (fun i => (M i)ᵀ) (ix2 p q) := by
  rw [E_apply, E_apply]
  have h1 : hd b = hd q := Fin.ext (by show b.val / 64 = q.val / 64; omega)
  have h2 : ln b = p := Fin.ext (by show b.val % 64 = p.val; omega)
  have h3 : a = ln q := Fin.ext e1
  rw [h1, h2, h3]
  rfl

theorem bet_lane (c : Ch Ideal) (k : Fin 256) (p : Fin 128) (a : Fin 64) (h : p.val = a.val) : ft c (ix2 k p) = c.be (ix2 a k) := by
  have := a.isLt
  have e : ft c (ix2 k p) = cat2 c.be c.ke (ix2 p k) := by pointwise [ft]
  rw [e, cat2_apply, dif_pos (by omega)]
  congr 2
  apply Fin.ext
  show p.val = a.val
  omega
theorem bet_E (c : Ch Ideal) (M : Hm) (h : c.be = E M) : bet c = E (fun i => (M i)ᵀ) := by
  refine ext2 fun p q => ?_
  have key : ∀ (k : Fin 256) (r : Fin 128) (a : Fin 64), r.val = a.val → a.val = q.val % 64 → k.val = 64 * (q.val / 64) + p.val →
      ft c (ix2 k r) = E (fun i => (M i)ᵀ) (ix2 p q) := by
    intro k r a h1 h2 h3
    rw [bet_lane c k r a h1, h]
    exact E_turn M p q a k h2 h3
  have := q.isLt
  have := p.isLt
  generalize E (fun i => (M i)ᵀ) (ix2 p q) = r at key
  pointwise [bet]
  split
  · exact key _ _ ⟨q.val % 64, by omega⟩ (by simp only; omega) rfl (by simp only; omega)
  · split
    · exact key _ _ ⟨q.val % 64, by omega⟩ (by simp only; omega) rfl (by simp only; omega)
    · split
      · exact key _ _ ⟨q.val % 64, by omega⟩ (by simp only; omega) rfl (by simp only; omega)
      · exact key _ _ ⟨q.val % 64, by omega⟩ (by simp only; omega) rfl (by simp only; omega)
theorem ket_lane (c : Ch Ideal) (k : Fin 256) (p : Fin 128) (a : Fin 64) (h : p.val = 64 + a.val) : ft c (ix2 k p) = c.ke (ix2 a k) := by
  have := a.isLt
  have e : ft c (ix2 k p) = cat2 c.be c.ke (ix2 p k) := by pointwise [ft]
  rw [e, cat2_apply, dif_neg (by omega)]
  congr 2
  apply Fin.ext
  show p.val - 64 = a.val
  omega
theorem ket_E (c : Ch Ideal) (M : Hm) (h : c.ke = E M) : ket c = E (fun i => (M i)ᵀ) := by
  refine ext2 fun p q => ?_
  have key : ∀ (k : Fin 256) (r : Fin 128) (a : Fin 64), r.val = 64 + a.val → a.val = q.val % 64 → k.val = 64 * (q.val / 64) + p.val →
      ft c (ix2 k r) = E (fun i => (M i)ᵀ) (ix2 p q) := by
    intro k r a h1 h2 h3
    rw [ket_lane c k r a h1, h]
    exact E_turn M p q a k h2 h3
  have := q.isLt
  have := p.isLt
  generalize E (fun i => (M i)ᵀ) (ix2 p q) = r at key
  pointwise [ket]
  split
  · exact key _ _ ⟨q.val % 64, by omega⟩ (by simp only; omega) rfl (by simp only; omega)
  · split
    · exact key _ _ ⟨q.val % 64, by omega⟩ (by simp only; omega) rfl (by simp only; omega)
    · split
      · exact key _ _ ⟨q.val % 64, by omega⟩ (by simp only; omega) rfl (by simp only; omega)
      · exact key _ _ ⟨q.val % 64, by omega⟩ (by simp only; omega) rfl (by simp only; omega)

theorem lf_apply (c : Ch Ideal) (p : Fin 128) (q : Fin 256) :
    lf c (ix4 0 0 p q) = if h : p.val < 64 then lhsT c (ix4 0 0 ⟨p.val, h⟩ q) else lhsB c (ix4 0 0 ⟨p.val - 64, by omega⟩ q) := by
  unfold lf
  by_cases h : p.val < 64
  · rw [dif_pos h, dif_pos (show ((ix4 0 0 p q : S1x1x128x256.Idx) 2).val < 64 from h)]
    congr 1
    funext a
    match a with
    | ⟨0, _⟩ => rfl
    | ⟨1, _⟩ => rfl
    | ⟨2, _⟩ => rfl
    | ⟨3, _⟩ => rfl
  · rw [dif_neg h, dif_neg (show ¬ ((ix4 0 0 p q : S1x1x128x256.Idx) 2).val < 64 from h)]
    congr 1
    funext a
    match a with
    | ⟨0, _⟩ => rfl
    | ⟨1, _⟩ => rfl
    | ⟨2, _⟩ => rfl
    | ⟨3, _⟩ => rfl

section
variable (c : Ch Ideal) (d : Fin 4 → Dat) (R : Rep c d)
include R

theorem gb_E : gb c = cat2 (E (fun h => (d h).aa * (d h).bbᵀ)) (E (fun h => (d h).ra * (d h).bbᵀ)) := by
  unfold gb xq
  rw [R.aa, R.ra, R.bb, mmt_E]
theorem gk_E : gk c = cat2 (E (fun h => (d h).aa * (d h).kbᵀ)) (E (fun h => (d h).ra * (d h).kbᵀ)) := by
  unfold gk xq
  rw [R.aa, R.ra, R.kb, mmt_E]
theorem aab_E : aab c = E (fun h => (d h).AB) := by
  unfold aab
  rw [gb_E c d R, lo_cat2, strict_E]
  rfl
theorem avk_E : avk c = cat3 (E (fun h => (d h).AK * (d h).v)) (E (fun h => (d h).RK * (d h).v)) (E (fun h => (d h).keᵀ * (d h).v)) := by
  unfold avk akrk
  rw [gk_E c d R, lo_cat2, hi_cat2, strict_E, incl_E, ket_E c _ R.ke, R.v, mm3_E]
  rfl
theorem nextT_E (T P : Hm) : nextT (E T) (E P) = E (T + T * P) := by
  unfold nextT dbl
  rw [mm2_E, lo_cat2, addf_E]
theorem nextP_E (T P : Hm) : nextP (E T) (E P) = E (P * P) := by
  unfold nextP dbl
  rw [mm2_E, hi_cat2]
theorem tm_E : tm c = E (fun h => (d h).T) := by
  have a := aab_E c d R
  have t0 : t0 c = E (fun h => T0 (d h).AB) := by unfold Wkv.t0; rw [a, pay8_E, addf_E]; rfl
  have p0 : p0 c = E (fun h => P0 (d h).AB) := by unfold Wkv.p0; rw [a, mm1_E]; rfl
  have t1 : t1 c = E (fun h => T1 (d h).AB) := by unfold Wkv.t1; rw [t0, p0, nextT_E c d R]; rfl
  have p1 : p1 c = E (fun h => P1 (d h).AB) := by unfold Wkv.p1; rw [t0, p0, nextP_E c d R]; rfl
  have t2 : t2 c = E (fun h => T2 (d h).AB) := by unfold Wkv.t2; rw [t1, p1, nextT_E c d R]; rfl
  have p2 : p2 c = E (fun h => P2 (d h).AB) := by unfold Wkv.p2; rw [t1, p1, nextP_E c d R]; rfl
  have t3 : t3 c = E (fun h => T3 (d h).AB) := by unfold Wkv.t3; rw [t2, p2, nextT_E c d R]; rfl
  have p3 : p3 c = E (fun h => P3 (d h).AB) := by unfold Wkv.p3; rw [t2, p2, nextP_E c d R]; rfl
  have t4 : t4 c = E (fun h => T4 (d h).AB) := by unfold Wkv.t4; rw [t3, p3, nextT_E c d R]; rfl
  have p4 : p4 c = E (fun h => P4 (d h).AB) := by unfold Wkv.p4; rw [t3, p3, nextP_E c d R]; rfl
  unfold tm
  rw [t4, p4, mm1_E, addf_E]
  rfl
theorem rt_E : rt c = truncf .bf16 (cat2 (E (fun h => (d h).RB * (d h).T)) (E (fun h => (d h).beᵀ * (d h).T))) bitsLt_bf16_f32 := by
  unfold rt rbe
  rw [gb_E c d R, hi_cat2, incl_E, bet_E c _ R.be, tm_E c d R, mm2_E]
  rfl
theorem za_E : za c = cat2 (E (fun h => (d h).RB * (d h).T * (d h).a0)) (E (fun h => (d h).beᵀ * (d h).T * (d h).a0)) := by
  unfold za
  rw [rt_E c d R, R.a0, mm2_E]
  rfl
theorem zv_E : zv c = cat2 (E (fun h => (d h).RB * (d h).T * ((d h).AK * (d h).v))) (E (fun h => (d h).beᵀ * (d h).T * ((d h).AK * (d h).v))) := by
  unfold zv
  rw [rt_E c d R, avk_E c d R, lo3_cat3, mm2_E]
  rfl
theorem lhsT_E : lhsT c = shapeCast S1x1x64x256 (truncf .bf16 (E (fun h => (d h).top)) bitsLt_bf16_f32) shapeCasts_S64x256_S1x1x64x256 := by
  unfold lhsT
  rw [za_E c d R, lo_cat2, R.r0, addf_E]
  rfl
theorem lhsB_E : lhsB c = shapeCast S1x1x64x256 (truncf .bf16 (E (fun h => (d h).bot)) bitsLt_bf16_f32) shapeCasts_S64x256_S1x1x64x256 := by
  unfold lhsB
  rw [za_E c d R, hi_cat2]
  rfl
theorem inc_E : inc c = shapeCast S1x1x64x256 (E (fun h => (d h).inc)) shapeCasts_S64x256_S1x1x64x256 := by
  unfold inc
  rw [zv_E c d R, avk_E c d R, hi_cat2, hi3_cat3, addf_E]
  rfl
theorem yPart_E : yPart c = shapeCast S1x64x256 (E (fun h => (d h).part)) shapeCasts_S64x256_S1x64x256 := by
  unfold yPart
  rw [zv_E c d R, avk_E c d R, lo_cat2, mi3_cat3, addf_E]
  rfl

theorem lf_E : shapeCast S128x256 (lf c) shapeCasts_S1x1x128x256_S128x256
    = truncf .bf16 (cat2 (E (fun h => (d h).top)) (E (fun h => (d h).bot))) bitsLt_bf16_f32 := by
  refine ext128 fun p q => ?_
  pointwise [cat2_apply]
  rw [lf_apply, lhsT_E c d R, lhsB_E c d R]
  pointwise
end

/-- A state of four heads. -/
def St (M : Hm) : Vec Ideal S1x64x256 .f32 := shapeCast S1x64x256 (E M) shapeCasts_S64x256_S1x64x256
/-- The decays of four heads' chunks. -/
def Dc (M : Hm) : Vec Ideal S1x1x64x256 .f32 := shapeCast S1x1x64x256 (E M) shapeCasts_S64x256_S1x1x64x256

theorem back3 (M : Hm) : shapeCast S64x256 (St M) shapeCasts_S1x64x256_S64x256 = E M := by
  refine ext2 fun p q => ?_
  pointwise [St]
theorem back4 (M : Hm) : shapeCast S64x256 (Dc M) shapeCasts_S1x1x64x256_S64x256 = E M := by
  refine ext2 fun p q => ?_
  pointwise [Dc]
/-- Products entry by entry. -/
def had (X Y : Hm) : Hm := fun h p s => X h p s * Y h p s
theorem mulf_E (X Y : Hm) : mulf (E X) (E Y) = E (had X Y) := by
  refine ext2 fun p q => ?_
  pointwise [E_apply]
  exact (EReal.coe_mul _ _).symm

/-- One chunk's pass: the outputs and the next state. -/
theorem yAdd_St (c : Ch Ideal) (d : Fin 4 → Dat) (R : Rep c d) (M : Hm) :
    yAdd (lf c) (St M) (yPart c) = St (fun h => (d h).y (M h)) := by
  unfold yAdd zs
  rw [lf_E c d R, back3, mm2_E, lo_cat2, yPart_E c d R]
  rw [show shapeCast S1x64x256 (E fun h => (d h).part) shapeCasts_S64x256_S1x64x256 = St (fun h => (d h).part) from rfl, back3, addf_E]
  rfl
theorem sNext_St (c : Ch Ideal) (d : Fin 4 → Dat) (R : Rep c d) (M : Hm) :
    sNext (lf c) (St M) (Dc (fun h => (d h).dec)) (inc c) = St (fun h => (d h).next (M h)) := by
  unfold sNext zs
  rw [lf_E c d R, back3, back4, mm2_E, hi_cat2, inc_E c d R]
  rw [show shapeCast S1x1x64x256 (E fun h => (d h).inc) shapeCasts_S64x256_S1x1x64x256 = Dc (fun h => (d h).inc) from rfl, back4, mulf_E, addf_E, addf_E]
  rfl

end Cert.Proof.Wkv
-- ==== Proof.Wkv.Chunk.lean ====
/- A chunk's vectors from its loads, where the loads are real numbers. -/
module

public import proofs.«01_k».proof.Proof.Wkv.Rep

@[expose] public section

set_option maxRecDepth 16384

noncomputable section

namespace Cert.Proof.Wkv

open Idealize.ShloMosaic Idealize.ShloMosaic.TcCoe Idealize.SL.Sem
open Cert.KernelIdeal Cert.KernelIdeal.Gen

/-- The six inputs at 64 tokens, all 16 heads. -/
structure Six where
  r : Fin 64 → Fin 1024 → ℝ
  w : Fin 64 → Fin 1024 → ℝ
  k : Fin 64 → Fin 1024 → ℝ
  v : Fin 64 → Fin 1024 → ℝ
  a : Fin 64 → Fin 1024 → ℝ
  b : Fin 64 → Fin 1024 → ℝ

/-- The lane of head `h` of group `g`. -/
def wide (g h : Fin 4) (s : Fin 64) : Fin 1024 := ⟨256 * g.val + 64 * h.val + s.val, by omega⟩
/-- Lane `q` of group `g`. -/
def wq (g : Fin 4) (q : Fin 256) : Fin 1024 := ⟨256 * g.val + q.val, by omega⟩
theorem wq_eq (g : Fin 4) (q : Fin 256) : wq g q = wide g (hd q) (ln q) :=
  Fin.ext (by show 256 * g.val + q.val = 256 * g.val + 64 * (q.val / 64) + q.val % 64; omega)

/-- One head's chunk. -/
def Six.dat (x : Six) (g h : Fin 4) : Dat where
  r p s := x.r p (wide g h s)
  w p s := x.w p (wide g h s)
  k p s := x.k p (wide g h s)
  v p s := x.v p (wide g h s)
  a p s := x.a p (wide g h s)
  b p s := x.b p (wide g h s)

/-- The log decays summed up to and with a token. -/
def cs (w : Fin 64 → Fin 1024 → ℝ) (p : Fin 64) (D : Fin 1024) : ℝ := ∑ s : Fin 64, if s ≤ p then w s D else 0

section
variable (x : Vec Ideal S1x1x64x1024 .f32) (w : Fin 64 → Fin 1024 → ℝ) (hx : ∀ p D, x (ix4 0 0 p D) = ((w p D : ℝ) : EReal))
include hx

theorem lw_apply (p : Fin 64) (D : Fin 1024) : lw x (ix2 p D) = ((w p D : ℝ) : EReal) := by
  pointwise [lw]
  rw [hx]

theorem cw_apply (p : Fin 64) (D : Fin 1024) : cw x (ix2 p D) = ((cs w p D : ℝ) : EReal) := by
  pointwise [cw, lw, pay4_apply]
  simp only [hx, ← EReal.coe_sub, sub_self, EReal.coe_zero, sub_zero, mul_zero, Finset.sum_const_zero, add_zero]
  unfold cs
  rw [coe_sum]
  refine Finset.sum_congr (M := EReal) rfl fun s _ => ?_
  split <;> simp

theorem cwEnd_apply (D : Fin 1024) : cwEnd x (ix2 0 D) = ((cs w 63 D : ℝ) : EReal) := by
  pointwise [cwEnd]
  exact cw_apply x w hx 63 D
theorem cwMid_apply (D : Fin 1024) : cwMid x (ix2 0 D) = ((cs w 31 D : ℝ) : EReal) := by
  pointwise [cwMid]
  exact cw_apply x w hx 31 D

theorem eInv_apply (p : Fin 64) (D : Fin 1024) : eInv x (ix2 p D) = ((Real.exp (cs w 31 D - cs w p D) : ℝ) : EReal) := by
  pointwise [eInv]
  rw [cwMid_apply x w hx, cw_apply x w hx, ← EReal.coe_sub, Ideal.exp_coe]
theorem eMid_apply (p : Fin 64) (D : Fin 1024) : eMid x (ix2 p D) = ((Real.exp (0 - cs w 31 D) : ℝ) : EReal) := by
  pointwise [eMid, z0]
  rw [cwMid_apply x w hx, ← EReal.coe_zero, ← EReal.coe_sub, Ideal.exp_coe]
theorem eEnd_apply (p : Fin 64) (D : Fin 1024) :
    eEnd x (ix2 p D) = ((Real.exp (cs w 31 D - cs w p D) * Real.exp (cs w 63 D - cs w 31 D) : ℝ) : EReal) := by
  pointwise [eEnd]
  rw [eInv_apply x w hx, cwMid_apply x w hx, cwEnd_apply x w hx, ← EReal.coe_sub, Ideal.exp_coe, ← EReal.coe_mul]

theorem rIn_apply (r : Vec Ideal S1x64x1024 .bf16) (ρ : Fin 64 → Fin 1024 → ℝ) (hr : ∀ p D, r (ix3 0 p D) = ((ρ p D : ℝ) : EReal))
    (p : Fin 64) (D : Fin 1024) : rIn x r (ix2 p D) = ((ρ p D * Real.exp (cs w p D) : ℝ) : EReal) := by
  pointwise [rIn, row]
  rw [cw_apply x w hx, hr, Ideal.exp_coe, ← EReal.coe_mul]
theorem aIn_apply (r : Vec Ideal S1x64x1024 .bf16) (ρ : Fin 64 → Fin 1024 → ℝ) (hr : ∀ p D, r (ix3 0 p D) = ((ρ p D : ℝ) : EReal))
    (p : Fin 64) (D : Fin 1024) : aIn x r (ix2 p D) = ((ρ p D * Real.exp (cs w p D - w p D) : ℝ) : EReal) := by
  pointwise [aIn, row]
  rw [cw_apply x w hx, lw_apply x w hx, hr, ← EReal.coe_sub, Ideal.exp_coe, ← EReal.coe_mul]
end

theorem row4_apply (r : Vec Ideal S1x1x64x1024 .bf16) (ρ : Fin 64 → Fin 1024 → ℝ) (hr : ∀ p D, r (ix4 0 0 p D) = ((ρ p D : ℝ) : EReal))
    (p : Fin 64) (D : Fin 1024) : row4 r (ix2 p D) = ((ρ p D : ℝ) : EReal) := by
  pointwise [row4]
  rw [hr]

theorem col_E (g : Fin 4) (x : FVec Ideal S64x1024 .f32) (f : Fin 64 → Fin 1024 → ℝ) (hx : ∀ p D, x (ix2 p D) = ((f p D : ℝ) : EReal)) :
    col (256 * g.val) (slG g) x = E (fun h p s => f p (wide g h s)) := by
  refine ext2 fun p q => ?_
  have e : col (256 * g.val) (slG g) x (ix2 p q) = x (ix2 p (wq g q)) := by
    unfold col
    refine congrArg x (funext fun a => Fin.ext ?_)
    match a with
    | ⟨0, _⟩ => exact Nat.zero_add _
    | ⟨1, _⟩ => rfl
  rw [e, hx, wq_eq]
  rfl

theorem mul_apply2 (x y : FVec Ideal S64x1024 .f32) (f g : Fin 64 → Fin 1024 → ℝ) (hx : ∀ p D, x (ix2 p D) = ((f p D : ℝ) : EReal))
    (hy : ∀ p D, y (ix2 p D) = ((g p D : ℝ) : EReal)) (p : Fin 64) (D : Fin 1024) : mulf x y (ix2 p D) = ((f p D * g p D : ℝ) : EReal) := by
  pointwise
  rw [hx, hy, ← EReal.coe_mul]

/-- A chunk's vectors, from loads that hold real numbers. -/
theorem mk_Rep (g : Fin 4) (X : Six) (r : Vec Ideal S1x64x1024 .bf16) (x : Vec Ideal S1x1x64x1024 .f32) (k : Vec Ideal S1x1x64x1024 .bf16)
    (v : Vec Ideal S1x64x256 .f32) (a : Vec Ideal S1x64x1024 .bf16) (b : Vec Ideal S1x1x64x1024 .bf16)
    (hr : ∀ p D, r (ix3 0 p D) = ((X.r p D : ℝ) : EReal)) (hx : ∀ p D, x (ix4 0 0 p D) = ((X.w p D : ℝ) : EReal))
    (hk : ∀ p D, k (ix4 0 0 p D) = ((X.k p D : ℝ) : EReal)) (hv : ∀ p q, v (ix3 0 p q) = ((X.v p (wq g q) : ℝ) : EReal))
    (ha : ∀ p D, a (ix3 0 p D) = ((X.a p D : ℝ) : EReal)) (hb : ∀ p D, b (ix4 0 0 p D) = ((X.b p D : ℝ) : EReal)) :
    Rep (mk (256 * g.val) (slG g) r x k v a b) (X.dat g) where
  r0 := col_E g _ _ (rIn_apply x X.w hx r X.r hr)
  a0 := col_E g _ _ (aIn_apply x X.w hx a X.a ha)
  ra := col_E g _ _ (mul_apply2 _ _ _ _ (rIn_apply x X.w hx r X.r hr) (eMid_apply x X.w hx))
  aa := col_E g _ _ (mul_apply2 _ _ _ _ (aIn_apply x X.w hx a X.a ha) (eMid_apply x X.w hx))
  kb := col_E g _ _ (mul_apply2 _ _ _ _ (row4_apply k X.k hk) (eInv_apply x X.w hx))
  bb := col_E g _ _ (mul_apply2 _ _ _ _ (row4_apply b X.b hb) (eInv_apply x X.w hx))
  ke := col_E g _ _ (mul_apply2 _ _ _ _ (row4_apply k X.k hk) (eEnd_apply x X.w hx))
  be := col_E g _ _ (mul_apply2 _ _ _ _ (row4_apply b X.b hb) (eEnd_apply x X.w hx))
  v := by
    refine ext2 fun p q => ?_
    show shapeCast S64x256 v shapeCasts_S1x64x256_S64x256 (ix2 p q) = _
    rw [E_apply]
    pointwise
    rw [hv, wq_eq]
    rfl

/-! ## The decays over a whole chunk -/

theorem cut_apply (y : FVec Ideal S1024x128 .f32) (g j : Fin 4) (D : Fin 256) :
    extractStridedSlice S256x1 ![256 * g.val, j.val] y (slW g j) (ix2 D 0) = y (ix2 (wq g D) ⟨j.val, by omega⟩) := by
  refine congrArg y (funext fun a => Fin.ext ?_)
  match a with
  | ⟨0, _⟩ => rfl
  | ⟨1, _⟩ => rfl

section
variable (x : Fin 4 → Vec Ideal S1x1x64x1024 .f32) (w : Fin 4 → Fin 64 → Fin 1024 → ℝ)
  (hx : ∀ j p D, x j (ix4 0 0 p D) = ((w j p D : ℝ) : EReal))
include hx

theorem ends_apply (D : Fin 1024) (j : Fin 4) :
    ends (x 0) (x 1) (x 2) (x 3) (ix2 D ⟨j.val, by omega⟩) = ((Real.exp (cs (w j) 63 D) : ℝ) : EReal) := by
  pointwise [ends]
  simp only [fun j => cwEnd_apply (x j) (w j) (hx j)]
  fin_cases j
  · show Ideal.exp (Scalar.select (IntOp.cmpi .eq 0#32 3#32) _ _) = _
    simp [IntOp.cmpi]
    exact Ideal.exp_coe _
  · show Ideal.exp (Scalar.select (IntOp.cmpi .eq 1#32 3#32) _ _) = _
    simp [IntOp.cmpi]
    exact Ideal.exp_coe _
  · show Ideal.exp (Scalar.select (IntOp.cmpi .eq 2#32 3#32) _ _) = _
    simp [IntOp.cmpi]
    exact Ideal.exp_coe _
  · show Ideal.exp (Scalar.select (IntOp.cmpi .eq 3#32 3#32) _ _) = _
    simp [IntOp.cmpi]
    exact Ideal.exp_coe _

theorem wl_Dc (X : Fin 4 → Six) (hX : ∀ j, (X j).w = w j) (j g : Fin 4) :
    wl (256 * g.val) j.val (slW g j) (ends (x 0) (x 1) (x 2) (x 3)) = Dc (fun h => ((X j).dat g h).dec) := by
  have e : ∀ D : Fin 256, extractStridedSlice S256x1 ![256 * g.val, j.val] (ends (x 0) (x 1) (x 2) (x 3)) (slW g j) (ix2 D 0)
      = ((Real.exp (cs (w j) 63 (wq g D)) : ℝ) : EReal) := fun D => (cut_apply _ g j D).trans (ends_apply x w hx (wq g D) j)
  unfold wl Dc
  generalize extractStridedSlice S256x1 ![256 * g.val, j.val] (ends (x 0) (x 1) (x 2) (x 3)) (slW g j) = y at e
  dsimp only
  refine congrArg (fun z => shapeCast S1x1x64x256 z shapeCasts_S64x256_S1x1x64x256) (ext2 fun p q => ?_)
  pointwise [bd_apply, z0]
  simp only [select_ite, e, E_apply]
  have hh : ∀ (n : Fin 4) (r : Fin 256), r.val = 64 * n.val + p.val → hd r = n ∧ wq g r = wide g n p := by
    intro n r hr
    refine ⟨Fin.ext ?_, Fin.ext ?_⟩
    · show r.val / 64 = n.val
      omega
    · show 256 * g.val + r.val = 256 * g.val + 64 * n.val + p.val
      omega
  have k0 := hh 0 ⟨p.val, by omega⟩ (by simp)
  have k1 := hh 1 ⟨64 + p.val, by omega⟩ (by simp)
  have k2 := hh 2 ⟨128 + p.val, by omega⟩ (by simp)
  have k3 := hh 3 ⟨192 + p.val, by omega⟩ (by simp)
  rw [k0.1, k0.2, k1.1, k1.2, k2.1, k2.2, k3.1, k3.2]
  have r : (((X j).dat g (hd q)).dec p (ln q) : ℝ) = Real.exp (cs (w j) 63 (wide g (hd q) p)) := by
    rw [← hX]
    rfl
  rw [r]
  generalize hd q = n
  fin_cases n <;> simp
end

end Cert.Proof.Wkv
-- ==== Proof.Wkv.Lists.lean ====
/- What one grid point stores last: sixteen pieces of output and four of state. -/
module

public import proofs.«01_k».proof.Proof.Wkv.Loads

@[expose] public section

set_option maxRecDepth 16384

noncomputable section

namespace Cert.Proof.Wkv

open Idealize.ShloMosaic Idealize.ShloMosaic.TcCoe Idealize.SL.Sem
open Cert.KernelIdeal Cert.KernelIdeal.Gen

variable {F : FTy → Type} [FloatOps F]

/-- The outputs, last store first. -/
def outList (l : Ld F) (s : Fin 4 → Vec F S1x64x256 .f32) : List (View.Piece (Elt F) S1x256x1024 .f32) :=
  [⟨Rect.unit ![0, 192, 768] S1x64x256.size inb_S1x256x1024_S1x64x256_0_192_768, yOut l 3 3 (st3 l s 3)⟩,
    ⟨Rect.unit ![0, 192, 512] S1x64x256.size inb_S1x256x1024_S1x64x256_0_192_512, yOut l 3 2 (st3 l s 2)⟩,
    ⟨Rect.unit ![0, 192, 256] S1x64x256.size inb_S1x256x1024_S1x64x256_0_192_256, yOut l 3 1 (st3 l s 1)⟩,
    ⟨Rect.unit ![0, 192, 0] S1x64x256.size inb_S1x256x1024_S1x64x256_0_192_0, yOut l 3 0 (st3 l s 0)⟩,
    ⟨Rect.unit ![0, 128, 768] S1x64x256.size inb_S1x256x1024_S1x64x256_0_128_768, yOut l 2 3 (st2 l s 3)⟩,
    ⟨Rect.unit ![0, 128, 512] S1x64x256.size inb_S1x256x1024_S1x64x256_0_128_512, yOut l 2 2 (st2 l s 2)⟩,
    ⟨Rect.unit ![0, 128, 256] S1x64x256.size inb_S1x256x1024_S1x64x256_0_128_256, yOut l 2 1 (st2 l s 1)⟩,
    ⟨Rect.unit ![0, 128, 0] S1x64x256.size inb_S1x256x1024_S1x64x256_0_128_0, yOut l 2 0 (st2 l s 0)⟩,
    ⟨Rect.unit ![0, 64, 768] S1x64x256.size inb_S1x256x1024_S1x64x256_0_64_768, yOut l 1 3 (st1 l s 3)⟩,
    ⟨Rect.unit ![0, 64, 512] S1x64x256.size inb_S1x256x1024_S1x64x256_0_64_512, yOut l 1 2 (st1 l s 2)⟩,
    ⟨Rect.unit ![0, 64, 256] S1x64x256.size inb_S1x256x1024_S1x64x256_0_64_256, yOut l 1 1 (st1 l s 1)⟩,
    ⟨Rect.unit ![0, 64, 0] S1x64x256.size inb_S1x256x1024_S1x64x256_0_64_0, yOut l 1 0 (st1 l s 0)⟩,
    ⟨Rect.unit ![0, 0, 768] S1x64x256.size inb_S1x256x1024_S1x64x256_0_0_768, yOut l 0 3 (s 3)⟩,
    ⟨Rect.unit ![0, 0, 512] S1x64x256.size inb_S1x256x1024_S1x64x256_0_0_512, yOut l 0 2 (s 2)⟩,
    ⟨Rect.unit ![0, 0, 256] S1x64x256.size inb_S1x256x1024_S1x64x256_0_0_256, yOut l 0 1 (s 1)⟩,
    ⟨Rect.unit ![0, 0, 0] S1x64x256.size inb_S1x256x1024_S1x64x256_0_0_0, yOut l 0 0 (s 0)⟩]

/-- The states, last store first. -/
def stList (l : Ld F) (s : Fin 4 → Vec F S1x64x256 .f32) : List (View.Piece (Elt F) S4x64x256 .f32) :=
  [⟨Rect.unit ![3, 0, 0] S1x64x256.size inb_S4x64x256_S1x64x256_3_0_0, st4 l s 3⟩,
    ⟨Rect.unit ![2, 0, 0] S1x64x256.size inb_S4x64x256_S1x64x256_2_0_0, st4 l s 2⟩,
    ⟨Rect.unit ![1, 0, 0] S1x64x256.size inb_S4x64x256_S1x64x256_1_0_0, st4 l s 1⟩,
    ⟨Rect.unit ![0, 0, 0] S1x64x256.size inb_S4x64x256_S1x64x256_0_0_0, st4 l s 0⟩]

theorem outList_cover (l : Ld F) (s : Fin 4 → Vec F S1x64x256 .f32) (y : S1x256x1024.Idx) : ∃ p ∈ outList l s, y ∈ p.1.set :=
  View.cover_of_tiledL (outList l s) S1x64x256.size (by sl_kernel_rfl) y
theorem stList_cover (l : Ld F) (s : Fin 4 → Vec F S1x64x256 .f32) (y : S4x64x256.Idx) : ∃ p ∈ stList l s, y ∈ p.1.set :=
  View.cover_of_tiledL (stList l s) S1x64x256.size (by sl_kernel_rfl) y

end Cert.Proof.Wkv
-- ==== Proof.Wkv.Ins.lean ====
/- The recurrence's inputs and its states and outputs, token by token, over real numbers. -/
module

public import proofs.«01_k».proof.Proof.Wkv.Chunk

@[expose] public section

set_option maxRecDepth 16384

noncomputable section

namespace Cert.Proof.Wkv

open Idealize.ShloMosaic Idealize.ShloMosaic.TcCoe Idealize.SL.Sem

/-- The recurrence's inputs, token by token, all 16 heads' lanes. -/
structure Seqn where
  r : ℕ → Fin 1024 → ℝ
  w : ℕ → Fin 1024 → ℝ
  k : ℕ → Fin 1024 → ℝ
  v : ℕ → Fin 1024 → ℝ
  a : ℕ → Fin 1024 → ℝ
  b : ℕ → Fin 1024 → ℝ

namespace Seqn
variable (Q : Seqn)

/-- The state before token `n`: head `h` of group `g`, key by value. -/
def state : ℕ → Fin 4 → Fin 4 → Mat
  | 0 => fun _ _ => 0
  | n + 1 => fun g h j i => Real.exp (Q.w n (wide g h j)) * state n g h j i
      + Q.b n (wide g h j) * (∑ q, Q.a n (wide g h q) * state n g h q i) + Q.k n (wide g h j) * Q.v n (wide g h i)

/-- The output of token `n`. -/
def out (n : ℕ) (g h : Fin 4) (i : Fin 64) : ℝ := ∑ q, Q.r n (wide g h q) * Q.state (n + 1) g h q i

/-- The state's entries, as numbers. -/
def stv (n : ℕ) (g h : Fin 4) (j i : Fin 64) : ℝ := Q.state n g h j i

theorem stv_zero (g h : Fin 4) (j i : Fin 64) : Q.stv 0 g h j i = 0 := rfl
theorem stv_succ (n : ℕ) (g h : Fin 4) (j i : Fin 64) : Q.stv (n + 1) g h j i
    = Real.exp (Q.w n (wide g h j)) * Q.stv n g h j i + Q.b n (wide g h j) * (∑ q, Q.a n (wide g h q) * Q.stv n g h q i)
      + Q.k n (wide g h j) * Q.v n (wide g h i) := rfl
theorem out_eq (n : ℕ) (g h : Fin 4) (i : Fin 64) : Q.out n g h i = ∑ q, Q.r n (wide g h q) * Q.stv (n + 1) g h q i := rfl
end Seqn

/-- The recurrence's six arguments at the layer's first direction: sample, token, lane. -/
structure Ins where
  r : Fin 16 → Fin 2304 → Fin 1024 → EReal
  w : Fin 16 → Fin 2304 → Fin 1024 → EReal
  k : Fin 16 → Fin 2304 → Fin 1024 → EReal
  v : Fin 16 → Fin 2304 → Fin 1024 → EReal
  a : Fin 16 → Fin 2304 → Fin 1024 → EReal
  b : Fin 16 → Fin 2304 → Fin 1024 → EReal

/-- A token's number as an index. -/
def tk (n : ℕ) : Fin 2304 := ⟨n % 2304, Nat.mod_lt _ (by decide)⟩

namespace Ins
variable (I : Ins)
/-- Every argument is a real number. -/
structure Real : Prop where
  r : ∀ β n D, I.r β n D = ((I.r β n D).toReal : EReal)
  w : ∀ β n D, I.w β n D = ((I.w β n D).toReal : EReal)
  k : ∀ β n D, I.k β n D = ((I.k β n D).toReal : EReal)
  v : ∀ β n D, I.v β n D = ((I.v β n D).toReal : EReal)
  a : ∀ β n D, I.a β n D = ((I.a β n D).toReal : EReal)
  b : ∀ β n D, I.b β n D = ((I.b β n D).toReal : EReal)
/-- One sample's sequence. -/
def seq (β : Fin 16) : Seqn where
  r n D := (I.r β (tk n) D).toReal
  w n D := (I.w β (tk n) D).toReal
  k n D := (I.k β (tk n) D).toReal
  v n D := (I.v β (tk n) D).toReal
  a n D := (I.a β (tk n) D).toReal
  b n D := (I.b β (tk n) D).toReal
theorem Real.sr {I : Ins} (hI : I.Real) (β : Fin 16) (n : ℕ) (D : Fin 1024) : I.r β (tk n) D = (((I.seq β).r n D : ℝ) : EReal) := hI.r _ _ _
theorem Real.sw {I : Ins} (hI : I.Real) (β : Fin 16) (n : ℕ) (D : Fin 1024) : I.w β (tk n) D = (((I.seq β).w n D : ℝ) : EReal) := hI.w _ _ _
theorem Real.sk {I : Ins} (hI : I.Real) (β : Fin 16) (n : ℕ) (D : Fin 1024) : I.k β (tk n) D = (((I.seq β).k n D : ℝ) : EReal) := hI.k _ _ _
theorem Real.sv {I : Ins} (hI : I.Real) (β : Fin 16) (n : ℕ) (D : Fin 1024) : I.v β (tk n) D = (((I.seq β).v n D : ℝ) : EReal) := hI.v _ _ _
theorem Real.sa {I : Ins} (hI : I.Real) (β : Fin 16) (n : ℕ) (D : Fin 1024) : I.a β (tk n) D = (((I.seq β).a n D : ℝ) : EReal) := hI.a _ _ _
theorem Real.sb {I : Ins} (hI : I.Real) (β : Fin 16) (n : ℕ) (D : Fin 1024) : I.b β (tk n) D = (((I.seq β).b n D : ℝ) : EReal) := hI.b _ _ _
end Ins

end Cert.Proof.Wkv
-- ==== Proof.Wkv.Block.lean ====
/- One grid point over real numbers: 256 tokens of the recurrence of 16 heads, from the state before them. -/
module

public import proofs.«01_k».proof.Proof.Wkv.Chunk
public import proofs.«01_k».proof.Proof.Wkv.Lists
public import proofs.«01_k».proof.Proof.Wkv.Ins

@[expose] public section

set_option maxRecDepth 16384

noncomputable section

namespace Cert.Proof.Wkv

open Idealize.ShloMosaic Idealize.ShloMosaic.TcCoe Idealize.SL.Sem
open Cert.KernelIdeal Cert.KernelIdeal.Gen

namespace Seqn
variable (Q : Seqn)

/-- 64 tokens from `n` on. -/
def six (n : ℕ) : Six where
  r p D := Q.r (n + p.val) D
  w p D := Q.w (n + p.val) D
  k p D := Q.k (n + p.val) D
  v p D := Q.v (n + p.val) D
  a p D := Q.a (n + p.val) D
  b p D := Q.b (n + p.val) D

theorem six_next (n : ℕ) (g h : Fin 4) : ((Q.six n).dat g h).next (Q.state n g h) = Q.state (n + 64) g h :=
  Dat.next_eq ((Q.six n).dat g h) (fun p => Q.state (n + p) g h) fun _ => rfl
theorem six_y (n : ℕ) (g h : Fin 4) (p i : Fin 64) : ((Q.six n).dat g h).y (Q.state n g h) p i = Q.out (n + p.val) g h i :=
  Dat.y_eq ((Q.six n).dat g h) (fun p => Q.state (n + p) g h) (fun _ => rfl) p i
end Seqn

/-- 64 tokens' outputs from `k` on, of one group's heads. -/
def outH (Q : Seqn) (k : ℕ) (g : Fin 4) : Hm := fun h p i => Q.out (k + p.val) g h i

/-- A point's loads hold the sequence's 256 tokens from `n` on. -/
structure LdRep (l : Ld Ideal) (Q : Seqn) (n : ℕ) : Prop where
  r : ∀ (j : Fin 4) (p : Fin 64) (D : Fin 1024), l.r j (ix3 0 p D) = ((Q.r (n + 64 * j.val + p.val) D : ℝ) : EReal)
  x : ∀ (j : Fin 4) (p : Fin 64) (D : Fin 1024), l.x j (ix4 0 0 p D) = ((Q.w (n + 64 * j.val + p.val) D : ℝ) : EReal)
  k : ∀ (j : Fin 4) (p : Fin 64) (D : Fin 1024), l.k j (ix4 0 0 p D) = ((Q.k (n + 64 * j.val + p.val) D : ℝ) : EReal)
  v : ∀ (j g : Fin 4) (p : Fin 64) (q : Fin 256), l.v j g (ix3 0 p q) = ((Q.v (n + 64 * j.val + p.val) (wq g q) : ℝ) : EReal)
  a : ∀ (j : Fin 4) (p : Fin 64) (D : Fin 1024), l.a j (ix3 0 p D) = ((Q.a (n + 64 * j.val + p.val) D : ℝ) : EReal)
  b : ∀ (j : Fin 4) (p : Fin 64) (D : Fin 1024), l.b j (ix4 0 0 p D) = ((Q.b (n + 64 * j.val + p.val) D : ℝ) : EReal)

section
variable (l : Ld Ideal) (Q : Seqn) (n : ℕ) (H : LdRep l Q n)
include H

theorem C_Rep (j g : Fin 4) : Rep (C l j g) ((Q.six (n + 64 * j.val)).dat g) :=
  mk_Rep g (Q.six (n + 64 * j.val)) _ _ _ _ _ _ (H.r j) (H.x j) (H.k j) (H.v j g) (H.a j) (H.b j)
theorem W_Dc (j g : Fin 4) : W l j g = Dc (fun h => ((Q.six (n + 64 * j.val)).dat g h).dec) :=
  wl_Dc l.x (fun j => (Q.six (n + 64 * j.val)).w) H.x (fun j => Q.six (n + 64 * j.val)) (fun _ => rfl) j g

theorem pass (j g : Fin 4) (s : Vec Ideal S1x64x256 .f32) (k : ℕ) (hk : k = n + 64 * j.val) (hs : s = St (Q.state k g)) :
    sNext (lf (C l j g)) s (W l j g) (inc (C l j g)) = St (Q.state (k + 64) g) := by
  subst hk hs
  rw [W_Dc l Q n H, sNext_St _ _ (C_Rep l Q n H j g)]
  congr 1
  funext h
  exact Q.six_next _ g h
theorem outs (j g : Fin 4) (s : Vec Ideal S1x64x256 .f32) (k : ℕ) (hk : k = n + 64 * j.val) (hs : s = St (Q.state k g)) :
    yOut l j g s = St (outH Q k g) := by
  subst hk hs
  unfold yOut
  rw [yAdd_St _ _ (C_Rep l Q n H j g)]
  congr 1
  funext h p i
  exact Q.six_y _ g h p i

variable (s : Fin 4 → Vec Ideal S1x64x256 .f32) (hs : ∀ g, s g = St (Q.state n g))
include hs

theorem st1_eq (g : Fin 4) : st1 l s g = St (Q.state (n + 64) g) := pass l Q n H 0 g _ n rfl (hs g)
theorem st2_eq (g : Fin 4) : st2 l s g = St (Q.state (n + 64 + 64) g) := pass l Q n H 1 g _ (n + 64) rfl (st1_eq l Q n H s hs g)
theorem st3_eq (g : Fin 4) : st3 l s g = St (Q.state (n + 64 + 64 + 64) g) := pass l Q n H 2 g _ (n + 64 + 64) rfl (st2_eq l Q n H s hs g)
theorem st4_eq (g : Fin 4) : st4 l s g = St (Q.state (n + 256) g) := pass l Q n H 3 g _ (n + 64 + 64 + 64) rfl (st3_eq l Q n H s hs g)

/-- The output at a token of the block and a lane. -/
def outAt (Q : Seqn) (n : ℕ) (p : Fin 256) (D : Fin 1024) : EReal :=
  ((Q.out (n + p.val) ⟨D.val / 256, by omega⟩ (hd ⟨D.val % 256, by omega⟩) (ln ⟨D.val % 256, by omega⟩) : ℝ) : EReal)
/-- The output block, at an index. -/
def outG (Q : Seqn) (n : ℕ) : Vec Ideal S1x256x1024 .f32 := fun i => outAt Q n (i 1) (i 2)
/-- The state at a head group, a key and a lane. -/
def stAt (Q : Seqn) (n : ℕ) (g : Fin 4) (p : Fin 64) (q : Fin 256) : EReal := ((Q.state n g (hd q) p (ln q) : ℝ) : EReal)
/-- The state scratch, at an index. -/
def stG (Q : Seqn) (n : ℕ) : Vec Ideal S4x64x256 .f32 := fun i => stAt Q n (i 0) (i 1) (i 2)

omit H hs in
theorem St_apply (M : Hm) (p : Fin 64) (q : Fin 256) : St M (ix3 0 p q) = ((M (hd q) p (ln q) : ℝ) : EReal) := by
  pointwise [St]
  rfl

omit H hs in
theorem out_piece (j g : Fin 4) (y : FVec Ideal S1x64x256 .f32) (k : ℕ) (hk : k = n + 64 * j.val)
    (hy : y = St (outH Q k g)) (x : S1x64x256.Idx) :
    y x = outG Q n ((Rect.unit (s := S1x256x1024) ![0, 64 * j.val, 256 * g.val] S1x64x256.size (inb3v j g)).emb x) := by
  obtain ⟨p, q, rfl⟩ : ∃ (p : Fin 64) (q : Fin 256), x = ix3 0 p q :=
    ⟨x 1, x 2, funext fun a => by
      match a with
      | ⟨0, _⟩ => exact Subsingleton.elim (α := Fin 1) _ _
      | ⟨1, _⟩ => rfl
      | ⟨2, _⟩ => rfl⟩
  subst hk hy
  rw [St_apply]
  have e1 : @Eq (Fin 256) ((Rect.unit (s := S1x256x1024) ![0, 64 * j.val, 256 * g.val] S1x64x256.size (inb3v j g)).emb (ix3 0 p q) 1)
      ⟨64 * j.val + p.val, by omega⟩ := Fin.ext (by show 64 * j.val + 1 * p.val = _; dsimp only; omega)
  have e2 : @Eq (Fin 1024) ((Rect.unit (s := S1x256x1024) ![0, 64 * j.val, 256 * g.val] S1x64x256.size (inb3v j g)).emb (ix3 0 p q) 2)
      ⟨256 * g.val + q.val, by omega⟩ := Fin.ext (by show 256 * g.val + 1 * q.val = _; dsimp only; omega)
  refine Eq.trans ?_ (congrArg₂ (outAt Q n) e1 e2).symm
  have f1 : (⟨(256 * g.val + q.val) / 256, by omega⟩ : Fin 4) = g := Fin.ext (by show (256 * g.val + q.val) / 256 = g.val; omega)
  have f2 : (⟨(256 * g.val + q.val) % 256, by omega⟩ : Fin 256) = q := Fin.ext (by show (256 * g.val + q.val) % 256 = q.val; omega)
  unfold outAt outH
  dsimp only
  rw [f1, f2, add_assoc]

omit H hs in
theorem st_piece (g : Fin 4) (y : Vec Ideal S1x64x256 .f32) (hy : y = St (Q.state n g)) (x : S1x64x256.Idx) :
    y x = stG Q n ((Rect.unit (s := S4x64x256) ![g.val, 0, 0] S1x64x256.size (inbS g)).emb x) := by
  obtain ⟨p, q, rfl⟩ : ∃ (p : Fin 64) (q : Fin 256), x = ix3 0 p q :=
    ⟨x 1, x 2, funext fun a => by
      match a with
      | ⟨0, _⟩ => exact Subsingleton.elim (α := Fin 1) _ _
      | ⟨1, _⟩ => rfl
      | ⟨2, _⟩ => rfl⟩
  subst hy
  rw [St_apply]
  have e0 : @Eq (Fin 4) ((Rect.unit (s := S4x64x256) ![g.val, 0, 0] S1x64x256.size (inbS g)).emb (ix3 0 p q) 0) g :=
    Fin.ext (by show g.val + 1 * 0 = _; omega)
  have e1 : @Eq (Fin 64) ((Rect.unit (s := S4x64x256) ![g.val, 0, 0] S1x64x256.size (inbS g)).emb (ix3 0 p q) 1) p :=
    Fin.ext (by show 0 + 1 * p.val = _; omega)
  have e2 : @Eq (Fin 256) ((Rect.unit (s := S4x64x256) ![g.val, 0, 0] S1x64x256.size (inbS g)).emb (ix3 0 p q) 2) q :=
    Fin.ext (by show 0 + 1 * q.val = _; omega)
  show stAt Q n g p q = stAt Q n _ _ _
  exact (congr (congrArg₂ (stAt Q n) e0 e1) e2).symm

theorem outList_eq (L' : List (View.Piece (Elt Ideal) S1x256x1024 .f32)) : View.canon (outList l s ++ L') = outG Q n := by
  funext y
  refine View.canon_append_of_piecesOf (outG Q n) L' (outList l s) ?_ y (outList_cover l s y)
  have o0 := fun g => outs l Q n H 0 g _ n rfl (hs g)
  have o1 := fun g => outs l Q n H 1 g _ (n + 64) rfl (st1_eq l Q n H s hs g)
  have o2 := fun g => outs l Q n H 2 g _ (n + 64 + 64) rfl (st2_eq l Q n H s hs g)
  have o3 := fun g => outs l Q n H 3 g _ (n + 64 + 64 + 64) rfl (st3_eq l Q n H s hs g)
  exact ⟨out_piece Q n 3 3 _ _ rfl (o3 3), out_piece Q n 3 2 _ _ rfl (o3 2), out_piece Q n 3 1 _ _ rfl (o3 1), out_piece Q n 3 0 _ _ rfl (o3 0),
    out_piece Q n 2 3 _ _ rfl (o2 3), out_piece Q n 2 2 _ _ rfl (o2 2), out_piece Q n 2 1 _ _ rfl (o2 1), out_piece Q n 2 0 _ _ rfl (o2 0),
    out_piece Q n 1 3 _ _ rfl (o1 3), out_piece Q n 1 2 _ _ rfl (o1 2), out_piece Q n 1 1 _ _ rfl (o1 1), out_piece Q n 1 0 _ _ rfl (o1 0),
    out_piece Q n 0 3 _ _ rfl (o0 3), out_piece Q n 0 2 _ _ rfl (o0 2), out_piece Q n 0 1 _ _ rfl (o0 1), out_piece Q n 0 0 _ _ rfl (o0 0), trivial⟩

theorem stList_eq (L' : List (View.Piece (Elt Ideal) S4x64x256 .f32)) : View.canon (stList l s ++ L') = stG Q (n + 256) := by
  funext y
  refine View.canon_append_of_piecesOf (stG Q (n + 256)) L' (stList l s) ?_ y (stList_cover l s y)
  exact ⟨st_piece Q _ 3 _ (st4_eq l Q n H s hs 3), st_piece Q _ 2 _ (st4_eq l Q n H s hs 2), st_piece Q _ 1 _ (st4_eq l Q n H s hs 1),
    st_piece Q _ 0 _ (st4_eq l Q n H s hs 0), trivial⟩

end

end Cert.Proof.Wkv
-- ==== Proof.Wkv.FoldA.lean ====
/- The run of case A of the recurrence's body, its named pieces folded to the chunk's vector functions. -/
module

public import proofs.«01_k».proof.Proof.Wkv.Lists

@[expose] public section

set_option maxRecDepth 65536
set_option maxHeartbeats 4000000

noncomputable section

namespace Cert.Proof.Wkv.CaseA

open Idealize.ShloMosaic Idealize.ShloMosaic.TcCoe Idealize.SL.Sem
open Cert.KernelIdeal Cert.KernelIdeal.Gen

variable {F : FTy → Type} [FloatOps F]
variable (c : Dev nD) (i : grid0.Coords) (arg2 : Memref sig .tc .vmem S1x256x1024 .bf16) (harg2 : arg2.IsWhole) (arg3 : Memref sig .tc .vmem S1x1x256x1024 .f32) (harg3 : arg3.IsWhole)
  (arg4 : Memref sig .tc .vmem S1x1x256x1024 .bf16) (harg4 : arg4.IsWhole) (arg5 : Memref sig .tc .vmem S1x256x1024 .f32) (harg5 : arg5.IsWhole)
  (arg6 : Memref sig .tc .vmem S1x256x1024 .bf16) (harg6 : arg6.IsWhole) (arg7 : Memref sig .tc .vmem S1x1x256x1024 .bf16) (harg7 : arg7.IsWhole)
  (arg8 : Memref sig .tc .vmem S1x256x1024 .f32) (harg8 : arg8.IsWhole) (arg9 : Memref sig .tc .vmem S4x64x256 .f32) (harg9 : arg9.IsWhole) (arg10 : Memref sig .tc .vmem S4x4x128x256 .bf16) (harg10 : arg10.IsWhole)
  (arg11 : Memref sig .tc .vmem S4x4x64x256 .f32) (harg11 : arg11.IsWhole) (arg12 : Memref sig .tc .vmem S4x4x64x256 .f32) (harg12 : arg12.IsWhole)
  (x0 : Vec F S1x256x1024 .bf16) (x1 : Vec F S1x1x256x1024 .f32) (x2 : Vec F S1x1x256x1024 .bf16) (x3 : Vec F S1x256x1024 .f32) (x4 : Vec F S1x256x1024 .bf16) (x5 : Vec F S1x1x256x1024 .bf16)

theorem HS1 : kernelRun0_A.sl.HS1_32 c arg2 harg2 arg3 harg3 arg4 harg4 arg6 harg6 arg7 harg7 x0 x1 x2 x4 x5 = [⟨Rect.unit ![3, 3, 64, 0] S1x1x64x256.size inb_S4x4x128x256_S1x1x64x256_3_3_64_0, lhsB (C (ldOf arg2 harg2 arg3 harg3 arg4 harg4 arg5 harg5 arg6 harg6 arg7 harg7 x0 x1 x2 x3 x4 x5) 3 3)⟩,
    ⟨Rect.unit ![3, 3, 0, 0] S1x1x64x256.size inb_S4x4x128x256_S1x1x64x256_3_3_0_0, lhsT (C (ldOf arg2 harg2 arg3 harg3 arg4 harg4 arg5 harg5 arg6 harg6 arg7 harg7 x0 x1 x2 x3 x4 x5) 3 3)⟩,
    ⟨Rect.unit ![3, 2, 64, 0] S1x1x64x256.size inb_S4x4x128x256_S1x1x64x256_3_2_64_0, lhsB (C (ldOf arg2 harg2 arg3 harg3 arg4 harg4 arg5 harg5 arg6 harg6 arg7 harg7 x0 x1 x2 x3 x4 x5) 3 2)⟩,
    ⟨Rect.unit ![3, 2, 0, 0] S1x1x64x256.size inb_S4x4x128x256_S1x1x64x256_3_2_0_0, lhsT (C (ldOf arg2 harg2 arg3 harg3 arg4 harg4 arg5 harg5 arg6 harg6 arg7 harg7 x0 x1 x2 x3 x4 x5) 3 2)⟩,
    ⟨Rect.unit ![3, 1, 64, 0] S1x1x64x256.size inb_S4x4x128x256_S1x1x64x256_3_1_64_0, lhsB (C (ldOf arg2 harg2 arg3 harg3 arg4 harg4 arg5 harg5 arg6 harg6 arg7 harg7 x0 x1 x2 x3 x4 x5) 3 1)⟩,
    ⟨Rect.unit ![3, 1, 0, 0] S1x1x64x256.size inb_S4x4x128x256_S1x1x64x256_3_1_0_0, lhsT (C (ldOf arg2 harg2 arg3 harg3 arg4 harg4 arg5 harg5 arg6 harg6 arg7 harg7 x0 x1 x2 x3 x4 x5) 3 1)⟩,
    ⟨Rect.unit ![3, 0, 64, 0] S1x1x64x256.size inb_S4x4x128x256_S1x1x64x256_3_0_64_0, lhsB (C (ldOf arg2 harg2 arg3 harg3 arg4 harg4 arg5 harg5 arg6 harg6 arg7 harg7 x0 x1 x2 x3 x4 x5) 3 0)⟩,
    ⟨Rect.unit ![3, 0, 0, 0] S1x1x64x256.size inb_S4x4x128x256_S1x1x64x256_3_0_0_0, lhsT (C (ldOf arg2 harg2 arg3 harg3 arg4 harg4 arg5 harg5 arg6 harg6 arg7 harg7 x0 x1 x2 x3 x4 x5) 3 0)⟩,
    ⟨Rect.unit ![2, 3, 64, 0] S1x1x64x256.size inb_S4x4x128x256_S1x1x64x256_2_3_64_0, lhsB (C (ldOf arg2 harg2 arg3 harg3 arg4 harg4 arg5 harg5 arg6 harg6 arg7 harg7 x0 x1 x2 x3 x4 x5) 2 3)⟩,
    ⟨Rect.unit ![2, 3, 0, 0] S1x1x64x256.size inb_S4x4x128x256_S1x1x64x256_2_3_0_0, lhsT (C (ldOf arg2 harg2 arg3 harg3 arg4 harg4 arg5 harg5 arg6 harg6 arg7 harg7 x0 x1 x2 x3 x4 x5) 2 3)⟩,
    ⟨Rect.unit ![2, 2, 64, 0] S1x1x64x256.size inb_S4x4x128x256_S1x1x64x256_2_2_64_0, lhsB (C (ldOf arg2 harg2 arg3 harg3 arg4 harg4 arg5 harg5 arg6 harg6 arg7 harg7 x0 x1 x2 x3 x4 x5) 2 2)⟩,
    ⟨Rect.unit ![2, 2, 0, 0] S1x1x64x256.size inb_S4x4x128x256_S1x1x64x256_2_2_0_0, lhsT (C (ldOf arg2 harg2 arg3 harg3 arg4 harg4 arg5 harg5 arg6 harg6 arg7 harg7 x0 x1 x2 x3 x4 x5) 2 2)⟩,
    ⟨Rect.unit ![2, 1, 64, 0] S1x1x64x256.size inb_S4x4x128x256_S1x1x64x256_2_1_64_0, lhsB (C (ldOf arg2 harg2 arg3 harg3 arg4 harg4 arg5 harg5 arg6 harg6 arg7 harg7 x0 x1 x2 x3 x4 x5) 2 1)⟩,
    ⟨Rect.unit ![2, 1, 0, 0] S1x1x64x256.size inb_S4x4x128x256_S1x1x64x256_2_1_0_0, lhsT (C (ldOf arg2 harg2 arg3 harg3 arg4 harg4 arg5 harg5 arg6 harg6 arg7 harg7 x0 x1 x2 x3 x4 x5) 2 1)⟩,
    ⟨Rect.unit ![2, 0, 64, 0] S1x1x64x256.size inb_S4x4x128x256_S1x1x64x256_2_0_64_0, lhsB (C (ldOf arg2 harg2 arg3 harg3 arg4 harg4 arg5 harg5 arg6 harg6 arg7 harg7 x0 x1 x2 x3 x4 x5) 2 0)⟩,
    ⟨Rect.unit ![2, 0, 0, 0] S1x1x64x256.size inb_S4x4x128x256_S1x1x64x256_2_0_0_0, lhsT (C (ldOf arg2 harg2 arg3 harg3 arg4 harg4 arg5 harg5 arg6 harg6 arg7 harg7 x0 x1 x2 x3 x4 x5) 2 0)⟩,
    ⟨Rect.unit ![1, 3, 64, 0] S1x1x64x256.size inb_S4x4x128x256_S1x1x64x256_1_3_64_0, lhsB (C (ldOf arg2 harg2 arg3 harg3 arg4 harg4 arg5 harg5 arg6 harg6 arg7 harg7 x0 x1 x2 x3 x4 x5) 1 3)⟩,
    ⟨Rect.unit ![1, 3, 0, 0] S1x1x64x256.size inb_S4x4x128x256_S1x1x64x256_1_3_0_0, lhsT (C (ldOf arg2 harg2 arg3 harg3 arg4 harg4 arg5 harg5 arg6 harg6 arg7 harg7 x0 x1 x2 x3 x4 x5) 1 3)⟩,
    ⟨Rect.unit ![1, 2, 64, 0] S1x1x64x256.size inb_S4x4x128x256_S1x1x64x256_1_2_64_0, lhsB (C (ldOf arg2 harg2 arg3 harg3 arg4 harg4 arg5 harg5 arg6 harg6 arg7 harg7 x0 x1 x2 x3 x4 x5) 1 2)⟩,
    ⟨Rect.unit ![1, 2, 0, 0] S1x1x64x256.size inb_S4x4x128x256_S1x1x64x256_1_2_0_0, lhsT (C (ldOf arg2 harg2 arg3 harg3 arg4 harg4 arg5 harg5 arg6 harg6 arg7 harg7 x0 x1 x2 x3 x4 x5) 1 2)⟩,
    ⟨Rect.unit ![1, 1, 64, 0] S1x1x64x256.size inb_S4x4x128x256_S1x1x64x256_1_1_64_0, lhsB (C (ldOf arg2 harg2 arg3 harg3 arg4 harg4 arg5 harg5 arg6 harg6 arg7 harg7 x0 x1 x2 x3 x4 x5) 1 1)⟩,
    ⟨Rect.unit ![1, 1, 0, 0] S1x1x64x256.size inb_S4x4x128x256_S1x1x64x256_1_1_0_0, lhsT (C (ldOf arg2 harg2 arg3 harg3 arg4 harg4 arg5 harg5 arg6 harg6 arg7 harg7 x0 x1 x2 x3 x4 x5) 1 1)⟩,
    ⟨Rect.unit ![1, 0, 64, 0] S1x1x64x256.size inb_S4x4x128x256_S1x1x64x256_1_0_64_0, lhsB (C (ldOf arg2 harg2 arg3 harg3 arg4 harg4 arg5 harg5 arg6 harg6 arg7 harg7 x0 x1 x2 x3 x4 x5) 1 0)⟩,
    ⟨Rect.unit ![1, 0, 0, 0] S1x1x64x256.size inb_S4x4x128x256_S1x1x64x256_1_0_0_0, lhsT (C (ldOf arg2 harg2 arg3 harg3 arg4 harg4 arg5 harg5 arg6 harg6 arg7 harg7 x0 x1 x2 x3 x4 x5) 1 0)⟩,
    ⟨Rect.unit ![0, 3, 64, 0] S1x1x64x256.size inb_S4x4x128x256_S1x1x64x256_0_3_64_0, lhsB (C (ldOf arg2 harg2 arg3 harg3 arg4 harg4 arg5 harg5 arg6 harg6 arg7 harg7 x0 x1 x2 x3 x4 x5) 0 3)⟩,
    ⟨Rect.unit ![0, 3, 0, 0] S1x1x64x256.size inb_S4x4x128x256_S1x1x64x256_0_3_0_0, lhsT (C (ldOf arg2 harg2 arg3 harg3 arg4 harg4 arg5 harg5 arg6 harg6 arg7 harg7 x0 x1 x2 x3 x4 x5) 0 3)⟩,
    ⟨Rect.unit ![0, 2, 64, 0] S1x1x64x256.size inb_S4x4x128x256_S1x1x64x256_0_2_64_0, lhsB (C (ldOf arg2 harg2 arg3 harg3 arg4 harg4 arg5 harg5 arg6 harg6 arg7 harg7 x0 x1 x2 x3 x4 x5) 0 2)⟩,
    ⟨Rect.unit ![0, 2, 0, 0] S1x1x64x256.size inb_S4x4x128x256_S1x1x64x256_0_2_0_0, lhsT (C (ldOf arg2 harg2 arg3 harg3 arg4 harg4 arg5 harg5 arg6 harg6 arg7 harg7 x0 x1 x2 x3 x4 x5) 0 2)⟩,
    ⟨Rect.unit ![0, 1, 64, 0] S1x1x64x256.size inb_S4x4x128x256_S1x1x64x256_0_1_64_0, lhsB (C (ldOf arg2 harg2 arg3 harg3 arg4 harg4 arg5 harg5 arg6 harg6 arg7 harg7 x0 x1 x2 x3 x4 x5) 0 1)⟩,
    ⟨Rect.unit ![0, 1, 0, 0] S1x1x64x256.size inb_S4x4x128x256_S1x1x64x256_0_1_0_0, lhsT (C (ldOf arg2 harg2 arg3 harg3 arg4 harg4 arg5 harg5 arg6 harg6 arg7 harg7 x0 x1 x2 x3 x4 x5) 0 1)⟩,
    ⟨Rect.unit ![0, 0, 64, 0] S1x1x64x256.size inb_S4x4x128x256_S1x1x64x256_0_0_64_0, lhsB (C (ldOf arg2 harg2 arg3 harg3 arg4 harg4 arg5 harg5 arg6 harg6 arg7 harg7 x0 x1 x2 x3 x4 x5) 0 0)⟩,
    ⟨Rect.unit ![0, 0, 0, 0] S1x1x64x256.size inb_S4x4x128x256_S1x1x64x256_0_0_0_0, lhsT (C (ldOf arg2 harg2 arg3 harg3 arg4 harg4 arg5 harg5 arg6 harg6 arg7 harg7 x0 x1 x2 x3 x4 x5) 0 0)⟩] := by
  rfl

theorem HS2 : kernelRun0_A.sl.HS2_16 c arg2 harg2 arg3 harg3 arg4 harg4 arg5 harg5 arg6 harg6 arg7 harg7 x0 x1 x2 x3 x4 x5 = [⟨Rect.unit ![3, 3, 0, 0] S1x1x64x256.size inb_S4x4x64x256_S1x1x64x256_3_3_0_0, inc (C (ldOf arg2 harg2 arg3 harg3 arg4 harg4 arg5 harg5 arg6 harg6 arg7 harg7 x0 x1 x2 x3 x4 x5) 3 3)⟩,
    ⟨Rect.unit ![3, 2, 0, 0] S1x1x64x256.size inb_S4x4x64x256_S1x1x64x256_3_2_0_0, inc (C (ldOf arg2 harg2 arg3 harg3 arg4 harg4 arg5 harg5 arg6 harg6 arg7 harg7 x0 x1 x2 x3 x4 x5) 3 2)⟩,
    ⟨Rect.unit ![3, 1, 0, 0] S1x1x64x256.size inb_S4x4x64x256_S1x1x64x256_3_1_0_0, inc (C (ldOf arg2 harg2 arg3 harg3 arg4 harg4 arg5 harg5 arg6 harg6 arg7 harg7 x0 x1 x2 x3 x4 x5) 3 1)⟩,
    ⟨Rect.unit ![3, 0, 0, 0] S1x1x64x256.size inb_S4x4x64x256_S1x1x64x256_3_0_0_0, inc (C (ldOf arg2 harg2 arg3 harg3 arg4 harg4 arg5 harg5 arg6 harg6 arg7 harg7 x0 x1 x2 x3 x4 x5) 3 0)⟩,
    ⟨Rect.unit ![2, 3, 0, 0] S1x1x64x256.size inb_S4x4x64x256_S1x1x64x256_2_3_0_0, inc (C (ldOf arg2 harg2 arg3 harg3 arg4 harg4 arg5 harg5 arg6 harg6 arg7 harg7 x0 x1 x2 x3 x4 x5) 2 3)⟩,
    ⟨Rect.unit ![2, 2, 0, 0] S1x1x64x256.size inb_S4x4x64x256_S1x1x64x256_2_2_0_0, inc (C (ldOf arg2 harg2 arg3 harg3 arg4 harg4 arg5 harg5 arg6 harg6 arg7 harg7 x0 x1 x2 x3 x4 x5) 2 2)⟩,
    ⟨Rect.unit ![2, 1, 0, 0] S1x1x64x256.size inb_S4x4x64x256_S1x1x64x256_2_1_0_0, inc (C (ldOf arg2 harg2 arg3 harg3 arg4 harg4 arg5 harg5 arg6 harg6 arg7 harg7 x0 x1 x2 x3 x4 x5) 2 1)⟩,
    ⟨Rect.unit ![2, 0, 0, 0] S1x1x64x256.size inb_S4x4x64x256_S1x1x64x256_2_0_0_0, inc (C (ldOf arg2 harg2 arg3 harg3 arg4 harg4 arg5 harg5 arg6 harg6 arg7 harg7 x0 x1 x2 x3 x4 x5) 2 0)⟩,
    ⟨Rect.unit ![1, 3, 0, 0] S1x1x64x256.size inb_S4x4x64x256_S1x1x64x256_1_3_0_0, inc (C (ldOf arg2 harg2 arg3 harg3 arg4 harg4 arg5 harg5 arg6 harg6 arg7 harg7 x0 x1 x2 x3 x4 x5) 1 3)⟩,
    ⟨Rect.unit ![1, 2, 0, 0] S1x1x64x256.size inb_S4x4x64x256_S1x1x64x256_1_2_0_0, inc (C (ldOf arg2 harg2 arg3 harg3 arg4 harg4 arg5 harg5 arg6 harg6 arg7 harg7 x0 x1 x2 x3 x4 x5) 1 2)⟩,
    ⟨Rect.unit ![1, 1, 0, 0] S1x1x64x256.size inb_S4x4x64x256_S1x1x64x256_1_1_0_0, inc (C (ldOf arg2 harg2 arg3 harg3 arg4 harg4 arg5 harg5 arg6 harg6 arg7 harg7 x0 x1 x2 x3 x4 x5) 1 1)⟩,
    ⟨Rect.unit ![1, 0, 0, 0] S1x1x64x256.size inb_S4x4x64x256_S1x1x64x256_1_0_0_0, inc (C (ldOf arg2 harg2 arg3 harg3 arg4 harg4 arg5 harg5 arg6 harg6 arg7 harg7 x0 x1 x2 x3 x4 x5) 1 0)⟩,
    ⟨Rect.unit ![0, 3, 0, 0] S1x1x64x256.size inb_S4x4x64x256_S1x1x64x256_0_3_0_0, inc (C (ldOf arg2 harg2 arg3 harg3 arg4 harg4 arg5 harg5 arg6 harg6 arg7 harg7 x0 x1 x2 x3 x4 x5) 0 3)⟩,
    ⟨Rect.unit ![0, 2, 0, 0] S1x1x64x256.size inb_S4x4x64x256_S1x1x64x256_0_2_0_0, inc (C (ldOf arg2 harg2 arg3 harg3 arg4 harg4 arg5 harg5 arg6 harg6 arg7 harg7 x0 x1 x2 x3 x4 x5) 0 2)⟩,
    ⟨Rect.unit ![0, 1, 0, 0] S1x1x64x256.size inb_S4x4x64x256_S1x1x64x256_0_1_0_0, inc (C (ldOf arg2 harg2 arg3 harg3 arg4 harg4 arg5 harg5 arg6 harg6 arg7 harg7 x0 x1 x2 x3 x4 x5) 0 1)⟩,
    ⟨Rect.unit ![0, 0, 0, 0] S1x1x64x256.size inb_S4x4x64x256_S1x1x64x256_0_0_0_0, inc (C (ldOf arg2 harg2 arg3 harg3 arg4 harg4 arg5 harg5 arg6 harg6 arg7 harg7 x0 x1 x2 x3 x4 x5) 0 0)⟩] := by
  rfl

theorem HS3 : kernelRun0_A.sl.HS3_16 c arg3 harg3 x1 = [⟨Rect.unit ![3, 3, 0, 0] S1x1x64x256.size inb_S4x4x64x256_S1x1x64x256_3_3_0_0, W (ldOf arg2 harg2 arg3 harg3 arg4 harg4 arg5 harg5 arg6 harg6 arg7 harg7 x0 x1 x2 x3 x4 x5) 3 3⟩,
    ⟨Rect.unit ![3, 2, 0, 0] S1x1x64x256.size inb_S4x4x64x256_S1x1x64x256_3_2_0_0, W (ldOf arg2 harg2 arg3 harg3 arg4 harg4 arg5 harg5 arg6 harg6 arg7 harg7 x0 x1 x2 x3 x4 x5) 3 2⟩,
    ⟨Rect.unit ![3, 1, 0, 0] S1x1x64x256.size inb_S4x4x64x256_S1x1x64x256_3_1_0_0, W (ldOf arg2 harg2 arg3 harg3 arg4 harg4 arg5 harg5 arg6 harg6 arg7 harg7 x0 x1 x2 x3 x4 x5) 3 1⟩,
    ⟨Rect.unit ![3, 0, 0, 0] S1x1x64x256.size inb_S4x4x64x256_S1x1x64x256_3_0_0_0, W (ldOf arg2 harg2 arg3 harg3 arg4 harg4 arg5 harg5 arg6 harg6 arg7 harg7 x0 x1 x2 x3 x4 x5) 3 0⟩,
    ⟨Rect.unit ![2, 3, 0, 0] S1x1x64x256.size inb_S4x4x64x256_S1x1x64x256_2_3_0_0, W (ldOf arg2 harg2 arg3 harg3 arg4 harg4 arg5 harg5 arg6 harg6 arg7 harg7 x0 x1 x2 x3 x4 x5) 2 3⟩,
    ⟨Rect.unit ![2, 2, 0, 0] S1x1x64x256.size inb_S4x4x64x256_S1x1x64x256_2_2_0_0, W (ldOf arg2 harg2 arg3 harg3 arg4 harg4 arg5 harg5 arg6 harg6 arg7 harg7 x0 x1 x2 x3 x4 x5) 2 2⟩,
    ⟨Rect.unit ![2, 1, 0, 0] S1x1x64x256.size inb_S4x4x64x256_S1x1x64x256_2_1_0_0, W (ldOf arg2 harg2 arg3 harg3 arg4 harg4 arg5 harg5 arg6 harg6 arg7 harg7 x0 x1 x2 x3 x4 x5) 2 1⟩,
    ⟨Rect.unit ![2, 0, 0, 0] S1x1x64x256.size inb_S4x4x64x256_S1x1x64x256_2_0_0_0, W (ldOf arg2 harg2 arg3 harg3 arg4 harg4 arg5 harg5 arg6 harg6 arg7 harg7 x0 x1 x2 x3 x4 x5) 2 0⟩,
    ⟨Rect.unit ![1, 3, 0, 0] S1x1x64x256.size inb_S4x4x64x256_S1x1x64x256_1_3_0_0, W (ldOf arg2 harg2 arg3 harg3 arg4 harg4 arg5 harg5 arg6 harg6 arg7 harg7 x0 x1 x2 x3 x4 x5) 1 3⟩,
    ⟨Rect.unit ![1, 2, 0, 0] S1x1x64x256.size inb_S4x4x64x256_S1x1x64x256_1_2_0_0, W (ldOf arg2 harg2 arg3 harg3 arg4 harg4 arg5 harg5 arg6 harg6 arg7 harg7 x0 x1 x2 x3 x4 x5) 1 2⟩,
    ⟨Rect.unit ![1, 1, 0, 0] S1x1x64x256.size inb_S4x4x64x256_S1x1x64x256_1_1_0_0, W (ldOf arg2 harg2 arg3 harg3 arg4 harg4 arg5 harg5 arg6 harg6 arg7 harg7 x0 x1 x2 x3 x4 x5) 1 1⟩,
    ⟨Rect.unit ![1, 0, 0, 0] S1x1x64x256.size inb_S4x4x64x256_S1x1x64x256_1_0_0_0, W (ldOf arg2 harg2 arg3 harg3 arg4 harg4 arg5 harg5 arg6 harg6 arg7 harg7 x0 x1 x2 x3 x4 x5) 1 0⟩,
    ⟨Rect.unit ![0, 3, 0, 0] S1x1x64x256.size inb_S4x4x64x256_S1x1x64x256_0_3_0_0, W (ldOf arg2 harg2 arg3 harg3 arg4 harg4 arg5 harg5 arg6 harg6 arg7 harg7 x0 x1 x2 x3 x4 x5) 0 3⟩,
    ⟨Rect.unit ![0, 2, 0, 0] S1x1x64x256.size inb_S4x4x64x256_S1x1x64x256_0_2_0_0, W (ldOf arg2 harg2 arg3 harg3 arg4 harg4 arg5 harg5 arg6 harg6 arg7 harg7 x0 x1 x2 x3 x4 x5) 0 2⟩,
    ⟨Rect.unit ![0, 1, 0, 0] S1x1x64x256.size inb_S4x4x64x256_S1x1x64x256_0_1_0_0, W (ldOf arg2 harg2 arg3 harg3 arg4 harg4 arg5 harg5 arg6 harg6 arg7 harg7 x0 x1 x2 x3 x4 x5) 0 1⟩,
    ⟨Rect.unit ![0, 0, 0, 0] S1x1x64x256.size inb_S4x4x64x256_S1x1x64x256_0_0_0_0, W (ldOf arg2 harg2 arg3 harg3 arg4 harg4 arg5 harg5 arg6 harg6 arg7 harg7 x0 x1 x2 x3 x4 x5) 0 0⟩] := by
  rfl

theorem H6 : kernelRun0_A.sl.H6_16 c arg2 harg2 arg3 harg3 arg4 harg4 arg5 harg5 arg6 harg6 arg7 harg7 x0 x1 x2 x3 x4 x5 = [⟨Rect.unit ![0, 192, 768] S1x64x256.size inb_S1x256x1024_S1x64x256_0_192_768, yPart (C (ldOf arg2 harg2 arg3 harg3 arg4 harg4 arg5 harg5 arg6 harg6 arg7 harg7 x0 x1 x2 x3 x4 x5) 3 3)⟩,
    ⟨Rect.unit ![0, 192, 512] S1x64x256.size inb_S1x256x1024_S1x64x256_0_192_512, yPart (C (ldOf arg2 harg2 arg3 harg3 arg4 harg4 arg5 harg5 arg6 harg6 arg7 harg7 x0 x1 x2 x3 x4 x5) 3 2)⟩,
    ⟨Rect.unit ![0, 192, 256] S1x64x256.size inb_S1x256x1024_S1x64x256_0_192_256, yPart (C (ldOf arg2 harg2 arg3 harg3 arg4 harg4 arg5 harg5 arg6 harg6 arg7 harg7 x0 x1 x2 x3 x4 x5) 3 1)⟩,
    ⟨Rect.unit ![0, 192, 0] S1x64x256.size inb_S1x256x1024_S1x64x256_0_192_0, yPart (C (ldOf arg2 harg2 arg3 harg3 arg4 harg4 arg5 harg5 arg6 harg6 arg7 harg7 x0 x1 x2 x3 x4 x5) 3 0)⟩,
    ⟨Rect.unit ![0, 128, 768] S1x64x256.size inb_S1x256x1024_S1x64x256_0_128_768, yPart (C (ldOf arg2 harg2 arg3 harg3 arg4 harg4 arg5 harg5 arg6 harg6 arg7 harg7 x0 x1 x2 x3 x4 x5) 2 3)⟩,
    ⟨Rect.unit ![0, 128, 512] S1x64x256.size inb_S1x256x1024_S1x64x256_0_128_512, yPart (C (ldOf arg2 harg2 arg3 harg3 arg4 harg4 arg5 harg5 arg6 harg6 arg7 harg7 x0 x1 x2 x3 x4 x5) 2 2)⟩,
    ⟨Rect.unit ![0, 128, 256] S1x64x256.size inb_S1x256x1024_S1x64x256_0_128_256, yPart (C (ldOf arg2 harg2 arg3 harg3 arg4 harg4 arg5 harg5 arg6 harg6 arg7 harg7 x0 x1 x2 x3 x4 x5) 2 1)⟩,
    ⟨Rect.unit ![0, 128, 0] S1x64x256.size inb_S1x256x1024_S1x64x256_0_128_0, yPart (C (ldOf arg2 harg2 arg3 harg3 arg4 harg4 arg5 harg5 arg6 harg6 arg7 harg7 x0 x1 x2 x3 x4 x5) 2 0)⟩,
    ⟨Rect.unit ![0, 64, 768] S1x64x256.size inb_S1x256x1024_S1x64x256_0_64_768, yPart (C (ldOf arg2 harg2 arg3 harg3 arg4 harg4 arg5 harg5 arg6 harg6 arg7 harg7 x0 x1 x2 x3 x4 x5) 1 3)⟩,
    ⟨Rect.unit ![0, 64, 512] S1x64x256.size inb_S1x256x1024_S1x64x256_0_64_512, yPart (C (ldOf arg2 harg2 arg3 harg3 arg4 harg4 arg5 harg5 arg6 harg6 arg7 harg7 x0 x1 x2 x3 x4 x5) 1 2)⟩,
    ⟨Rect.unit ![0, 64, 256] S1x64x256.size inb_S1x256x1024_S1x64x256_0_64_256, yPart (C (ldOf arg2 harg2 arg3 harg3 arg4 harg4 arg5 harg5 arg6 harg6 arg7 harg7 x0 x1 x2 x3 x4 x5) 1 1)⟩,
    ⟨Rect.unit ![0, 64, 0] S1x64x256.size inb_S1x256x1024_S1x64x256_0_64_0, yPart (C (ldOf arg2 harg2 arg3 harg3 arg4 harg4 arg5 harg5 arg6 harg6 arg7 harg7 x0 x1 x2 x3 x4 x5) 1 0)⟩,
    ⟨Rect.unit ![0, 0, 768] S1x64x256.size inb_S1x256x1024_S1x64x256_0_0_768, yPart (C (ldOf arg2 harg2 arg3 harg3 arg4 harg4 arg5 harg5 arg6 harg6 arg7 harg7 x0 x1 x2 x3 x4 x5) 0 3)⟩,
    ⟨Rect.unit ![0, 0, 512] S1x64x256.size inb_S1x256x1024_S1x64x256_0_0_512, yPart (C (ldOf arg2 harg2 arg3 harg3 arg4 harg4 arg5 harg5 arg6 harg6 arg7 harg7 x0 x1 x2 x3 x4 x5) 0 2)⟩,
    ⟨Rect.unit ![0, 0, 256] S1x64x256.size inb_S1x256x1024_S1x64x256_0_0_256, yPart (C (ldOf arg2 harg2 arg3 harg3 arg4 harg4 arg5 harg5 arg6 harg6 arg7 harg7 x0 x1 x2 x3 x4 x5) 0 1)⟩,
    ⟨Rect.unit ![0, 0, 0] S1x64x256.size inb_S1x256x1024_S1x64x256_0_0_0, yPart (C (ldOf arg2 harg2 arg3 harg3 arg4 harg4 arg5 harg5 arg6 harg6 arg7 harg7 x0 x1 x2 x3 x4 x5) 0 0)⟩] := by
  rfl

theorem v : kernelRun0_A.sl.v c arg3 harg3 arg12 x1 = W (ldOf arg2 harg2 arg3 harg3 arg4 harg4 arg5 harg5 arg6 harg6 arg7 harg7 x0 x1 x2 x3 x4 x5) 2 2 := by
  unfold kernelRun0_A.sl.v
  rw [HS3]
  try simp (disch := decide) only [↓ View.readCov_skip]
  exact View.readCov_cons_toLoadRect _ _ _ _

theorem v2945 : kernelRun0_A.sl.v2945 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 0 0) := by
  unfold kernelRun0_A.sl.v2945
  rw [HS1]
  try simp (disch := decide) only [↓ View.readCov_skip]
  exact readHalves _ _ _ _ _ _ _ _

theorem v2952 : kernelRun0_A.sl.v2952 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 0 1) := by
  unfold kernelRun0_A.sl.v2952
  rw [HS1]
  try simp (disch := decide) only [↓ View.readCov_skip]
  exact readHalves _ _ _ _ _ _ _ _

theorem v2959 : kernelRun0_A.sl.v2959 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 0 2) := by
  unfold kernelRun0_A.sl.v2959
  rw [HS1]
  try simp (disch := decide) only [↓ View.readCov_skip]
  exact readHalves _ _ _ _ _ _ _ _

theorem v2966 : kernelRun0_A.sl.v2966 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 0 3) := by
  unfold kernelRun0_A.sl.v2966
  rw [HS1]
  try simp (disch := decide) only [↓ View.readCov_skip]
  exact readHalves _ _ _ _ _ _ _ _

theorem v2980 : kernelRun0_A.sl.v2980 c arg3 harg3 arg12 x1 = W (ldOf arg2 harg2 arg3 harg3 arg4 harg4 arg5 harg5 arg6 harg6 arg7 harg7 x0 x1 x2 x3 x4 x5) 0 0 := by
  unfold kernelRun0_A.sl.v2980
  rw [HS3]
  try simp (disch := decide) only [↓ View.readCov_skip]
  exact View.readCov_cons_toLoadRect _ _ _ _

theorem v2985 : kernelRun0_A.sl.v2985 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 0 0) := by
  unfold kernelRun0_A.sl.v2985
  rw [HS2]
  try simp (disch := decide) only [↓ View.readCov_skip]
  exact View.readCov_cons_toLoadRect _ _ _ _

theorem v2998 : kernelRun0_A.sl.v2998 c arg3 harg3 arg12 x1 = W (ldOf arg2 harg2 arg3 harg3 arg4 harg4 arg5 harg5 arg6 harg6 arg7 harg7 x0 x1 x2 x3 x4 x5) 0 1 := by
  unfold kernelRun0_A.sl.v2998
  rw [HS3]
  try simp (disch := decide) only [↓ View.readCov_skip]
  exact View.readCov_cons_toLoadRect _ _ _ _

theorem v3003 : kernelRun0_A.sl.v3003 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 0 1) := by
  unfold kernelRun0_A.sl.v3003
  rw [HS2]
  try simp (disch := decide) only [↓ View.readCov_skip]
  exact View.readCov_cons_toLoadRect _ _ _ _

theorem v3016 : kernelRun0_A.sl.v3016 c arg3 harg3 arg12 x1 = W (ldOf arg2 harg2 arg3 harg3 arg4 harg4 arg5 harg5 arg6 harg6 arg7 harg7 x0 x1 x2 x3 x4 x5) 0 2 := by
  unfold kernelRun0_A.sl.v3016
  rw [HS3]
  try simp (disch := decide) only [↓ View.readCov_skip]
  exact View.readCov_cons_toLoadRect _ _ _ _

theorem v3021 : kernelRun0_A.sl.v3021 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 0 2) := by
  unfold kernelRun0_A.sl.v3021
  rw [HS2]
  try simp (disch := decide) only [↓ View.readCov_skip]
  exact View.readCov_cons_toLoadRect _ _ _ _

theorem v3034 : kernelRun0_A.sl.v3034 c arg3 harg3 arg12 x1 = W (ldOf arg2 harg2 arg3 harg3 arg4 harg4 arg5 harg5 arg6 harg6 arg7 harg7 x0 x1 x2 x3 x4 x5) 0 3 := by
  unfold kernelRun0_A.sl.v3034
  rw [HS3]
  try simp (disch := decide) only [↓ View.readCov_skip]
  exact View.readCov_cons_toLoadRect _ _ _ _

theorem v3039 : kernelRun0_A.sl.v3039 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 0 3) := by
  unfold kernelRun0_A.sl.v3039
  rw [HS2]
  try simp (disch := decide) only [↓ View.readCov_skip]
  exact View.readCov_cons_toLoadRect _ _ _ _

theorem v3053 : kernelRun0_A.sl.v3053 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 1 0) := by
  unfold kernelRun0_A.sl.v3053
  rw [HS1]
  try simp (disch := decide) only [↓ View.readCov_skip]
  exact readHalves _ _ _ _ _ _ _ _

theorem v3060 : kernelRun0_A.sl.v3060 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 1 1) := by
  unfold kernelRun0_A.sl.v3060
  rw [HS1]
  try simp (disch := decide) only [↓ View.readCov_skip]
  exact readHalves _ _ _ _ _ _ _ _

theorem v3067 : kernelRun0_A.sl.v3067 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 1 2) := by
  unfold kernelRun0_A.sl.v3067
  rw [HS1]
  try simp (disch := decide) only [↓ View.readCov_skip]
  exact readHalves _ _ _ _ _ _ _ _

theorem v3074 : kernelRun0_A.sl.v3074 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 1 3) := by
  unfold kernelRun0_A.sl.v3074
  rw [HS1]
  try simp (disch := decide) only [↓ View.readCov_skip]
  exact readHalves _ _ _ _ _ _ _ _

theorem v3088 : kernelRun0_A.sl.v3088 c arg3 harg3 arg12 x1 = W (ldOf arg2 harg2 arg3 harg3 arg4 harg4 arg5 harg5 arg6 harg6 arg7 harg7 x0 x1 x2 x3 x4 x5) 1 0 := by
  unfold kernelRun0_A.sl.v3088
  rw [HS3]
  try simp (disch := decide) only [↓ View.readCov_skip]
  exact View.readCov_cons_toLoadRect _ _ _ _

theorem v3093 : kernelRun0_A.sl.v3093 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 1 0) := by
  unfold kernelRun0_A.sl.v3093
  rw [HS2]
  try simp (disch := decide) only [↓ View.readCov_skip]
  exact View.readCov_cons_toLoadRect _ _ _ _

theorem v3106 : kernelRun0_A.sl.v3106 c arg3 harg3 arg12 x1 = W (ldOf arg2 harg2 arg3 harg3 arg4 harg4 arg5 harg5 arg6 harg6 arg7 harg7 x0 x1 x2 x3 x4 x5) 1 1 := by
  unfold kernelRun0_A.sl.v3106
  rw [HS3]
  try simp (disch := decide) only [↓ View.readCov_skip]
  exact View.readCov_cons_toLoadRect _ _ _ _

theorem v3111 : kernelRun0_A.sl.v3111 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 1 1) := by
  unfold kernelRun0_A.sl.v3111
  rw [HS2]
  try simp (disch := decide) only [↓ View.readCov_skip]
  exact View.readCov_cons_toLoadRect _ _ _ _

theorem v3124 : kernelRun0_A.sl.v3124 c arg3 harg3 arg12 x1 = W (ldOf arg2 harg2 arg3 harg3 arg4 harg4 arg5 harg5 arg6 harg6 arg7 harg7 x0 x1 x2 x3 x4 x5) 1 2 := by
  unfold kernelRun0_A.sl.v3124
  rw [HS3]
  try simp (disch := decide) only [↓ View.readCov_skip]
  exact View.readCov_cons_toLoadRect _ _ _ _

theorem v3129 : kernelRun0_A.sl.v3129 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 1 2) := by
  unfold kernelRun0_A.sl.v3129
  rw [HS2]
  try simp (disch := decide) only [↓ View.readCov_skip]
  exact View.readCov_cons_toLoadRect _ _ _ _

theorem v3142 : kernelRun0_A.sl.v3142 c arg3 harg3 arg12 x1 = W (ldOf arg2 harg2 arg3 harg3 arg4 harg4 arg5 harg5 arg6 harg6 arg7 harg7 x0 x1 x2 x3 x4 x5) 1 3 := by
  unfold kernelRun0_A.sl.v3142
  rw [HS3]
  try simp (disch := decide) only [↓ View.readCov_skip]
  exact View.readCov_cons_toLoadRect _ _ _ _

theorem v3147 : kernelRun0_A.sl.v3147 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 1 3) := by
  unfold kernelRun0_A.sl.v3147
  rw [HS2]
  try simp (disch := decide) only [↓ View.readCov_skip]
  exact View.readCov_cons_toLoadRect _ _ _ _

theorem v3161 : kernelRun0_A.sl.v3161 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 2 0) := by
  unfold kernelRun0_A.sl.v3161
  rw [HS1]
  try simp (disch := decide) only [↓ View.readCov_skip]
  exact readHalves _ _ _ _ _ _ _ _

theorem v3168 : kernelRun0_A.sl.v3168 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 2 1) := by
  unfold kernelRun0_A.sl.v3168
  rw [HS1]
  try simp (disch := decide) only [↓ View.readCov_skip]
  exact readHalves _ _ _ _ _ _ _ _

theorem v3175 : kernelRun0_A.sl.v3175 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 2 2) := by
  unfold kernelRun0_A.sl.v3175
  rw [HS1]
  try simp (disch := decide) only [↓ View.readCov_skip]
  exact readHalves _ _ _ _ _ _ _ _

theorem v3182 : kernelRun0_A.sl.v3182 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 2 3) := by
  unfold kernelRun0_A.sl.v3182
  rw [HS1]
  try simp (disch := decide) only [↓ View.readCov_skip]
  exact readHalves _ _ _ _ _ _ _ _

theorem v3196 : kernelRun0_A.sl.v3196 c arg3 harg3 arg12 x1 = W (ldOf arg2 harg2 arg3 harg3 arg4 harg4 arg5 harg5 arg6 harg6 arg7 harg7 x0 x1 x2 x3 x4 x5) 2 0 := by
  unfold kernelRun0_A.sl.v3196
  rw [HS3]
  try simp (disch := decide) only [↓ View.readCov_skip]
  exact View.readCov_cons_toLoadRect _ _ _ _

theorem v3201 : kernelRun0_A.sl.v3201 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 2 0) := by
  unfold kernelRun0_A.sl.v3201
  rw [HS2]
  try simp (disch := decide) only [↓ View.readCov_skip]
  exact View.readCov_cons_toLoadRect _ _ _ _

theorem v3214 : kernelRun0_A.sl.v3214 c arg3 harg3 arg12 x1 = W (ldOf arg2 harg2 arg3 harg3 arg4 harg4 arg5 harg5 arg6 harg6 arg7 harg7 x0 x1 x2 x3 x4 x5) 2 1 := by
  unfold kernelRun0_A.sl.v3214
  rw [HS3]
  try simp (disch := decide) only [↓ View.readCov_skip]
  exact View.readCov_cons_toLoadRect _ _ _ _

theorem v3219 : kernelRun0_A.sl.v3219 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 2 1) := by
  unfold kernelRun0_A.sl.v3219
  rw [HS2]
  try simp (disch := decide) only [↓ View.readCov_skip]
  exact View.readCov_cons_toLoadRect _ _ _ _

theorem v3237 : kernelRun0_A.sl.v3237 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 2 2) := by
  unfold kernelRun0_A.sl.v3237
  rw [HS2]
  try simp (disch := decide) only [↓ View.readCov_skip]
  exact View.readCov_cons_toLoadRect _ _ _ _

theorem v3250 : kernelRun0_A.sl.v3250 c arg3 harg3 arg12 x1 = W (ldOf arg2 harg2 arg3 harg3 arg4 harg4 arg5 harg5 arg6 harg6 arg7 harg7 x0 x1 x2 x3 x4 x5) 2 3 := by
  unfold kernelRun0_A.sl.v3250
  rw [HS3]
  try simp (disch := decide) only [↓ View.readCov_skip]
  exact View.readCov_cons_toLoadRect _ _ _ _

theorem v3255 : kernelRun0_A.sl.v3255 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 2 3) := by
  unfold kernelRun0_A.sl.v3255
  rw [HS2]
  try simp (disch := decide) only [↓ View.readCov_skip]
  exact View.readCov_cons_toLoadRect _ _ _ _

theorem v3269 : kernelRun0_A.sl.v3269 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 3 0) := by
  unfold kernelRun0_A.sl.v3269
  rw [HS1]
  try simp (disch := decide) only [↓ View.readCov_skip]
  exact readHalves _ _ _ _ _ _ _ _

theorem v3276 : kernelRun0_A.sl.v3276 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 3 1) := by
  unfold kernelRun0_A.sl.v3276
  rw [HS1]
  try simp (disch := decide) only [↓ View.readCov_skip]
  exact readHalves _ _ _ _ _ _ _ _

theorem v3283 : kernelRun0_A.sl.v3283 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 3 2) := by
  unfold kernelRun0_A.sl.v3283
  rw [HS1]
  try simp (disch := decide) only [↓ View.readCov_skip]
  exact readHalves _ _ _ _ _ _ _ _

theorem v3290 : kernelRun0_A.sl.v3290 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 3 3) := by
  unfold kernelRun0_A.sl.v3290
  rw [HS1]
  try simp (disch := decide) only [↓ View.readCov_skip]
  exact readHalves _ _ _ _ _ _ _ _

theorem v3304 : kernelRun0_A.sl.v3304 c arg3 harg3 arg12 x1 = W (ldOf arg2 harg2 arg3 harg3 arg4 harg4 arg5 harg5 arg6 harg6 arg7 harg7 x0 x1 x2 x3 x4 x5) 3 0 := by
  unfold kernelRun0_A.sl.v3304
  rw [HS3]
  try simp (disch := decide) only [↓ View.readCov_skip]
  exact View.readCov_cons_toLoadRect _ _ _ _

theorem v3309 : kernelRun0_A.sl.v3309 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 3 0) := by
  unfold kernelRun0_A.sl.v3309
  rw [HS2]
  try simp (disch := decide) only [↓ View.readCov_skip]
  exact View.readCov_cons_toLoadRect _ _ _ _

theorem v3322 : kernelRun0_A.sl.v3322 c arg3 harg3 arg12 x1 = W (ldOf arg2 harg2 arg3 harg3 arg4 harg4 arg5 harg5 arg6 harg6 arg7 harg7 x0 x1 x2 x3 x4 x5) 3 1 := by
  unfold kernelRun0_A.sl.v3322
  rw [HS3]
  try simp (disch := decide) only [↓ View.readCov_skip]
  exact View.readCov_cons_toLoadRect _ _ _ _

theorem v3327 : kernelRun0_A.sl.v3327 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 3 1) := by
  unfold kernelRun0_A.sl.v3327
  rw [HS2]
  try simp (disch := decide) only [↓ View.readCov_skip]
  exact View.readCov_cons_toLoadRect _ _ _ _

theorem v3340 : kernelRun0_A.sl.v3340 c arg3 harg3 arg12 x1 = W (ldOf arg2 harg2 arg3 harg3 arg4 harg4 arg5 harg5 arg6 harg6 arg7 harg7 x0 x1 x2 x3 x4 x5) 3 2 := by
  unfold kernelRun0_A.sl.v3340
  rw [HS3]
  try simp (disch := decide) only [↓ View.readCov_skip]
  exact View.readCov_cons_toLoadRect _ _ _ _

theorem v3345 : kernelRun0_A.sl.v3345 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 3 2) := by
  unfold kernelRun0_A.sl.v3345
  rw [HS2]
  try simp (disch := decide) only [↓ View.readCov_skip]
  exact View.readCov_cons_toLoadRect _ _ _ _

theorem v3358 : kernelRun0_A.sl.v3358 c arg3 harg3 arg12 x1 = W (ldOf arg2 harg2 arg3 harg3 arg4 harg4 arg5 harg5 arg6 harg6 arg7 harg7 x0 x1 x2 x3 x4 x5) 3 3 := by
  unfold kernelRun0_A.sl.v3358
  rw [HS3]
  try simp (disch := decide) only [↓ View.readCov_skip]
  exact View.readCov_cons_toLoadRect _ _ _ _

theorem v3363 : kernelRun0_A.sl.v3363 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 3 3) := by
  unfold kernelRun0_A.sl.v3363
  rw [HS2]
  try simp (disch := decide) only [↓ View.readCov_skip]
  exact View.readCov_cons_toLoadRect _ _ _ _

theorem v2937 : kernelRun0_A.sl.v2937 c arg9 = (fun g => View.ld (k0_pay3 (F := F)) (Rect.unit (s := S4x64x256) ![g.val, 0, 0] S1x64x256.size (inbS g))) 0 := by
  unfold kernelRun0_A.sl.v2937
  unfold kernelRun0_A.sl.HS0_1
  exact View.readCov_fill _ _ _ _ _ (fun a => by fin_cases a <;> rfl)

theorem v2939 : kernelRun0_A.sl.v2939 c arg9 = (fun g => View.ld (k0_pay3 (F := F)) (Rect.unit (s := S4x64x256) ![g.val, 0, 0] S1x64x256.size (inbS g))) 1 := by
  unfold kernelRun0_A.sl.v2939
  unfold kernelRun0_A.sl.HS0_1
  exact View.readCov_fill _ _ _ _ _ (fun a => by fin_cases a <;> rfl)

theorem v2941 : kernelRun0_A.sl.v2941 c arg9 = (fun g => View.ld (k0_pay3 (F := F)) (Rect.unit (s := S4x64x256) ![g.val, 0, 0] S1x64x256.size (inbS g))) 2 := by
  unfold kernelRun0_A.sl.v2941
  unfold kernelRun0_A.sl.HS0_1
  exact View.readCov_fill _ _ _ _ _ (fun a => by fin_cases a <;> rfl)

theorem v2943 : kernelRun0_A.sl.v2943 c arg9 = (fun g => View.ld (k0_pay3 (F := F)) (Rect.unit (s := S4x64x256) ![g.val, 0, 0] S1x64x256.size (inbS g))) 3 := by
  unfold kernelRun0_A.sl.v2943
  unfold kernelRun0_A.sl.HS0_1
  exact View.readCov_fill _ _ _ _ _ (fun a => by fin_cases a <;> rfl)

theorem v2973 : kernelRun0_A.sl.v2973 c arg2 harg2 arg3 harg3 arg4 harg4 arg5 harg5 arg6 harg6 arg7 harg7 arg8 x0 x1 x2 x3 x4 x5 = yPart (C (ldOf arg2 harg2 arg3 harg3 arg4 harg4 arg5 harg5 arg6 harg6 arg7 harg7 x0 x1 x2 x3 x4 x5) 0 0) := by
  unfold kernelRun0_A.sl.v2973
  rw [H6]
  try simp (disch := decide) only [↓ View.readCov_skip]
  exact View.readCov_cons_toLoadRect _ _ _ _

theorem H6_17 : kernelRun0_A.sl.H6_17 c arg2 harg2 arg3 harg3 arg4 harg4 arg5 harg5 arg6 harg6 arg7 harg7 arg8 arg9 arg10 x0 x1 x2 x3 x4 x5 = ⟨Rect.unit ![0, 0, 0] S1x64x256.size inb_S1x256x1024_S1x64x256_0_0_0, yAdd (kernelRun0_A.sl.v2945 c arg2 harg2 arg3 harg3 arg4 harg4 arg6 harg6 arg7 harg7 arg10 x0 x1 x2 x4 x5) (kernelRun0_A.sl.v2937 c arg9) (kernelRun0_A.sl.v2973 c arg2 harg2 arg3 harg3 arg4 harg4 arg5 harg5 arg6 harg6 arg7 harg7 arg8 x0 x1 x2 x3 x4 x5)⟩ :: kernelRun0_A.sl.H6_16 c arg2 harg2 arg3 harg3 arg4 harg4 arg5 harg5 arg6 harg6 arg7 harg7 x0 x1 x2 x3 x4 x5 := by
  rfl

theorem v2991 : kernelRun0_A.sl.v2991 c arg2 harg2 arg3 harg3 arg4 harg4 arg5 harg5 arg6 harg6 arg7 harg7 arg8 arg9 arg10 x0 x1 x2 x3 x4 x5 = yPart (C (ldOf arg2 harg2 arg3 harg3 arg4 harg4 arg5 harg5 arg6 harg6 arg7 harg7 x0 x1 x2 x3 x4 x5) 0 1) := by
  unfold kernelRun0_A.sl.v2991
  rw [H6_17, H6]
  try simp (disch := decide) only [↓ View.readCov_skip]
  exact View.readCov_cons_toLoadRect _ _ _ _

theorem H6_18 : kernelRun0_A.sl.H6_18 c arg2 harg2 arg3 harg3 arg4 harg4 arg5 harg5 arg6 harg6 arg7 harg7 arg8 arg9 arg10 x0 x1 x2 x3 x4 x5 = ⟨Rect.unit ![0, 0, 256] S1x64x256.size inb_S1x256x1024_S1x64x256_0_0_256, yAdd (kernelRun0_A.sl.v2952 c arg2 harg2 arg3 harg3 arg4 harg4 arg6 harg6 arg7 harg7 arg10 x0 x1 x2 x4 x5) (kernelRun0_A.sl.v2939 c arg9) (kernelRun0_A.sl.v2991 c arg2 harg2 arg3 harg3 arg4 harg4 arg5 harg5 arg6 harg6 arg7 harg7 arg8 arg9 arg10 x0 x1 x2 x3 x4 x5)⟩ :: kernelRun0_A.sl.H6_17 c arg2 harg2 arg3 harg3 arg4 harg4 arg5 harg5 arg6 harg6 arg7 harg7 arg8 arg9 arg10 x0 x1 x2 x3 x4 x5 := by
  rfl

theorem v3009 : kernelRun0_A.sl.v3009 c arg2 harg2 arg3 harg3 arg4 harg4 arg5 harg5 arg6 harg6 arg7 harg7 arg8 arg9 arg10 x0 x1 x2 x3 x4 x5 = yPart (C (ldOf arg2 harg2 arg3 harg3 arg4 harg4 arg5 harg5 arg6 harg6 arg7 harg7 x0 x1 x2 x3 x4 x5) 0 2) := by
  unfold kernelRun0_A.sl.v3009
  rw [H6_18, H6_17, H6]
  try simp (disch := decide) only [↓ View.readCov_skip]
  exact View.readCov_cons_toLoadRect _ _ _ _

theorem H6_19 : kernelRun0_A.sl.H6_19 c arg2 harg2 arg3 harg3 arg4 harg4 arg5 harg5 arg6 harg6 arg7 harg7 arg8 arg9 arg10 x0 x1 x2 x3 x4 x5 = ⟨Rect.unit ![0, 0, 512] S1x64x256.size inb_S1x256x1024_S1x64x256_0_0_512, yAdd (kernelRun0_A.sl.v2959 c arg2 harg2 arg3 harg3 arg4 harg4 arg6 harg6 arg7 harg7 arg10 x0 x1 x2 x4 x5) (kernelRun0_A.sl.v2941 c arg9) (kernelRun0_A.sl.v3009 c arg2 harg2 arg3 harg3 arg4 harg4 arg5 harg5 arg6 harg6 arg7 harg7 arg8 arg9 arg10 x0 x1 x2 x3 x4 x5)⟩ :: kernelRun0_A.sl.H6_18 c arg2 harg2 arg3 harg3 arg4 harg4 arg5 harg5 arg6 harg6 arg7 harg7 arg8 arg9 arg10 x0 x1 x2 x3 x4 x5 := by
  rfl

theorem v3027 : kernelRun0_A.sl.v3027 c arg2 harg2 arg3 harg3 arg4 harg4 arg5 harg5 arg6 harg6 arg7 harg7 arg8 arg9 arg10 x0 x1 x2 x3 x4 x5 = yPart (C (ldOf arg2 harg2 arg3 harg3 arg4 harg4 arg5 harg5 arg6 harg6 arg7 harg7 x0 x1 x2 x3 x4 x5) 0 3) := by
  unfold kernelRun0_A.sl.v3027
  rw [H6_19, H6_18, H6_17, H6]
  try simp (disch := decide) only [↓ View.readCov_skip]
  exact View.readCov_cons_toLoadRect _ _ _ _

theorem H6_20 : kernelRun0_A.sl.H6_20 c arg2 harg2 arg3 harg3 arg4 harg4 arg5 harg5 arg6 harg6 arg7 harg7 arg8 arg9 arg10 x0 x1 x2 x3 x4 x5 = ⟨Rect.unit ![0, 0, 768] S1x64x256.size inb_S1x256x1024_S1x64x256_0_0_768, yAdd (kernelRun0_A.sl.v2966 c arg2 harg2 arg3 harg3 arg4 harg4 arg6 harg6 arg7 harg7 arg10 x0 x1 x2 x4 x5) (kernelRun0_A.sl.v2943 c arg9) (kernelRun0_A.sl.v3027 c arg2 harg2 arg3 harg3 arg4 harg4 arg5 harg5 arg6 harg6 arg7 harg7 arg8 arg9 arg10 x0 x1 x2 x3 x4 x5)⟩ :: kernelRun0_A.sl.H6_19 c arg2 harg2 arg3 harg3 arg4 harg4 arg5 harg5 arg6 harg6 arg7 harg7 arg8 arg9 arg10 x0 x1 x2 x3 x4 x5 := by
  rfl

theorem HS0_5 : kernelRun0_A.sl.HS0_5 c arg2 harg2 arg3 harg3 arg4 harg4 arg5 harg5 arg6 harg6 arg7 harg7 arg9 arg10 arg11 arg12 x0 x1 x2 x3 x4 x5 = ⟨Rect.unit ![3, 0, 0] S1x64x256.size inb_S4x64x256_S1x64x256_3_0_0, sNext (kernelRun0_A.sl.v2966 c arg2 harg2 arg3 harg3 arg4 harg4 arg6 harg6 arg7 harg7 arg10 x0 x1 x2 x4 x5) (kernelRun0_A.sl.v2943 c arg9) (kernelRun0_A.sl.v3034 c arg3 harg3 arg12 x1) (kernelRun0_A.sl.v3039 c arg2 harg2 arg3 harg3 arg4 harg4 arg5 harg5 arg6 harg6 arg7 harg7 arg11 x0 x1 x2 x3 x4 x5)⟩ ::
    ⟨Rect.unit ![2, 0, 0] S1x64x256.size inb_S4x64x256_S1x64x256_2_0_0, sNext (kernelRun0_A.sl.v2959 c arg2 harg2 arg3 harg3 arg4 harg4 arg6 harg6 arg7 harg7 arg10 x0 x1 x2 x4 x5) (kernelRun0_A.sl.v2941 c arg9) (kernelRun0_A.sl.v3016 c arg3 harg3 arg12 x1) (kernelRun0_A.sl.v3021 c arg2 harg2 arg3 harg3 arg4 harg4 arg5 harg5 arg6 harg6 arg7 harg7 arg11 x0 x1 x2 x3 x4 x5)⟩ ::
    ⟨Rect.unit ![1, 0, 0] S1x64x256.size inb_S4x64x256_S1x64x256_1_0_0, sNext (kernelRun0_A.sl.v2952 c arg2 harg2 arg3 harg3 arg4 harg4 arg6 harg6 arg7 harg7 arg10 x0 x1 x2 x4 x5) (kernelRun0_A.sl.v2939 c arg9) (kernelRun0_A.sl.v2998 c arg3 harg3 arg12 x1) (kernelRun0_A.sl.v3003 c arg2 harg2 arg3 harg3 arg4 harg4 arg5 harg5 arg6 harg6 arg7 harg7 arg11 x0 x1 x2 x3 x4 x5)⟩ ::
    ⟨Rect.unit ![0, 0, 0] S1x64x256.size inb_S4x64x256_S1x64x256_0_0_0, sNext (kernelRun0_A.sl.v2945 c arg2 harg2 arg3 harg3 arg4 harg4 arg6 harg6 arg7 harg7 arg10 x0 x1 x2 x4 x5) (kernelRun0_A.sl.v2937 c arg9) (kernelRun0_A.sl.v2980 c arg3 harg3 arg12 x1) (kernelRun0_A.sl.v2985 c arg2 harg2 arg3 harg3 arg4 harg4 arg5 harg5 arg6 harg6 arg7 harg7 arg11 x0 x1 x2 x3 x4 x5)⟩ :: kernelRun0_A.sl.HS0_1 := by
  rfl

theorem v3045 : kernelRun0_A.sl.v3045 c arg2 harg2 arg3 harg3 arg4 harg4 arg5 harg5 arg6 harg6 arg7 harg7 arg9 arg10 arg11 arg12 x0 x1 x2 x3 x4 x5 = st1 (ldOf arg2 harg2 arg3 harg3 arg4 harg4 arg5 harg5 arg6 harg6 arg7 harg7 x0 x1 x2 x3 x4 x5) (fun g => View.ld (k0_pay3 (F := F)) (Rect.unit (s := S4x64x256) ![g.val, 0, 0] S1x64x256.size (inbS g))) 0 := by
  unfold kernelRun0_A.sl.v3045
  rw [HS0_5]
  try simp (disch := decide) only [↓ View.readCov_skip]
  refine (View.readCov_cons_toLoadRect _ _ _ _).trans ?_
  rw [v2945, v2980, v2985, v2937]
  rfl

theorem v3047 : kernelRun0_A.sl.v3047 c arg2 harg2 arg3 harg3 arg4 harg4 arg5 harg5 arg6 harg6 arg7 harg7 arg9 arg10 arg11 arg12 x0 x1 x2 x3 x4 x5 = st1 (ldOf arg2 harg2 arg3 harg3 arg4 harg4 arg5 harg5 arg6 harg6 arg7 harg7 x0 x1 x2 x3 x4 x5) (fun g => View.ld (k0_pay3 (F := F)) (Rect.unit (s := S4x64x256) ![g.val, 0, 0] S1x64x256.size (inbS g))) 1 := by
  unfold kernelRun0_A.sl.v3047
  rw [HS0_5]
  try simp (disch := decide) only [↓ View.readCov_skip]
  refine (View.readCov_cons_toLoadRect _ _ _ _).trans ?_
  rw [v2952, v2998, v3003, v2939]
  rfl

theorem v3049 : kernelRun0_A.sl.v3049 c arg2 harg2 arg3 harg3 arg4 harg4 arg5 harg5 arg6 harg6 arg7 harg7 arg9 arg10 arg11 arg12 x0 x1 x2 x3 x4 x5 = st1 (ldOf arg2 harg2 arg3 harg3 arg4 harg4 arg5 harg5 arg6 harg6 arg7 harg7 x0 x1 x2 x3 x4 x5) (fun g => View.ld (k0_pay3 (F := F)) (Rect.unit (s := S4x64x256) ![g.val, 0, 0] S1x64x256.size (inbS g))) 2 := by
  unfold kernelRun0_A.sl.v3049
  rw [HS0_5]
  try simp (disch := decide) only [↓ View.readCov_skip]
  refine (View.readCov_cons_toLoadRect _ _ _ _).trans ?_
  rw [v2959, v3016, v3021, v2941]
  rfl

theorem v3051 : kernelRun0_A.sl.v3051 c arg2 harg2 arg3 harg3 arg4 harg4 arg5 harg5 arg6 harg6 arg7 harg7 arg9 arg10 arg11 arg12 x0 x1 x2 x3 x4 x5 = st1 (ldOf arg2 harg2 arg3 harg3 arg4 harg4 arg5 harg5 arg6 harg6 arg7 harg7 x0 x1 x2 x3 x4 x5) (fun g => View.ld (k0_pay3 (F := F)) (Rect.unit (s := S4x64x256) ![g.val, 0, 0] S1x64x256.size (inbS g))) 3 := by
  unfold kernelRun0_A.sl.v3051
  rw [HS0_5]
  try simp (disch := decide) only [↓ View.readCov_skip]
  refine (View.readCov_cons_toLoadRect _ _ _ _).trans ?_
  rw [v2966, v3034, v3039, v2943]
  rfl

theorem v3081 : kernelRun0_A.sl.v3081 c arg2 harg2 arg3 harg3 arg4 harg4 arg5 harg5 arg6 harg6 arg7 harg7 arg8 arg9 arg10 x0 x1 x2 x3 x4 x5 = yPart (C (ldOf arg2 harg2 arg3 harg3 arg4 harg4 arg5 harg5 arg6 harg6 arg7 harg7 x0 x1 x2 x3 x4 x5) 1 0) := by
  unfold kernelRun0_A.sl.v3081
  rw [H6_20, H6_19, H6_18, H6_17, H6]
  try simp (disch := decide) only [↓ View.readCov_skip]
  exact View.readCov_cons_toLoadRect _ _ _ _

theorem H6_21 : kernelRun0_A.sl.H6_21 c arg2 harg2 arg3 harg3 arg4 harg4 arg5 harg5 arg6 harg6 arg7 harg7 arg8 arg9 arg10 arg11 arg12 x0 x1 x2 x3 x4 x5 = ⟨Rect.unit ![0, 64, 0] S1x64x256.size inb_S1x256x1024_S1x64x256_0_64_0, yAdd (kernelRun0_A.sl.v3053 c arg2 harg2 arg3 harg3 arg4 harg4 arg6 harg6 arg7 harg7 arg10 x0 x1 x2 x4 x5) (kernelRun0_A.sl.v3045 c arg2 harg2 arg3 harg3 arg4 harg4 arg5 harg5 arg6 harg6 arg7 harg7 arg9 arg10 arg11 arg12 x0 x1 x2 x3 x4 x5) (kernelRun0_A.sl.v3081 c arg2 harg2 arg3 harg3 arg4 harg4 arg5 harg5 arg6 harg6 arg7 harg7 arg8 arg9 arg10 x0 x1 x2 x3 x4 x5)⟩ :: kernelRun0_A.sl.H6_20 c arg2 harg2 arg3 harg3 arg4 harg4 arg5 harg5 arg6 harg6 arg7 harg7 arg8 arg9 arg10 x0 x1 x2 x3 x4 x5 := by
  rfl

theorem v3099 : kernelRun0_A.sl.v3099 c arg2 harg2 arg3 harg3 arg4 harg4 arg5 harg5 arg6 harg6 arg7 harg7 arg8 arg9 arg10 arg11 arg12 x0 x1 x2 x3 x4 x5 = yPart (C (ldOf arg2 harg2 arg3 harg3 arg4 harg4 arg5 harg5 arg6 harg6 arg7 harg7 x0 x1 x2 x3 x4 x5) 1 1) := by
  unfold kernelRun0_A.sl.v3099
  rw [H6_21, H6_20, H6_19, H6_18, H6_17, H6]
  try simp (disch := decide) only [↓ View.readCov_skip]
  exact View.readCov_cons_toLoadRect _ _ _ _

theorem H6_22 : kernelRun0_A.sl.H6_22 c arg2 harg2 arg3 harg3 arg4 harg4 arg5 harg5 arg6 harg6 arg7 harg7 arg8 arg9 arg10 arg11 arg12 x0 x1 x2 x3 x4 x5 = ⟨Rect.unit ![0, 64, 256] S1x64x256.size inb_S1x256x1024_S1x64x256_0_64_256, yAdd (kernelRun0_A.sl.v3060 c arg2 harg2 arg3 harg3 arg4 harg4 arg6 harg6 arg7 harg7 arg10 x0 x1 x2 x4 x5) (kernelRun0_A.sl.v3047 c arg2 harg2 arg3 harg3 arg4 harg4 arg5 harg5 arg6 harg6 arg7 harg7 arg9 arg10 arg11 arg12 x0 x1 x2 x3 x4 x5) (kernelRun0_A.sl.v3099 c arg2 harg2 arg3 harg3 arg4 harg4 arg5 harg5 arg6 harg6 arg7 harg7 arg8 arg9 arg10 arg11 arg12 x0 x1 x2 x3 x4 x5)⟩ :: kernelRun0_A.sl.H6_21 c arg2 harg2 arg3 harg3 arg4 harg4 arg5 harg5 arg6 harg6 arg7 harg7 arg8 arg9 arg10 arg11 arg12 x0 x1 x2 x3 x4 x5 := by
  rfl

theorem v3117 : kernelRun0_A.sl.v3117 c arg2 harg2 arg3 harg3 arg4 harg4 arg5 harg5 arg6 harg6 arg7 harg7 arg8 arg9 arg10 arg11 arg12 x0 x1 x2 x3 x4 x5 = yPart (C (ldOf arg2 harg2 arg3 harg3 arg4 harg4 arg5 harg5 arg6 harg6 arg7 harg7 x0 x1 x2 x3 x4 x5) 1 2) := by
  unfold kernelRun0_A.sl.v3117
  rw [H6_22, H6_21, H6_20, H6_19, H6_18, H6_17, H6]
  try simp (disch := decide) only [↓ View.readCov_skip]
  exact View.readCov_cons_toLoadRect _ _ _ _

theorem H6_23 : kernelRun0_A.sl.H6_23 c arg2 harg2 arg3 harg3 arg4 harg4 arg5 harg5 arg6 harg6 arg7 harg7 arg8 arg9 arg10 arg11 arg12 x0 x1 x2 x3 x4 x5 = ⟨Rect.unit ![0, 64, 512] S1x64x256.size inb_S1x256x1024_S1x64x256_0_64_512, yAdd (kernelRun0_A.sl.v3067 c arg2 harg2 arg3 harg3 arg4 harg4 arg6 harg6 arg7 harg7 arg10 x0 x1 x2 x4 x5) (kernelRun0_A.sl.v3049 c arg2 harg2 arg3 harg3 arg4 harg4 arg5 harg5 arg6 harg6 arg7 harg7 arg9 arg10 arg11 arg12 x0 x1 x2 x3 x4 x5) (kernelRun0_A.sl.v3117 c arg2 harg2 arg3 harg3 arg4 harg4 arg5 harg5 arg6 harg6 arg7 harg7 arg8 arg9 arg10 arg11 arg12 x0 x1 x2 x3 x4 x5)⟩ :: kernelRun0_A.sl.H6_22 c arg2 harg2 arg3 harg3 arg4 harg4 arg5 harg5 arg6 harg6 arg7 harg7 arg8 arg9 arg10 arg11 arg12 x0 x1 x2 x3 x4 x5 := by
  rfl

theorem v3135 : kernelRun0_A.sl.v3135 c arg2 harg2 arg3 harg3 arg4 harg4 arg5 harg5 arg6 harg6 arg7 harg7 arg8 arg9 arg10 arg11 arg12 x0 x1 x2 x3 x4 x5 = yPart (C (ldOf arg2 harg2 arg3 harg3 arg4 harg4 arg5 harg5 arg6 harg6 arg7 harg7 x0 x1 x2 x3 x4 x5) 1 3) := by
  unfold kernelRun0_A.sl.v3135
  rw [H6_23, H6_22, H6_21, H6_20, H6_19, H6_18, H6_17, H6]
  try simp (disch := decide) only [↓ View.readCov_skip]
  exact View.readCov_cons_toLoadRect _ _ _ _

theorem H6_24 : kernelRun0_A.sl.H6_24 c arg2 harg2 arg3 harg3 arg4 harg4 arg5 harg5 arg6 harg6 arg7 harg7 arg8 arg9 arg10 arg11 arg12 x0 x1 x2 x3 x4 x5 = ⟨Rect.unit ![0, 64, 768] S1x64x256.size inb_S1x256x1024_S1x64x256_0_64_768, yAdd (kernelRun0_A.sl.v3074 c arg2 harg2 arg3 harg3 arg4 harg4 arg6 harg6 arg7 harg7 arg10 x0 x1 x2 x4 x5) (kernelRun0_A.sl.v3051 c arg2 harg2 arg3 harg3 arg4 harg4 arg5 harg5 arg6 harg6 arg7 harg7 arg9 arg10 arg11 arg12 x0 x1 x2 x3 x4 x5) (kernelRun0_A.sl.v3135 c arg2 harg2 arg3 harg3 arg4 harg4 arg5 harg5 arg6 harg6 arg7 harg7 arg8 arg9 arg10 arg11 arg12 x0 x1 x2 x3 x4 x5)⟩ :: kernelRun0_A.sl.H6_23 c arg2 harg2 arg3 harg3 arg4 harg4 arg5 harg5 arg6 harg6 arg7 harg7 arg8 arg9 arg10 arg11 arg12 x0 x1 x2 x3 x4 x5 := by
  rfl

theorem HS0_9 : kernelRun0_A.sl.HS0_9 c arg2 harg2 arg3 harg3 arg4 harg4 arg5 harg5 arg6 harg6 arg7 harg7 arg9 arg10 arg11 arg12 x0 x1 x2 x3 x4 x5 = ⟨Rect.unit ![3, 0, 0] S1x64x256.size inb_S4x64x256_S1x64x256_3_0_0, sNext (kernelRun0_A.sl.v3074 c arg2 harg2 arg3 harg3 arg4 harg4 arg6 harg6 arg7 harg7 arg10 x0 x1 x2 x4 x5) (kernelRun0_A.sl.v3051 c arg2 harg2 arg3 harg3 arg4 harg4 arg5 harg5 arg6 harg6 arg7 harg7 arg9 arg10 arg11 arg12 x0 x1 x2 x3 x4 x5) (kernelRun0_A.sl.v3142 c arg3 harg3 arg12 x1) (kernelRun0_A.sl.v3147 c arg2 harg2 arg3 harg3 arg4 harg4 arg5 harg5 arg6 harg6 arg7 harg7 arg11 x0 x1 x2 x3 x4 x5)⟩ ::
    ⟨Rect.unit ![2, 0, 0] S1x64x256.size inb_S4x64x256_S1x64x256_2_0_0, sNext (kernelRun0_A.sl.v3067 c arg2 harg2 arg3 harg3 arg4 harg4 arg6 harg6 arg7 harg7 arg10 x0 x1 x2 x4 x5) (kernelRun0_A.sl.v3049 c arg2 harg2 arg3 harg3 arg4 harg4 arg5 harg5 arg6 harg6 arg7 harg7 arg9 arg10 arg11 arg12 x0 x1 x2 x3 x4 x5) (kernelRun0_A.sl.v3124 c arg3 harg3 arg12 x1) (kernelRun0_A.sl.v3129 c arg2 harg2 arg3 harg3 arg4 harg4 arg5 harg5 arg6 harg6 arg7 harg7 arg11 x0 x1 x2 x3 x4 x5)⟩ ::
    ⟨Rect.unit ![1, 0, 0] S1x64x256.size inb_S4x64x256_S1x64x256_1_0_0, sNext (kernelRun0_A.sl.v3060 c arg2 harg2 arg3 harg3 arg4 harg4 arg6 harg6 arg7 harg7 arg10 x0 x1 x2 x4 x5) (kernelRun0_A.sl.v3047 c arg2 harg2 arg3 harg3 arg4 harg4 arg5 harg5 arg6 harg6 arg7 harg7 arg9 arg10 arg11 arg12 x0 x1 x2 x3 x4 x5) (kernelRun0_A.sl.v3106 c arg3 harg3 arg12 x1) (kernelRun0_A.sl.v3111 c arg2 harg2 arg3 harg3 arg4 harg4 arg5 harg5 arg6 harg6 arg7 harg7 arg11 x0 x1 x2 x3 x4 x5)⟩ ::
    ⟨Rect.unit ![0, 0, 0] S1x64x256.size inb_S4x64x256_S1x64x256_0_0_0, sNext (kernelRun0_A.sl.v3053 c arg2 harg2 arg3 harg3 arg4 harg4 arg6 harg6 arg7 harg7 arg10 x0 x1 x2 x4 x5) (kernelRun0_A.sl.v3045 c arg2 harg2 arg3 harg3 arg4 harg4 arg5 harg5 arg6 harg6 arg7 harg7 arg9 arg10 arg11 arg12 x0 x1 x2 x3 x4 x5) (kernelRun0_A.sl.v3088 c arg3 harg3 arg12 x1) (kernelRun0_A.sl.v3093 c arg2 harg2 arg3 harg3 arg4 harg4 arg5 harg5 arg6 harg6 arg7 harg7 arg11 x0 x1 x2 x3 x4 x5)⟩ :: kernelRun0_A.sl.HS0_5 c arg2 harg2 arg3 harg3 arg4 harg4 arg5 harg5 arg6 harg6 arg7 harg7 arg9 arg10 arg11 arg12 x0 x1 x2 x3 x4 x5 := by
  rfl

theorem v3153 : kernelRun0_A.sl.v3153 c arg2 harg2 arg3 harg3 arg4 harg4 arg5 harg5 arg6 harg6 arg7 harg7 arg9 arg10 arg11 arg12 x0 x1 x2 x3 x4 x5 = st2 (ldOf arg2 harg2 arg3 harg3 arg4 harg4 arg5 harg5 arg6 harg6 arg7 harg7 x0 x1 x2 x3 x4 x5) (fun g => View.ld (k0_pay3 (F := F)) (Rect.unit (s := S4x64x256) ![g.val, 0, 0] S1x64x256.size (inbS g))) 0 := by
  unfold kernelRun0_A.sl.v3153
  rw [HS0_9]
  try simp (disch := decide) only [↓ View.readCov_skip]
  refine (View.readCov_cons_toLoadRect _ _ _ _).trans ?_
  rw [v3053, v3088, v3093, v3045]
  rfl

theorem v3155 : kernelRun0_A.sl.v3155 c arg2 harg2 arg3 harg3 arg4 harg4 arg5 harg5 arg6 harg6 arg7 harg7 arg9 arg10 arg11 arg12 x0 x1 x2 x3 x4 x5 = st2 (ldOf arg2 harg2 arg3 harg3 arg4 harg4 arg5 harg5 arg6 harg6 arg7 harg7 x0 x1 x2 x3 x4 x5) (fun g => View.ld (k0_pay3 (F := F)) (Rect.unit (s := S4x64x256) ![g.val, 0, 0] S1x64x256.size (inbS g))) 1 := by
  unfold kernelRun0_A.sl.v3155
  rw [HS0_9]
  try simp (disch := decide) only [↓ View.readCov_skip]
  refine (View.readCov_cons_toLoadRect _ _ _ _).trans ?_
  rw [v3060, v3106, v3111, v3047]
  rfl

theorem v3157 : kernelRun0_A.sl.v3157 c arg2 harg2 arg3 harg3 arg4 harg4 arg5 harg5 arg6 harg6 arg7 harg7 arg9 arg10 arg11 arg12 x0 x1 x2 x3 x4 x5 = st2 (ldOf arg2 harg2 arg3 harg3 arg4 harg4 arg5 harg5 arg6 harg6 arg7 harg7 x0 x1 x2 x3 x4 x5) (fun g => View.ld (k0_pay3 (F := F)) (Rect.unit (s := S4x64x256) ![g.val, 0, 0] S1x64x256.size (inbS g))) 2 := by
  unfold kernelRun0_A.sl.v3157
  rw [HS0_9]
  try simp (disch := decide) only [↓ View.readCov_skip]
  refine (View.readCov_cons_toLoadRect _ _ _ _).trans ?_
  rw [v3067, v3124, v3129, v3049]
  rfl

theorem v3159 : kernelRun0_A.sl.v3159 c arg2 harg2 arg3 harg3 arg4 harg4 arg5 harg5 arg6 harg6 arg7 harg7 arg9 arg10 arg11 arg12 x0 x1 x2 x3 x4 x5 = st2 (ldOf arg2 harg2 arg3 harg3 arg4 harg4 arg5 harg5 arg6 harg6 arg7 harg7 x0 x1 x2 x3 x4 x5) (fun g => View.ld (k0_pay3 (F := F)) (Rect.unit (s := S4x64x256) ![g.val, 0, 0] S1x64x256.size (inbS g))) 3 := by
  unfold kernelRun0_A.sl.v3159
  rw [HS0_9]
  try simp (disch := decide) only [↓ View.readCov_skip]
  refine (View.readCov_cons_toLoadRect _ _ _ _).trans ?_
  rw [v3074, v3142, v3147, v3051]
  rfl

theorem v3189 : kernelRun0_A.sl.v3189 c arg2 harg2 arg3 harg3 arg4 harg4 arg5 harg5 arg6 harg6 arg7 harg7 arg8 arg9 arg10 arg11 arg12 x0 x1 x2 x3 x4 x5 = yPart (C (ldOf arg2 harg2 arg3 harg3 arg4 harg4 arg5 harg5 arg6 harg6 arg7 harg7 x0 x1 x2 x3 x4 x5) 2 0) := by
  unfold kernelRun0_A.sl.v3189
  rw [H6_24, H6_23, H6_22, H6_21, H6_20, H6_19, H6_18, H6_17, H6]
  try simp (disch := decide) only [↓ View.readCov_skip]
  exact View.readCov_cons_toLoadRect _ _ _ _

theorem H6_25 : kernelRun0_A.sl.H6_25 c arg2 harg2 arg3 harg3 arg4 harg4 arg5 harg5 arg6 harg6 arg7 harg7 arg8 arg9 arg10 arg11 arg12 x0 x1 x2 x3 x4 x5 = ⟨Rect.unit ![0, 128, 0] S1x64x256.size inb_S1x256x1024_S1x64x256_0_128_0, yAdd (kernelRun0_A.sl.v3161 c arg2 harg2 arg3 harg3 arg4 harg4 arg6 harg6 arg7 harg7 arg10 x0 x1 x2 x4 x5) (kernelRun0_A.sl.v3153 c arg2 harg2 arg3 harg3 arg4 harg4 arg5 harg5 arg6 harg6 arg7 harg7 arg9 arg10 arg11 arg12 x0 x1 x2 x3 x4 x5) (kernelRun0_A.sl.v3189 c arg2 harg2 arg3 harg3 arg4 harg4 arg5 harg5 arg6 harg6 arg7 harg7 arg8 arg9 arg10 arg11 arg12 x0 x1 x2 x3 x4 x5)⟩ :: kernelRun0_A.sl.H6_24 c arg2 harg2 arg3 harg3 arg4 harg4 arg5 harg5 arg6 harg6 arg7 harg7 arg8 arg9 arg10 arg11 arg12 x0 x1 x2 x3 x4 x5 := by
  rfl

theorem v3207 : kernelRun0_A.sl.v3207 c arg2 harg2 arg3 harg3 arg4 harg4 arg5 harg5 arg6 harg6 arg7 harg7 arg8 arg9 arg10 arg11 arg12 x0 x1 x2 x3 x4 x5 = yPart (C (ldOf arg2 harg2 arg3 harg3 arg4 harg4 arg5 harg5 arg6 harg6 arg7 harg7 x0 x1 x2 x3 x4 x5) 2 1) := by
  unfold kernelRun0_A.sl.v3207
  rw [H6_25, H6_24, H6_23, H6_22, H6_21, H6_20, H6_19, H6_18, H6_17, H6]
  try simp (disch := decide) only [↓ View.readCov_skip]
  exact View.readCov_cons_toLoadRect _ _ _ _

theorem H6_26 : kernelRun0_A.sl.H6_26 c arg2 harg2 arg3 harg3 arg4 harg4 arg5 harg5 arg6 harg6 arg7 harg7 arg8 arg9 arg10 arg11 arg12 x0 x1 x2 x3 x4 x5 = ⟨Rect.unit ![0, 128, 256] S1x64x256.size inb_S1x256x1024_S1x64x256_0_128_256, yAdd (kernelRun0_A.sl.v3168 c arg2 harg2 arg3 harg3 arg4 harg4 arg6 harg6 arg7 harg7 arg10 x0 x1 x2 x4 x5) (kernelRun0_A.sl.v3155 c arg2 harg2 arg3 harg3 arg4 harg4 arg5 harg5 arg6 harg6 arg7 harg7 arg9 arg10 arg11 arg12 x0 x1 x2 x3 x4 x5) (kernelRun0_A.sl.v3207 c arg2 harg2 arg3 harg3 arg4 harg4 arg5 harg5 arg6 harg6 arg7 harg7 arg8 arg9 arg10 arg11 arg12 x0 x1 x2 x3 x4 x5)⟩ :: kernelRun0_A.sl.H6_25 c arg2 harg2 arg3 harg3 arg4 harg4 arg5 harg5 arg6 harg6 arg7 harg7 arg8 arg9 arg10 arg11 arg12 x0 x1 x2 x3 x4 x5 := by
  rfl

theorem v3225 : kernelRun0_A.sl.v3225 c arg2 harg2 arg3 harg3 arg4 harg4 arg5 harg5 arg6 harg6 arg7 harg7 arg8 arg9 arg10 arg11 arg12 x0 x1 x2 x3 x4 x5 = yPart (C (ldOf arg2 harg2 arg3 harg3 arg4 harg4 arg5 harg5 arg6 harg6 arg7 harg7 x0 x1 x2 x3 x4 x5) 2 2) := by
  unfold kernelRun0_A.sl.v3225
  rw [H6_26, H6_25, H6_24, H6_23, H6_22, H6_21, H6_20, H6_19, H6_18, H6_17, H6]
  try simp (disch := decide) only [↓ View.readCov_skip]
  exact View.readCov_cons_toLoadRect _ _ _ _

theorem H6_27 : kernelRun0_A.sl.H6_27 c arg2 harg2 arg3 harg3 arg4 harg4 arg5 harg5 arg6 harg6 arg7 harg7 arg8 arg9 arg10 arg11 arg12 x0 x1 x2 x3 x4 x5 = ⟨Rect.unit ![0, 128, 512] S1x64x256.size inb_S1x256x1024_S1x64x256_0_128_512, yAdd (kernelRun0_A.sl.v3175 c arg2 harg2 arg3 harg3 arg4 harg4 arg6 harg6 arg7 harg7 arg10 x0 x1 x2 x4 x5) (kernelRun0_A.sl.v3157 c arg2 harg2 arg3 harg3 arg4 harg4 arg5 harg5 arg6 harg6 arg7 harg7 arg9 arg10 arg11 arg12 x0 x1 x2 x3 x4 x5) (kernelRun0_A.sl.v3225 c arg2 harg2 arg3 harg3 arg4 harg4 arg5 harg5 arg6 harg6 arg7 harg7 arg8 arg9 arg10 arg11 arg12 x0 x1 x2 x3 x4 x5)⟩ :: kernelRun0_A.sl.H6_26 c arg2 harg2 arg3 harg3 arg4 harg4 arg5 harg5 arg6 harg6 arg7 harg7 arg8 arg9 arg10 arg11 arg12 x0 x1 x2 x3 x4 x5 := by
  rfl

theorem v3243 : kernelRun0_A.sl.v3243 c arg2 harg2 arg3 harg3 arg4 harg4 arg5 harg5 arg6 harg6 arg7 harg7 arg8 arg9 arg10 arg11 arg12 x0 x1 x2 x3 x4 x5 = yPart (C (ldOf arg2 harg2 arg3 harg3 arg4 harg4 arg5 harg5 arg6 harg6 arg7 harg7 x0 x1 x2 x3 x4 x5) 2 3) := by
  unfold kernelRun0_A.sl.v3243
  rw [H6_27, H6_26, H6_25, H6_24, H6_23, H6_22, H6_21, H6_20, H6_19, H6_18, H6_17, H6]
  try simp (disch := decide) only [↓ View.readCov_skip]
  exact View.readCov_cons_toLoadRect _ _ _ _

theorem H6_28 : kernelRun0_A.sl.H6_28 c arg2 harg2 arg3 harg3 arg4 harg4 arg5 harg5 arg6 harg6 arg7 harg7 arg8 arg9 arg10 arg11 arg12 x0 x1 x2 x3 x4 x5 = ⟨Rect.unit ![0, 128, 768] S1x64x256.size inb_S1x256x1024_S1x64x256_0_128_768, yAdd (kernelRun0_A.sl.v3182 c arg2 harg2 arg3 harg3 arg4 harg4 arg6 harg6 arg7 harg7 arg10 x0 x1 x2 x4 x5) (kernelRun0_A.sl.v3159 c arg2 harg2 arg3 harg3 arg4 harg4 arg5 harg5 arg6 harg6 arg7 harg7 arg9 arg10 arg11 arg12 x0 x1 x2 x3 x4 x5) (kernelRun0_A.sl.v3243 c arg2 harg2 arg3 harg3 arg4 harg4 arg5 harg5 arg6 harg6 arg7 harg7 arg8 arg9 arg10 arg11 arg12 x0 x1 x2 x3 x4 x5)⟩ :: kernelRun0_A.sl.H6_27 c arg2 harg2 arg3 harg3 arg4 harg4 arg5 harg5 arg6 harg6 arg7 harg7 arg8 arg9 arg10 arg11 arg12 x0 x1 x2 x3 x4 x5 := by
  rfl

theorem HS0_13 : kernelRun0_A.sl.HS0_13 c arg2 harg2 arg3 harg3 arg4 harg4 arg5 harg5 arg6 harg6 arg7 harg7 arg9 arg10 arg11 arg12 x0 x1 x2 x3 x4 x5 = ⟨Rect.unit ![3, 0, 0] S1x64x256.size inb_S4x64x256_S1x64x256_3_0_0, sNext (kernelRun0_A.sl.v3182 c arg2 harg2 arg3 harg3 arg4 harg4 arg6 harg6 arg7 harg7 arg10 x0 x1 x2 x4 x5) (kernelRun0_A.sl.v3159 c arg2 harg2 arg3 harg3 arg4 harg4 arg5 harg5 arg6 harg6 arg7 harg7 arg9 arg10 arg11 arg12 x0 x1 x2 x3 x4 x5) (kernelRun0_A.sl.v3250 c arg3 harg3 arg12 x1) (kernelRun0_A.sl.v3255 c arg2 harg2 arg3 harg3 arg4 harg4 arg5 harg5 arg6 harg6 arg7 harg7 arg11 x0 x1 x2 x3 x4 x5)⟩ ::
    ⟨Rect.unit ![2, 0, 0] S1x64x256.size inb_S4x64x256_S1x64x256_2_0_0, sNext (kernelRun0_A.sl.v3175 c arg2 harg2 arg3 harg3 arg4 harg4 arg6 harg6 arg7 harg7 arg10 x0 x1 x2 x4 x5) (kernelRun0_A.sl.v3157 c arg2 harg2 arg3 harg3 arg4 harg4 arg5 harg5 arg6 harg6 arg7 harg7 arg9 arg10 arg11 arg12 x0 x1 x2 x3 x4 x5) (kernelRun0_A.sl.v c arg3 harg3 arg12 x1) (kernelRun0_A.sl.v3237 c arg2 harg2 arg3 harg3 arg4 harg4 arg5 harg5 arg6 harg6 arg7 harg7 arg11 x0 x1 x2 x3 x4 x5)⟩ ::
    ⟨Rect.unit ![1, 0, 0] S1x64x256.size inb_S4x64x256_S1x64x256_1_0_0, sNext (kernelRun0_A.sl.v3168 c arg2 harg2 arg3 harg3 arg4 harg4 arg6 harg6 arg7 harg7 arg10 x0 x1 x2 x4 x5) (kernelRun0_A.sl.v3155 c arg2 harg2 arg3 harg3 arg4 harg4 arg5 harg5 arg6 harg6 arg7 harg7 arg9 arg10 arg11 arg12 x0 x1 x2 x3 x4 x5) (kernelRun0_A.sl.v3214 c arg3 harg3 arg12 x1) (kernelRun0_A.sl.v3219 c arg2 harg2 arg3 harg3 arg4 harg4 arg5 harg5 arg6 harg6 arg7 harg7 arg11 x0 x1 x2 x3 x4 x5)⟩ ::
    ⟨Rect.unit ![0, 0, 0] S1x64x256.size inb_S4x64x256_S1x64x256_0_0_0, sNext (kernelRun0_A.sl.v3161 c arg2 harg2 arg3 harg3 arg4 harg4 arg6 harg6 arg7 harg7 arg10 x0 x1 x2 x4 x5) (kernelRun0_A.sl.v3153 c arg2 harg2 arg3 harg3 arg4 harg4 arg5 harg5 arg6 harg6 arg7 harg7 arg9 arg10 arg11 arg12 x0 x1 x2 x3 x4 x5) (kernelRun0_A.sl.v3196 c arg3 harg3 arg12 x1) (kernelRun0_A.sl.v3201 c arg2 harg2 arg3 harg3 arg4 harg4 arg5 harg5 arg6 harg6 arg7 harg7 arg11 x0 x1 x2 x3 x4 x5)⟩ :: kernelRun0_A.sl.HS0_9 c arg2 harg2 arg3 harg3 arg4 harg4 arg5 harg5 arg6 harg6 arg7 harg7 arg9 arg10 arg11 arg12 x0 x1 x2 x3 x4 x5 := by
  rfl

theorem v3261 : kernelRun0_A.sl.v3261 c arg2 harg2 arg3 harg3 arg4 harg4 arg5 harg5 arg6 harg6 arg7 harg7 arg9 arg10 arg11 arg12 x0 x1 x2 x3 x4 x5 = st3 (ldOf arg2 harg2 arg3 harg3 arg4 harg4 arg5 harg5 arg6 harg6 arg7 harg7 x0 x1 x2 x3 x4 x5) (fun g => View.ld (k0_pay3 (F := F)) (Rect.unit (s := S4x64x256) ![g.val, 0, 0] S1x64x256.size (inbS g))) 0 := by
  unfold kernelRun0_A.sl.v3261
  rw [HS0_13]
  try simp (disch := decide) only [↓ View.readCov_skip]
  refine (View.readCov_cons_toLoadRect _ _ _ _).trans ?_
  rw [v3161, v3196, v3201, v3153]
  rfl

theorem v3263 : kernelRun0_A.sl.v3263 c arg2 harg2 arg3 harg3 arg4 harg4 arg5 harg5 arg6 harg6 arg7 harg7 arg9 arg10 arg11 arg12 x0 x1 x2 x3 x4 x5 = st3 (ldOf arg2 harg2 arg3 harg3 arg4 harg4 arg5 harg5 arg6 harg6 arg7 harg7 x0 x1 x2 x3 x4 x5) (fun g => View.ld (k0_pay3 (F := F)) (Rect.unit (s := S4x64x256) ![g.val, 0, 0] S1x64x256.size (inbS g))) 1 := by
  unfold kernelRun0_A.sl.v3263
  rw [HS0_13]
  try simp (disch := decide) only [↓ View.readCov_skip]
  refine (View.readCov_cons_toLoadRect _ _ _ _).trans ?_
  rw [v3168, v3214, v3219, v3155]
  rfl

theorem v3265 : kernelRun0_A.sl.v3265 c arg2 harg2 arg3 harg3 arg4 harg4 arg5 harg5 arg6 harg6 arg7 harg7 arg9 arg10 arg11 arg12 x0 x1 x2 x3 x4 x5 = st3 (ldOf arg2 harg2 arg3 harg3 arg4 harg4 arg5 harg5 arg6 harg6 arg7 harg7 x0 x1 x2 x3 x4 x5) (fun g => View.ld (k0_pay3 (F := F)) (Rect.unit (s := S4x64x256) ![g.val, 0, 0] S1x64x256.size (inbS g))) 2 := by
  unfold kernelRun0_A.sl.v3265
  rw [HS0_13]
  try simp (disch := decide) only [↓ View.readCov_skip]
  refine (View.readCov_cons_toLoadRect _ _ _ _).trans ?_
  rw [v3175, v, v3237, v3157]
  rfl

theorem v3267 : kernelRun0_A.sl.v3267 c arg2 harg2 arg3 harg3 arg4 harg4 arg5 harg5 arg6 harg6 arg7 harg7 arg9 arg10 arg11 arg12 x0 x1 x2 x3 x4 x5 = st3 (ldOf arg2 harg2 arg3 harg3 arg4 harg4 arg5 harg5 arg6 harg6 arg7 harg7 x0 x1 x2 x3 x4 x5) (fun g => View.ld (k0_pay3 (F := F)) (Rect.unit (s := S4x64x256) ![g.val, 0, 0] S1x64x256.size (inbS g))) 3 := by
  unfold kernelRun0_A.sl.v3267
  rw [HS0_13]
  try simp (disch := decide) only [↓ View.readCov_skip]
  refine (View.readCov_cons_toLoadRect _ _ _ _).trans ?_
  rw [v3182, v3250, v3255, v3159]
  rfl

theorem v3297 : kernelRun0_A.sl.v3297 c arg2 harg2 arg3 harg3 arg4 harg4 arg5 harg5 arg6 harg6 arg7 harg7 arg8 arg9 arg10 arg11 arg12 x0 x1 x2 x3 x4 x5 = yPart (C (ldOf arg2 harg2 arg3 harg3 arg4 harg4 arg5 harg5 arg6 harg6 arg7 harg7 x0 x1 x2 x3 x4 x5) 3 0) := by
  unfold kernelRun0_A.sl.v3297
  rw [H6_28, H6_27, H6_26, H6_25, H6_24, H6_23, H6_22, H6_21, H6_20, H6_19, H6_18, H6_17, H6]
  try simp (disch := decide) only [↓ View.readCov_skip]
  exact View.readCov_cons_toLoadRect _ _ _ _

theorem H6_29 : kernelRun0_A.sl.H6_29 c arg2 harg2 arg3 harg3 arg4 harg4 arg5 harg5 arg6 harg6 arg7 harg7 arg8 arg9 arg10 arg11 arg12 x0 x1 x2 x3 x4 x5 = ⟨Rect.unit ![0, 192, 0] S1x64x256.size inb_S1x256x1024_S1x64x256_0_192_0, yAdd (kernelRun0_A.sl.v3269 c arg2 harg2 arg3 harg3 arg4 harg4 arg6 harg6 arg7 harg7 arg10 x0 x1 x2 x4 x5) (kernelRun0_A.sl.v3261 c arg2 harg2 arg3 harg3 arg4 harg4 arg5 harg5 arg6 harg6 arg7 harg7 arg9 arg10 arg11 arg12 x0 x1 x2 x3 x4 x5) (kernelRun0_A.sl.v3297 c arg2 harg2 arg3 harg3 arg4 harg4 arg5 harg5 arg6 harg6 arg7 harg7 arg8 arg9 arg10 arg11 arg12 x0 x1 x2 x3 x4 x5)⟩ :: kernelRun0_A.sl.H6_28 c arg2 harg2 arg3 harg3 arg4 harg4 arg5 harg5 arg6 harg6 arg7 harg7 arg8 arg9 arg10 arg11 arg12 x0 x1 x2 x3 x4 x5 := by
  rfl

theorem v3315 : kernelRun0_A.sl.v3315 c arg2 harg2 arg3 harg3 arg4 harg4 arg5 harg5 arg6 harg6 arg7 harg7 arg8 arg9 arg10 arg11 arg12 x0 x1 x2 x3 x4 x5 = yPart (C (ldOf arg2 harg2 arg3 harg3 arg4 harg4 arg5 harg5 arg6 harg6 arg7 harg7 x0 x1 x2 x3 x4 x5) 3 1) := by
  unfold kernelRun0_A.sl.v3315
  rw [H6_29, H6_28, H6_27, H6_26, H6_25, H6_24, H6_23, H6_22, H6_21, H6_20, H6_19, H6_18, H6_17, H6]
  try simp (disch := decide) only [↓ View.readCov_skip]
  exact View.readCov_cons_toLoadRect _ _ _ _

theorem H6_30 : kernelRun0_A.sl.H6_30 c arg2 harg2 arg3 harg3 arg4 harg4 arg5 harg5 arg6 harg6 arg7 harg7 arg8 arg9 arg10 arg11 arg12 x0 x1 x2 x3 x4 x5 = ⟨Rect.unit ![0, 192, 256] S1x64x256.size inb_S1x256x1024_S1x64x256_0_192_256, yAdd (kernelRun0_A.sl.v3276 c arg2 harg2 arg3 harg3 arg4 harg4 arg6 harg6 arg7 harg7 arg10 x0 x1 x2 x4 x5) (kernelRun0_A.sl.v3263 c arg2 harg2 arg3 harg3 arg4 harg4 arg5 harg5 arg6 harg6 arg7 harg7 arg9 arg10 arg11 arg12 x0 x1 x2 x3 x4 x5) (kernelRun0_A.sl.v3315 c arg2 harg2 arg3 harg3 arg4 harg4 arg5 harg5 arg6 harg6 arg7 harg7 arg8 arg9 arg10 arg11 arg12 x0 x1 x2 x3 x4 x5)⟩ :: kernelRun0_A.sl.H6_29 c arg2 harg2 arg3 harg3 arg4 harg4 arg5 harg5 arg6 harg6 arg7 harg7 arg8 arg9 arg10 arg11 arg12 x0 x1 x2 x3 x4 x5 := by
  rfl

theorem v3333 : kernelRun0_A.sl.v3333 c arg2 harg2 arg3 harg3 arg4 harg4 arg5 harg5 arg6 harg6 arg7 harg7 arg8 arg9 arg10 arg11 arg12 x0 x1 x2 x3 x4 x5 = yPart (C (ldOf arg2 harg2 arg3 harg3 arg4 harg4 arg5 harg5 arg6 harg6 arg7 harg7 x0 x1 x2 x3 x4 x5) 3 2) := by
  unfold kernelRun0_A.sl.v3333
  rw [H6_30, H6_29, H6_28, H6_27, H6_26, H6_25, H6_24, H6_23, H6_22, H6_21, H6_20, H6_19, H6_18, H6_17, H6]
  try simp (disch := decide) only [↓ View.readCov_skip]
  exact View.readCov_cons_toLoadRect _ _ _ _

theorem H6_31 : kernelRun0_A.sl.H6_31 c arg2 harg2 arg3 harg3 arg4 harg4 arg5 harg5 arg6 harg6 arg7 harg7 arg8 arg9 arg10 arg11 arg12 x0 x1 x2 x3 x4 x5 = ⟨Rect.unit ![0, 192, 512] S1x64x256.size inb_S1x256x1024_S1x64x256_0_192_512, yAdd (kernelRun0_A.sl.v3283 c arg2 harg2 arg3 harg3 arg4 harg4 arg6 harg6 arg7 harg7 arg10 x0 x1 x2 x4 x5) (kernelRun0_A.sl.v3265 c arg2 harg2 arg3 harg3 arg4 harg4 arg5 harg5 arg6 harg6 arg7 harg7 arg9 arg10 arg11 arg12 x0 x1 x2 x3 x4 x5) (kernelRun0_A.sl.v3333 c arg2 harg2 arg3 harg3 arg4 harg4 arg5 harg5 arg6 harg6 arg7 harg7 arg8 arg9 arg10 arg11 arg12 x0 x1 x2 x3 x4 x5)⟩ :: kernelRun0_A.sl.H6_30 c arg2 harg2 arg3 harg3 arg4 harg4 arg5 harg5 arg6 harg6 arg7 harg7 arg8 arg9 arg10 arg11 arg12 x0 x1 x2 x3 x4 x5 := by
  rfl

theorem v3351 : kernelRun0_A.sl.v3351 c arg2 harg2 arg3 harg3 arg4 harg4 arg5 harg5 arg6 harg6 arg7 harg7 arg8 arg9 arg10 arg11 arg12 x0 x1 x2 x3 x4 x5 = yPart (C (ldOf arg2 harg2 arg3 harg3 arg4 harg4 arg5 harg5 arg6 harg6 arg7 harg7 x0 x1 x2 x3 x4 x5) 3 3) := by
  unfold kernelRun0_A.sl.v3351
  rw [H6_31, H6_30, H6_29, H6_28, H6_27, H6_26, H6_25, H6_24, H6_23, H6_22, H6_21, H6_20, H6_19, H6_18, H6_17, H6]
  try simp (disch := decide) only [↓ View.readCov_skip]
  exact View.readCov_cons_toLoadRect _ _ _ _

theorem out (hc0 : cond0_0 i) : (kernelRun0_A c i arg2 harg2 arg3 harg3 arg4 harg4 arg5 harg5 arg6 harg6 arg7 harg7 arg8 harg8 arg9 harg9 arg10 harg10 arg11 harg11 arg12 harg12 hc0 x0 x1 x2 x3 x4 x5).1 = ⟨Rect.unit ![0, 192, 768] S1x64x256.size inb_S1x256x1024_S1x64x256_0_192_768, yAdd (kernelRun0_A.sl.v3290 c arg2 harg2 arg3 harg3 arg4 harg4 arg6 harg6 arg7 harg7 arg10 x0 x1 x2 x4 x5) (kernelRun0_A.sl.v3267 c arg2 harg2 arg3 harg3 arg4 harg4 arg5 harg5 arg6 harg6 arg7 harg7 arg9 arg10 arg11 arg12 x0 x1 x2 x3 x4 x5) (kernelRun0_A.sl.v3351 c arg2 harg2 arg3 harg3 arg4 harg4 arg5 harg5 arg6 harg6 arg7 harg7 arg8 arg9 arg10 arg11 arg12 x0 x1 x2 x3 x4 x5)⟩ :: kernelRun0_A.sl.H6_31 c arg2 harg2 arg3 harg3 arg4 harg4 arg5 harg5 arg6 harg6 arg7 harg7 arg8 arg9 arg10 arg11 arg12 x0 x1 x2 x3 x4 x5 := by
  rfl

theorem state (hc0 : cond0_0 i) : (kernelRun0_A c i arg2 harg2 arg3 harg3 arg4 harg4 arg5 harg5 arg6 harg6 arg7 harg7 arg8 harg8 arg9 harg9 arg10 harg10 arg11 harg11 arg12 harg12 hc0 x0 x1 x2 x3 x4 x5).2.1 = ⟨Rect.unit ![3, 0, 0] S1x64x256.size inb_S4x64x256_S1x64x256_3_0_0, sNext (kernelRun0_A.sl.v3290 c arg2 harg2 arg3 harg3 arg4 harg4 arg6 harg6 arg7 harg7 arg10 x0 x1 x2 x4 x5) (kernelRun0_A.sl.v3267 c arg2 harg2 arg3 harg3 arg4 harg4 arg5 harg5 arg6 harg6 arg7 harg7 arg9 arg10 arg11 arg12 x0 x1 x2 x3 x4 x5) (kernelRun0_A.sl.v3358 c arg3 harg3 arg12 x1) (kernelRun0_A.sl.v3363 c arg2 harg2 arg3 harg3 arg4 harg4 arg5 harg5 arg6 harg6 arg7 harg7 arg11 x0 x1 x2 x3 x4 x5)⟩ ::
    ⟨Rect.unit ![2, 0, 0] S1x64x256.size inb_S4x64x256_S1x64x256_2_0_0, sNext (kernelRun0_A.sl.v3283 c arg2 harg2 arg3 harg3 arg4 harg4 arg6 harg6 arg7 harg7 arg10 x0 x1 x2 x4 x5) (kernelRun0_A.sl.v3265 c arg2 harg2 arg3 harg3 arg4 harg4 arg5 harg5 arg6 harg6 arg7 harg7 arg9 arg10 arg11 arg12 x0 x1 x2 x3 x4 x5) (kernelRun0_A.sl.v3340 c arg3 harg3 arg12 x1) (kernelRun0_A.sl.v3345 c arg2 harg2 arg3 harg3 arg4 harg4 arg5 harg5 arg6 harg6 arg7 harg7 arg11 x0 x1 x2 x3 x4 x5)⟩ ::
    ⟨Rect.unit ![1, 0, 0] S1x64x256.size inb_S4x64x256_S1x64x256_1_0_0, sNext (kernelRun0_A.sl.v3276 c arg2 harg2 arg3 harg3 arg4 harg4 arg6 harg6 arg7 harg7 arg10 x0 x1 x2 x4 x5) (kernelRun0_A.sl.v3263 c arg2 harg2 arg3 harg3 arg4 harg4 arg5 harg5 arg6 harg6 arg7 harg7 arg9 arg10 arg11 arg12 x0 x1 x2 x3 x4 x5) (kernelRun0_A.sl.v3322 c arg3 harg3 arg12 x1) (kernelRun0_A.sl.v3327 c arg2 harg2 arg3 harg3 arg4 harg4 arg5 harg5 arg6 harg6 arg7 harg7 arg11 x0 x1 x2 x3 x4 x5)⟩ ::
    ⟨Rect.unit ![0, 0, 0] S1x64x256.size inb_S4x64x256_S1x64x256_0_0_0, sNext (kernelRun0_A.sl.v3269 c arg2 harg2 arg3 harg3 arg4 harg4 arg6 harg6 arg7 harg7 arg10 x0 x1 x2 x4 x5) (kernelRun0_A.sl.v3261 c arg2 harg2 arg3 harg3 arg4 harg4 arg5 harg5 arg6 harg6 arg7 harg7 arg9 arg10 arg11 arg12 x0 x1 x2 x3 x4 x5) (kernelRun0_A.sl.v3304 c arg3 harg3 arg12 x1) (kernelRun0_A.sl.v3309 c arg2 harg2 arg3 harg3 arg4 harg4 arg5 harg5 arg6 harg6 arg7 harg7 arg11 x0 x1 x2 x3 x4 x5)⟩ :: kernelRun0_A.sl.HS0_13 c arg2 harg2 arg3 harg3 arg4 harg4 arg5 harg5 arg6 harg6 arg7 harg7 arg9 arg10 arg11 arg12 x0 x1 x2 x3 x4 x5 := by
  rfl

/-- The outputs. -/
theorem out_list (hc0 : cond0_0 i) : (kernelRun0_A c i arg2 harg2 arg3 harg3 arg4 harg4 arg5 harg5 arg6 harg6 arg7 harg7 arg8 harg8 arg9 harg9 arg10 harg10 arg11 harg11 arg12 harg12 hc0 x0 x1 x2 x3 x4 x5).1 = outList (ldOf arg2 harg2 arg3 harg3 arg4 harg4 arg5 harg5 arg6 harg6 arg7 harg7 x0 x1 x2 x3 x4 x5) (fun g => View.ld (k0_pay3 (F := F)) (Rect.unit (s := S4x64x256) ![g.val, 0, 0] S1x64x256.size (inbS g))) ++ kernelRun0_A.sl.H6_16 c arg2 harg2 arg3 harg3 arg4 harg4 arg5 harg5 arg6 harg6 arg7 harg7 x0 x1 x2 x3 x4 x5 := by
  rw [out, H6_31, H6_30, H6_29, H6_28, H6_27, H6_26, H6_25, H6_24, H6_23, H6_22, H6_21, H6_20, H6_19, H6_18, H6_17, v2973, v2991, v3009, v3027, v3081, v3099, v3117, v3135, v3189, v3207, v3225, v3243, v3297, v3315, v3333, v3351, v2945, v2952, v2959, v2966, v3053, v3060, v3067, v3074, v3161, v3168, v3175, v3182, v3269, v3276, v3283, v3290, v3045, v3047, v3049, v3051, v3153, v3155, v3157, v3159, v3261, v3263, v3265, v3267, v2937, v2939, v2941, v2943]
  rfl

/-- The states. -/
theorem state_list (hc0 : cond0_0 i) : (kernelRun0_A c i arg2 harg2 arg3 harg3 arg4 harg4 arg5 harg5 arg6 harg6 arg7 harg7 arg8 harg8 arg9 harg9 arg10 harg10 arg11 harg11 arg12 harg12 hc0 x0 x1 x2 x3 x4 x5).2.1 = stList (ldOf arg2 harg2 arg3 harg3 arg4 harg4 arg5 harg5 arg6 harg6 arg7 harg7 x0 x1 x2 x3 x4 x5) (fun g => View.ld (k0_pay3 (F := F)) (Rect.unit (s := S4x64x256) ![g.val, 0, 0] S1x64x256.size (inbS g))) ++ kernelRun0_A.sl.HS0_13 c arg2 harg2 arg3 harg3 arg4 harg4 arg5 harg5 arg6 harg6 arg7 harg7 arg9 arg10 arg11 arg12 x0 x1 x2 x3 x4 x5 := by
  rw [state, v3269, v3276, v3283, v3290, v3261, v3263, v3265, v3267, v3304, v3322, v3340, v3358, v3309, v3327, v3345, v3363]
  rfl

end Cert.Proof.Wkv.CaseA
-- ==== Proof.Wkv.FoldB.lean ====
/- The run of case B of the recurrence's body, its named pieces folded to the chunk's vector functions. -/
module

public import proofs.«01_k».proof.Proof.Wkv.Lists

@[expose] public section

set_option maxRecDepth 65536
set_option maxHeartbeats 4000000

noncomputable section

namespace Cert.Proof.Wkv.CaseB

open Idealize.ShloMosaic Idealize.ShloMosaic.TcCoe Idealize.SL.Sem
open Cert.KernelIdeal Cert.KernelIdeal.Gen

variable {F : FTy → Type} [FloatOps F]
variable (c : Dev nD) (i : grid0.Coords) (arg2 : Memref sig .tc .vmem S1x256x1024 .bf16) (harg2 : arg2.IsWhole) (arg3 : Memref sig .tc .vmem S1x1x256x1024 .f32) (harg3 : arg3.IsWhole)
  (arg4 : Memref sig .tc .vmem S1x1x256x1024 .bf16) (harg4 : arg4.IsWhole) (arg5 : Memref sig .tc .vmem S1x256x1024 .f32) (harg5 : arg5.IsWhole)
  (arg6 : Memref sig .tc .vmem S1x256x1024 .bf16) (harg6 : arg6.IsWhole) (arg7 : Memref sig .tc .vmem S1x1x256x1024 .bf16) (harg7 : arg7.IsWhole)
  (arg8 : Memref sig .tc .vmem S1x256x1024 .f32) (harg8 : arg8.IsWhole) (arg9 : Memref sig .tc .vmem S4x64x256 .f32) (harg9 : arg9.IsWhole) (arg10 : Memref sig .tc .vmem S4x4x128x256 .bf16) (harg10 : arg10.IsWhole)
  (arg11 : Memref sig .tc .vmem S4x4x64x256 .f32) (harg11 : arg11.IsWhole) (arg12 : Memref sig .tc .vmem S4x4x64x256 .f32) (harg12 : arg12.IsWhole)
  (x0 : Vec F S1x256x1024 .bf16) (x1 : Vec F S1x1x256x1024 .f32) (x2 : Vec F S1x1x256x1024 .bf16) (x3 : Vec F S1x256x1024 .f32) (x4 : Vec F S1x256x1024 .bf16) (x5 : Vec F S1x1x256x1024 .bf16) (xs0 : Vec F S4x64x256 .f32)

theorem HS1 : kernelRun0_B.sl.HS1_32 c arg2 harg2 arg3 harg3 arg4 harg4 arg6 harg6 arg7 harg7 x0 x1 x2 x4 x5 = [⟨Rect.unit ![3, 3, 64, 0] S1x1x64x256.size inb_S4x4x128x256_S1x1x64x256_3_3_64_0, lhsB (C (ldOf arg2 harg2 arg3 harg3 arg4 harg4 arg5 harg5 arg6 harg6 arg7 harg7 x0 x1 x2 x3 x4 x5) 3 3)⟩,
    ⟨Rect.unit ![3, 3, 0, 0] S1x1x64x256.size inb_S4x4x128x256_S1x1x64x256_3_3_0_0, lhsT (C (ldOf arg2 harg2 arg3 harg3 arg4 harg4 arg5 harg5 arg6 harg6 arg7 harg7 x0 x1 x2 x3 x4 x5) 3 3)⟩,
    ⟨Rect.unit ![3, 2, 64, 0] S1x1x64x256.size inb_S4x4x128x256_S1x1x64x256_3_2_64_0, lhsB (C (ldOf arg2 harg2 arg3 harg3 arg4 harg4 arg5 harg5 arg6 harg6 arg7 harg7 x0 x1 x2 x3 x4 x5) 3 2)⟩,
    ⟨Rect.unit ![3, 2, 0, 0] S1x1x64x256.size inb_S4x4x128x256_S1x1x64x256_3_2_0_0, lhsT (C (ldOf arg2 harg2 arg3 harg3 arg4 harg4 arg5 harg5 arg6 harg6 arg7 harg7 x0 x1 x2 x3 x4 x5) 3 2)⟩,
    ⟨Rect.unit ![3, 1, 64, 0] S1x1x64x256.size inb_S4x4x128x256_S1x1x64x256_3_1_64_0, lhsB (C (ldOf arg2 harg2 arg3 harg3 arg4 harg4 arg5 harg5 arg6 harg6 arg7 harg7 x0 x1 x2 x3 x4 x5) 3 1)⟩,
    ⟨Rect.unit ![3, 1, 0, 0] S1x1x64x256.size inb_S4x4x128x256_S1x1x64x256_3_1_0_0, lhsT (C (ldOf arg2 harg2 arg3 harg3 arg4 harg4 arg5 harg5 arg6 harg6 arg7 harg7 x0 x1 x2 x3 x4 x5) 3 1)⟩,
    ⟨Rect.unit ![3, 0, 64, 0] S1x1x64x256.size inb_S4x4x128x256_S1x1x64x256_3_0_64_0, lhsB (C (ldOf arg2 harg2 arg3 harg3 arg4 harg4 arg5 harg5 arg6 harg6 arg7 harg7 x0 x1 x2 x3 x4 x5) 3 0)⟩,
    ⟨Rect.unit ![3, 0, 0, 0] S1x1x64x256.size inb_S4x4x128x256_S1x1x64x256_3_0_0_0, lhsT (C (ldOf arg2 harg2 arg3 harg3 arg4 harg4 arg5 harg5 arg6 harg6 arg7 harg7 x0 x1 x2 x3 x4 x5) 3 0)⟩,
    ⟨Rect.unit ![2, 3, 64, 0] S1x1x64x256.size inb_S4x4x128x256_S1x1x64x256_2_3_64_0, lhsB (C (ldOf arg2 harg2 arg3 harg3 arg4 harg4 arg5 harg5 arg6 harg6 arg7 harg7 x0 x1 x2 x3 x4 x5) 2 3)⟩,
    ⟨Rect.unit ![2, 3, 0, 0] S1x1x64x256.size inb_S4x4x128x256_S1x1x64x256_2_3_0_0, lhsT (C (ldOf arg2 harg2 arg3 harg3 arg4 harg4 arg5 harg5 arg6 harg6 arg7 harg7 x0 x1 x2 x3 x4 x5) 2 3)⟩,
    ⟨Rect.unit ![2, 2, 64, 0] S1x1x64x256.size inb_S4x4x128x256_S1x1x64x256_2_2_64_0, lhsB (C (ldOf arg2 harg2 arg3 harg3 arg4 harg4 arg5 harg5 arg6 harg6 arg7 harg7 x0 x1 x2 x3 x4 x5) 2 2)⟩,
    ⟨Rect.unit ![2, 2, 0, 0] S1x1x64x256.size inb_S4x4x128x256_S1x1x64x256_2_2_0_0, lhsT (C (ldOf arg2 harg2 arg3 harg3 arg4 harg4 arg5 harg5 arg6 harg6 arg7 harg7 x0 x1 x2 x3 x4 x5) 2 2)⟩,
    ⟨Rect.unit ![2, 1, 64, 0] S1x1x64x256.size inb_S4x4x128x256_S1x1x64x256_2_1_64_0, lhsB (C (ldOf arg2 harg2 arg3 harg3 arg4 harg4 arg5 harg5 arg6 harg6 arg7 harg7 x0 x1 x2 x3 x4 x5) 2 1)⟩,
    ⟨Rect.unit ![2, 1, 0, 0] S1x1x64x256.size inb_S4x4x128x256_S1x1x64x256_2_1_0_0, lhsT (C (ldOf arg2 harg2 arg3 harg3 arg4 harg4 arg5 harg5 arg6 harg6 arg7 harg7 x0 x1 x2 x3 x4 x5) 2 1)⟩,
    ⟨Rect.unit ![2, 0, 64, 0] S1x1x64x256.size inb_S4x4x128x256_S1x1x64x256_2_0_64_0, lhsB (C (ldOf arg2 harg2 arg3 harg3 arg4 harg4 arg5 harg5 arg6 harg6 arg7 harg7 x0 x1 x2 x3 x4 x5) 2 0)⟩,
    ⟨Rect.unit ![2, 0, 0, 0] S1x1x64x256.size inb_S4x4x128x256_S1x1x64x256_2_0_0_0, lhsT (C (ldOf arg2 harg2 arg3 harg3 arg4 harg4 arg5 harg5 arg6 harg6 arg7 harg7 x0 x1 x2 x3 x4 x5) 2 0)⟩,
    ⟨Rect.unit ![1, 3, 64, 0] S1x1x64x256.size inb_S4x4x128x256_S1x1x64x256_1_3_64_0, lhsB (C (ldOf arg2 harg2 arg3 harg3 arg4 harg4 arg5 harg5 arg6 harg6 arg7 harg7 x0 x1 x2 x3 x4 x5) 1 3)⟩,
    ⟨Rect.unit ![1, 3, 0, 0] S1x1x64x256.size inb_S4x4x128x256_S1x1x64x256_1_3_0_0, lhsT (C (ldOf arg2 harg2 arg3 harg3 arg4 harg4 arg5 harg5 arg6 harg6 arg7 harg7 x0 x1 x2 x3 x4 x5) 1 3)⟩,
    ⟨Rect.unit ![1, 2, 64, 0] S1x1x64x256.size inb_S4x4x128x256_S1x1x64x256_1_2_64_0, lhsB (C (ldOf arg2 harg2 arg3 harg3 arg4 harg4 arg5 harg5 arg6 harg6 arg7 harg7 x0 x1 x2 x3 x4 x5) 1 2)⟩,
    ⟨Rect.unit ![1, 2, 0, 0] S1x1x64x256.size inb_S4x4x128x256_S1x1x64x256_1_2_0_0, lhsT (C (ldOf arg2 harg2 arg3 harg3 arg4 harg4 arg5 harg5 arg6 harg6 arg7 harg7 x0 x1 x2 x3 x4 x5) 1 2)⟩,
    ⟨Rect.unit ![1, 1, 64, 0] S1x1x64x256.size inb_S4x4x128x256_S1x1x64x256_1_1_64_0, lhsB (C (ldOf arg2 harg2 arg3 harg3 arg4 harg4 arg5 harg5 arg6 harg6 arg7 harg7 x0 x1 x2 x3 x4 x5) 1 1)⟩,
    ⟨Rect.unit ![1, 1, 0, 0] S1x1x64x256.size inb_S4x4x128x256_S1x1x64x256_1_1_0_0, lhsT (C (ldOf arg2 harg2 arg3 harg3 arg4 harg4 arg5 harg5 arg6 harg6 arg7 harg7 x0 x1 x2 x3 x4 x5) 1 1)⟩,
    ⟨Rect.unit ![1, 0, 64, 0] S1x1x64x256.size inb_S4x4x128x256_S1x1x64x256_1_0_64_0, lhsB (C (ldOf arg2 harg2 arg3 harg3 arg4 harg4 arg5 harg5 arg6 harg6 arg7 harg7 x0 x1 x2 x3 x4 x5) 1 0)⟩,
    ⟨Rect.unit ![1, 0, 0, 0] S1x1x64x256.size inb_S4x4x128x256_S1x1x64x256_1_0_0_0, lhsT (C (ldOf arg2 harg2 arg3 harg3 arg4 harg4 arg5 harg5 arg6 harg6 arg7 harg7 x0 x1 x2 x3 x4 x5) 1 0)⟩,
    ⟨Rect.unit ![0, 3, 64, 0] S1x1x64x256.size inb_S4x4x128x256_S1x1x64x256_0_3_64_0, lhsB (C (ldOf arg2 harg2 arg3 harg3 arg4 harg4 arg5 harg5 arg6 harg6 arg7 harg7 x0 x1 x2 x3 x4 x5) 0 3)⟩,
    ⟨Rect.unit ![0, 3, 0, 0] S1x1x64x256.size inb_S4x4x128x256_S1x1x64x256_0_3_0_0, lhsT (C (ldOf arg2 harg2 arg3 harg3 arg4 harg4 arg5 harg5 arg6 harg6 arg7 harg7 x0 x1 x2 x3 x4 x5) 0 3)⟩,
    ⟨Rect.unit ![0, 2, 64, 0] S1x1x64x256.size inb_S4x4x128x256_S1x1x64x256_0_2_64_0, lhsB (C (ldOf arg2 harg2 arg3 harg3 arg4 harg4 arg5 harg5 arg6 harg6 arg7 harg7 x0 x1 x2 x3 x4 x5) 0 2)⟩,
    ⟨Rect.unit ![0, 2, 0, 0] S1x1x64x256.size inb_S4x4x128x256_S1x1x64x256_0_2_0_0, lhsT (C (ldOf arg2 harg2 arg3 harg3 arg4 harg4 arg5 harg5 arg6 harg6 arg7 harg7 x0 x1 x2 x3 x4 x5) 0 2)⟩,
    ⟨Rect.unit ![0, 1, 64, 0] S1x1x64x256.size inb_S4x4x128x256_S1x1x64x256_0_1_64_0, lhsB (C (ldOf arg2 harg2 arg3 harg3 arg4 harg4 arg5 harg5 arg6 harg6 arg7 harg7 x0 x1 x2 x3 x4 x5) 0 1)⟩,
    ⟨Rect.unit ![0, 1, 0, 0] S1x1x64x256.size inb_S4x4x128x256_S1x1x64x256_0_1_0_0, lhsT (C (ldOf arg2 harg2 arg3 harg3 arg4 harg4 arg5 harg5 arg6 harg6 arg7 harg7 x0 x1 x2 x3 x4 x5) 0 1)⟩,
    ⟨Rect.unit ![0, 0, 64, 0] S1x1x64x256.size inb_S4x4x128x256_S1x1x64x256_0_0_64_0, lhsB (C (ldOf arg2 harg2 arg3 harg3 arg4 harg4 arg5 harg5 arg6 harg6 arg7 harg7 x0 x1 x2 x3 x4 x5) 0 0)⟩,
    ⟨Rect.unit ![0, 0, 0, 0] S1x1x64x256.size inb_S4x4x128x256_S1x1x64x256_0_0_0_0, lhsT (C (ldOf arg2 harg2 arg3 harg3 arg4 harg4 arg5 harg5 arg6 harg6 arg7 harg7 x0 x1 x2 x3 x4 x5) 0 0)⟩] := by
  rfl

theorem HS2 : kernelRun0_B.sl.HS2_16 c arg2 harg2 arg3 harg3 arg4 harg4 arg5 harg5 arg6 harg6 arg7 harg7 x0 x1 x2 x3 x4 x5 = [⟨Rect.unit ![3, 3, 0, 0] S1x1x64x256.size inb_S4x4x64x256_S1x1x64x256_3_3_0_0, inc (C (ldOf arg2 harg2 arg3 harg3 arg4 harg4 arg5 harg5 arg6 harg6 arg7 harg7 x0 x1 x2 x3 x4 x5) 3 3)⟩,
    ⟨Rect.unit ![3, 2, 0, 0] S1x1x64x256.size inb_S4x4x64x256_S1x1x64x256_3_2_0_0, inc (C (ldOf arg2 harg2 arg3 harg3 arg4 harg4 arg5 harg5 arg6 harg6 arg7 harg7 x0 x1 x2 x3 x4 x5) 3 2)⟩,
    ⟨Rect.unit ![3, 1, 0, 0] S1x1x64x256.size inb_S4x4x64x256_S1x1x64x256_3_1_0_0, inc (C (ldOf arg2 harg2 arg3 harg3 arg4 harg4 arg5 harg5 arg6 harg6 arg7 harg7 x0 x1 x2 x3 x4 x5) 3 1)⟩,
    ⟨Rect.unit ![3, 0, 0, 0] S1x1x64x256.size inb_S4x4x64x256_S1x1x64x256_3_0_0_0, inc (C (ldOf arg2 harg2 arg3 harg3 arg4 harg4 arg5 harg5 arg6 harg6 arg7 harg7 x0 x1 x2 x3 x4 x5) 3 0)⟩,
    ⟨Rect.unit ![2, 3, 0, 0] S1x1x64x256.size inb_S4x4x64x256_S1x1x64x256_2_3_0_0, inc (C (ldOf arg2 harg2 arg3 harg3 arg4 harg4 arg5 harg5 arg6 harg6 arg7 harg7 x0 x1 x2 x3 x4 x5) 2 3)⟩,
    ⟨Rect.unit ![2, 2, 0, 0] S1x1x64x256.size inb_S4x4x64x256_S1x1x64x256_2_2_0_0, inc (C (ldOf arg2 harg2 arg3 harg3 arg4 harg4 arg5 harg5 arg6 harg6 arg7 harg7 x0 x1 x2 x3 x4 x5) 2 2)⟩,
    ⟨Rect.unit ![2, 1, 0, 0] S1x1x64x256.size inb_S4x4x64x256_S1x1x64x256_2_1_0_0, inc (C (ldOf arg2 harg2 arg3 harg3 arg4 harg4 arg5 harg5 arg6 harg6 arg7 harg7 x0 x1 x2 x3 x4 x5) 2 1)⟩,
    ⟨Rect.unit ![2, 0, 0, 0] S1x1x64x256.size inb_S4x4x64x256_S1x1x64x256_2_0_0_0, inc (C (ldOf arg2 harg2 arg3 harg3 arg4 harg4 arg5 harg5 arg6 harg6 arg7 harg7 x0 x1 x2 x3 x4 x5) 2 0)⟩,
    ⟨Rect.unit ![1, 3, 0, 0] S1x1x64x256.size inb_S4x4x64x256_S1x1x64x256_1_3_0_0, inc (C (ldOf arg2 harg2 arg3 harg3 arg4 harg4 arg5 harg5 arg6 harg6 arg7 harg7 x0 x1 x2 x3 x4 x5) 1 3)⟩,
    ⟨Rect.unit ![1, 2, 0, 0] S1x1x64x256.size inb_S4x4x64x256_S1x1x64x256_1_2_0_0, inc (C (ldOf arg2 harg2 arg3 harg3 arg4 harg4 arg5 harg5 arg6 harg6 arg7 harg7 x0 x1 x2 x3 x4 x5) 1 2)⟩,
    ⟨Rect.unit ![1, 1, 0, 0] S1x1x64x256.size inb_S4x4x64x256_S1x1x64x256_1_1_0_0, inc (C (ldOf arg2 harg2 arg3 harg3 arg4 harg4 arg5 harg5 arg6 harg6 arg7 harg7 x0 x1 x2 x3 x4 x5) 1 1)⟩,
    ⟨Rect.unit ![1, 0, 0, 0] S1x1x64x256.size inb_S4x4x64x256_S1x1x64x256_1_0_0_0, inc (C (ldOf arg2 harg2 arg3 harg3 arg4 harg4 arg5 harg5 arg6 harg6 arg7 harg7 x0 x1 x2 x3 x4 x5) 1 0)⟩,
    ⟨Rect.unit ![0, 3, 0, 0] S1x1x64x256.size inb_S4x4x64x256_S1x1x64x256_0_3_0_0, inc (C (ldOf arg2 harg2 arg3 harg3 arg4 harg4 arg5 harg5 arg6 harg6 arg7 harg7 x0 x1 x2 x3 x4 x5) 0 3)⟩,
    ⟨Rect.unit ![0, 2, 0, 0] S1x1x64x256.size inb_S4x4x64x256_S1x1x64x256_0_2_0_0, inc (C (ldOf arg2 harg2 arg3 harg3 arg4 harg4 arg5 harg5 arg6 harg6 arg7 harg7 x0 x1 x2 x3 x4 x5) 0 2)⟩,
    ⟨Rect.unit ![0, 1, 0, 0] S1x1x64x256.size inb_S4x4x64x256_S1x1x64x256_0_1_0_0, inc (C (ldOf arg2 harg2 arg3 harg3 arg4 harg4 arg5 harg5 arg6 harg6 arg7 harg7 x0 x1 x2 x3 x4 x5) 0 1)⟩,
    ⟨Rect.unit ![0, 0, 0, 0] S1x1x64x256.size inb_S4x4x64x256_S1x1x64x256_0_0_0_0, inc (C (ldOf arg2 harg2 arg3 harg3 arg4 harg4 arg5 harg5 arg6 harg6 arg7 harg7 x0 x1 x2 x3 x4 x5) 0 0)⟩] := by
  rfl

theorem HS3 : kernelRun0_B.sl.HS3_16 c arg3 harg3 x1 = [⟨Rect.unit ![3, 3, 0, 0] S1x1x64x256.size inb_S4x4x64x256_S1x1x64x256_3_3_0_0, W (ldOf arg2 harg2 arg3 harg3 arg4 harg4 arg5 harg5 arg6 harg6 arg7 harg7 x0 x1 x2 x3 x4 x5) 3 3⟩,
    ⟨Rect.unit ![3, 2, 0, 0] S1x1x64x256.size inb_S4x4x64x256_S1x1x64x256_3_2_0_0, W (ldOf arg2 harg2 arg3 harg3 arg4 harg4 arg5 harg5 arg6 harg6 arg7 harg7 x0 x1 x2 x3 x4 x5) 3 2⟩,
    ⟨Rect.unit ![3, 1, 0, 0] S1x1x64x256.size inb_S4x4x64x256_S1x1x64x256_3_1_0_0, W (ldOf arg2 harg2 arg3 harg3 arg4 harg4 arg5 harg5 arg6 harg6 arg7 harg7 x0 x1 x2 x3 x4 x5) 3 1⟩,
    ⟨Rect.unit ![3, 0, 0, 0] S1x1x64x256.size inb_S4x4x64x256_S1x1x64x256_3_0_0_0, W (ldOf arg2 harg2 arg3 harg3 arg4 harg4 arg5 harg5 arg6 harg6 arg7 harg7 x0 x1 x2 x3 x4 x5) 3 0⟩,
    ⟨Rect.unit ![2, 3, 0, 0] S1x1x64x256.size inb_S4x4x64x256_S1x1x64x256_2_3_0_0, W (ldOf arg2 harg2 arg3 harg3 arg4 harg4 arg5 harg5 arg6 harg6 arg7 harg7 x0 x1 x2 x3 x4 x5) 2 3⟩,
    ⟨Rect.unit ![2, 2, 0, 0] S1x1x64x256.size inb_S4x4x64x256_S1x1x64x256_2_2_0_0, W (ldOf arg2 harg2 arg3 harg3 arg4 harg4 arg5 harg5 arg6 harg6 arg7 harg7 x0 x1 x2 x3 x4 x5) 2 2⟩,
    ⟨Rect.unit ![2, 1, 0, 0] S1x1x64x256.size inb_S4x4x64x256_S1x1x64x256_2_1_0_0, W (ldOf arg2 harg2 arg3 harg3 arg4 harg4 arg5 harg5 arg6 harg6 arg7 harg7 x0 x1 x2 x3 x4 x5) 2 1⟩,
    ⟨Rect.unit ![2, 0, 0, 0] S1x1x64x256.size inb_S4x4x64x256_S1x1x64x256_2_0_0_0, W (ldOf arg2 harg2 arg3 harg3 arg4 harg4 arg5 harg5 arg6 harg6 arg7 harg7 x0 x1 x2 x3 x4 x5) 2 0⟩,
    ⟨Rect.unit ![1, 3, 0, 0] S1x1x64x256.size inb_S4x4x64x256_S1x1x64x256_1_3_0_0, W (ldOf arg2 harg2 arg3 harg3 arg4 harg4 arg5 harg5 arg6 harg6 arg7 harg7 x0 x1 x2 x3 x4 x5) 1 3⟩,
    ⟨Rect.unit ![1, 2, 0, 0] S1x1x64x256.size inb_S4x4x64x256_S1x1x64x256_1_2_0_0, W (ldOf arg2 harg2 arg3 harg3 arg4 harg4 arg5 harg5 arg6 harg6 arg7 harg7 x0 x1 x2 x3 x4 x5) 1 2⟩,
    ⟨Rect.unit ![1, 1, 0, 0] S1x1x64x256.size inb_S4x4x64x256_S1x1x64x256_1_1_0_0, W (ldOf arg2 harg2 arg3 harg3 arg4 harg4 arg5 harg5 arg6 harg6 arg7 harg7 x0 x1 x2 x3 x4 x5) 1 1⟩,
    ⟨Rect.unit ![1, 0, 0, 0] S1x1x64x256.size inb_S4x4x64x256_S1x1x64x256_1_0_0_0, W (ldOf arg2 harg2 arg3 harg3 arg4 harg4 arg5 harg5 arg6 harg6 arg7 harg7 x0 x1 x2 x3 x4 x5) 1 0⟩,
    ⟨Rect.unit ![0, 3, 0, 0] S1x1x64x256.size inb_S4x4x64x256_S1x1x64x256_0_3_0_0, W (ldOf arg2 harg2 arg3 harg3 arg4 harg4 arg5 harg5 arg6 harg6 arg7 harg7 x0 x1 x2 x3 x4 x5) 0 3⟩,
    ⟨Rect.unit ![0, 2, 0, 0] S1x1x64x256.size inb_S4x4x64x256_S1x1x64x256_0_2_0_0, W (ldOf arg2 harg2 arg3 harg3 arg4 harg4 arg5 harg5 arg6 harg6 arg7 harg7 x0 x1 x2 x3 x4 x5) 0 2⟩,
    ⟨Rect.unit ![0, 1, 0, 0] S1x1x64x256.size inb_S4x4x64x256_S1x1x64x256_0_1_0_0, W (ldOf arg2 harg2 arg3 harg3 arg4 harg4 arg5 harg5 arg6 harg6 arg7 harg7 x0 x1 x2 x3 x4 x5) 0 1⟩,
    ⟨Rect.unit ![0, 0, 0, 0] S1x1x64x256.size inb_S4x4x64x256_S1x1x64x256_0_0_0_0, W (ldOf arg2 harg2 arg3 harg3 arg4 harg4 arg5 harg5 arg6 harg6 arg7 harg7 x0 x1 x2 x3 x4 x5) 0 0⟩] := by
  rfl

theorem H6 : kernelRun0_B.sl.H6_16 c arg2 harg2 arg3 harg3 arg4 harg4 arg5 harg5 arg6 harg6 arg7 harg7 x0 x1 x2 x3 x4 x5 = [⟨Rect.unit ![0, 192, 768] S1x64x256.size inb_S1x256x1024_S1x64x256_0_192_768, yPart (C (ldOf arg2 harg2 arg3 harg3 arg4 harg4 arg5 harg5 arg6 harg6 arg7 harg7 x0 x1 x2 x3 x4 x5) 3 3)⟩,
    ⟨Rect.unit ![0, 192, 512] S1x64x256.size inb_S1x256x1024_S1x64x256_0_192_512, yPart (C (ldOf arg2 harg2 arg3 harg3 arg4 harg4 arg5 harg5 arg6 harg6 arg7 harg7 x0 x1 x2 x3 x4 x5) 3 2)⟩,
    ⟨Rect.unit ![0, 192, 256] S1x64x256.size inb_S1x256x1024_S1x64x256_0_192_256, yPart (C (ldOf arg2 harg2 arg3 harg3 arg4 harg4 arg5 harg5 arg6 harg6 arg7 harg7 x0 x1 x2 x3 x4 x5) 3 1)⟩,
    ⟨Rect.unit ![0, 192, 0] S1x64x256.size inb_S1x256x1024_S1x64x256_0_192_0, yPart (C (ldOf arg2 harg2 arg3 harg3 arg4 harg4 arg5 harg5 arg6 harg6 arg7 harg7 x0 x1 x2 x3 x4 x5) 3 0)⟩,
    ⟨Rect.unit ![0, 128, 768] S1x64x256.size inb_S1x256x1024_S1x64x256_0_128_768, yPart (C (ldOf arg2 harg2 arg3 harg3 arg4 harg4 arg5 harg5 arg6 harg6 arg7 harg7 x0 x1 x2 x3 x4 x5) 2 3)⟩,
    ⟨Rect.unit ![0, 128, 512] S1x64x256.size inb_S1x256x1024_S1x64x256_0_128_512, yPart (C (ldOf arg2 harg2 arg3 harg3 arg4 harg4 arg5 harg5 arg6 harg6 arg7 harg7 x0 x1 x2 x3 x4 x5) 2 2)⟩,
    ⟨Rect.unit ![0, 128, 256] S1x64x256.size inb_S1x256x1024_S1x64x256_0_128_256, yPart (C (ldOf arg2 harg2 arg3 harg3 arg4 harg4 arg5 harg5 arg6 harg6 arg7 harg7 x0 x1 x2 x3 x4 x5) 2 1)⟩,
    ⟨Rect.unit ![0, 128, 0] S1x64x256.size inb_S1x256x1024_S1x64x256_0_128_0, yPart (C (ldOf arg2 harg2 arg3 harg3 arg4 harg4 arg5 harg5 arg6 harg6 arg7 harg7 x0 x1 x2 x3 x4 x5) 2 0)⟩,
    ⟨Rect.unit ![0, 64, 768] S1x64x256.size inb_S1x256x1024_S1x64x256_0_64_768, yPart (C (ldOf arg2 harg2 arg3 harg3 arg4 harg4 arg5 harg5 arg6 harg6 arg7 harg7 x0 x1 x2 x3 x4 x5) 1 3)⟩,
    ⟨Rect.unit ![0, 64, 512] S1x64x256.size inb_S1x256x1024_S1x64x256_0_64_512, yPart (C (ldOf arg2 harg2 arg3 harg3 arg4 harg4 arg5 harg5 arg6 harg6 arg7 harg7 x0 x1 x2 x3 x4 x5) 1 2)⟩,
    ⟨Rect.unit ![0, 64, 256] S1x64x256.size inb_S1x256x1024_S1x64x256_0_64_256, yPart (C (ldOf arg2 harg2 arg3 harg3 arg4 harg4 arg5 harg5 arg6 harg6 arg7 harg7 x0 x1 x2 x3 x4 x5) 1 1)⟩,
    ⟨Rect.unit ![0, 64, 0] S1x64x256.size inb_S1x256x1024_S1x64x256_0_64_0, yPart (C (ldOf arg2 harg2 arg3 harg3 arg4 harg4 arg5 harg5 arg6 harg6 arg7 harg7 x0 x1 x2 x3 x4 x5) 1 0)⟩,
    ⟨Rect.unit ![0, 0, 768] S1x64x256.size inb_S1x256x1024_S1x64x256_0_0_768, yPart (C (ldOf arg2 harg2 arg3 harg3 arg4 harg4 arg5 harg5 arg6 harg6 arg7 harg7 x0 x1 x2 x3 x4 x5) 0 3)⟩,
    ⟨Rect.unit ![0, 0, 512] S1x64x256.size inb_S1x256x1024_S1x64x256_0_0_512, yPart (C (ldOf arg2 harg2 arg3 harg3 arg4 harg4 arg5 harg5 arg6 harg6 arg7 harg7 x0 x1 x2 x3 x4 x5) 0 2)⟩,
    ⟨Rect.unit ![0, 0, 256] S1x64x256.size inb_S1x256x1024_S1x64x256_0_0_256, yPart (C (ldOf arg2 harg2 arg3 harg3 arg4 harg4 arg5 harg5 arg6 harg6 arg7 harg7 x0 x1 x2 x3 x4 x5) 0 1)⟩,
    ⟨Rect.unit ![0, 0, 0] S1x64x256.size inb_S1x256x1024_S1x64x256_0_0_0, yPart (C (ldOf arg2 harg2 arg3 harg3 arg4 harg4 arg5 harg5 arg6 harg6 arg7 harg7 x0 x1 x2 x3 x4 x5) 0 0)⟩] := by
  rfl

theorem v : kernelRun0_B.sl.v c arg3 harg3 arg12 x1 = W (ldOf arg2 harg2 arg3 harg3 arg4 harg4 arg5 harg5 arg6 harg6 arg7 harg7 x0 x1 x2 x3 x4 x5) 2 2 := by
  unfold kernelRun0_B.sl.v
  rw [HS3]
  try simp (disch := decide) only [↓ View.readCov_skip]
  exact View.readCov_cons_toLoadRect _ _ _ _

theorem v2945 : kernelRun0_B.sl.v2945 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 0 0) := by
  unfold kernelRun0_B.sl.v2945
  rw [HS1]
  try simp (disch := decide) only [↓ View.readCov_skip]
  exact readHalves _ _ _ _ _ _ _ _

theorem v2952 : kernelRun0_B.sl.v2952 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 0 1) := by
  unfold kernelRun0_B.sl.v2952
  rw [HS1]
  try simp (disch := decide) only [↓ View.readCov_skip]
  exact readHalves _ _ _ _ _ _ _ _

theorem v2959 : kernelRun0_B.sl.v2959 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 0 2) := by
  unfold kernelRun0_B.sl.v2959
  rw [HS1]
  try simp (disch := decide) only [↓ View.readCov_skip]
  exact readHalves _ _ _ _ _ _ _ _

theorem v2966 : kernelRun0_B.sl.v2966 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 0 3) := by
  unfold kernelRun0_B.sl.v2966
  rw [HS1]
  try simp (disch := decide) only [↓ View.readCov_skip]
  exact readHalves _ _ _ _ _ _ _ _

theorem v2980 : kernelRun0_B.sl.v2980 c arg3 harg3 arg12 x1 = W (ldOf arg2 harg2 arg3 harg3 arg4 harg4 arg5 harg5 arg6 harg6 arg7 harg7 x0 x1 x2 x3 x4 x5) 0 0 := by
  unfold kernelRun0_B.sl.v2980
  rw [HS3]
  try simp (disch := decide) only [↓ View.readCov_skip]
  exact View.readCov_cons_toLoadRect _ _ _ _

theorem v2985 : kernelRun0_B.sl.v2985 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 0 0) := by
  unfold kernelRun0_B.sl.v2985
  rw [HS2]
  try simp (disch := decide) only [↓ View.readCov_skip]
  exact View.readCov_cons_toLoadRect _ _ _ _

theorem v2998 : kernelRun0_B.sl.v2998 c arg3 harg3 arg12 x1 = W (ldOf arg2 harg2 arg3 harg3 arg4 harg4 arg5 harg5 arg6 harg6 arg7 harg7 x0 x1 x2 x3 x4 x5) 0 1 := by
  unfold kernelRun0_B.sl.v2998
  rw [HS3]
  try simp (disch := decide) only [↓ View.readCov_skip]
  exact View.readCov_cons_toLoadRect _ _ _ _

theorem v3003 : kernelRun0_B.sl.v3003 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 0 1) := by
  unfold kernelRun0_B.sl.v3003
  rw [HS2]
  try simp (disch := decide) only [↓ View.readCov_skip]
  exact View.readCov_cons_toLoadRect _ _ _ _

theorem v3016 : kernelRun0_B.sl.v3016 c arg3 harg3 arg12 x1 = W (ldOf arg2 harg2 arg3 harg3 arg4 harg4 arg5 harg5 arg6 harg6 arg7 harg7 x0 x1 x2 x3 x4 x5) 0 2 := by
  unfold kernelRun0_B.sl.v3016
  rw [HS3]
  try simp (disch := decide) only [↓ View.readCov_skip]
  exact View.readCov_cons_toLoadRect _ _ _ _

theorem v3021 : kernelRun0_B.sl.v3021 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 0 2) := by
  unfold kernelRun0_B.sl.v3021
  rw [HS2]
  try simp (disch := decide) only [↓ View.readCov_skip]
  exact View.readCov_cons_toLoadRect _ _ _ _

theorem v3034 : kernelRun0_B.sl.v3034 c arg3 harg3 arg12 x1 = W (ldOf arg2 harg2 arg3 harg3 arg4 harg4 arg5 harg5 arg6 harg6 arg7 harg7 x0 x1 x2 x3 x4 x5) 0 3 := by
  unfold kernelRun0_B.sl.v3034
  rw [HS3]
  try simp (disch := decide) only [↓ View.readCov_skip]
  exact View.readCov_cons_toLoadRect _ _ _ _

theorem v3039 : kernelRun0_B.sl.v3039 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 0 3) := by
  unfold kernelRun0_B.sl.v3039
  rw [HS2]
  try simp (disch := decide) only [↓ View.readCov_skip]
  exact View.readCov_cons_toLoadRect _ _ _ _

theorem v3053 : kernelRun0_B.sl.v3053 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 1 0) := by
  unfold kernelRun0_B.sl.v3053
  rw [HS1]
  try simp (disch := decide) only [↓ View.readCov_skip]
  exact readHalves _ _ _ _ _ _ _ _

theorem v3060 : kernelRun0_B.sl.v3060 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 1 1) := by
  unfold kernelRun0_B.sl.v3060
  rw [HS1]
  try simp (disch := decide) only [↓ View.readCov_skip]
  exact readHalves _ _ _ _ _ _ _ _

theorem v3067 : kernelRun0_B.sl.v3067 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 1 2) := by
  unfold kernelRun0_B.sl.v3067
  rw [HS1]
  try simp (disch := decide) only [↓ View.readCov_skip]
  exact readHalves _ _ _ _ _ _ _ _

theorem v3074 : kernelRun0_B.sl.v3074 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 1 3) := by
  unfold kernelRun0_B.sl.v3074
  rw [HS1]
  try simp (disch := decide) only [↓ View.readCov_skip]
  exact readHalves _ _ _ _ _ _ _ _

theorem v3088 : kernelRun0_B.sl.v3088 c arg3 harg3 arg12 x1 = W (ldOf arg2 harg2 arg3 harg3 arg4 harg4 arg5 harg5 arg6 harg6 arg7 harg7 x0 x1 x2 x3 x4 x5) 1 0 := by
  unfold kernelRun0_B.sl.v3088
  rw [HS3]
  try simp (disch := decide) only [↓ View.readCov_skip]
  exact View.readCov_cons_toLoadRect _ _ _ _

theorem v3093 : kernelRun0_B.sl.v3093 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 1 0) := by
  unfold kernelRun0_B.sl.v3093
  rw [HS2]
  try simp (disch := decide) only [↓ View.readCov_skip]
  exact View.readCov_cons_toLoadRect _ _ _ _

theorem v3106 : kernelRun0_B.sl.v3106 c arg3 harg3 arg12 x1 = W (ldOf arg2 harg2 arg3 harg3 arg4 harg4 arg5 harg5 arg6 harg6 arg7 harg7 x0 x1 x2 x3 x4 x5) 1 1 := by
  unfold kernelRun0_B.sl.v3106
  rw [HS3]
  try simp (disch := decide) only [↓ View.readCov_skip]
  exact View.readCov_cons_toLoadRect _ _ _ _

theorem v3111 : kernelRun0_B.sl.v3111 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 1 1) := by
  unfold kernelRun0_B.sl.v3111
  rw [HS2]
  try simp (disch := decide) only [↓ View.readCov_skip]
  exact View.readCov_cons_toLoadRect _ _ _ _

theorem v3124 : kernelRun0_B.sl.v3124 c arg3 harg3 arg12 x1 = W (ldOf arg2 harg2 arg3 harg3 arg4 harg4 arg5 harg5 arg6 harg6 arg7 harg7 x0 x1 x2 x3 x4 x5) 1 2 := by
  unfold kernelRun0_B.sl.v3124
  rw [HS3]
  try simp (disch := decide) only [↓ View.readCov_skip]
  exact View.readCov_cons_toLoadRect _ _ _ _

theorem v3129 : kernelRun0_B.sl.v3129 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 1 2) := by
  unfold kernelRun0_B.sl.v3129
  rw [HS2]
  try simp (disch := decide) only [↓ View.readCov_skip]
  exact View.readCov_cons_toLoadRect _ _ _ _

theorem v3142 : kernelRun0_B.sl.v3142 c arg3 harg3 arg12 x1 = W (ldOf arg2 harg2 arg3 harg3 arg4 harg4 arg5 harg5 arg6 harg6 arg7 harg7 x0 x1 x2 x3 x4 x5) 1 3 := by
  unfold kernelRun0_B.sl.v3142
  rw [HS3]
  try simp (disch := decide) only [↓ View.readCov_skip]
  exact View.readCov_cons_toLoadRect _ _ _ _

theorem v3147 : kernelRun0_B.sl.v3147 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 1 3) := by
  unfold kernelRun0_B.sl.v3147
  rw [HS2]
  try simp (disch := decide) only [↓ View.readCov_skip]
  exact View.readCov_cons_toLoadRect _ _ _ _

theorem v3161 : kernelRun0_B.sl.v3161 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 2 0) := by
  unfold kernelRun0_B.sl.v3161
  rw [HS1]
  try simp (disch := decide) only [↓ View.readCov_skip]
  exact readHalves _ _ _ _ _ _ _ _

theorem v3168 : kernelRun0_B.sl.v3168 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 2 1) := by
  unfold kernelRun0_B.sl.v3168
  rw [HS1]
  try simp (disch := decide) only [↓ View.readCov_skip]
  exact readHalves _ _ _ _ _ _ _ _

theorem v3175 : kernelRun0_B.sl.v3175 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 2 2) := by
  unfold kernelRun0_B.sl.v3175
  rw [HS1]
  try simp (disch := decide) only [↓ View.readCov_skip]
  exact readHalves _ _ _ _ _ _ _ _

theorem v3182 : kernelRun0_B.sl.v3182 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 2 3) := by
  unfold kernelRun0_B.sl.v3182
  rw [HS1]
  try simp (disch := decide) only [↓ View.readCov_skip]
  exact readHalves _ _ _ _ _ _ _ _

theorem v3196 : kernelRun0_B.sl.v3196 c arg3 harg3 arg12 x1 = W (ldOf arg2 harg2 arg3 harg3 arg4 harg4 arg5 harg5 arg6 harg6 arg7 harg7 x0 x1 x2 x3 x4 x5) 2 0 := by
  unfold kernelRun0_B.sl.v3196
  rw [HS3]
  try simp (disch := decide) only [↓ View.readCov_skip]
  exact View.readCov_cons_toLoadRect _ _ _ _

theorem v3201 : kernelRun0_B.sl.v3201 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 2 0) := by
  unfold kernelRun0_B.sl.v3201
  rw [HS2]
  try simp (disch := decide) only [↓ View.readCov_skip]
  exact View.readCov_cons_toLoadRect _ _ _ _

theorem v3214 : kernelRun0_B.sl.v3214 c arg3 harg3 arg12 x1 = W (ldOf arg2 harg2 arg3 harg3 arg4 harg4 arg5 harg5 arg6 harg6 arg7 harg7 x0 x1 x2 x3 x4 x5) 2 1 := by
  unfold kernelRun0_B.sl.v3214
  rw [HS3]
  try simp (disch := decide) only [↓ View.readCov_skip]
  exact View.readCov_cons_toLoadRect _ _ _ _

theorem v3219 : kernelRun0_B.sl.v3219 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 2 1) := by
  unfold kernelRun0_B.sl.v3219
  rw [HS2]
  try simp (disch := decide) only [↓ View.readCov_skip]
  exact View.readCov_cons_toLoadRect _ _ _ _

theorem v3237 : kernelRun0_B.sl.v3237 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 2 2) := by
  unfold kernelRun0_B.sl.v3237
  rw [HS2]
  try simp (disch := decide) only [↓ View.readCov_skip]
  exact View.readCov_cons_toLoadRect _ _ _ _

theorem v3250 : kernelRun0_B.sl.v3250 c arg3 harg3 arg12 x1 = W (ldOf arg2 harg2 arg3 harg3 arg4 harg4 arg5 harg5 arg6 harg6 arg7 harg7 x0 x1 x2 x3 x4 x5) 2 3 := by
  unfold kernelRun0_B.sl.v3250
  rw [HS3]
  try simp (disch := decide) only [↓ View.readCov_skip]
  exact View.readCov_cons_toLoadRect _ _ _ _

theorem v3255 : kernelRun0_B.sl.v3255 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 2 3) := by
  unfold kernelRun0_B.sl.v3255
  rw [HS2]
  try simp (disch := decide) only [↓ View.readCov_skip]
  exact View.readCov_cons_toLoadRect _ _ _ _

theorem v3269 : kernelRun0_B.sl.v3269 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 3 0) := by
  unfold kernelRun0_B.sl.v3269
  rw [HS1]
  try simp (disch := decide) only [↓ View.readCov_skip]
  exact readHalves _ _ _ _ _ _ _ _

theorem v3276 : kernelRun0_B.sl.v3276 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 3 1) := by
  unfold kernelRun0_B.sl.v3276
  rw [HS1]
  try simp (disch := decide) only [↓ View.readCov_skip]
  exact readHalves _ _ _ _ _ _ _ _

theorem v3283 : kernelRun0_B.sl.v3283 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 3 2) := by
  unfold kernelRun0_B.sl.v3283
  rw [HS1]
  try simp (disch := decide) only [↓ View.readCov_skip]
  exact readHalves _ _ _ _ _ _ _ _

theorem v3290 : kernelRun0_B.sl.v3290 c arg2 harg2 arg3 harg3 arg4 harg4 arg6 harg6 arg7 harg7 arg10 x0 x1 x2 x4 x5 = lf (C (ldOf arg2 harg2 arg3 harg3 arg4 harg4 arg5 harg5 arg6 harg6 arg7 harg7 x0 x1 x2 x3 x4 x5) 3 3) := by
  unfold kernelRun0_B.sl.v3290
  rw [HS1]
  try simp (disch := decide) only [↓ View.readCov_skip]
  exact readHalves _ _ _ _ _ _ _ _

theorem v3304 : kernelRun0_B.sl.v3304 c arg3 harg3 arg12 x1 = W (ldOf arg2 harg2 arg3 harg3 arg4 harg4 arg5 harg5 arg6 harg6 arg7 harg7 x0 x1 x2 x3 x4 x5) 3 0 := by
  unfold kernelRun0_B.sl.v3304
  rw [HS3]
  try simp (disch := decide) only [↓ View.readCov_skip]
  exact View.readCov_cons_toLoadRect _ _ _ _

theorem v3309 : kernelRun0_B.sl.v3309 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 3 0) := by
  unfold kernelRun0_B.sl.v3309
  rw [HS2]
  try simp (disch := decide) only [↓ View.readCov_skip]
  exact View.readCov_cons_toLoadRect _ _ _ _

theorem v3322 : kernelRun0_B.sl.v3322 c arg3 harg3 arg12 x1 = W (ldOf arg2 harg2 arg3 harg3 arg4 harg4 arg5 harg5 arg6 harg6 arg7 harg7 x0 x1 x2 x3 x4 x5) 3 1 := by
  unfold kernelRun0_B.sl.v3322
  rw [HS3]
  try simp (disch := decide) only [↓ View.readCov_skip]
  exact View.readCov_cons_toLoadRect _ _ _ _

theorem v3327 : kernelRun0_B.sl.v3327 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 3 1) := by
  unfold kernelRun0_B.sl.v3327
  rw [HS2]
  try simp (disch := decide) only [↓ View.readCov_skip]
  exact View.readCov_cons_toLoadRect _ _ _ _

theorem v3340 : kernelRun0_B.sl.v3340 c arg3 harg3 arg12 x1 = W (ldOf arg2 harg2 arg3 harg3 arg4 harg4 arg5 harg5 arg6 harg6 arg7 harg7 x0 x1 x2 x3 x4 x5) 3 2 := by
  unfold kernelRun0_B.sl.v3340
  rw [HS3]
  try simp (disch := decide) only [↓ View.readCov_skip]
  exact View.readCov_cons_toLoadRect _ _ _ _

theorem v3345 : kernelRun0_B.sl.v3345 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 3 2) := by
  unfold kernelRun0_B.sl.v3345
  rw [HS2]
  try simp (disch := decide) only [↓ View.readCov_skip]
  exact View.readCov_cons_toLoadRect _ _ _ _

theorem v3358 : kernelRun0_B.sl.v3358 c arg3 harg3 arg12 x1 = W (ldOf arg2 harg2 arg3 harg3 arg4 harg4 arg5 harg5 arg6 harg6 arg7 harg7 x0 x1 x2 x3 x4 x5) 3 3 := by
  unfold kernelRun0_B.sl.v3358
  rw [HS3]
  try simp (disch := decide) only [↓ View.readCov_skip]
  exact View.readCov_cons_toLoadRect _ _ _ _

theorem v3363 : kernelRun0_B.sl.v3363 c arg2 harg2 arg3 harg3 arg4 harg4 arg5 harg5 arg6 harg6 arg7 harg7 arg11 x0 x1 x2 x3 x4 x5 = inc (C (ldOf arg2 harg2 arg3 harg3 arg4 harg4 arg5 harg5 arg6 harg6 arg7 harg7 x0 x1 x2 x3 x4 x5) 3 3) := by
  unfold kernelRun0_B.sl.v3363
  rw [HS2]
  try simp (disch := decide) only [↓ View.readCov_skip]
  exact View.readCov_cons_toLoadRect _ _ _ _

theorem v2973 : kernelRun0_B.sl.v2973 c arg2 harg2 arg3 harg3 arg4 harg4 arg5 harg5 arg6 harg6 arg7 harg7 arg8 x0 x1 x2 x3 x4 x5 = yPart (C (ldOf arg2 harg2 arg3 harg3 arg4 harg4 arg5 harg5 arg6 harg6 arg7 harg7 x0 x1 x2 x3 x4 x5) 0 0) := by
  unfold kernelRun0_B.sl.v2973
  rw [H6]
  try simp (disch := decide) only [↓ View.readCov_skip]
  exact View.readCov_cons_toLoadRect _ _ _ _

theorem H6_17 : kernelRun0_B.sl.H6_17 c arg2 harg2 arg3 harg3 arg4 harg4 arg5 harg5 arg6 harg6 arg7 harg7 arg8 arg9 harg9 arg10 x0 x1 x2 x3 x4 x5 xs0 = ⟨Rect.unit ![0, 0, 0] S1x64x256.size inb_S1x256x1024_S1x64x256_0_0_0, yAdd (kernelRun0_B.sl.v2945 c arg2 harg2 arg3 harg3 arg4 harg4 arg6 harg6 arg7 harg7 arg10 x0 x1 x2 x4 x5) (((fun g => View.readAt (Elt F) arg9.view (Rect.unit (s := S4x64x256) ![g.val, 0, 0] S1x64x256.size (inbS g)).toLoadRect (harg9.unread xs0)) 0)) (kernelRun0_B.sl.v2973 c arg2 harg2 arg3 harg3 arg4 harg4 arg5 harg5 arg6 harg6 arg7 harg7 arg8 x0 x1 x2 x3 x4 x5)⟩ :: kernelRun0_B.sl.H6_16 c arg2 harg2 arg3 harg3 arg4 harg4 arg5 harg5 arg6 harg6 arg7 harg7 x0 x1 x2 x3 x4 x5 := by
  rfl

theorem v2991 : kernelRun0_B.sl.v2991 c arg2 harg2 arg3 harg3 arg4 harg4 arg5 harg5 arg6 harg6 arg7 harg7 arg8 arg9 harg9 arg10 x0 x1 x2 x3 x4 x5 xs0 = yPart (C (ldOf arg2 harg2 arg3 harg3 arg4 harg4 arg5 harg5 arg6 harg6 arg7 harg7 x0 x1 x2 x3 x4 x5) 0 1) := by
  unfold kernelRun0_B.sl.v2991
  rw [H6_17, H6]
  try simp (disch := decide) only [↓ View.readCov_skip]
  exact View.readCov_cons_toLoadRect _ _ _ _

theorem H6_18 : kernelRun0_B.sl.H6_18 c arg2 harg2 arg3 harg3 arg4 harg4 arg5 harg5 arg6 harg6 arg7 harg7 arg8 arg9 harg9 arg10 x0 x1 x2 x3 x4 x5 xs0 = ⟨Rect.unit ![0, 0, 256] S1x64x256.size inb_S1x256x1024_S1x64x256_0_0_256, yAdd (kernelRun0_B.sl.v2952 c arg2 harg2 arg3 harg3 arg4 harg4 arg6 harg6 arg7 harg7 arg10 x0 x1 x2 x4 x5) (((fun g => View.readAt (Elt F) arg9.view (Rect.unit (s := S4x64x256) ![g.val, 0, 0] S1x64x256.size (inbS g)).toLoadRect (harg9.unread xs0)) 1)) (kernelRun0_B.sl.v2991 c arg2 harg2 arg3 harg3 arg4 harg4 arg5 harg5 arg6 harg6 arg7 harg7 arg8 arg9 harg9 arg10 x0 x1 x2 x3 x4 x5 xs0)⟩ :: kernelRun0_B.sl.H6_17 c arg2 harg2 arg3 harg3 arg4 harg4 arg5 harg5 arg6 harg6 arg7 harg7 arg8 arg9 harg9 arg10 x0 x1 x2 x3 x4 x5 xs0 := by
  rfl

theorem v3009 : kernelRun0_B.sl.v3009 c arg2 harg2 arg3 harg3 arg4 harg4 arg5 harg5 arg6 harg6 arg7 harg7 arg8 arg9 harg9 arg10 x0 x1 x2 x3 x4 x5 xs0 = yPart (C (ldOf arg2 harg2 arg3 harg3 arg4 harg4 arg5 harg5 arg6 harg6 arg7 harg7 x0 x1 x2 x3 x4 x5) 0 2) := by
  unfold kernelRun0_B.sl.v3009
  rw [H6_18, H6_17, H6]
  try simp (disch := decide) only [↓ View.readCov_skip]
  exact View.readCov_cons_toLoadRect _ _ _ _

theorem H6_19 : kernelRun0_B.sl.H6_19 c arg2 harg2 arg3 harg3 arg4 harg4 arg5 harg5 arg6 harg6 arg7 harg7 arg8 arg9 harg9 arg10 x0 x1 x2 x3 x4 x5 xs0 = ⟨Rect.unit ![0, 0, 512] S1x64x256.size inb_S1x256x1024_S1x64x256_0_0_512, yAdd (kernelRun0_B.sl.v2959 c arg2 harg2 arg3 harg3 arg4 harg4 arg6 harg6 arg7 harg7 arg10 x0 x1 x2 x4 x5) (((fun g => View.readAt (Elt F) arg9.view (Rect.unit (s := S4x64x256) ![g.val, 0, 0] S1x64x256.size (inbS g)).toLoadRect (harg9.unread xs0)) 2)) (kernelRun0_B.sl.v3009 c arg2 harg2 arg3 harg3 arg4 harg4 arg5 harg5 arg6 harg6 arg7 harg7 arg8 arg9 harg9 arg10 x0 x1 x2 x3 x4 x5 xs0)⟩ :: kernelRun0_B.sl.H6_18 c arg2 harg2 arg3 harg3 arg4 harg4 arg5 harg5 arg6 harg6 arg7 harg7 arg8 arg9 harg9 arg10 x0 x1 x2 x3 x4 x5 xs0 := by
  rfl

theorem v3027 : kernelRun0_B.sl.v3027 c arg2 harg2 arg3 harg3 arg4 harg4 arg5 harg5 arg6 harg6 arg7 harg7 arg8 arg9 harg9 arg10 x0 x1 x2 x3 x4 x5 xs0 = yPart (C (ldOf arg2 harg2 arg3 harg3 arg4 harg4 arg5 harg5 arg6 harg6 arg7 harg7 x0 x1 x2 x3 x4 x5) 0 3) := by
  unfold kernelRun0_B.sl.v3027
  rw [H6_19, H6_18, H6_17, H6]
  try simp (disch := decide) only [↓ View.readCov_skip]
  exact View.readCov_cons_toLoadRect _ _ _ _

theorem H6_20 : kernelRun0_B.sl.H6_20 c arg2 harg2 arg3 harg3 arg4 harg4 arg5 harg5 arg6 harg6 arg7 harg7 arg8 arg9 harg9 arg10 x0 x1 x2 x3 x4 x5 xs0 = ⟨Rect.unit ![0, 0, 768] S1x64x256.size inb_S1x256x1024_S1x64x256_0_0_768, yAdd (kernelRun0_B.sl.v2966 c arg2 harg2 arg3 harg3 arg4 harg4 arg6 harg6 arg7 harg7 arg10 x0 x1 x2 x4 x5) (((fun g => View.readAt (Elt F) arg9.view (Rect.unit (s := S4x64x256) ![g.val, 0, 0] S1x64x256.size (inbS g)).toLoadRect (harg9.unread xs0)) 3)) (kernelRun0_B.sl.v3027 c arg2 harg2 arg3 harg3 arg4 harg4 arg5 harg5 arg6 harg6 arg7 harg7 arg8 arg9 harg9 arg10 x0 x1 x2 x3 x4 x5 xs0)⟩ :: kernelRun0_B.sl.H6_19 c arg2 harg2 arg3 harg3 arg4 harg4 arg5 harg5 arg6 harg6 arg7 harg7 arg8 arg9 harg9 arg10 x0 x1 x2 x3 x4 x5 xs0 := by
  rfl

theorem HS0_4 : kernelRun0_B.sl.HS0_4 c arg2 harg2 arg3 harg3 arg4 harg4 arg5 harg5 arg6 harg6 arg7 harg7 arg9 harg9 arg10 arg11 arg12 x0 x1 x2 x3 x4 x5 xs0 = ⟨Rect.unit ![3, 0, 0] S1x64x256.size inb_S4x64x256_S1x64x256_3_0_0, sNext (kernelRun0_B.sl.v2966 c arg2 harg2 arg3 harg3 arg4 harg4 arg6 harg6 arg7 harg7 arg10 x0 x1 x2 x4 x5) (((fun g => View.readAt (Elt F) arg9.view (Rect.unit (s := S4x64x256) ![g.val, 0, 0] S1x64x256.size (inbS g)).toLoadRect (harg9.unread xs0)) 3)) (kernelRun0_B.sl.v3034 c arg3 harg3 arg12 x1) (kernelRun0_B.sl.v3039 c arg2 harg2 arg3 harg3 arg4 harg4 arg5 harg5 arg6 harg6 arg7 harg7 arg11 x0 x1 x2 x3 x4 x5)⟩ ::
    ⟨Rect.unit ![2, 0, 0] S1x64x256.size inb_S4x64x256_S1x64x256_2_0_0, sNext (kernelRun0_B.sl.v2959 c arg2 harg2 arg3 harg3 arg4 harg4 arg6 harg6 arg7 harg7 arg10 x0 x1 x2 x4 x5) (((fun g => View.readAt (Elt F) arg9.view (Rect.unit (s := S4x64x256) ![g.val, 0, 0] S1x64x256.size (inbS g)).toLoadRect (harg9.unread xs0)) 2)) (kernelRun0_B.sl.v3016 c arg3 harg3 arg12 x1) (kernelRun0_B.sl.v3021 c arg2 harg2 arg3 harg3 arg4 harg4 arg5 harg5 arg6 harg6 arg7 harg7 arg11 x0 x1 x2 x3 x4 x5)⟩ ::
    ⟨Rect.unit ![1, 0, 0] S1x64x256.size inb_S4x64x256_S1x64x256_1_0_0, sNext (kernelRun0_B.sl.v2952 c arg2 harg2 arg3 harg3 arg4 harg4 arg6 harg6 arg7 harg7 arg10 x0 x1 x2 x4 x5) (((fun g => View.readAt (Elt F) arg9.view (Rect.unit (s := S4x64x256) ![g.val, 0, 0] S1x64x256.size (inbS g)).toLoadRect (harg9.unread xs0)) 1)) (kernelRun0_B.sl.v2998 c arg3 harg3 arg12 x1) (kernelRun0_B.sl.v3003 c arg2 harg2 arg3 harg3 arg4 harg4 arg5 harg5 arg6 harg6 arg7 harg7 arg11 x0 x1 x2 x3 x4 x5)⟩ ::
    ⟨Rect.unit ![0, 0, 0] S1x64x256.size inb_S4x64x256_S1x64x256_0_0_0, sNext (kernelRun0_B.sl.v2945 c arg2 harg2 arg3 harg3 arg4 harg4 arg6 harg6 arg7 harg7 arg10 x0 x1 x2 x4 x5) (((fun g => View.readAt (Elt F) arg9.view (Rect.unit (s := S4x64x256) ![g.val, 0, 0] S1x64x256.size (inbS g)).toLoadRect (harg9.unread xs0)) 0)) (kernelRun0_B.sl.v2980 c arg3 harg3 arg12 x1) (kernelRun0_B.sl.v2985 c arg2 harg2 arg3 harg3 arg4 harg4 arg5 harg5 arg6 harg6 arg7 harg7 arg11 x0 x1 x2 x3 x4 x5)⟩ :: [] := by
  rfl

theorem v3045 : kernelRun0_B.sl.v3045 c arg2 harg2 arg3 harg3 arg4 harg4 arg5 harg5 arg6 harg6 arg7 harg7 arg9 harg9 arg10 arg11 arg12 x0 x1 x2 x3 x4 x5 xs0 = st1 (ldOf arg2 harg2 arg3 harg3 arg4 harg4 arg5 harg5 arg6 harg6 arg7 harg7 x0 x1 x2 x3 x4 x5) (fun g => View.readAt (Elt F) arg9.view (Rect.unit (s := S4x64x256) ![g.val, 0, 0] S1x64x256.size (inbS g)).toLoadRect (harg9.unread xs0)) 0 := by
  unfold kernelRun0_B.sl.v3045
  rw [HS0_4]
  try simp (disch := decide) only [↓ View.readCov_skip]
  refine (View.readCov_cons_toLoadRect _ _ _ _).trans ?_
  rw [v2945, v2980, v2985]
  rfl

theorem v3047 : kernelRun0_B.sl.v3047 c arg2 harg2 arg3 harg3 arg4 harg4 arg5 harg5 arg6 harg6 arg7 harg7 arg9 harg9 arg10 arg11 arg12 x0 x1 x2 x3 x4 x5 xs0 = st1 (ldOf arg2 harg2 arg3 harg3 arg4 harg4 arg5 harg5 arg6 harg6 arg7 harg7 x0 x1 x2 x3 x4 x5) (fun g => View.readAt (Elt F) arg9.view (Rect.unit (s := S4x64x256) ![g.val, 0, 0] S1x64x256.size (inbS g)).toLoadRect (harg9.unread xs0)) 1 := by
  unfold kernelRun0_B.sl.v3047
  rw [HS0_4]
  try simp (disch := decide) only [↓ View.readCov_skip]
  refine (View.readCov_cons_toLoadRect _ _ _ _).trans ?_
  rw [v2952, v2998, v3003]
  rfl

theorem v3049 : kernelRun0_B.sl.v3049 c arg2 harg2 arg3 harg3 arg4 harg4 arg5 harg5 arg6 harg6 arg7 harg7 arg9 harg9 arg10 arg11 arg12 x0 x1 x2 x3 x4 x5 xs0 = st1 (ldOf arg2 harg2 arg3 harg3 arg4 harg4 arg5 harg5 arg6 harg6 arg7 harg7 x0 x1 x2 x3 x4 x5) (fun g => View.readAt (Elt F) arg9.view (Rect.unit (s := S4x64x256) ![g.val, 0, 0] S1x64x256.size (inbS g)).toLoadRect (harg9.unread xs0)) 2 := by
  unfold kernelRun0_B.sl.v3049
  rw [HS0_4]
  try simp (disch := decide) only [↓ View.readCov_skip]
  refine (View.readCov_cons_toLoadRect _ _ _ _).trans ?_
  rw [v2959, v3016, v3021]
  rfl

theorem v3051 : kernelRun0_B.sl.v3051 c arg2 harg2 arg3 harg3 arg4 harg4 arg5 harg5 arg6 harg6 arg7 harg7 arg9 harg9 arg10 arg11 arg12 x0 x1 x2 x3 x4 x5 xs0 = st1 (ldOf arg2 harg2 arg3 harg3 arg4 harg4 arg5 harg5 arg6 harg6 arg7 harg7 x0 x1 x2 x3 x4 x5) (fun g => View.readAt (Elt F) arg9.view (Rect.unit (s := S4x64x256) ![g.val, 0, 0] S1x64x256.size (inbS g)).toLoadRect (harg9.unread xs0)) 3 := by
  unfold kernelRun0_B.sl.v3051
  rw [HS0_4]
  try simp (disch := decide) only [↓ View.readCov_skip]
  refine (View.readCov_cons_toLoadRect _ _ _ _).trans ?_
  rw [v2966, v3034, v3039]
  rfl

theorem v3081 : kernelRun0_B.sl.v3081 c arg2 harg2 arg3 harg3 arg4 harg4 arg5 harg5 arg6 harg6 arg7 harg7 arg8 arg9 harg9 arg10 x0 x1 x2 x3 x4 x5 xs0 = yPart (C (ldOf arg2 harg2 arg3 harg3 arg4 harg4 arg5 harg5 arg6 harg6 arg7 harg7 x0 x1 x2 x3 x4 x5) 1 0) := by
  unfold kernelRun0_B.sl.v3081
  rw [H6_20, H6_19, H6_18, H6_17, H6]
  try simp (disch := decide) only [↓ View.readCov_skip]
  exact View.readCov_cons_toLoadRect _ _ _ _

theorem H6_21 : kernelRun0_B.sl.H6_21 c arg2 harg2 arg3 harg3 arg4 harg4 arg5 harg5 arg6 harg6 arg7 harg7 arg8 arg9 harg9 arg10 arg11 arg12 x0 x1 x2 x3 x4 x5 xs0 = ⟨Rect.unit ![0, 64, 0] S1x64x256.size inb_S1x256x1024_S1x64x256_0_64_0, yAdd (kernelRun0_B.sl.v3053 c arg2 harg2 arg3 harg3 arg4 harg4 arg6 harg6 arg7 harg7 arg10 x0 x1 x2 x4 x5) (kernelRun0_B.sl.v3045 c arg2 harg2 arg3 harg3 arg4 harg4 arg5 harg5 arg6 harg6 arg7 harg7 arg9 harg9 arg10 arg11 arg12 x0 x1 x2 x3 x4 x5 xs0) (kernelRun0_B.sl.v3081 c arg2 harg2 arg3 harg3 arg4 harg4 arg5 harg5 arg6 harg6 arg7 harg7 arg8 arg9 harg9 arg10 x0 x1 x2 x3 x4 x5 xs0)⟩ :: kernelRun0_B.sl.H6_20 c arg2 harg2 arg3 harg3 arg4 harg4 arg5 harg5 arg6 harg6 arg7 harg7 arg8 arg9 harg9 arg10 x0 x1 x2 x3 x4 x5 xs0 := by
  rfl

theorem v3099 : kernelRun0_B.sl.v3099 c arg2 harg2 arg3 harg3 arg4 harg4 arg5 harg5 arg6 harg6 arg7 harg7 arg8 arg9 harg9 arg10 arg11 arg12 x0 x1 x2 x3 x4 x5 xs0 = yPart (C (ldOf arg2 harg2 arg3 harg3 arg4 harg4 arg5 harg5 arg6 harg6 arg7 harg7 x0 x1 x2 x3 x4 x5) 1 1) := by
  unfold kernelRun0_B.sl.v3099
  rw [H6_21, H6_20, H6_19, H6_18, H6_17, H6]
  try simp (disch := decide) only [↓ View.readCov_skip]
  exact View.readCov_cons_toLoadRect _ _ _ _

theorem H6_22 : kernelRun0_B.sl.H6_22 c arg2 harg2 arg3 harg3 arg4 harg4 arg5 harg5 arg6 harg6 arg7 harg7 arg8 arg9 harg9 arg10 arg11 arg12 x0 x1 x2 x3 x4 x5 xs0 = ⟨Rect.unit ![0, 64, 256] S1x64x256.size inb_S1x256x1024_S1x64x256_0_64_256, yAdd (kernelRun0_B.sl.v3060 c arg2 harg2 arg3 harg3 arg4 harg4 arg6 harg6 arg7 harg7 arg10 x0 x1 x2 x4 x5) (kernelRun0_B.sl.v3047 c arg2 harg2 arg3 harg3 arg4 harg4 arg5 harg5 arg6 harg6 arg7 harg7 arg9 harg9 arg10 arg11 arg12 x0 x1 x2 x3 x4 x5 xs0) (kernelRun0_B.sl.v3099 c arg2 harg2 arg3 harg3 arg4 harg4 arg5 harg5 arg6 harg6 arg7 harg7 arg8 arg9 harg9 arg10 arg11 arg12 x0 x1 x2 x3 x4 x5 xs0)⟩ :: kernelRun0_B.sl.H6_21 c arg2 harg2 arg3 harg3 arg4 harg4 arg5 harg5 arg6 harg6 arg7 harg7 arg8 arg9 harg9 arg10 arg11 arg12 x0 x1 x2 x3 x4 x5 xs0 := by
  rfl

theorem v3117 : kernelRun0_B.sl.v3117 c arg2 harg2 arg3 harg3 arg4 harg4 arg5 harg5 arg6 harg6 arg7 harg7 arg8 arg9 harg9 arg10 arg11 arg12 x0 x1 x2 x3 x4 x5 xs0 = yPart (C (ldOf arg2 harg2 arg3 harg3 arg4 harg4 arg5 harg5 arg6 harg6 arg7 harg7 x0 x1 x2 x3 x4 x5) 1 2) := by
  unfold kernelRun0_B.sl.v3117
  rw [H6_22, H6_21, H6_20, H6_19, H6_18, H6_17, H6]
  try simp (disch := decide) only [↓ View.readCov_skip]
  exact View.readCov_cons_toLoadRect _ _ _ _

theorem H6_23 : kernelRun0_B.sl.H6_23 c arg2 harg2 arg3 harg3 arg4 harg4 arg5 harg5 arg6 harg6 arg7 harg7 arg8 arg9 harg9 arg10 arg11 arg12 x0 x1 x2 x3 x4 x5 xs0 = ⟨Rect.unit ![0, 64, 512] S1x64x256.size inb_S1x256x1024_S1x64x256_0_64_512, yAdd (kernelRun0_B.sl.v3067 c arg2 harg2 arg3 harg3 arg4 harg4 arg6 harg6 arg7 harg7 arg10 x0 x1 x2 x4 x5) (kernelRun0_B.sl.v3049 c arg2 harg2 arg3 harg3 arg4 harg4 arg5 harg5 arg6 harg6 arg7 harg7 arg9 harg9 arg10 arg11 arg12 x0 x1 x2 x3 x4 x5 xs0) (kernelRun0_B.sl.v3117 c arg2 harg2 arg3 harg3 arg4 harg4 arg5 harg5 arg6 harg6 arg7 harg7 arg8 arg9 harg9 arg10 arg11 arg12 x0 x1 x2 x3 x4 x5 xs0)⟩ :: kernelRun0_B.sl.H6_22 c arg2 harg2 arg3 harg3 arg4 harg4 arg5 harg5 arg6 harg6 arg7 harg7 arg8 arg9 harg9 arg10 arg11 arg12 x0 x1 x2 x3 x4 x5 xs0 := by
  rfl

theorem v3135 : kernelRun0_B.sl.v3135 c arg2 harg2 arg3 harg3 arg4 harg4 arg5 harg5 arg6 harg6 arg7 harg7 arg8 arg9 harg9 arg10 arg11 arg12 x0 x1 x2 x3 x4 x5 xs0 = yPart (C (ldOf arg2 harg2 arg3 harg3 arg4 harg4 arg5 harg5 arg6 harg6 arg7 harg7 x0 x1 x2 x3 x4 x5) 1 3) := by
  unfold kernelRun0_B.sl.v3135
  rw [H6_23, H6_22, H6_21, H6_20, H6_19, H6_18, H6_17, H6]
  try simp (disch := decide) only [↓ View.readCov_skip]
  exact View.readCov_cons_toLoadRect _ _ _ _

theorem H6_24 : kernelRun0_B.sl.H6_24 c arg2 harg2 arg3 harg3 arg4 harg4 arg5 harg5 arg6 harg6 arg7 harg7 arg8 arg9 harg9 arg10 arg11 arg12 x0 x1 x2 x3 x4 x5 xs0 = ⟨Rect.unit ![0, 64, 768] S1x64x256.size inb_S1x256x1024_S1x64x256_0_64_768, yAdd (kernelRun0_B.sl.v3074 c arg2 harg2 arg3 harg3 arg4 harg4 arg6 harg6 arg7 harg7 arg10 x0 x1 x2 x4 x5) (kernelRun0_B.sl.v3051 c arg2 harg2 arg3 harg3 arg4 harg4 arg5 harg5 arg6 harg6 arg7 harg7 arg9 harg9 arg10 arg11 arg12 x0 x1 x2 x3 x4 x5 xs0) (kernelRun0_B.sl.v3135 c arg2 harg2 arg3 harg3 arg4 harg4 arg5 harg5 arg6 harg6 arg7 harg7 arg8 arg9 harg9 arg10 arg11 arg12 x0 x1 x2 x3 x4 x5 xs0)⟩ :: kernelRun0_B.sl.H6_23 c arg2 harg2 arg3 harg3 arg4 harg4 arg5 harg5 arg6 harg6 arg7 harg7 arg8 arg9 harg9 arg10 arg11 arg12 x0 x1 x2 x3 x4 x5 xs0 := by
  rfl

theorem HS0_8 : kernelRun0_B.sl.HS0_8 c arg2 harg2 arg3 harg3 arg4 harg4 arg5 harg5 arg6 harg6 arg7 harg7 arg9 harg9 arg10 arg11 arg12 x0 x1 x2 x3 x4 x5 xs0 = ⟨Rect.unit ![3, 0, 0] S1x64x256.size inb_S4x64x256_S1x64x256_3_0_0, sNext (kernelRun0_B.sl.v3074 c arg2 harg2 arg3 harg3 arg4 harg4 arg6 harg6 arg7 harg7 arg10 x0 x1 x2 x4 x5) (kernelRun0_B.sl.v3051 c arg2 harg2 arg3 harg3 arg4 harg4 arg5 harg5 arg6 harg6 arg7 harg7 arg9 harg9 arg10 arg11 arg12 x0 x1 x2 x3 x4 x5 xs0) (kernelRun0_B.sl.v3142 c arg3 harg3 arg12 x1) (kernelRun0_B.sl.v3147 c arg2 harg2 arg3 harg3 arg4 harg4 arg5 harg5 arg6 harg6 arg7 harg7 arg11 x0 x1 x2 x3 x4 x5)⟩ ::
    ⟨Rect.unit ![2, 0, 0] S1x64x256.size inb_S4x64x256_S1x64x256_2_0_0, sNext (kernelRun0_B.sl.v3067 c arg2 harg2 arg3 harg3 arg4 harg4 arg6 harg6 arg7 harg7 arg10 x0 x1 x2 x4 x5) (kernelRun0_B.sl.v3049 c arg2 harg2 arg3 harg3 arg4 harg4 arg5 harg5 arg6 harg6 arg7 harg7 arg9 harg9 arg10 arg11 arg12 x0 x1 x2 x3 x4 x5 xs0) (kernelRun0_B.sl.v3124 c arg3 harg3 arg12 x1) (kernelRun0_B.sl.v3129 c arg2 harg2 arg3 harg3 arg4 harg4 arg5 harg5 arg6 harg6 arg7 harg7 arg11 x0 x1 x2 x3 x4 x5)⟩ ::
    ⟨Rect.unit ![1, 0, 0] S1x64x256.size inb_S4x64x256_S1x64x256_1_0_0, sNext (kernelRun0_B.sl.v3060 c arg2 harg2 arg3 harg3 arg4 harg4 arg6 harg6 arg7 harg7 arg10 x0 x1 x2 x4 x5) (kernelRun0_B.sl.v3047 c arg2 harg2 arg3 harg3 arg4 harg4 arg5 harg5 arg6 harg6 arg7 harg7 arg9 harg9 arg10 arg11 arg12 x0 x1 x2 x3 x4 x5 xs0) (kernelRun0_B.sl.v3106 c arg3 harg3 arg12 x1) (kernelRun0_B.sl.v3111 c arg2 harg2 arg3 harg3 arg4 harg4 arg5 harg5 arg6 harg6 arg7 harg7 arg11 x0 x1 x2 x3 x4 x5)⟩ ::
    ⟨Rect.unit ![0, 0, 0] S1x64x256.size inb_S4x64x256_S1x64x256_0_0_0, sNext (kernelRun0_B.sl.v3053 c arg2 harg2 arg3 harg3 arg4 harg4 arg6 harg6 arg7 harg7 arg10 x0 x1 x2 x4 x5) (kernelRun0_B.sl.v3045 c arg2 harg2 arg3 harg3 arg4 harg4 arg5 harg5 arg6 harg6 arg7 harg7 arg9 harg9 arg10 arg11 arg12 x0 x1 x2 x3 x4 x5 xs0) (kernelRun0_B.sl.v3088 c arg3 harg3 arg12 x1) (kernelRun0_B.sl.v3093 c arg2 harg2 arg3 harg3 arg4 harg4 arg5 harg5 arg6 harg6 arg7 harg7 arg11 x0 x1 x2 x3 x4 x5)⟩ :: kernelRun0_B.sl.HS0_4 c arg2 harg2 arg3 harg3 arg4 harg4 arg5 harg5 arg6 harg6 arg7 harg7 arg9 harg9 arg10 arg11 arg12 x0 x1 x2 x3 x4 x5 xs0 := by
  rfl

theorem v3153 : kernelRun0_B.sl.v3153 c arg2 harg2 arg3 harg3 arg4 harg4 arg5 harg5 arg6 harg6 arg7 harg7 arg9 harg9 arg10 arg11 arg12 x0 x1 x2 x3 x4 x5 xs0 = st2 (ldOf arg2 harg2 arg3 harg3 arg4 harg4 arg5 harg5 arg6 harg6 arg7 harg7 x0 x1 x2 x3 x4 x5) (fun g => View.readAt (Elt F) arg9.view (Rect.unit (s := S4x64x256) ![g.val, 0, 0] S1x64x256.size (inbS g)).toLoadRect (harg9.unread xs0)) 0 := by
  unfold kernelRun0_B.sl.v3153
  rw [HS0_8]
  try simp (disch := decide) only [↓ View.readCov_skip]
  refine (View.readCov_cons_toLoadRect _ _ _ _).trans ?_
  rw [v3053, v3088, v3093, v3045]
  rfl

theorem v3155 : kernelRun0_B.sl.v3155 c arg2 harg2 arg3 harg3 arg4 harg4 arg5 harg5 arg6 harg6 arg7 harg7 arg9 harg9 arg10 arg11 arg12 x0 x1 x2 x3 x4 x5 xs0 = st2 (ldOf arg2 harg2 arg3 harg3 arg4 harg4 arg5 harg5 arg6 harg6 arg7 harg7 x0 x1 x2 x3 x4 x5) (fun g => View.readAt (Elt F) arg9.view (Rect.unit (s := S4x64x256) ![g.val, 0, 0] S1x64x256.size (inbS g)).toLoadRect (harg9.unread xs0)) 1 := by
  unfold kernelRun0_B.sl.v3155
  rw [HS0_8]
  try simp (disch := decide) only [↓ View.readCov_skip]
  refine (View.readCov_cons_toLoadRect _ _ _ _).trans ?_
  rw [v3060, v3106, v3111, v3047]
  rfl

theorem v3157 : kernelRun0_B.sl.v3157 c arg2 harg2 arg3 harg3 arg4 harg4 arg5 harg5 arg6 harg6 arg7 harg7 arg9 harg9 arg10 arg11 arg12 x0 x1 x2 x3 x4 x5 xs0 = st2 (ldOf arg2 harg2 arg3 harg3 arg4 harg4 arg5 harg5 arg6 harg6 arg7 harg7 x0 x1 x2 x3 x4 x5) (fun g => View.readAt (Elt F) arg9.view (Rect.unit (s := S4x64x256) ![g.val, 0, 0] S1x64x256.size (inbS g)).toLoadRect (harg9.unread xs0)) 2 := by
  unfold kernelRun0_B.sl.v3157
  rw [HS0_8]
  try simp (disch := decide) only [↓ View.readCov_skip]
  refine (View.readCov_cons_toLoadRect _ _ _ _).trans ?_
  rw [v3067, v3124, v3129, v3049]
  rfl

theorem v3159 : kernelRun0_B.sl.v3159 c arg2 harg2 arg3 harg3 arg4 harg4 arg5 harg5 arg6 harg6 arg7 harg7 arg9 harg9 arg10 arg11 arg12 x0 x1 x2 x3 x4 x5 xs0 = st2 (ldOf arg2 harg2 arg3 harg3 arg4 harg4 arg5 harg5 arg6 harg6 arg7 harg7 x0 x1 x2 x3 x4 x5) (fun g => View.readAt (Elt F) arg9.view (Rect.unit (s := S4x64x256) ![g.val, 0, 0] S1x64x256.size (inbS g)).toLoadRect (harg9.unread xs0)) 3 := by
  unfold kernelRun0_B.sl.v3159
  rw [HS0_8]
  try simp (disch := decide) only [↓ View.readCov_skip]
  refine (View.readCov_cons_toLoadRect _ _ _ _).trans ?_
  rw [v3074, v3142, v3147, v3051]
  rfl

theorem v3189 : kernelRun0_B.sl.v3189 c arg2 harg2 arg3 harg3 arg4 harg4 arg5 harg5 arg6 harg6 arg7 harg7 arg8 arg9 harg9 arg10 arg11 arg12 x0 x1 x2 x3 x4 x5 xs0 = yPart (C (ldOf arg2 harg2 arg3 harg3 arg4 harg4 arg5 harg5 arg6 harg6 arg7 harg7 x0 x1 x2 x3 x4 x5) 2 0) := by
  unfold kernelRun0_B.sl.v3189
  rw [H6_24, H6_23, H6_22, H6_21, H6_20, H6_19, H6_18, H6_17, H6]
  try simp (disch := decide) only [↓ View.readCov_skip]
  exact View.readCov_cons_toLoadRect _ _ _ _

theorem H6_25 : kernelRun0_B.sl.H6_25 c arg2 harg2 arg3 harg3 arg4 harg4 arg5 harg5 arg6 harg6 arg7 harg7 arg8 arg9 harg9 arg10 arg11 arg12 x0 x1 x2 x3 x4 x5 xs0 = ⟨Rect.unit ![0, 128, 0] S1x64x256.size inb_S1x256x1024_S1x64x256_0_128_0, yAdd (kernelRun0_B.sl.v3161 c arg2 harg2 arg3 harg3 arg4 harg4 arg6 harg6 arg7 harg7 arg10 x0 x1 x2 x4 x5) (kernelRun0_B.sl.v3153 c arg2 harg2 arg3 harg3 arg4 harg4 arg5 harg5 arg6 harg6 arg7 harg7 arg9 harg9 arg10 arg11 arg12 x0 x1 x2 x3 x4 x5 xs0) (kernelRun0_B.sl.v3189 c arg2 harg2 arg3 harg3 arg4 harg4 arg5 harg5 arg6 harg6 arg7 harg7 arg8 arg9 harg9 arg10 arg11 arg12 x0 x1 x2 x3 x4 x5 xs0)⟩ :: kernelRun0_B.sl.H6_24 c arg2 harg2 arg3 harg3 arg4 harg4 arg5 harg5 arg6 harg6 arg7 harg7 arg8 arg9 harg9 arg10 arg11 arg12 x0 x1 x2 x3 x4 x5 xs0 := by
  rfl

theorem v3207 : kernelRun0_B.sl.v3207 c arg2 harg2 arg3 harg3 arg4 harg4 arg5 harg5 arg6 harg6 arg7 harg7 arg8 arg9 harg9 arg10 arg11 arg12 x0 x1 x2 x3 x4 x5 xs0 = yPart (C (ldOf arg2 harg2 arg3 harg3 arg4 harg4 arg5 harg5 arg6 harg6 arg7 harg7 x0 x1 x2 x3 x4 x5) 2 1) := by
  unfold kernelRun0_B.sl.v3207
  rw [H6_25, H6_24, H6_23, H6_22, H6_21, H6_20, H6_19, H6_18, H6_17, H6]
  try simp (disch := decide) only [↓ View.readCov_skip]
  exact View.readCov_cons_toLoadRect _ _ _ _

theorem H6_26 : kernelRun0_B.sl.H6_26 c arg2 harg2 arg3 harg3 arg4 harg4 arg5 harg5 arg6 harg6 arg7 harg7 arg8 arg9 harg9 arg10 arg11 arg12 x0 x1 x2 x3 x4 x5 xs0 = ⟨Rect.unit ![0, 128, 256] S1x64x256.size inb_S1x256x1024_S1x64x256_0_128_256, yAdd (kernelRun0_B.sl.v3168 c arg2 harg2 arg3 harg3 arg4 harg4 arg6 harg6 arg7 harg7 arg10 x0 x1 x2 x4 x5) (kernelRun0_B.sl.v3155 c arg2 harg2 arg3 harg3 arg4 harg4 arg5 harg5 arg6 harg6 arg7 harg7 arg9 harg9 arg10 arg11 arg12 x0 x1 x2 x3 x4 x5 xs0) (kernelRun0_B.sl.v3207 c arg2 harg2 arg3 harg3 arg4 harg4 arg5 harg5 arg6 harg6 arg7 harg7 arg8 arg9 harg9 arg10 arg11 arg12 x0 x1 x2 x3 x4 x5 xs0)⟩ :: kernelRun0_B.sl.H6_25 c arg2 harg2 arg3 harg3 arg4 harg4 arg5 harg5 arg6 harg6 arg7 harg7 arg8 arg9 harg9 arg10 arg11 arg12 x0 x1 x2 x3 x4 x5 xs0 := by
  rfl

theorem v3225 : kernelRun0_B.sl.v3225 c arg2 harg2 arg3 harg3 arg4 harg4 arg5 harg5 arg6 harg6 arg7 harg7 arg8 arg9 harg9 arg10 arg11 arg12 x0 x1 x2 x3 x4 x5 xs0 = yPart (C (ldOf arg2 harg2 arg3 harg3 arg4 harg4 arg5 harg5 arg6 harg6 arg7 harg7 x0 x1 x2 x3 x4 x5) 2 2) := by
  unfold kernelRun0_B.sl.v3225
  rw [H6_26, H6_25, H6_24, H6_23, H6_22, H6_21, H6_20, H6_19, H6_18, H6_17, H6]
  try simp (disch := decide) only [↓ View.readCov_skip]
  exact View.readCov_cons_toLoadRect _ _ _ _

theorem H6_27 : kernelRun0_B.sl.H6_27 c arg2 harg2 arg3 harg3 arg4 harg4 arg5 harg5 arg6 harg6 arg7 harg7 arg8 arg9 harg9 arg10 arg11 arg12 x0 x1 x2 x3 x4 x5 xs0 = ⟨Rect.unit ![0, 128, 512] S1x64x256.size inb_S1x256x1024_S1x64x256_0_128_512, yAdd (kernelRun0_B.sl.v3175 c arg2 harg2 arg3 harg3 arg4 harg4 arg6 harg6 arg7 harg7 arg10 x0 x1 x2 x4 x5) (kernelRun0_B.sl.v3157 c arg2 harg2 arg3 harg3 arg4 harg4 arg5 harg5 arg6 harg6 arg7 harg7 arg9 harg9 arg10 arg11 arg12 x0 x1 x2 x3 x4 x5 xs0) (kernelRun0_B.sl.v3225 c arg2 harg2 arg3 harg3 arg4 harg4 arg5 harg5 arg6 harg6 arg7 harg7 arg8 arg9 harg9 arg10 arg11 arg12 x0 x1 x2 x3 x4 x5 xs0)⟩ :: kernelRun0_B.sl.H6_26 c arg2 harg2 arg3 harg3 arg4 harg4 arg5 harg5 arg6 harg6 arg7 harg7 arg8 arg9 harg9 arg10 arg11 arg12 x0 x1 x2 x3 x4 x5 xs0 := by
  rfl

theorem v3243 : kernelRun0_B.sl.v3243 c arg2 harg2 arg3 harg3 arg4 harg4 arg5 harg5 arg6 harg6 arg7 harg7 arg8 arg9 harg9 arg10 arg11 arg12 x0 x1 x2 x3 x4 x5 xs0 = yPart (C (ldOf arg2 harg2 arg3 harg3 arg4 harg4 arg5 harg5 arg6 harg6 arg7 harg7 x0 x1 x2 x3 x4 x5) 2 3) := by
  unfold kernelRun0_B.sl.v3243
  rw [H6_27, H6_26, H6_25, H6_24, H6_23, H6_22, H6_21, H6_20, H6_19, H6_18, H6_17, H6]
  try simp (disch := decide) only [↓ View.readCov_skip]
  exact View.readCov_cons_toLoadRect _ _ _ _

theorem H6_28 : kernelRun0_B.sl.H6_28 c arg2 harg2 arg3 harg3 arg4 harg4 arg5 harg5 arg6 harg6 arg7 harg7 arg8 arg9 harg9 arg10 arg11 arg12 x0 x1 x2 x3 x4 x5 xs0 = ⟨Rect.unit ![0, 128, 768] S1x64x256.size inb_S1x256x1024_S1x64x256_0_128_768, yAdd (kernelRun0_B.sl.v3182 c arg2 harg2 arg3 harg3 arg4 harg4 arg6 harg6 arg7 harg7 arg10 x0 x1 x2 x4 x5) (kernelRun0_B.sl.v3159 c arg2 harg2 arg3 harg3 arg4 harg4 arg5 harg5 arg6 harg6 arg7 harg7 arg9 harg9 arg10 arg11 arg12 x0 x1 x2 x3 x4 x5 xs0) (kernelRun0_B.sl.v3243 c arg2 harg2 arg3 harg3 arg4 harg4 arg5 harg5 arg6 harg6 arg7 harg7 arg8 arg9 harg9 arg10 arg11 arg12 x0 x1 x2 x3 x4 x5 xs0)⟩ :: kernelRun0_B.sl.H6_27 c arg2 harg2 arg3 harg3 arg4 harg4 arg5 harg5 arg6 harg6 arg7 harg7 arg8 arg9 harg9 arg10 arg11 arg12 x0 x1 x2 x3 x4 x5 xs0 := by
  rfl

theorem HS0_12 : kernelRun0_B.sl.HS0_12 c arg2 harg2 arg3 harg3 arg4 harg4 arg5 harg5 arg6 harg6 arg7 harg7 arg9 harg9 arg10 arg11 arg12 x0 x1 x2 x3 x4 x5 xs0 = ⟨Rect.unit ![3, 0, 0] S1x64x256.size inb_S4x64x256_S1x64x256_3_0_0, sNext (kernelRun0_B.sl.v3182 c arg2 harg2 arg3 harg3 arg4 harg4 arg6 harg6 arg7 harg7 arg10 x0 x1 x2 x4 x5) (kernelRun0_B.sl.v3159 c arg2 harg2 arg3 harg3 arg4 harg4 arg5 harg5 arg6 harg6 arg7 harg7 arg9 harg9 arg10 arg11 arg12 x0 x1 x2 x3 x4 x5 xs0) (kernelRun0_B.sl.v3250 c arg3 harg3 arg12 x1) (kernelRun0_B.sl.v3255 c arg2 harg2 arg3 harg3 arg4 harg4 arg5 harg5 arg6 harg6 arg7 harg7 arg11 x0 x1 x2 x3 x4 x5)⟩ ::
    ⟨Rect.unit ![2, 0, 0] S1x64x256.size inb_S4x64x256_S1x64x256_2_0_0, sNext (kernelRun0_B.sl.v3175 c arg2 harg2 arg3 harg3 arg4 harg4 arg6 harg6 arg7 harg7 arg10 x0 x1 x2 x4 x5) (kernelRun0_B.sl.v3157 c arg2 harg2 arg3 harg3 arg4 harg4 arg5 harg5 arg6 harg6 arg7 harg7 arg9 harg9 arg10 arg11 arg12 x0 x1 x2 x3 x4 x5 xs0) (kernelRun0_B.sl.v c arg3 harg3 arg12 x1) (kernelRun0_B.sl.v3237 c arg2 harg2 arg3 harg3 arg4 harg4 arg5 harg5 arg6 harg6 arg7 harg7 arg11 x0 x1 x2 x3 x4 x5)⟩ ::
    ⟨Rect.unit ![1, 0, 0] S1x64x256.size inb_S4x64x256_S1x64x256_1_0_0, sNext (kernelRun0_B.sl.v3168 c arg2 harg2 arg3 harg3 arg4 harg4 arg6 harg6 arg7 harg7 arg10 x0 x1 x2 x4 x5) (kernelRun0_B.sl.v3155 c arg2 harg2 arg3 harg3 arg4 harg4 arg5 harg5 arg6 harg6 arg7 harg7 arg9 harg9 arg10 arg11 arg12 x0 x1 x2 x3 x4 x5 xs0) (kernelRun0_B.sl.v3214 c arg3 harg3 arg12 x1) (kernelRun0_B.sl.v3219 c arg2 harg2 arg3 harg3 arg4 harg4 arg5 harg5 arg6 harg6 arg7 harg7 arg11 x0 x1 x2 x3 x4 x5)⟩ ::
    ⟨Rect.unit ![0, 0, 0] S1x64x256.size inb_S4x64x256_S1x64x256_0_0_0, sNext (kernelRun0_B.sl.v3161 c arg2 harg2 arg3 harg3 arg4 harg4 arg6 harg6 arg7 harg7 arg10 x0 x1 x2 x4 x5) (kernelRun0_B.sl.v3153 c arg2 harg2 arg3 harg3 arg4 harg4 arg5 harg5 arg6 harg6 arg7 harg7 arg9 harg9 arg10 arg11 arg12 x0 x1 x2 x3 x4 x5 xs0) (kernelRun0_B.sl.v3196 c arg3 harg3 arg12 x1) (kernelRun0_B.sl.v3201 c arg2 harg2 arg3 harg3 arg4 harg4 arg5 harg5 arg6 harg6 arg7 harg7 arg11 x0 x1 x2 x3 x4 x5)⟩ :: kernelRun0_B.sl.HS0_8 c arg2 harg2 arg3 harg3 arg4 harg4 arg5 harg5 arg6 harg6 arg7 harg7 arg9 harg9 arg10 arg11 arg12 x0 x1 x2 x3 x4 x5 xs0 := by
  rfl

theorem v3261 : kernelRun0_B.sl.v3261 c arg2 harg2 arg3 harg3 arg4 harg4 arg5 harg5 arg6 harg6 arg7 harg7 arg9 harg9 arg10 arg11 arg12 x0 x1 x2 x3 x4 x5 xs0 = st3 (ldOf arg2 harg2 arg3 harg3 arg4 harg4 arg5 harg5 arg6 harg6 arg7 harg7 x0 x1 x2 x3 x4 x5) (fun g => View.readAt (Elt F) arg9.view (Rect.unit (s := S4x64x256) ![g.val, 0, 0] S1x64x256.size (inbS g)).toLoadRect (harg9.unread xs0)) 0 := by
  unfold kernelRun0_B.sl.v3261
  rw [HS0_12]
  try simp (disch := decide) only [↓ View.readCov_skip]
  refine (View.readCov_cons_toLoadRect _ _ _ _).trans ?_
  rw [v3161, v3196, v3201, v3153]
  rfl

theorem v3263 : kernelRun0_B.sl.v3263 c arg2 harg2 arg3 harg3 arg4 harg4 arg5 harg5 arg6 harg6 arg7 harg7 arg9 harg9 arg10 arg11 arg12 x0 x1 x2 x3 x4 x5 xs0 = st3 (ldOf arg2 harg2 arg3 harg3 arg4 harg4 arg5 harg5 arg6 harg6 arg7 harg7 x0 x1 x2 x3 x4 x5) (fun g => View.readAt (Elt F) arg9.view (Rect.unit (s := S4x64x256) ![g.val, 0, 0] S1x64x256.size (inbS g)).toLoadRect (harg9.unread xs0)) 1 := by
  unfold kernelRun0_B.sl.v3263
  rw [HS0_12]
  try simp (disch := decide) only [↓ View.readCov_skip]
  refine (View.readCov_cons_toLoadRect _ _ _ _).trans ?_
  rw [v3168, v3214, v3219, v3155]
  rfl

theorem v3265 : kernelRun0_B.sl.v3265 c arg2 harg2 arg3 harg3 arg4 harg4 arg5 harg5 arg6 harg6 arg7 harg7 arg9 harg9 arg10 arg11 arg12 x0 x1 x2 x3 x4 x5 xs0 = st3 (ldOf arg2 harg2 arg3 harg3 arg4 harg4 arg5 harg5 arg6 harg6 arg7 harg7 x0 x1 x2 x3 x4 x5) (fun g => View.readAt (Elt F) arg9.view (Rect.unit (s := S4x64x256) ![g.val, 0, 0] S1x64x256.size (inbS g)).toLoadRect (harg9.unread xs0)) 2 := by
  unfold kernelRun0_B.sl.v3265
  rw [HS0_12]
  try simp (disch := decide) only [↓ View.readCov_skip]
  refine (View.readCov_cons_toLoadRect _ _ _ _).trans ?_
  rw [v3175, v, v3237, v3157]
  rfl

theorem v3267 : kernelRun0_B.sl.v3267 c arg2 harg2 arg3 harg3 arg4 harg4 arg5 harg5 arg6 harg6 arg7 harg7 arg9 harg9 arg10 arg11 arg12 x0 x1 x2 x3 x4 x5 xs0 = st3 (ldOf arg2 harg2 arg3 harg3 arg4 harg4 arg5 harg5 arg6 harg6 arg7 harg7 x0 x1 x2 x3 x4 x5) (fun g => View.readAt (Elt F) arg9.view (Rect.unit (s := S4x64x256) ![g.val, 0, 0] S1x64x256.size (inbS g)).toLoadRect (harg9.unread xs0)) 3 := by
  unfold kernelRun0_B.sl.v3267
  rw [HS0_12]
  try simp (disch := decide) only [↓ View.readCov_skip]
  refine (View.readCov_cons_toLoadRect _ _ _ _).trans ?_
  rw [v3182, v3250, v3255, v3159]
  rfl

theorem v3297 : kernelRun0_B.sl.v3297 c arg2 harg2 arg3 harg3 arg4 harg4 arg5 harg5 arg6 harg6 arg7 harg7 arg8 arg9 harg9 arg10 arg11 arg12 x0 x1 x2 x3 x4 x5 xs0 = yPart (C (ldOf arg2 harg2 arg3 harg3 arg4 harg4 arg5 harg5 arg6 harg6 arg7 harg7 x0 x1 x2 x3 x4 x5) 3 0) := by
  unfold kernelRun0_B.sl.v3297
  rw [H6_28, H6_27, H6_26, H6_25, H6_24, H6_23, H6_22, H6_21, H6_20, H6_19, H6_18, H6_17, H6]
  try simp (disch := decide) only [↓ View.readCov_skip]
  exact View.readCov_cons_toLoadRect _ _ _ _

theorem H6_29 : kernelRun0_B.sl.H6_29 c arg2 harg2 arg3 harg3 arg4 harg4 arg5 harg5 arg6 harg6 arg7 harg7 arg8 arg9 harg9 arg10 arg11 arg12 x0 x1 x2 x3 x4 x5 xs0 = ⟨Rect.unit ![0, 192, 0] S1x64x256.size inb_S1x256x1024_S1x64x256_0_192_0, yAdd (kernelRun0_B.sl.v3269 c arg2 harg2 arg3 harg3 arg4 harg4 arg6 harg6 arg7 harg7 arg10 x0 x1 x2 x4 x5) (kernelRun0_B.sl.v3261 c arg2 harg2 arg3 harg3 arg4 harg4 arg5 harg5 arg6 harg6 arg7 harg7 arg9 harg9 arg10 arg11 arg12 x0 x1 x2 x3 x4 x5 xs0) (kernelRun0_B.sl.v3297 c arg2 harg2 arg3 harg3 arg4 harg4 arg5 harg5 arg6 harg6 arg7 harg7 arg8 arg9 harg9 arg10 arg11 arg12 x0 x1 x2 x3 x4 x5 xs0)⟩ :: kernelRun0_B.sl.H6_28 c arg2 harg2 arg3 harg3 arg4 harg4 arg5 harg5 arg6 harg6 arg7 harg7 arg8 arg9 harg9 arg10 arg11 arg12 x0 x1 x2 x3 x4 x5 xs0 := by
  rfl

theorem v3315 : kernelRun0_B.sl.v3315 c arg2 harg2 arg3 harg3 arg4 harg4 arg5 harg5 arg6 harg6 arg7 harg7 arg8 arg9 harg9 arg10 arg11 arg12 x0 x1 x2 x3 x4 x5 xs0 = yPart (C (ldOf arg2 harg2 arg3 harg3 arg4 harg4 arg5 harg5 arg6 harg6 arg7 harg7 x0 x1 x2 x3 x4 x5) 3 1) := by
  unfold kernelRun0_B.sl.v3315
  rw [H6_29, H6_28, H6_27, H6_26, H6_25, H6_24, H6_23, H6_22, H6_21, H6_20, H6_19, H6_18, H6_17, H6]
  try simp (disch := decide) only [↓ View.readCov_skip]
  exact View.readCov_cons_toLoadRect _ _ _ _

theorem H6_30 : kernelRun0_B.sl.H6_30 c arg2 harg2 arg3 harg3 arg4 harg4 arg5 harg5 arg6 harg6 arg7 harg7 arg8 arg9 harg9 arg10 arg11 arg12 x0 x1 x2 x3 x4 x5 xs0 = ⟨Rect.unit ![0, 192, 256] S1x64x256.size inb_S1x256x1024_S1x64x256_0_192_256, yAdd (kernelRun0_B.sl.v3276 c arg2 harg2 arg3 harg3 arg4 harg4 arg6 harg6 arg7 harg7 arg10 x0 x1 x2 x4 x5) (kernelRun0_B.sl.v3263 c arg2 harg2 arg3 harg3 arg4 harg4 arg5 harg5 arg6 harg6 arg7 harg7 arg9 harg9 arg10 arg11 arg12 x0 x1 x2 x3 x4 x5 xs0) (kernelRun0_B.sl.v3315 c arg2 harg2 arg3 harg3 arg4 harg4 arg5 harg5 arg6 harg6 arg7 harg7 arg8 arg9 harg9 arg10 arg11 arg12 x0 x1 x2 x3 x4 x5 xs0)⟩ :: kernelRun0_B.sl.H6_29 c arg2 harg2 arg3 harg3 arg4 harg4 arg5 harg5 arg6 harg6 arg7 harg7 arg8 arg9 harg9 arg10 arg11 arg12 x0 x1 x2 x3 x4 x5 xs0 := by
  rfl

theorem v3333 : kernelRun0_B.sl.v3333 c arg2 harg2 arg3 harg3 arg4 harg4 arg5 harg5 arg6 harg6 arg7 harg7 arg8 arg9 harg9 arg10 arg11 arg12 x0 x1 x2 x3 x4 x5 xs0 = yPart (C (ldOf arg2 harg2 arg3 harg3 arg4 harg4 arg5 harg5 arg6 harg6 arg7 harg7 x0 x1 x2 x3 x4 x5) 3 2) := by
  unfold kernelRun0_B.sl.v3333
  rw [H6_30, H6_29, H6_28, H6_27, H6_26, H6_25, H6_24, H6_23, H6_22, H6_21, H6_20, H6_19, H6_18, H6_17, H6]
  try simp (disch := decide) only [↓ View.readCov_skip]
  exact View.readCov_cons_toLoadRect _ _ _ _

theorem H6_31 : kernelRun0_B.sl.H6_31 c arg2 harg2 arg3 harg3 arg4 harg4 arg5 harg5 arg6 harg6 arg7 harg7 arg8 arg9 harg9 arg10 arg11 arg12 x0 x1 x2 x3 x4 x5 xs0 = ⟨Rect.unit ![0, 192, 512] S1x64x256.size inb_S1x256x1024_S1x64x256_0_192_512, yAdd (kernelRun0_B.sl.v3283 c arg2 harg2 arg3 harg3 arg4 harg4 arg6 harg6 arg7 harg7 arg10 x0 x1 x2 x4 x5) (kernelRun0_B.sl.v3265 c arg2 harg2 arg3 harg3 arg4 harg4 arg5 harg5 arg6 harg6 arg7 harg7 arg9 harg9 arg10 arg11 arg12 x0 x1 x2 x3 x4 x5 xs0) (kernelRun0_B.sl.v3333 c arg2 harg2 arg3 harg3 arg4 harg4 arg5 harg5 arg6 harg6 arg7 harg7 arg8 arg9 harg9 arg10 arg11 arg12 x0 x1 x2 x3 x4 x5 xs0)⟩ :: kernelRun0_B.sl.H6_30 c arg2 harg2 arg3 harg3 arg4 harg4 arg5 harg5 arg6 harg6 arg7 harg7 arg8 arg9 harg9 arg10 arg11 arg12 x0 x1 x2 x3 x4 x5 xs0 := by
  rfl

theorem v3351 : kernelRun0_B.sl.v3351 c arg2 harg2 arg3 harg3 arg4 harg4 arg5 harg5 arg6 harg6 arg7 harg7 arg8 arg9 harg9 arg10 arg11 arg12 x0 x1 x2 x3 x4 x5 xs0 = yPart (C (ldOf arg2 harg2 arg3 harg3 arg4 harg4 arg5 harg5 arg6 harg6 arg7 harg7 x0 x1 x2 x3 x4 x5) 3 3) := by
  unfold kernelRun0_B.sl.v3351
  rw [H6_31, H6_30, H6_29, H6_28, H6_27, H6_26, H6_25, H6_24, H6_23, H6_22, H6_21, H6_20, H6_19, H6_18, H6_17, H6]
  try simp (disch := decide) only [↓ View.readCov_skip]
  exact View.readCov_cons_toLoadRect _ _ _ _

theorem out (hc0 : ¬cond0_0 i) : (kernelRun0_B c i arg2 harg2 arg3 harg3 arg4 harg4 arg5 harg5 arg6 harg6 arg7 harg7 arg8 harg8 arg9 harg9 arg10 harg10 arg11 harg11 arg12 harg12 hc0 x0 x1 x2 x3 x4 x5 xs0).1 = ⟨Rect.unit ![0, 192, 768] S1x64x256.size inb_S1x256x1024_S1x64x256_0_192_768, yAdd (kernelRun0_B.sl.v3290 c arg2 harg2 arg3 harg3 arg4 harg4 arg6 harg6 arg7 harg7 arg10 x0 x1 x2 x4 x5) (kernelRun0_B.sl.v3267 c arg2 harg2 arg3 harg3 arg4 harg4 arg5 harg5 arg6 harg6 arg7 harg7 arg9 harg9 arg10 arg11 arg12 x0 x1 x2 x3 x4 x5 xs0) (kernelRun0_B.sl.v3351 c arg2 harg2 arg3 harg3 arg4 harg4 arg5 harg5 arg6 harg6 arg7 harg7 arg8 arg9 harg9 arg10 arg11 arg12 x0 x1 x2 x3 x4 x5 xs0)⟩ :: kernelRun0_B.sl.H6_31 c arg2 harg2 arg3 harg3 arg4 harg4 arg5 harg5 arg6 harg6 arg7 harg7 arg8 arg9 harg9 arg10 arg11 arg12 x0 x1 x2 x3 x4 x5 xs0 := by
  rfl

theorem state (hc0 : ¬cond0_0 i) : (kernelRun0_B c i arg2 harg2 arg3 harg3 arg4 harg4 arg5 harg5 arg6 harg6 arg7 harg7 arg8 harg8 arg9 harg9 arg10 harg10 arg11 harg11 arg12 harg12 hc0 x0 x1 x2 x3 x4 x5 xs0).2.1 = ⟨Rect.unit ![3, 0, 0] S1x64x256.size inb_S4x64x256_S1x64x256_3_0_0, sNext (kernelRun0_B.sl.v3290 c arg2 harg2 arg3 harg3 arg4 harg4 arg6 harg6 arg7 harg7 arg10 x0 x1 x2 x4 x5) (kernelRun0_B.sl.v3267 c arg2 harg2 arg3 harg3 arg4 harg4 arg5 harg5 arg6 harg6 arg7 harg7 arg9 harg9 arg10 arg11 arg12 x0 x1 x2 x3 x4 x5 xs0) (kernelRun0_B.sl.v3358 c arg3 harg3 arg12 x1) (kernelRun0_B.sl.v3363 c arg2 harg2 arg3 harg3 arg4 harg4 arg5 harg5 arg6 harg6 arg7 harg7 arg11 x0 x1 x2 x3 x4 x5)⟩ ::
    ⟨Rect.unit ![2, 0, 0] S1x64x256.size inb_S4x64x256_S1x64x256_2_0_0, sNext (kernelRun0_B.sl.v3283 c arg2 harg2 arg3 harg3 arg4 harg4 arg6 harg6 arg7 harg7 arg10 x0 x1 x2 x4 x5) (kernelRun0_B.sl.v3265 c arg2 harg2 arg3 harg3 arg4 harg4 arg5 harg5 arg6 harg6 arg7 harg7 arg9 harg9 arg10 arg11 arg12 x0 x1 x2 x3 x4 x5 xs0) (kernelRun0_B.sl.v3340 c arg3 harg3 arg12 x1) (kernelRun0_B.sl.v3345 c arg2 harg2 arg3 harg3 arg4 harg4 arg5 harg5 arg6 harg6 arg7 harg7 arg11 x0 x1 x2 x3 x4 x5)⟩ ::
    ⟨Rect.unit ![1, 0, 0] S1x64x256.size inb_S4x64x256_S1x64x256_1_0_0, sNext (kernelRun0_B.sl.v3276 c arg2 harg2 arg3 harg3 arg4 harg4 arg6 harg6 arg7 harg7 arg10 x0 x1 x2 x4 x5) (kernelRun0_B.sl.v3263 c arg2 harg2 arg3 harg3 arg4 harg4 arg5 harg5 arg6 harg6 arg7 harg7 arg9 harg9 arg10 arg11 arg12 x0 x1 x2 x3 x4 x5 xs0) (kernelRun0_B.sl.v3322 c arg3 harg3 arg12 x1) (kernelRun0_B.sl.v3327 c arg2 harg2 arg3 harg3 arg4 harg4 arg5 harg5 arg6 harg6 arg7 harg7 arg11 x0 x1 x2 x3 x4 x5)⟩ ::
    ⟨Rect.unit ![0, 0, 0] S1x64x256.size inb_S4x64x256_S1x64x256_0_0_0, sNext (kernelRun0_B.sl.v3269 c arg2 harg2 arg3 harg3 arg4 harg4 arg6 harg6 arg7 harg7 arg10 x0 x1 x2 x4 x5) (kernelRun0_B.sl.v3261 c arg2 harg2 arg3 harg3 arg4 harg4 arg5 harg5 arg6 harg6 arg7 harg7 arg9 harg9 arg10 arg11 arg12 x0 x1 x2 x3 x4 x5 xs0) (kernelRun0_B.sl.v3304 c arg3 harg3 arg12 x1) (kernelRun0_B.sl.v3309 c arg2 harg2 arg3 harg3 arg4 harg4 arg5 harg5 arg6 harg6 arg7 harg7 arg11 x0 x1 x2 x3 x4 x5)⟩ :: kernelRun0_B.sl.HS0_12 c arg2 harg2 arg3 harg3 arg4 harg4 arg5 harg5 arg6 harg6 arg7 harg7 arg9 harg9 arg10 arg11 arg12 x0 x1 x2 x3 x4 x5 xs0 := by
  rfl

/-- The outputs. -/
theorem out_list (hc0 : ¬cond0_0 i) : (kernelRun0_B c i arg2 harg2 arg3 harg3 arg4 harg4 arg5 harg5 arg6 harg6 arg7 harg7 arg8 harg8 arg9 harg9 arg10 harg10 arg11 harg11 arg12 harg12 hc0 x0 x1 x2 x3 x4 x5 xs0).1 = outList (ldOf arg2 harg2 arg3 harg3 arg4 harg4 arg5 harg5 arg6 harg6 arg7 harg7 x0 x1 x2 x3 x4 x5) (fun g => View.readAt (Elt F) arg9.view (Rect.unit (s := S4x64x256) ![g.val, 0, 0] S1x64x256.size (inbS g)).toLoadRect (harg9.unread xs0)) ++ kernelRun0_B.sl.H6_16 c arg2 harg2 arg3 harg3 arg4 harg4 arg5 harg5 arg6 harg6 arg7 harg7 x0 x1 x2 x3 x4 x5 := by
  rw [out, H6_31, H6_30, H6_29, H6_28, H6_27, H6_26, H6_25, H6_24, H6_23, H6_22, H6_21, H6_20, H6_19, H6_18, H6_17, v2973, v2991, v3009, v3027, v3081, v3099, v3117, v3135, v3189, v3207, v3225, v3243, v3297, v3315, v3333, v3351, v2945, v2952, v2959, v2966, v3053, v3060, v3067, v3074, v3161, v3168, v3175, v3182, v3269, v3276, v3283, v3290, v3045, v3047, v3049, v3051, v3153, v3155, v3157, v3159, v3261, v3263, v3265, v3267]
  rfl

/-- The states. -/
theorem state_list (hc0 : ¬cond0_0 i) : (kernelRun0_B c i arg2 harg2 arg3 harg3 arg4 harg4 arg5 harg5 arg6 harg6 arg7 harg7 arg8 harg8 arg9 harg9 arg10 harg10 arg11 harg11 arg12 harg12 hc0 x0 x1 x2 x3 x4 x5 xs0).2.1 = stList (ldOf arg2 harg2 arg3 harg3 arg4 harg4 arg5 harg5 arg6 harg6 arg7 harg7 x0 x1 x2 x3 x4 x5) (fun g => View.readAt (Elt F) arg9.view (Rect.unit (s := S4x64x256) ![g.val, 0, 0] S1x64x256.size (inbS g)).toLoadRect (harg9.unread xs0)) ++ kernelRun0_B.sl.HS0_12 c arg2 harg2 arg3 harg3 arg4 harg4 arg5 harg5 arg6 harg6 arg7 harg7 arg9 harg9 arg10 arg11 arg12 x0 x1 x2 x3 x4 x5 xs0 := by
  rw [state, v3269, v3276, v3283, v3290, v3261, v3263, v3265, v3267, v3304, v3322, v3340, v3358, v3309, v3327, v3345, v3363]
  rfl

end Cert.Proof.Wkv.CaseB
-- ==== Proof.Wkv.Grid.lean ====
/- The recurrence over the grid: what each point leaves in its output block and in the state scratch, over real numbers. -/
module

public import proofs.«01_k».proof.Proof.Wkv.Block
public import proofs.«01_k».proof.Proof.Wkv.Ins
public import proofs.«01_k».proof.Proof.Wkv.FoldA
public import proofs.«01_k».proof.Proof.Wkv.FoldB
public import proofs.«01_k».proof.Proof.Gen.KernelIdeal.Value

@[expose] public section

set_option maxRecDepth 16384

noncomputable section

namespace Cert.Proof.Wkv

open Idealize.ShloMosaic Idealize.ShloMosaic.TcCoe Idealize.SL.Sem

section
open Cert.KernelIdeal Cert.KernelIdeal.Gen

section
variable (c : Dev nD) (i : grid0.Coords) (arg2 : Memref sig .tc .vmem S1x256x1024 .bf16) (harg2 : arg2.IsWhole) (arg3 : Memref sig .tc .vmem S1x1x256x1024 .f32) (harg3 : arg3.IsWhole)
  (arg4 : Memref sig .tc .vmem S1x1x256x1024 .bf16) (harg4 : arg4.IsWhole) (arg5 : Memref sig .tc .vmem S1x256x1024 .f32) (harg5 : arg5.IsWhole)
  (arg6 : Memref sig .tc .vmem S1x256x1024 .bf16) (harg6 : arg6.IsWhole) (arg7 : Memref sig .tc .vmem S1x1x256x1024 .bf16) (harg7 : arg7.IsWhole)
  (arg8 : Memref sig .tc .vmem S1x256x1024 .f32) (harg8 : arg8.IsWhole) (arg9 : Memref sig .tc .vmem S4x64x256 .f32) (harg9 : arg9.IsWhole) (arg10 : Memref sig .tc .vmem S4x4x128x256 .bf16) (harg10 : arg10.IsWhole)
  (arg11 : Memref sig .tc .vmem S4x4x64x256 .f32) (harg11 : arg11.IsWhole) (arg12 : Memref sig .tc .vmem S4x4x64x256 .f32) (harg12 : arg12.IsWhole)
  (x0 : Vec Ideal S1x256x1024 .bf16) (x1 : Vec Ideal S1x1x256x1024 .f32) (x2 : Vec Ideal S1x1x256x1024 .bf16) (x3 : Vec Ideal S1x256x1024 .f32) (x4 : Vec Ideal S1x256x1024 .bf16) (x5 : Vec Ideal S1x1x256x1024 .bf16)

/-- A point's blocks hold the sequence's 256 tokens from `n` on. -/
structure BlkRep (Q : Seqn) (n : ℕ) : Prop where
  r : ∀ (p : Fin 256) (D : Fin 1024), x0 (ix3 0 p D) = ((Q.r (n + p.val) D : ℝ) : EReal)
  w : ∀ (p : Fin 256) (D : Fin 1024), x1 (ix4 0 0 p D) = ((Q.w (n + p.val) D : ℝ) : EReal)
  k : ∀ (p : Fin 256) (D : Fin 1024), x2 (ix4 0 0 p D) = ((Q.k (n + p.val) D : ℝ) : EReal)
  v : ∀ (p : Fin 256) (D : Fin 1024), x3 (ix3 0 p D) = ((Q.v (n + p.val) D : ℝ) : EReal)
  a : ∀ (p : Fin 256) (D : Fin 1024), x4 (ix3 0 p D) = ((Q.a (n + p.val) D : ℝ) : EReal)
  b : ∀ (p : Fin 256) (D : Fin 1024), x5 (ix4 0 0 p D) = ((Q.b (n + p.val) D : ℝ) : EReal)

/-- Token `p` of chunk `j`, in the block. -/
def tkb (j : Fin 4) (p : Fin 64) : Fin 256 := ⟨64 * j.val + p.val, by omega⟩

theorem at3 {e : EltTy} (x : Vec Ideal S1x256x1024 e) (j : Fin 4) (p : Fin 64) (D : Fin 1024) :
    View.ld (Val := Elt Ideal) (e' := e) x (Rect.unit (s := S1x256x1024) ![0, 64 * j.val, 0] S1x64x1024.size (inb3 j)) (ix3 0 p D) = x (ix3 0 (tkb j p) D) := by
  refine congrArg x (funext fun a => Fin.ext ?_)
  match a with
  | ⟨0, _⟩ => rfl
  | ⟨1, _⟩ => show 64 * j.val + 1 * p.val = 64 * j.val + p.val; omega
  | ⟨2, _⟩ => show 0 + 1 * D.val = D.val; omega
theorem at3v {e : EltTy} (x : Vec Ideal S1x256x1024 e) (j g : Fin 4) (p : Fin 64) (q : Fin 256) :
    View.ld (Val := Elt Ideal) (e' := e) x (Rect.unit (s := S1x256x1024) ![0, 64 * j.val, 256 * g.val] S1x64x256.size (inb3v j g)) (ix3 0 p q) = x (ix3 0 (tkb j p) (wq g q)) := by
  refine congrArg x (funext fun a => Fin.ext ?_)
  match a with
  | ⟨0, _⟩ => rfl
  | ⟨1, _⟩ => show 64 * j.val + 1 * p.val = 64 * j.val + p.val; omega
  | ⟨2, _⟩ => show 256 * g.val + 1 * q.val = 256 * g.val + q.val; omega
theorem at4 {e : EltTy} (x : Vec Ideal S1x1x256x1024 e) (j : Fin 4) (p : Fin 64) (D : Fin 1024) :
    View.ld (Val := Elt Ideal) (e' := e) x (Rect.unit (s := S1x1x256x1024) ![0, 0, 64 * j.val, 0] S1x1x64x1024.size (inb4 j)) (ix4 0 0 p D) = x (ix4 0 0 (tkb j p) D) := by
  refine congrArg x (funext fun a => Fin.ext ?_)
  match a with
  | ⟨0, _⟩ => rfl
  | ⟨1, _⟩ => rfl
  | ⟨2, _⟩ => show 64 * j.val + 1 * p.val = 64 * j.val + p.val; omega
  | ⟨3, _⟩ => show 0 + 1 * D.val = D.val; omega

variable (Q : Seqn) (n : ℕ) (H : BlkRep x0 x1 x2 x3 x4 x5 Q n)
include H

theorem ldOf_rep : LdRep (ldOf arg2 harg2 arg3 harg3 arg4 harg4 arg5 harg5 arg6 harg6 arg7 harg7 x0 x1 x2 x3 x4 x5) Q n where
  r j p D := by
    show View.readAt (Elt Ideal) arg2.view _ (harg2.unread x0) _ = _
    rw [View.readAt_eq_ld, harg2.read_unread]
    exact (at3 x0 j p D).trans ((H.r _ _).trans (by rw [add_assoc]; rfl))
  x j p D := by
    show View.readAt (Elt Ideal) arg3.view _ (harg3.unread x1) _ = _
    rw [View.readAt_eq_ld, harg3.read_unread]
    exact (at4 x1 j p D).trans ((H.w _ _).trans (by rw [add_assoc]; rfl))
  k j p D := by
    show View.readAt (Elt Ideal) arg4.view _ (harg4.unread x2) _ = _
    rw [View.readAt_eq_ld, harg4.read_unread]
    exact (at4 x2 j p D).trans ((H.k _ _).trans (by rw [add_assoc]; rfl))
  v j g p q := by
    show View.readAt (Elt Ideal) arg5.view _ (harg5.unread x3) _ = _
    rw [View.readAt_eq_ld, harg5.read_unread]
    exact (at3v x3 j g p q).trans ((H.v _ _).trans (by rw [add_assoc]; rfl))
  a j p D := by
    show View.readAt (Elt Ideal) arg6.view _ (harg6.unread x4) _ = _
    rw [View.readAt_eq_ld, harg6.read_unread]
    exact (at3 x4 j p D).trans ((H.a _ _).trans (by rw [add_assoc]; rfl))
  b j p D := by
    show View.readAt (Elt Ideal) arg7.view _ (harg7.unread x5) _ = _
    rw [View.readAt_eq_ld, harg7.read_unread]
    exact (at4 x5 j p D).trans ((H.b _ _).trans (by rw [add_assoc]; rfl))

omit H in
theorem st_ext (u : Vec Ideal S1x64x256 .f32) (M : Hm) (h : ∀ (p : Fin 64) (q : Fin 256), u (ix3 0 p q) = ((M (hd q) p (ln q) : ℝ) : EReal)) : u = St M := by
  funext x
  obtain ⟨p, q, rfl⟩ : ∃ (p : Fin 64) (q : Fin 256), x = ix3 0 p q :=
    ⟨x 1, x 2, funext fun a => by
      match a with
      | ⟨0, _⟩ => exact Subsingleton.elim (α := Fin 1) _ _
      | ⟨1, _⟩ => rfl
      | ⟨2, _⟩ => rfl⟩
  rw [h, St_apply]

omit H in
/-- The state's zero fill. -/
theorem start_zero (Q : Seqn) (g : Fin 4) :
    View.ld (k0_pay3 (F := Ideal)) (Rect.unit (s := S4x64x256) ![g.val, 0, 0] S1x64x256.size (inbS g)) = St (Q.state 0 g) := by
  refine st_ext _ _ fun p q => ?_
  have h : ∀ i, (k0_pay3 (F := Ideal)) i = 0 := fun i => by
    unfold k0_pay3
    pointwise []
  exact (h _).trans (by show (0 : EReal) = ((0 : ℝ) : EReal); simp)

omit H in
theorem start_carry (Q : Seqn) (n : ℕ) (g : Fin 4) :
    View.readAt (Elt Ideal) arg9.view (Rect.unit (s := S4x64x256) ![g.val, 0, 0] S1x64x256.size (inbS g)).toLoadRect (harg9.unread (stG Q n))
      = St (Q.state n g) := by
  rw [View.readAt_eq_ld, harg9.read_unread]
  refine st_ext _ _ fun p q => ?_
  exact ((st_piece Q n g _ rfl (ix3 0 p q)).symm.trans (St_apply _ p q))

theorem outA (hn : n = 0) (hc0 : cond0_0 i) : out0_A_6 c i arg2 harg2 arg3 harg3 arg4 harg4 arg5 harg5 arg6 harg6 arg7 harg7 arg8 harg8 arg9 harg9 arg10 harg10 arg11 harg11 arg12 harg12 hc0 x0 x1 x2 x3 x4 x5 = outG Q n := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 hc0 x0 x1 x2 x3 x4 x5), CaseA.out_list]
  exact outList_eq _ Q n (ldOf_rep arg2 harg2 arg3 harg3 arg4 harg4 arg5 harg5 arg6 harg6 arg7 harg7 x0 x1 x2 x3 x4 x5 Q n H) _ (fun g => by subst hn; exact start_zero Q g) _
theorem soutA (hn : n = 0) (hc0 : cond0_0 i) : sout0_A_0 c i arg2 harg2 arg3 harg3 arg4 harg4 arg5 harg5 arg6 harg6 arg7 harg7 arg8 harg8 arg9 harg9 arg10 harg10 arg11 harg11 arg12 harg12 hc0 x0 x1 x2 x3 x4 x5 = stG Q (n + 256) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5), CaseA.state_list]
  exact stList_eq _ Q n (ldOf_rep arg2 harg2 arg3 harg3 arg4 harg4 arg5 harg5 arg6 harg6 arg7 harg7 x0 x1 x2 x3 x4 x5 Q n H) _ (fun g => by subst hn; exact start_zero Q g) _
theorem outB (hc0 : ¬cond0_0 i) : out0_B_6 c i arg2 harg2 arg3 harg3 arg4 harg4 arg5 harg5 arg6 harg6 arg7 harg7 arg8 harg8 arg9 harg9 arg10 harg10 arg11 harg11 arg12 harg12 hc0 x0 x1 x2 x3 x4 x5 (stG Q n) = outG Q n := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 hc0 x0 x1 x2 x3 x4 x5 _), CaseB.out_list]
  exact outList_eq _ Q n (ldOf_rep arg2 harg2 arg3 harg3 arg4 harg4 arg5 harg5 arg6 harg6 arg7 harg7 x0 x1 x2 x3 x4 x5 Q n H) _ (fun g => start_carry arg9 harg9 Q n g) _
theorem soutB (hc0 : ¬cond0_0 i) : sout0_B_0 c i arg2 harg2 arg3 harg3 arg4 harg4 arg5 harg5 arg6 harg6 arg7 harg7 arg8 harg8 arg9 harg9 arg10 harg10 arg11 harg11 arg12 harg12 hc0 x0 x1 x2 x3 x4 x5 (stG Q n) = stG Q (n + 256) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 x0 x1 x2 x3 x4 x5 _), CaseB.state_list]
  exact stList_eq _ Q n (ldOf_rep arg2 harg2 arg3 harg3 arg4 harg4 arg5 harg5 arg6 harg6 arg7 harg7 x0 x1 x2 x3 x4 x5 Q n H) _ (fun g => start_carry arg9 harg9 Q n g) _
end

/-! ## The input blocks -/

variable (m : (ℓ : Loc nD τ sig) → Buf (Elt Ideal) ℓ)

/-- The kernel's arguments. -/
def kIns (c : Dev nD) : Ins where
  r β n D := m ((c : Thread nD τ).loc main_arg0) (ix3 β n D)
  w β n D := m ((c : Thread nD τ).loc main_arg1) (ix4 0 β n D)
  k β n D := m ((c : Thread nD τ).loc main_arg2) (ix4 0 β n D)
  v β n D := m ((c : Thread nD τ).loc main_arg3) (ix3 β n D)
  a β n D := m ((c : Thread nD τ).loc main_arg4) (ix3 β n D)
  b β n D := m ((c : Thread nD τ).loc main_arg5) (ix4 0 β n D)

/-- The blocks the windows read: point `t` is sample `t / 9`, tokens `256 (t % 9) …`. -/
theorem idx_r : ∀ t : Fin cfg0.N, win0_0.index t = ![t.val / 9, t.val % 9, 0] :=
  (by decide +kernel : ∀ t : Fin grid0.N, _)
theorem idx_w : ∀ t : Fin cfg0.N, win0_1.index t = ![0, t.val / 9, t.val % 9, 0] :=
  (by decide +kernel : ∀ t : Fin grid0.N, _)
theorem idx_k : ∀ t : Fin cfg0.N, win0_2.index t = ![0, t.val / 9, t.val % 9, 0] :=
  (by decide +kernel : ∀ t : Fin grid0.N, _)
theorem idx_v : ∀ t : Fin cfg0.N, win0_3.index t = ![t.val / 9, t.val % 9, 0] :=
  (by decide +kernel : ∀ t : Fin grid0.N, _)
theorem idx_a : ∀ t : Fin cfg0.N, win0_4.index t = ![t.val / 9, t.val % 9, 0] :=
  (by decide +kernel : ∀ t : Fin grid0.N, _)
theorem idx_b : ∀ t : Fin cfg0.N, win0_5.index t = ![0, t.val / 9, t.val % 9, 0] :=
  (by decide +kernel : ∀ t : Fin grid0.N, _)
theorem lt144 (t : Fin cfg0.N) : t.val < 144 := lt_of_lt_of_eq t.isLt N_0
/-- A point's sample. -/
def smp (t : Fin cfg0.N) : Fin 16 := ⟨t.val / 9, by have := lt144 t; omega⟩

theorem blk_r (c : Dev nD) (t : Fin cfg0.N) (p : Fin 256) (D : Fin 1024) :
    iblk m c 0 t (ix3 0 p D) = (kIns m c).r (smp t) (tk (256 * (t.val % 9) + p.val)) D := by
  show m ((c : Thread nD τ).loc main_arg0) (((cfg0.win 0).blk t).view.emb (ix3 0 p D)) = m ((c : Thread nD τ).loc main_arg0) (ix3 (smp t) (tk (256 * (t.val % 9) + p.val)) D)
  congr 1
  funext a
  apply Fin.ext
  match a with
  | ⟨0, _⟩ => show win0_0.index t (0 : Fin 3) * 1 + 1 * 0 = _; rw [idx_r]; show t.val / 9 * 1 + 1 * 0 = t.val / 9; omega
  | ⟨1, _⟩ => show win0_0.index t (1 : Fin 3) * 256 + 1 * p.val = _; rw [idx_r]; show t.val % 9 * 256 + 1 * p.val = (256 * (t.val % 9) + p.val) % 2304; omega
  | ⟨2, _⟩ => show win0_0.index t (2 : Fin 3) * 1024 + 1 * D.val = _; rw [idx_r]; show 0 * 1024 + 1 * D.val = D.val; omega
theorem blk_w (c : Dev nD) (t : Fin cfg0.N) (p : Fin 256) (D : Fin 1024) :
    iblk m c 1 t (ix4 0 0 p D) = (kIns m c).w (smp t) (tk (256 * (t.val % 9) + p.val)) D := by
  show m ((c : Thread nD τ).loc main_arg1) (((cfg0.win 1).blk t).view.emb (ix4 0 0 p D)) = m ((c : Thread nD τ).loc main_arg1) (ix4 0 (smp t) (tk (256 * (t.val % 9) + p.val)) D)
  congr 1
  funext a
  apply Fin.ext
  match a with
  | ⟨0, _⟩ => show win0_1.index t (0 : Fin 4) * 1 + 1 * 0 = _; rw [idx_w]; rfl
  | ⟨1, _⟩ => show win0_1.index t (1 : Fin 4) * 1 + 1 * 0 = _; rw [idx_w]; show t.val / 9 * 1 + 1 * 0 = t.val / 9; omega
  | ⟨2, _⟩ => show win0_1.index t (2 : Fin 4) * 256 + 1 * p.val = _; rw [idx_w]; show t.val % 9 * 256 + 1 * p.val = (256 * (t.val % 9) + p.val) % 2304; omega
  | ⟨3, _⟩ => show win0_1.index t (3 : Fin 4) * 1024 + 1 * D.val = _; rw [idx_w]; show 0 * 1024 + 1 * D.val = D.val; omega
theorem blk_k (c : Dev nD) (t : Fin cfg0.N) (p : Fin 256) (D : Fin 1024) :
    iblk m c 2 t (ix4 0 0 p D) = (kIns m c).k (smp t) (tk (256 * (t.val % 9) + p.val)) D := by
  show m ((c : Thread nD τ).loc main_arg2) (((cfg0.win 2).blk t).view.emb (ix4 0 0 p D)) = m ((c : Thread nD τ).loc main_arg2) (ix4 0 (smp t) (tk (256 * (t.val % 9) + p.val)) D)
  congr 1
  funext a
  apply Fin.ext
  match a with
  | ⟨0, _⟩ => show win0_2.index t (0 : Fin 4) * 1 + 1 * 0 = _; rw [idx_k]; rfl
  | ⟨1, _⟩ => show win0_2.index t (1 : Fin 4) * 1 + 1 * 0 = _; rw [idx_k]; show t.val / 9 * 1 + 1 * 0 = t.val / 9; omega
  | ⟨2, _⟩ => show win0_2.index t (2 : Fin 4) * 256 + 1 * p.val = _; rw [idx_k]; show t.val % 9 * 256 + 1 * p.val = (256 * (t.val % 9) + p.val) % 2304; omega
  | ⟨3, _⟩ => show win0_2.index t (3 : Fin 4) * 1024 + 1 * D.val = _; rw [idx_k]; show 0 * 1024 + 1 * D.val = D.val; omega
theorem blk_v (c : Dev nD) (t : Fin cfg0.N) (p : Fin 256) (D : Fin 1024) :
    iblk m c 3 t (ix3 0 p D) = (kIns m c).v (smp t) (tk (256 * (t.val % 9) + p.val)) D := by
  show m ((c : Thread nD τ).loc main_arg3) (((cfg0.win 3).blk t).view.emb (ix3 0 p D)) = m ((c : Thread nD τ).loc main_arg3) (ix3 (smp t) (tk (256 * (t.val % 9) + p.val)) D)
  congr 1
  funext a
  apply Fin.ext
  match a with
  | ⟨0, _⟩ => show win0_3.index t (0 : Fin 3) * 1 + 1 * 0 = _; rw [idx_v]; show t.val / 9 * 1 + 1 * 0 = t.val / 9; omega
  | ⟨1, _⟩ => show win0_3.index t (1 : Fin 3) * 256 + 1 * p.val = _; rw [idx_v]; show t.val % 9 * 256 + 1 * p.val = (256 * (t.val % 9) + p.val) % 2304; omega
  | ⟨2, _⟩ => show win0_3.index t (2 : Fin 3) * 1024 + 1 * D.val = _; rw [idx_v]; show 0 * 1024 + 1 * D.val = D.val; omega
theorem blk_a (c : Dev nD) (t : Fin cfg0.N) (p : Fin 256) (D : Fin 1024) :
    iblk m c 4 t (ix3 0 p D) = (kIns m c).a (smp t) (tk (256 * (t.val % 9) + p.val)) D := by
  show m ((c : Thread nD τ).loc main_arg4) (((cfg0.win 4).blk t).view.emb (ix3 0 p D)) = m ((c : Thread nD τ).loc main_arg4) (ix3 (smp t) (tk (256 * (t.val % 9) + p.val)) D)
  congr 1
  funext a
  apply Fin.ext
  match a with
  | ⟨0, _⟩ => show win0_4.index t (0 : Fin 3) * 1 + 1 * 0 = _; rw [idx_a]; show t.val / 9 * 1 + 1 * 0 = t.val / 9; omega
  | ⟨1, _⟩ => show win0_4.index t (1 : Fin 3) * 256 + 1 * p.val = _; rw [idx_a]; show t.val % 9 * 256 + 1 * p.val = (256 * (t.val % 9) + p.val) % 2304; omega
  | ⟨2, _⟩ => show win0_4.index t (2 : Fin 3) * 1024 + 1 * D.val = _; rw [idx_a]; show 0 * 1024 + 1 * D.val = D.val; omega
theorem blk_b (c : Dev nD) (t : Fin cfg0.N) (p : Fin 256) (D : Fin 1024) :
    iblk m c 5 t (ix4 0 0 p D) = (kIns m c).b (smp t) (tk (256 * (t.val % 9) + p.val)) D := by
  show m ((c : Thread nD τ).loc main_arg5) (((cfg0.win 5).blk t).view.emb (ix4 0 0 p D)) = m ((c : Thread nD τ).loc main_arg5) (ix4 0 (smp t) (tk (256 * (t.val % 9) + p.val)) D)
  congr 1
  funext a
  apply Fin.ext
  match a with
  | ⟨0, _⟩ => show win0_5.index t (0 : Fin 4) * 1 + 1 * 0 = _; rw [idx_b]; rfl
  | ⟨1, _⟩ => show win0_5.index t (1 : Fin 4) * 1 + 1 * 0 = _; rw [idx_b]; show t.val / 9 * 1 + 1 * 0 = t.val / 9; omega
  | ⟨2, _⟩ => show win0_5.index t (2 : Fin 4) * 256 + 1 * p.val = _; rw [idx_b]; show t.val % 9 * 256 + 1 * p.val = (256 * (t.val % 9) + p.val) % 2304; omega
  | ⟨3, _⟩ => show win0_5.index t (3 : Fin 4) * 1024 + 1 * D.val = _; rw [idx_b]; show 0 * 1024 + 1 * D.val = D.val; omega

theorem blkRep (c : Dev nD) (hI : (kIns m c).Real) (t : Fin cfg0.N) :
    BlkRep (iblk m c 0 t) (iblk m c 1 t) (iblk m c 2 t) (iblk m c 3 t) (iblk m c 4 t) (iblk m c 5 t) ((kIns m c).seq (smp t)) (256 * (t.val % 9)) where
  r p D := (blk_r m c t p D).trans (hI.r _ _ _)
  w p D := (blk_w m c t p D).trans (hI.w _ _ _)
  k p D := (blk_k m c t p D).trans (hI.k _ _ _)
  v p D := (blk_v m c t p D).trans (hI.v _ _ _)
  a p D := (blk_a m c t p D).trans (hI.a _ _ _)
  b p D := (blk_b m c t p D).trans (hI.b _ _ _)

theorem point_first (c : Dev nD) (hI : (kIns m c).Real) (t : Fin cfg0.N) (h0 : t.val % 9 = 0) :
    outsAt0 m c t.val t.isLt = (outG ((kIns m c).seq (smp t)) (256 * (t.val % 9)), stG ((kIns m c).seq (smp t)) (256 * (t.val % 9) + 256)) := by
  have hn : 256 * (t.val % 9) = 0 := by omega
  rw [outsAt0_A m c t h0]
  rw [outA (Q := (kIns m c).seq (smp t)) (n := 256 * (t.val % 9)) (H := blkRep m c hI t) (hn := hn),
    soutA (Q := (kIns m c).seq (smp t)) (n := 256 * (t.val % 9)) (H := blkRep m c hI t) (hn := hn)]
theorem point_next (c : Dev nD) (hI : (kIns m c).Real) (t : Fin cfg0.N) (h0 : ¬t.val % 9 = 0)
    (e : (outsAt0 m c (t.val - 1) (Nat.lt_of_le_of_lt (Nat.sub_le _ _) t.isLt)).2 = stG ((kIns m c).seq (smp t)) (256 * (t.val % 9))) :
    outsAt0 m c t.val t.isLt = (outG ((kIns m c).seq (smp t)) (256 * (t.val % 9)), stG ((kIns m c).seq (smp t)) (256 * (t.val % 9) + 256)) := by
  rw [outsAt0_B m c t h0]
  rw [e, outB (Q := (kIns m c).seq (smp t)) (n := 256 * (t.val % 9)) (H := blkRep m c hI t),
    soutB (Q := (kIns m c).seq (smp t)) (n := 256 * (t.val % 9)) (H := blkRep m c hI t)]

/-- After each point: its output block, and the state its tokens leave. -/
theorem after_point (c : Dev nD) (hI : (kIns m c).Real) : ∀ (n : ℕ) (hn : n < cfg0.N),
    outsAt0 m c n hn = (outG ((kIns m c).seq (smp ⟨n, hn⟩)) (256 * (n % 9)), stG ((kIns m c).seq (smp ⟨n, hn⟩)) (256 * (n % 9) + 256)) := by
  intro n
  induction n with
  | zero => exact fun hn => point_first m c hI ⟨0, hn⟩ rfl
  | succ n ih =>
    intro hn
    by_cases h0 : (n + 1) % 9 = 0
    · exact point_first m c hI ⟨n + 1, hn⟩ h0
    · refine point_next m c hI ⟨n + 1, hn⟩ h0 ?_
      have hn' : n < cfg0.N := Nat.lt_of_succ_lt hn
      have e1 : smp ⟨n, hn'⟩ = smp ⟨n + 1, hn⟩ := Fin.ext (by show n / 9 = (n + 1) / 9; omega)
      have e2 : 256 * (n % 9) + 256 = 256 * ((n + 1) % 9) := by omega
      refine (congrArg Prod.snd (ih hn')).trans ?_
      show stG ((kIns m c).seq (smp ⟨n, hn'⟩)) (256 * (n % 9) + 256) = stG ((kIns m c).seq (smp ⟨n + 1, hn⟩)) (256 * ((n + 1) % 9))
      rw [e1, e2]

end

end Cert.Proof.Wkv
-- ==== Proof.Wkv.Ref.lean ====
/- The reference's scan over real numbers: its state and its outputs after each token. -/
module

public import proofs.«01_k».proof.Proof.Wkv.Ins
public import proofs.«01_k».proof.Proof.Gen.ReferenceIdeal.Run
public import Idealize.ShloMosaic.Lib.WordCmp

@[expose] public section

set_option maxRecDepth 16384

noncomputable section

namespace Cert.Proof.Wkv.Ref

open Idealize.ShloMosaic Idealize.ShloMosaic.TcCoe Idealize.SL.Sem
open Idealize.ShloMosaic.StableHlo Idealize.ShloMosaic.Pipeline
open Cert.ReferenceIdeal Cert.ReferenceIdeal.Gen Cert.ReferenceIdeal.Value

/-- The start of a trip's row, from the counter. -/
def startAt (c : IVec S_ 32) : Fin 4 → Int := fun k =>
  (((![c, constantI S_ 32 0#32, constantI S_ 32 0#32, constantI S_ 32 0#32] : Fin 4 → (⟨S_, .i32⟩ : BufTy).Contents (Elt Ideal))) k (Shape.Idx.first h_S_)).toInt

theorem startAt_eq (k : ℕ) (hk : k < 2304) (a : Fin 4) : startAt (fun _ => BitVec.ofNat 32 k) a = ((![k, 0, 0, 0] : Fin 4 → ℕ) a : Int) := by
  match a with
  | ⟨0, _⟩ =>
    show (BitVec.ofNat 32 k).toInt = (k : Int)
    rw [BitVec.toInt_eq_toNat_cond, BitVec.toNat_ofNat]
    omega
  | ⟨1, _⟩ => rfl
  | ⟨2, _⟩ => rfl
  | ⟨3, _⟩ => rfl

/-- A trip's row of a sequence. -/
def row (x : FVec Ideal S2304x16x16x64 .f32) (c : IVec S_ 32) : FVec Ideal S16x16x64 .f32 :=
  shapeCast S16x16x64 (Host.dynamicSlice S1x16x16x64 x (startAt c) sliceFits_S2304x16x16x64_S1x16x16x64) shapeCasts_S1x16x16x64_S16x16x64

theorem row_fits (k : ℕ) (hk : k < 2304) : S2304x16x16x64.Slices ![k, 0, 0, 0] S1x16x16x64 :=
  ⟨rfl, fun a => by
    match a with
    | ⟨0, _⟩ => show k + 1 ≤ 2304; omega
    | ⟨1, _⟩ => show 0 + 16 ≤ 16; omega
    | ⟨2, _⟩ => show 0 + 16 ≤ 16; omega
    | ⟨3, _⟩ => show 0 + 64 ≤ 64; omega⟩

theorem row_apply (x : FVec Ideal S2304x16x16x64 .f32) (k : ℕ) (hk : k < 2304) (β H : Fin 16) (j : Fin 64) :
    row x (fun _ => BitVec.ofNat 32 k) (ix3 β H j) = x (ix4 ⟨k, hk⟩ β H j) := by
  unfold row
  rw [WordCmp.dynamicSlice_eq_extract S1x16x16x64 x _ _ ![k, 0, 0, 0] (row_fits k hk) (startAt_eq k hk)]
  pointwise []

/-- The state's step. -/
def newS (S : FVec Ideal S16x16x64x64 .f32) (w a b v k : FVec Ideal S16x16x64 .f32) : FVec Ideal S16x16x64x64 .f32 :=
  addf (addf (mulf S (broadcastInDim S16x16x64x64 ![0, 1, 2, 3] bcast_S16x16x1x64_S16x16x64x64_0_1_2_3 (broadcastInDim S16x16x1x64 ![0, 1, 3] bcast_S16x16x64_S16x16x1x64_0_1_3 w)))
    (mulf (broadcastInDim S16x16x64x64 ![0, 1, 2, 3] bcast_S16x16x64x1_S16x16x64x64_0_1_2_3 (broadcastInDim S16x16x64x1 ![0, 1, 2] bcast_S16x16x64_S16x16x64x1_0_1_2
        (Host.dotGeneral dot_S16x16x64x64_S16x16x64_S16x16x64_3_2_2_n_01_01 none S a)))
      (broadcastInDim S16x16x64x64 ![0, 1, 2, 3] bcast_S16x16x1x64_S16x16x64x64_0_1_2_3 (broadcastInDim S16x16x1x64 ![0, 1, 3] bcast_S16x16x64_S16x16x1x64_0_1_3 b))))
    (mulf (broadcastInDim S16x16x64x64 ![0, 1, 2, 3] bcast_S16x16x64x1_S16x16x64x64_0_1_2_3 (broadcastInDim S16x16x64x1 ![0, 1, 2] bcast_S16x16x64_S16x16x64x1_0_1_2 v))
      (broadcastInDim S16x16x64x64 ![0, 1, 2, 3] bcast_S16x16x1x64_S16x16x64x64_0_1_2_3 (broadcastInDim S16x16x1x64 ![0, 1, 3] bcast_S16x16x64_S16x16x1x64_0_1_3 k)))

theorem newS_apply (S : FVec Ideal S16x16x64x64 .f32) (w a b v k : FVec Ideal S16x16x64 .f32) (β H : Fin 16) (i j : Fin 64) :
    newS S w a b v k (ix4 β H i j)
      = S (ix4 β H i j) * w (ix3 β H j) + (∑ q : Fin 64, S (ix4 β H i q) * a (ix3 β H q)) * b (ix3 β H j) + v (ix3 β H i) * k (ix3 β H j) := by
  pointwise [newS]

/-- A trip's output row. -/
def newY (S : FVec Ideal S16x16x64x64 .f32) (r : FVec Ideal S16x16x64 .f32) : FVec Ideal S1x16x16x64 .f32 :=
  broadcastInDim S1x16x16x64 ![1, 2, 3] bcast_S16x16x64_S1x16x16x64_1_2_3 (Host.dotGeneral dot_S16x16x64x64_S16x16x64_S16x16x64_3_2_2_n_01_01 none S r)

theorem newY_apply (S : FVec Ideal S16x16x64x64 .f32) (r : FVec Ideal S16x16x64 .f32) (β H : Fin 16) (i : Fin 64) :
    newY S r (ix4 0 β H i) = ∑ q : Fin 64, S (ix4 β H i q) * r (ix3 β H q) := by
  pointwise [newY]

/-- A sequence with one row replaced. -/
def put (x : FVec Ideal S2304x16x16x64 .f32) (u : FVec Ideal S1x16x16x64 .f32) (c : IVec S_ 32) : FVec Ideal S2304x16x16x64 .f32 :=
  Host.dynamicUpdateSlice x u (startAt c) updateFits_S2304x16x16x64_S1x16x16x64

theorem put_apply (x : FVec Ideal S2304x16x16x64 .f32) (u : FVec Ideal S1x16x16x64 .f32) (k : ℕ) (hk : k < 2304) (n : Fin 2304) (β H : Fin 16) (i : Fin 64) :
    put x u (fun _ => BitVec.ofNat 32 k) (ix4 n β H i) = if n.val = k then u (ix4 0 β H i) else x (ix4 n β H i) := by
  unfold put
  rw [WordCmp.dynamicUpdateSlice_eq_update x u _ _ ![k, 0, 0, 0] (row_fits k hk) (startAt_eq k hk)]
  unfold updateSlice
  by_cases h : n.val = k
  · rw [if_pos h, dif_pos (by
      intro a
      match a with
      | ⟨0, _⟩ => show k ≤ n.val ∧ n.val < k + 1; omega
      | ⟨1, _⟩ => show 0 ≤ β.val ∧ β.val < 0 + 16; omega
      | ⟨2, _⟩ => show 0 ≤ H.val ∧ H.val < 0 + 16; omega
      | ⟨3, _⟩ => show 0 ≤ i.val ∧ i.val < 0 + 64; omega)]
    refine congrArg u (funext fun a => Fin.ext ?_)
    match a with
    | ⟨0, _⟩ => show n.val - k = 0; omega
    | ⟨1, _⟩ => rfl
    | ⟨2, _⟩ => rfl
    | ⟨3, _⟩ => rfl
  · rw [if_neg h, dif_neg (by
      intro hh
      have h0 : k ≤ n.val ∧ n.val < k + 1 := hh (0 : Fin 4)
      omega)]

variable (m : (ℓ : Loc nD τ sig) → Buf (Elt Ideal) ℓ)

/-- The reference's arguments. -/
def rIns (c : Dev nD) : Ins where
  r β n D := m ((c : Thread nD τ).loc main_arg0) (ix3 β n D)
  w β n D := m ((c : Thread nD τ).loc main_arg1) (ix4 0 β n D)
  k β n D := m ((c : Thread nD τ).loc main_arg2) (ix4 0 β n D)
  v β n D := m ((c : Thread nD τ).loc main_arg3) (ix3 β n D)
  a β n D := m ((c : Thread nD τ).loc main_arg4) (ix3 β n D)
  b β n D := m ((c : Thread nD τ).loc main_arg5) (ix4 0 β n D)

/-- Head `H`'s lane `j`. -/
def hln (H : Fin 16) (j : Fin 64) : Fin 1024 := ⟨H.val * 64 + j.val, by omega⟩

/-- The carried sequence of r. -/
def eR (c : Dev nD) : FVec Ideal S2304x16x16x64 .f32 := entryContents preI m c (Proc.devRef .tc main_v25_0)
theorem entry_r (c : Dev nD) : entryContents preI m c (Proc.devRef .tc main_v25_0)
    = (transpose S2304x16x16x64 [1, 0, 2, 3] (shapeCast S16x2304x16x64 (extf .f32 (m ((c : Thread nD τ).loc main_arg0) : FVec Ideal S16x2304x1024 .bf16) bitsLt_bf16_f32 : FVec Ideal S16x2304x1024 .f32) shapeCasts_S16x2304x1024_S16x2304x16x64) transposes_S16x2304x16x64_S2304x16x16x64_1_0_2_3 : FVec Ideal S2304x16x16x64 .f32) := by
  simp only [entryContents, afterL_cons, afterL_nil]
  after_reads_simp
  rfl
theorem entry_r_apply (c : Dev nD) (n : Fin 2304) (β H : Fin 16) (j : Fin 64) :
    eR m c (ix4 n β H j) = (rIns m c).r β n (hln H j) := by
  unfold eR
  rw [entry_r]
  pointwise [rIns, hln]
/-- The carried sequence of w. -/
def eW (c : Dev nD) : FVec Ideal S2304x16x16x64 .f32 := entryContents preI m c (Proc.devRef .tc main_v25_1)
theorem entry_w (c : Dev nD) : entryContents preI m c (Proc.devRef .tc main_v25_1)
    = (transpose S2304x16x16x64 [1, 0, 2, 3] (shapeCast S16x2304x16x64 (Host.exp (shapeCast S16x2304x1024 (extractStridedSlice S1x16x2304x1024 ![0, 0, 0, 0] (m ((c : Thread nD τ).loc main_arg1)) slices_S2x16x2304x1024_S1x16x2304x1024_0_0_0_0) shapeCasts_S1x16x2304x1024_S16x2304x1024 : FVec Ideal S16x2304x1024 .f32) : FVec Ideal S16x2304x1024 .f32) shapeCasts_S16x2304x1024_S16x2304x16x64) transposes_S16x2304x16x64_S2304x16x16x64_1_0_2_3 : FVec Ideal S2304x16x16x64 .f32) := by
  simp only [entryContents, afterL_cons, afterL_nil]
  after_reads_simp
  rfl
theorem entry_w_apply (c : Dev nD) (n : Fin 2304) (β H : Fin 16) (j : Fin 64) :
    eW m c (ix4 n β H j) = Ideal.exp ((rIns m c).w β n (hln H j)) := by
  unfold eW
  rw [entry_w]
  pointwise [rIns, hln]
/-- The carried sequence of k. -/
def eK (c : Dev nD) : FVec Ideal S2304x16x16x64 .f32 := entryContents preI m c (Proc.devRef .tc main_v25_2)
theorem entry_k (c : Dev nD) : entryContents preI m c (Proc.devRef .tc main_v25_2)
    = (transpose S2304x16x16x64 [1, 0, 2, 3] (shapeCast S16x2304x16x64 (extf .f32 (shapeCast S16x2304x1024 (extractStridedSlice S1x16x2304x1024 ![0, 0, 0, 0] (m ((c : Thread nD τ).loc main_arg2)) slices_S2x16x2304x1024_S1x16x2304x1024_0_0_0_0) shapeCasts_S1x16x2304x1024_S16x2304x1024 : FVec Ideal S16x2304x1024 .bf16) bitsLt_bf16_f32 : FVec Ideal S16x2304x1024 .f32) shapeCasts_S16x2304x1024_S16x2304x16x64) transposes_S16x2304x16x64_S2304x16x16x64_1_0_2_3 : FVec Ideal S2304x16x16x64 .f32) := by
  simp only [entryContents, afterL_cons, afterL_nil]
  after_reads_simp
  rfl
theorem entry_k_apply (c : Dev nD) (n : Fin 2304) (β H : Fin 16) (j : Fin 64) :
    eK m c (ix4 n β H j) = (rIns m c).k β n (hln H j) := by
  unfold eK
  rw [entry_k]
  pointwise [rIns, hln]
/-- The carried sequence of v. -/
def eV (c : Dev nD) : FVec Ideal S2304x16x16x64 .f32 := entryContents preI m c (Proc.devRef .tc main_v25_3)
theorem entry_v (c : Dev nD) : entryContents preI m c (Proc.devRef .tc main_v25_3)
    = (transpose S2304x16x16x64 [1, 0, 2, 3] (shapeCast S16x2304x16x64 (m ((c : Thread nD τ).loc main_arg3) : FVec Ideal S16x2304x1024 .f32) shapeCasts_S16x2304x1024_S16x2304x16x64) transposes_S16x2304x16x64_S2304x16x16x64_1_0_2_3 : FVec Ideal S2304x16x16x64 .f32) := by
  simp only [entryContents, afterL_cons, afterL_nil]
  after_reads_simp
  rfl
theorem entry_v_apply (c : Dev nD) (n : Fin 2304) (β H : Fin 16) (j : Fin 64) :
    eV m c (ix4 n β H j) = (rIns m c).v β n (hln H j) := by
  unfold eV
  rw [entry_v]
  pointwise [rIns, hln]
/-- The carried sequence of a. -/
def eA (c : Dev nD) : FVec Ideal S2304x16x16x64 .f32 := entryContents preI m c (Proc.devRef .tc main_v25_4)
theorem entry_a (c : Dev nD) : entryContents preI m c (Proc.devRef .tc main_v25_4)
    = (transpose S2304x16x16x64 [1, 0, 2, 3] (shapeCast S16x2304x16x64 (extf .f32 (m ((c : Thread nD τ).loc main_arg4) : FVec Ideal S16x2304x1024 .bf16) bitsLt_bf16_f32 : FVec Ideal S16x2304x1024 .f32) shapeCasts_S16x2304x1024_S16x2304x16x64) transposes_S16x2304x16x64_S2304x16x16x64_1_0_2_3 : FVec Ideal S2304x16x16x64 .f32) := by
  simp only [entryContents, afterL_cons, afterL_nil]
  after_reads_simp
  rfl
theorem entry_a_apply (c : Dev nD) (n : Fin 2304) (β H : Fin 16) (j : Fin 64) :
    eA m c (ix4 n β H j) = (rIns m c).a β n (hln H j) := by
  unfold eA
  rw [entry_a]
  pointwise [rIns, hln]
/-- The carried sequence of b. -/
def eB (c : Dev nD) : FVec Ideal S2304x16x16x64 .f32 := entryContents preI m c (Proc.devRef .tc main_v25_5)
theorem entry_b (c : Dev nD) : entryContents preI m c (Proc.devRef .tc main_v25_5)
    = (transpose S2304x16x16x64 [1, 0, 2, 3] (shapeCast S16x2304x16x64 (extf .f32 (shapeCast S16x2304x1024 (extractStridedSlice S1x16x2304x1024 ![0, 0, 0, 0] (m ((c : Thread nD τ).loc main_arg5)) slices_S2x16x2304x1024_S1x16x2304x1024_0_0_0_0) shapeCasts_S1x16x2304x1024_S16x2304x1024 : FVec Ideal S16x2304x1024 .bf16) bitsLt_bf16_f32 : FVec Ideal S16x2304x1024 .f32) shapeCasts_S16x2304x1024_S16x2304x16x64) transposes_S16x2304x16x64_S2304x16x16x64_1_0_2_3 : FVec Ideal S2304x16x16x64 .f32) := by
  simp only [entryContents, afterL_cons, afterL_nil]
  after_reads_simp
  rfl
theorem entry_b_apply (c : Dev nD) (n : Fin 2304) (β H : Fin 16) (j : Fin 64) :
    eB m c (ix4 n β H j) = (rIns m c).b β n (hln H j) := by
  unfold eB
  rw [entry_b]
  pointwise [rIns, hln]
theorem entry_S (c : Dev nD) (i : S16x16x64x64.Idx) : @Eq EReal ((entryContents preI m c (Proc.devRef .tc main_v25_7) : FVec Ideal S16x16x64x64 .f32) i) 0 := by
  have h : entryContents preI m c (Proc.devRef .tc main_v25_7) = (broadcastInDim S16x16x64x64 ![] bcast_S_S16x16x64x64 (constant S_ .f32 0x00000000#32) : FVec Ideal S16x16x64x64 .f32) := by
    simp only [entryContents, afterL_cons, afterL_nil]
    after_reads_simp
    rfl
  rw [h]
  pointwise []

/-! ## The loop -/

/-- The contents before trip `k`. -/
def at_ (c : Dev nD) (k : ℕ) : Valuation τ sig (Elt Ideal) := STEP^[k] (entryContents preI m c)

theorem at_succ (c : Dev nD) (k : ℕ) : at_ m c (k + 1) = STEP (at_ m c k) := Function.iterate_succ_apply' _ _ _

theorem keep_0 (c : Dev nD) : ∀ k, at_ m c k (Proc.devRef .tc main_v25_0) = entryContents preI m c (Proc.devRef .tc main_v25_0)
  | 0 => rfl
  | k + 1 => by rw [at_succ, STEP_main_v25_0, keep_0 c k]
theorem keep_1 (c : Dev nD) : ∀ k, at_ m c k (Proc.devRef .tc main_v25_1) = entryContents preI m c (Proc.devRef .tc main_v25_1)
  | 0 => rfl
  | k + 1 => by rw [at_succ, STEP_main_v25_1, keep_1 c k]
theorem keep_2 (c : Dev nD) : ∀ k, at_ m c k (Proc.devRef .tc main_v25_2) = entryContents preI m c (Proc.devRef .tc main_v25_2)
  | 0 => rfl
  | k + 1 => by rw [at_succ, STEP_main_v25_2, keep_2 c k]
theorem keep_3 (c : Dev nD) : ∀ k, at_ m c k (Proc.devRef .tc main_v25_3) = entryContents preI m c (Proc.devRef .tc main_v25_3)
  | 0 => rfl
  | k + 1 => by rw [at_succ, STEP_main_v25_3, keep_3 c k]
theorem keep_4 (c : Dev nD) : ∀ k, at_ m c k (Proc.devRef .tc main_v25_4) = entryContents preI m c (Proc.devRef .tc main_v25_4)
  | 0 => rfl
  | k + 1 => by rw [at_succ, STEP_main_v25_4, keep_4 c k]
theorem keep_5 (c : Dev nD) : ∀ k, at_ m c k (Proc.devRef .tc main_v25_5) = entryContents preI m c (Proc.devRef .tc main_v25_5)
  | 0 => rfl
  | k + 1 => by rw [at_succ, STEP_main_v25_5, keep_5 c k]
theorem keep_c (c : Dev nD) : ∀ k, at_ m c k (Proc.devRef .tc main_v25_6) = fun _ => BitVec.ofNat 32 k
  | 0 => ctr_entry m c
  | k + 1 => by
    rw [at_succ, STEP_main_v25_6]
    unfold step_main_v25_6
    rw [keep_c c k]
    funext i
    show BitVec.ofNat 32 k + 1#32 = BitVec.ofNat 32 (k + 1)
    rw [BitVec.ofNat_add]

/-- The state's buffer. -/
def S_ (c : Dev nD) (k : ℕ) : FVec Ideal S16x16x64x64 .f32 := at_ m c k (Proc.devRef .tc main_v25_7)
/-- The outputs' buffer. -/
def Y_ (c : Dev nD) (k : ℕ) : FVec Ideal S2304x16x16x64 .f32 := at_ m c k (Proc.devRef .tc main_v25_8)
/-- A trip's row of carried sequence. -/
def rw_ (c : Dev nD) (k : ℕ) (x : FVec Ideal S2304x16x16x64 .f32) : FVec Ideal S16x16x64 .f32 := row x (fun _ => BitVec.ofNat 32 k)

theorem S_succ (c : Dev nD) (k : ℕ) : S_ m c (k + 1) = newS (S_ m c k) (rw_ c k (eW m c))
    (rw_ c k (eA m c)) (rw_ c k (eB m c))
    (rw_ c k (eV m c)) (rw_ c k (eK m c)) := by
  unfold S_
  rw [at_succ, STEP_main_v25_7]
  unfold step_main_v25_7 res_main_while0b_v49
  rw [keep_c, keep_1, keep_2, keep_3, keep_4, keep_5]
  rfl
theorem Y_succ (c : Dev nD) (k : ℕ) : Y_ m c (k + 1) = put (Y_ m c k) (newY (S_ m c (k + 1)) (rw_ c k (eR m c))) (fun _ => BitVec.ofNat 32 k) := by
  unfold Y_ S_
  rw [at_succ, STEP_main_v25_7, STEP_main_v25_8]
  unfold step_main_v25_8 step_main_v25_7
  rw [keep_c, keep_0]
  rfl

/-- Head `H`'s group, and its place there. -/
def hg (H : Fin 16) : Fin 4 := ⟨H.val / 4, by omega⟩
def hh (H : Fin 16) : Fin 4 := ⟨H.val % 4, by omega⟩

theorem wide_eq (H : Fin 16) (j : Fin 64) : wide (hg H) (hh H) j = hln H j := by
  refine Fin.ext ?_
  show 256 * (H.val / 4) + 64 * (H.val % 4) + j.val = H.val * 64 + j.val
  omega
theorem tk_eq (k : ℕ) (hk : k < 2304) : tk k = ⟨k, hk⟩ := Fin.ext (Nat.mod_eq_of_lt hk)

theorem S_eq (c : Dev nD) (hI : (rIns m c).Real) (β H : Fin 16) (i j : Fin 64) : ∀ k, k ≤ 2304 →
    ∀ i j, S_ m c k (ix4 β H i j) = ((((rIns m c).seq β).stv k (hg H) (hh H) j i : ℝ) : EReal) := by
  intro k
  induction k with
  | zero => exact fun _ i j => (entry_S m c _).trans EReal.coe_zero.symm
  | succ k ih =>
    intro hk i j
    have hk' : k < 2304 := hk
    rw [S_succ, newS_apply]
    simp only [rw_, row_apply _ k hk', ih (Nat.le_of_lt hk')]
    rw [entry_w_apply, entry_b_apply, entry_v_apply, entry_k_apply]
    simp only [entry_a_apply]
    rw [← tk_eq k hk']
    simp only [hI.sw, hI.sb, hI.sv, hI.sk, hI.sa]
    simp only [Ideal.exp_coe, ← EReal.coe_mul, ← coe_sum, ← EReal.coe_add]
    refine congrArg _ ?_
    simp only [Seqn.stv_succ, wide_eq]
    simp only [mul_comm]

theorem Y_eq (c : Dev nD) (hI : (rIns m c).Real) (β H : Fin 16) (i : Fin 64) : ∀ k, k ≤ 2304 → ∀ n : Fin 2304, n.val < k →
    Y_ m c k (ix4 n β H i) = ((((rIns m c).seq β).out n.val (hg H) (hh H) i : ℝ) : EReal) := by
  intro k
  induction k with
  | zero => exact fun _ n hn => absurd hn (Nat.not_lt_zero _)
  | succ k ih =>
    intro hk n hn
    have hk' : k < 2304 := hk
    rw [Y_succ, put_apply _ _ k hk']
    by_cases h : n.val = k
    · rw [if_pos h, newY_apply]
      simp only [rw_, row_apply _ k hk', S_eq m c hI β H i i (k + 1) hk, entry_r_apply]
      rw [← tk_eq k hk']
      simp only [hI.sr, ← EReal.coe_mul, ← coe_sum]
      refine congrArg _ ?_
      subst h
      simp only [Seqn.out_eq, wide_eq]
      exact Finset.sum_congr rfl fun q _ => mul_comm _ _
    · rw [if_neg h]
      exact ih (Nat.le_of_lt hk') n (by omega)

/-- The reference's array at an index. -/
theorem out_entry (c : Dev nD) (hI : (rIns m c).Real) (β : Fin 16) (n : Fin 2304) (D : Fin 1024) :
    (out_main_v27 (STEP^[2304] (entryContents preI m c)) : FVec Ideal S16x2304x1024 .f32) (ix3 β n D)
      = ((((rIns m c).seq β).out n.val (hg ⟨D.val / 64, by omega⟩) (hh ⟨D.val / 64, by omega⟩) ⟨D.val % 64, by omega⟩ : ℝ) : EReal) := by
  have h : (out_main_v27 (STEP^[2304] (entryContents preI m c)) : FVec Ideal S16x2304x1024 .f32)
      = shapeCast S16x2304x1024 (transpose S16x2304x16x64 [1, 0, 2, 3] (Y_ m c 2304) transposes_S2304x16x16x64_S16x2304x16x64_1_0_2_3) shapeCasts_S16x2304x16x64_S16x2304x1024 := rfl
  rw [h, ← Y_eq m c hI β _ _ 2304 le_rfl n n.isLt]
  generalize Y_ m c 2304 = y
  pointwise []

end Cert.Proof.Wkv.Ref
-- ==== Proof.Wkv.Finite.lean ====
/- What the precondition `finite` says: every argument the recurrence reads is a real number. -/
module

public import proofs.«01_k».proof.Defs
public import Idealize.ShloMosaic.Lib.Pointwise

@[expose] public section

set_option maxRecDepth 16384

noncomputable section

namespace Cert.Proof.Wkv.Finite

open Idealize.ShloMosaic Idealize.ShloMosaic.TcCoe Idealize.SL.Sem
open Cert.Pre_finite

/-- The predicate's side conditions. -/
theorem facts : Cert.Pre_finite.Facts where
  slices_S2x16x2304x1024_S1x16x2304x1024_0_0_0_0 := by decide
  shapeCasts_S1x16x2304x1024_S16x2304x1024 := by decide
  bitsLt_bf16_f32 := by decide
  bcast_S_S16x2304x1024 := by decide

attribute [local instance] facts

/-- The test of one number. -/
def lt (x : EReal) : BitVec 1 := Ideal.cmp .olt (FloatOps.absf (F := Ideal) (φ := .f32) x) (Ideal.ofBits .f32 0x7F800000#32)

theorem real_of_lt (x : EReal) (h : lt x = 1#1) : x = ((x.toReal : ℝ) : EReal) := by
  have htop : Ideal.ofBits .f32 0x7F800000#32 = ⊤ := by simp [Ideal.ofBits, Ideal.ieee]
  unfold lt at h
  rw [htop] at h
  refine (EReal.coe_toReal ?_ ?_).symm
  · rintro rfl
    revert h
    rw [show FloatOps.absf (F := Ideal) (φ := .f32) (⊤ : EReal) = (⊤ : EReal) from by simp [FloatOps.absf]]
    simp [Ideal.cmp]
  · rintro rfl
    revert h
    rw [show FloatOps.absf (F := Ideal) (φ := .f32) (⊥ : EReal) = (⊤ : EReal) from by simp [FloatOps.absf]]
    simp [Ideal.cmp]

theorem fn_apply (x0 : FVec Ideal S16x2304x1024 .bf16) (x1 : FVec Ideal S2x16x2304x1024 .f32) (x2 : FVec Ideal S2x16x2304x1024 .bf16)
    (x3 : FVec Ideal S16x2304x1024 .f32) (x4 : FVec Ideal S16x2304x1024 .bf16) (x5 : FVec Ideal S2x16x2304x1024 .bf16) (β : Fin 16) (n : Fin 2304) (D : Fin 1024) :
    Cert.Pre_finite.fn (F := Ideal) x0 x1 x2 x3 x4 x5 (ix3 β n D)
      = ((((lt (x0 (ix3 β n D)) &&& lt (x1 (ix4 0 β n D))) &&& lt (x2 (ix4 0 β n D))) &&& lt (x3 (ix3 β n D))) &&& lt (x4 (ix3 β n D))) &&& lt (x5 (ix4 0 β n D)) := by
  pointwise [fn, fn_part1, lt]
  rfl

theorem and_one (a b : BitVec 1) (h : a &&& b = 1#1) : a = 1#1 ∧ b = 1#1 := by
  revert a b; decide

end Cert.Proof.Wkv.Finite
-- ==== Proof.Wkv.Value.lean ====
/- The recurrence's value claim. -/
module

public import proofs.«01_k».proof.Proof.Wkv.Grid
public import proofs.«01_k».proof.Proof.Wkv.Ref
public import proofs.«01_k».proof.Proof.Wkv.Finite
public import proofs.«01_k».proof.Defs

@[expose] public section

set_option maxRecDepth 16384

noncomputable section

namespace Cert.Proof.Wkv

open Idealize.ShloMosaic Idealize.ShloMosaic.TcCoe Idealize.SL.Sem

attribute [local instance] Finite.facts

section
open Cert.KernelIdeal Cert.KernelIdeal.Gen

variable (m : (ℓ : Loc nD τ sig) → Buf (Elt Ideal) ℓ)

/-- The kernel's array at an index: the recurrence's output of that token. -/
theorem kernel_entry (c : Dev nD) (hI : (kIns m c).Real) (β : Fin 16) (n : Fin 2304) (D : Fin 1024) :
    Cert.KernelIdeal.Value.G6 m c (ix3 β n D)
      = ((((kIns m c).seq β).out n.val (Ref.hg ⟨D.val / 64, by omega⟩) (Ref.hh ⟨D.val / 64, by omega⟩) ⟨D.val % 64, by omega⟩ : ℝ) : EReal) := by
  have hp : Cert.KernelIdeal.Value.pt6Of (ix3 β n D) = 9 * β.val + n.val / 256 := by
    have := β.isLt; have := n.isLt; have := D.isLt
    simp only [Cert.KernelIdeal.Value.pt6Of, Cert.KernelIdeal.Value.run6Of, ix3_0, ix3_1, ix3_2]
    omega
  have hN : 9 * β.val + n.val / 256 < cfg0.N := by
    have := β.isLt; have := n.isLt
    rw [show cfg0.N = 144 from N_0]; omega
  have hl : Cert.KernelIdeal.Value.loc6Of (ix3 β n D) = ix3 0 ⟨n.val % 256, Nat.mod_lt _ (by decide)⟩ D := by
    funext a
    apply Fin.ext
    match a with
    | ⟨0, _⟩ => show β.val % 1 = 0; omega
    | ⟨1, _⟩ => rfl
    | ⟨2, _⟩ => show D.val % 1024 = D.val; exact Nat.mod_eq_of_lt D.isLt
  have key : Cert.KernelIdeal.Value.G6 m c (ix3 β n D)
      = (outsAt0 m c (9 * β.val + n.val / 256) hN).1 (ix3 0 ⟨n.val % 256, Nat.mod_lt _ (by decide)⟩ D) := by
    unfold Cert.KernelIdeal.Value.G6
    rw [dif_pos (by rw [hp]; exact hN), Cert.KernelIdeal.Value.outsAt0_sweep, hl]
    simp only [hp]
  rw [key, after_point m c hI]
  show outAt ((kIns m c).seq (smp ⟨9 * β.val + n.val / 256, hN⟩)) (256 * ((9 * β.val + n.val / 256) % 9)) ⟨n.val % 256, _⟩ D = _
  have e1 : smp ⟨9 * β.val + n.val / 256, hN⟩ = β := Fin.ext (by
    have := β.isLt; have := n.isLt
    show (9 * β.val + n.val / 256) / 9 = β.val; omega)
  have e2 : 256 * ((9 * β.val + n.val / 256) % 9) + n.val % 256 = n.val := by have := n.isLt; omega
  have e3 : (⟨D.val / 256, by omega⟩ : Fin 4) = Ref.hg ⟨D.val / 64, by omega⟩ := Fin.ext (by show D.val / 256 = D.val / 64 / 4; omega)
  have e4 : hd ⟨D.val % 256, by omega⟩ = Ref.hh ⟨D.val / 64, by omega⟩ := Fin.ext (by show D.val % 256 / 64 = D.val / 64 % 4; omega)
  have e5 : ln ⟨D.val % 256, by omega⟩ = ⟨D.val % 64, by omega⟩ := Fin.ext (by show D.val % 256 % 64 = D.val % 64; omega)
  unfold outAt
  dsimp only
  rw [e1, e2, e3, e4, e5]

/-- Under the precondition the arguments are real. -/
theorem real_of_pre (h : Cert.Pre_KernelIdeal_finite m) (c : Dev nD) : (kIns m c).Real := by
  have key := fun β n D => (Finite.fn_apply _ _ _ _ _ _ β n D).symm.trans (congrFun (h c) (ix3 β n D))
  exact
    { r := fun β n D => Finite.real_of_lt _ (Finite.and_one _ _ (Finite.and_one _ _ (Finite.and_one _ _ (Finite.and_one _ _ (Finite.and_one _ _ (key β n D)).1).1).1).1).1
      w := fun β n D => Finite.real_of_lt _ (Finite.and_one _ _ (Finite.and_one _ _ (Finite.and_one _ _ (Finite.and_one _ _ (Finite.and_one _ _ (key β n D)).1).1).1).1).2
      k := fun β n D => Finite.real_of_lt _ (Finite.and_one _ _ (Finite.and_one _ _ (Finite.and_one _ _ (Finite.and_one _ _ (key β n D)).1).1).1).2
      v := fun β n D => Finite.real_of_lt _ (Finite.and_one _ _ (Finite.and_one _ _ (Finite.and_one _ _ (key β n D)).1).1).2
      a := fun β n D => Finite.real_of_lt _ (Finite.and_one _ _ (Finite.and_one _ _ (key β n D)).1).2
      b := fun β n D => Finite.real_of_lt _ (Finite.and_one _ _ (key β n D)).2 }

end

/-- On agreeing finite arguments kernel and reference end with the same array. -/
theorem algebraic : Cert.algebraic_KernelIdeal_ReferenceIdeal_pre_finite := by
  intro m ρ m' ρ' hpre hagree
  refine ⟨fun c => Cert.KernelIdeal.Value.G6 m c, Cert.KernelIdeal.Value.run (F := Ideal) m ρ, ?_⟩
  refine (θ_run Cert.ReferenceIdeal.defs _ _).mono (fun _ h c => ?_) (Cert.ReferenceIdeal.Value.run (F := Ideal) m' ρ')
  obtain rfl : c = 0 := Subsingleton.elim _ _
  obtain ⟨e0, e1, e2, e3, e4, e5⟩ := hagree 0
  have hI := real_of_pre m hpre 0
  have hs : Ref.rIns m' 0 = kIns m 0 := by
    unfold Ref.rIns kIns
    rw [e0, e1, e2, e3, e4, e5]
  have hI' : (Ref.rIns m' 0).Real := hs ▸ hI
  refine ⟨(h 0).1.trans ?_, (h 0).2⟩
  refine funext fun (i : Cert.KernelIdeal.S16x2304x1024.Idx) => ?_
  rw [eq_ix3 i]
  refine (Ref.out_entry m' 0 hI' _ _ _).trans ?_
  refine Eq.trans ?_ (kernel_entry m 0 hI _ _ _).symm
  rw [hs]

end Cert.Proof.Wkv
-- ==== Proof.Ctx.Value.lean ====
/- The context's expert feed-forward: what the grid's points leave, the blocks their windows read, and the value claim. -/
module

public import proofs.«01_k».proof.Proof.Ffn.Entry
public import proofs.«01_k».proof.Proof.Gen.Kernel3Ideal.Value
public import proofs.«01_k».proof.Proof.Gen.Reference3Ideal.Run
public import proofs.«01_k».proof.Defs

@[expose] public section

set_option maxRecDepth 16384

noncomputable section

namespace Cert.Proof.Ctx

open Idealize.ShloMosaic Idealize.ShloMosaic.TcCoe Idealize.SL.Sem
open Cert.Proof.Ffn (entry sigmoid_eq half_word)

section
open Cert.Kernel3Ideal Cert.Kernel3Ideal.Gen

variable (m : (ℓ : Loc nD τ sig) → Buf (Elt Ideal) ℓ)

theorem zero4 : (![0, 0, 0, 0] : Fin 4 → Nat) = fun _ => 0 := funext fun a => by fin_cases a <;> rfl
theorem zero2 : (![0, 0] : Fin 2 → Nat) = fun _ => 0 := funext fun a => by fin_cases a <;> rfl

section
variable (c : Dev nD) (i : grid0.Coords) (a2 : Memref sig .tc .vmem S16x1x32x1024 .bf16) (h2 : a2.IsWhole) (a3 : Memref sig .tc .vmem S16x1x32x1 .f32) (h3 : a3.IsWhole) (a4 : Memref sig .tc .vmem S1x1x1024x1024 .f32) (h4 : a4.IsWhole) (a5 : Memref sig .tc .vmem S1x1x1024x1024 .f32) (h5 : a5.IsWhole) (a6 : Memref sig .tc .vmem S1x1x1024x1024 .f32) (h6 : a6.IsWhole) (a7 : Memref sig .tc .vmem S16x1x32x1024 .bf16) (h7 : a7.IsWhole) (a8 : Memref sig .tc .vmem S1024x1024 .bf16) (h8 : a8.IsWhole) (a9 : Memref sig .tc .vmem S1024x1024 .bf16) (h9 : a9.IsWhole) (a10 : Memref sig .tc .vmem S1024x1024 .bf16) (h10 : a10.IsWhole)
  (x0 : Vec Ideal S16x1x32x1024 .bf16) (x1 : Vec Ideal S16x1x32x1 .f32) (x2 x3 x4 : Vec Ideal S1x1x1024x1024 .f32)

/-- The output block of a point. -/
theorem block_first (hc : cond0_0 i) :
    out0_A_5 c i a2 h2 a3 h3 a4 h4 a5 h5 a6 h6 a7 h7 a8 h8 a9 h9 a10 h10 hc x0 x1 x2 x3 x4
      = k0_pay1 (k0_pay5 x0 (k0_pay2 x2) (k0_pay3 x3) (k0_pay4 x4) x1) := by
  unfold out0_A_5
  rw [View.read_writes_eq_canon _ _ _ (cover0_A_5 c i a2 h2 a3 h3 a4 h4 a5 h5 a6 h6 a7 h7 a8 h8 a9 h9 a10 h10 hc x0 x1 x2 x3 x4)]
  unfold kernelRun0_A
  dsimp only
  sl_unfold_words
  rw [View.canon_unit_zero zero4]
  simp only [View.readCov_unit_zero (S := S1024x1024) _ zero2, View.readAt_eq_ld, h2.read_unread, h3.read_unread, h4.read_unread,
    h5.read_unread, h6.read_unread,
    View.ld_unit_zero (S := S1x1x1024x1024) zero4, View.ld_unit_zero (S := S16x1x32x1024) zero4,
    View.ld_unit_zero (S := S16x1x32x1) zero4]

end

/-! ## The input blocks -/

/-- The blocks the windows read: at point `t`, every sample and expert `t`; the weights' layer is the first. -/
theorem idx_tok : ∀ t : Fin cfg0.N, win0_0.index t = ![0, t.val, 0, 0] :=
  (by decide +kernel : ∀ t : Fin grid0.N, _)
theorem idx_gate : ∀ t : Fin cfg0.N, win0_1.index t = ![0, t.val, 0, 0] :=
  (by decide +kernel : ∀ t : Fin grid0.N, _)
theorem idx_w2 : ∀ t : Fin cfg0.N, win0_2.index t = ![0, t.val, 0, 0] :=
  (by decide +kernel : ∀ t : Fin grid0.N, _)
theorem idx_w3 : ∀ t : Fin cfg0.N, win0_3.index t = ![0, t.val, 0, 0] :=
  (by decide +kernel : ∀ t : Fin grid0.N, _)
theorem idx_w4 : ∀ t : Fin cfg0.N, win0_4.index t = ![0, t.val, 0, 0] :=
  (by decide +kernel : ∀ t : Fin grid0.N, _)

theorem lt16 (t : Fin cfg0.N) : t.val < 16 := lt_of_lt_of_eq t.isLt N_0

theorem tok_apply (c : Dev nD) (t : Fin cfg0.N) (p : Fin 16) (s : Fin 32) (d : Fin 1024) :
    iblk m c 0 t (ix4 p 0 s d) = m ((c : Thread nD τ).loc main_arg0)
      (ix4 p ⟨t.val, lt16 t⟩ s d) := by
  show m ((c : Thread nD τ).loc main_arg0) (((cfg0.win 0).blk t).view.emb (ix4 p 0 s d)) = _
  congr 1
  funext a
  apply Fin.ext
  match a with
  | ⟨0, _⟩ => show win0_0.index t (0 : Fin 4) * 16 + 1 * p.val = _; rw [idx_tok]; show 0 * 16 + 1 * p.val = p.val; omega
  | ⟨1, _⟩ => show win0_0.index t (1 : Fin 4) * 1 + 1 * 0 = _; rw [idx_tok]; show t.val * 1 + 1 * 0 = t.val; omega
  | ⟨2, _⟩ => show win0_0.index t (2 : Fin 4) * 32 + 1 * s.val = _; rw [idx_tok]; show 0 * 32 + 1 * s.val = s.val; omega
  | ⟨3, _⟩ => show win0_0.index t (3 : Fin 4) * 1024 + 1 * d.val = _; rw [idx_tok]; show 0 * 1024 + 1 * d.val = d.val; omega

theorem gate_apply (c : Dev nD) (t : Fin cfg0.N) (p : Fin 16) (s : Fin 32) :
    iblk m c 1 t (ix4 p 0 s 0) = m ((c : Thread nD τ).loc main_arg1)
      (ix4 p ⟨t.val, lt16 t⟩ s 0) := by
  show m ((c : Thread nD τ).loc main_arg1) (((cfg0.win 1).blk t).view.emb (ix4 p 0 s 0)) = _
  congr 1
  funext a
  apply Fin.ext
  match a with
  | ⟨0, _⟩ => show win0_1.index t (0 : Fin 4) * 16 + 1 * p.val = _; rw [idx_gate]; show 0 * 16 + 1 * p.val = p.val; omega
  | ⟨1, _⟩ => show win0_1.index t (1 : Fin 4) * 1 + 1 * 0 = _; rw [idx_gate]; show t.val * 1 + 1 * 0 = t.val; omega
  | ⟨2, _⟩ => show win0_1.index t (2 : Fin 4) * 32 + 1 * s.val = _; rw [idx_gate]; show 0 * 32 + 1 * s.val = s.val; omega
  | ⟨3, _⟩ => show win0_1.index t (3 : Fin 4) * 1 + 1 * 0 = _; rw [idx_gate]; rfl

theorem w2_apply (c : Dev nD) (t : Fin cfg0.N) (k d : Fin 1024) :
    iblk m c 2 t (ix4 0 0 k d) = m ((c : Thread nD τ).loc main_arg2) (ix4 0 ⟨t.val, lt16 t⟩ k d) := by
  show m ((c : Thread nD τ).loc main_arg2) (((cfg0.win 2).blk t).view.emb (ix4 0 0 k d)) = _
  congr 1
  funext a
  apply Fin.ext
  match a with
  | ⟨0, _⟩ => show win0_2.index t (0 : Fin 4) * 1 + 1 * 0 = _; rw [idx_w2]; rfl
  | ⟨1, _⟩ => show win0_2.index t (1 : Fin 4) * 1 + 1 * 0 = _; rw [idx_w2]; show t.val * 1 + 1 * 0 = t.val; omega
  | ⟨2, _⟩ => show win0_2.index t (2 : Fin 4) * 1024 + 1 * k.val = _; rw [idx_w2]; show 0 * 1024 + 1 * k.val = k.val; omega
  | ⟨3, _⟩ => show win0_2.index t (3 : Fin 4) * 1024 + 1 * d.val = _; rw [idx_w2]; show 0 * 1024 + 1 * d.val = d.val; omega

theorem w3_apply (c : Dev nD) (t : Fin cfg0.N) (k d : Fin 1024) :
    iblk m c 3 t (ix4 0 0 k d) = m ((c : Thread nD τ).loc main_arg3) (ix4 0 ⟨t.val, lt16 t⟩ k d) := by
  show m ((c : Thread nD τ).loc main_arg3) (((cfg0.win 3).blk t).view.emb (ix4 0 0 k d)) = _
  congr 1
  funext a
  apply Fin.ext
  match a with
  | ⟨0, _⟩ => show win0_3.index t (0 : Fin 4) * 1 + 1 * 0 = _; rw [idx_w3]; rfl
  | ⟨1, _⟩ => show win0_3.index t (1 : Fin 4) * 1 + 1 * 0 = _; rw [idx_w3]; show t.val * 1 + 1 * 0 = t.val; omega
  | ⟨2, _⟩ => show win0_3.index t (2 : Fin 4) * 1024 + 1 * k.val = _; rw [idx_w3]; show 0 * 1024 + 1 * k.val = k.val; omega
  | ⟨3, _⟩ => show win0_3.index t (3 : Fin 4) * 1024 + 1 * d.val = _; rw [idx_w3]; show 0 * 1024 + 1 * d.val = d.val; omega

theorem w4_apply (c : Dev nD) (t : Fin cfg0.N) (k d : Fin 1024) :
    iblk m c 4 t (ix4 0 0 k d) = m ((c : Thread nD τ).loc main_arg4) (ix4 0 ⟨t.val, lt16 t⟩ k d) := by
  show m ((c : Thread nD τ).loc main_arg4) (((cfg0.win 4).blk t).view.emb (ix4 0 0 k d)) = _
  congr 1
  funext a
  apply Fin.ext
  match a with
  | ⟨0, _⟩ => show win0_4.index t (0 : Fin 4) * 1 + 1 * 0 = _; rw [idx_w4]; rfl
  | ⟨1, _⟩ => show win0_4.index t (1 : Fin 4) * 1 + 1 * 0 = _; rw [idx_w4]; show t.val * 1 + 1 * 0 = t.val; omega
  | ⟨2, _⟩ => show win0_4.index t (2 : Fin 4) * 1024 + 1 * k.val = _; rw [idx_w4]; show 0 * 1024 + 1 * k.val = k.val; omega
  | ⟨3, _⟩ => show win0_4.index t (3 : Fin 4) * 1024 + 1 * d.val = _; rw [idx_w4]; show 0 * 1024 + 1 * d.val = d.val; omega

/-- One entry of a point's output block. -/
theorem block_entry (x0 : Vec Ideal S16x1x32x1024 .bf16) (x1 : Vec Ideal S16x1x32x1 .f32) (x2 x3 x4 : Vec Ideal S1x1x1024x1024 .f32)
    (p : Fin 16) (s : Fin 32) (d : Fin 1024) :
    k0_pay1 (k0_pay5 x0 (k0_pay2 x2) (k0_pay3 x3) (k0_pay4 x4) x1) (ix4 p 0 s d)
      = entry (fun k => x0 (ix4 p 0 s k)) (fun k f => x2 (ix4 0 0 k f)) (fun k f => x3 (ix4 0 0 k f)) (fun f => x4 (ix4 0 0 f d)) (x1 (ix4 p 0 s 0)) := by
  unfold entry
  simp only [← sigmoid_eq, ← half_word]
  pointwise [k0_pay1, k0_pay2, k0_pay3, k0_pay4, k0_pay5]

theorem idx_out : ∀ t : Fin cfg0.N, win0_5.index t = ![0, t.val, 0, 0] :=
  (by decide +kernel : ∀ t : Fin grid0.N, _)
theorem flush_out : ∀ t : Fin cfg0.N, (cfg0.win 5).flush t = true :=
  (by decide +kernel : ∀ t : Fin grid0.N, _)

/-- The kernel's array at an index: the feed-forward of that token, with that expert's weights. -/
theorem kernel_entry (c : Dev nD) (b e : Fin 16) (s : Fin 32) (d : Fin 1024) :
    ((dats m 0 c).arrAt 5 cfg0.N : FVec Ideal S16x16x32x1024 .bf16) (ix4 b e s d)
      = entry (fun k => m ((c : Thread nD τ).loc main_arg0) (ix4 b e s k)) (fun k f => m ((c : Thread nD τ).loc main_arg2) (ix4 0 e k f))
          (fun k f => m ((c : Thread nD τ).loc main_arg3) (ix4 0 e k f)) (fun f => m ((c : Thread nD τ).loc main_arg4) (ix4 0 e f d))
          (m ((c : Thread nD τ).loc main_arg1) (ix4 b e s 0)) := by
  have hN : e.val < cfg0.N := lt_of_lt_of_eq e.isLt N_0.symm
  have hb := congrFun (Cert.Kernel3Ideal.Value.blocks5 m c ⟨e.val, hN⟩ (flush_out _)) (ix4 b 0 s d)
  rw [Cert.Kernel3Ideal.Value.flushed5_A, block_first] at hb
  have he : ((cfg0.win 5).blk ⟨e.val, hN⟩).view.emb (ix4 b 0 s d) = ix4 b e s d := by
    funext a
    apply Fin.ext
    match a with
    | ⟨0, _⟩ => show win0_5.index ⟨e.val, hN⟩ (0 : Fin 4) * 16 + 1 * b.val = _; rw [idx_out]; show 0 * 16 + 1 * b.val = b.val; omega
    | ⟨1, _⟩ => show win0_5.index ⟨e.val, hN⟩ (1 : Fin 4) * 1 + 1 * 0 = _; rw [idx_out]; show e.val * 1 + 1 * 0 = e.val; omega
    | ⟨2, _⟩ => show win0_5.index ⟨e.val, hN⟩ (2 : Fin 4) * 32 + 1 * s.val = _; rw [idx_out]; show 0 * 32 + 1 * s.val = s.val; omega
    | ⟨3, _⟩ => show win0_5.index ⟨e.val, hN⟩ (3 : Fin 4) * 1024 + 1 * d.val = _; rw [idx_out]; show 0 * 1024 + 1 * d.val = d.val; omega
  refine (congrArg _ he.symm).trans (hb.trans ?_)
  refine (block_entry _ _ _ _ _ b s d).trans ?_
  simp only [tok_apply, gate_apply, w2_apply, w3_apply, w4_apply, Fin.eta]

end

section
open Cert.Reference3Ideal Cert.Reference3Ideal.Gen

/-- One entry of the reference's array. -/
theorem array_entry (x : FVec Ideal S16x16x32x1024 .bf16) (g : FVec Ideal S16x16x32x1 .f32) (wg wu wd : FVec Ideal S4x16x1024x1024 .f32)
    (b e : Fin 16) (s : Fin 32) (d : Fin 1024) :
    (truncf .bf16 (mulf (transpose S16x16x32x1024 [2, 0, 3, 1] (Host.dotGeneral dot_S16x1024x1024_S16x16x32x1024_S16x1024x16x32_1_3_2_02_0_1 none (shapeCast _ (extractStridedSlice S1x16x1024x1024 ![0, 0, 0, 0] wd slices_S4x16x1024x1024_S1x16x1024x1024_0_0_0_0) shapeCasts_S1x16x1024x1024_S16x1024x1024) (mulf (mulf (transpose S16x16x32x1024 [2, 0, 3, 1] (Host.dotGeneral dot_S16x1024x1024_S16x16x32x1024_S16x1024x16x32_1_3_2_02_0_1 none (shapeCast _ (extractStridedSlice S1x16x1024x1024 ![0, 0, 0, 0] wg slices_S4x16x1024x1024_S1x16x1024x1024_0_0_0_0) shapeCasts_S1x16x1024x1024_S16x1024x1024) (extf .f32 x bitsLt_bf16_f32)) transposes_S16x1024x16x32_S16x16x32x1024_2_0_3_1) (Host.divf (broadcastInDim S16x16x32x1024 ![] bcast_S_S16x16x32x1024 (constant S_ .f32 0x3F800000#32)) (addf (broadcastInDim S16x16x32x1024 ![] bcast_S_S16x16x32x1024 (constant S_ .f32 0x3F800000#32)) (Host.exp (Host.negf (transpose S16x16x32x1024 [2, 0, 3, 1] (Host.dotGeneral dot_S16x1024x1024_S16x16x32x1024_S16x1024x16x32_1_3_2_02_0_1 none (shapeCast _ (extractStridedSlice S1x16x1024x1024 ![0, 0, 0, 0] wg slices_S4x16x1024x1024_S1x16x1024x1024_0_0_0_0) shapeCasts_S1x16x1024x1024_S16x1024x1024) (extf .f32 x bitsLt_bf16_f32)) transposes_S16x1024x16x32_S16x16x32x1024_2_0_3_1)))))) (transpose S16x16x32x1024 [2, 0, 3, 1] (Host.dotGeneral dot_S16x1024x1024_S16x16x32x1024_S16x1024x16x32_1_3_2_02_0_1 none (shapeCast _ (extractStridedSlice S1x16x1024x1024 ![0, 0, 0, 0] wu slices_S4x16x1024x1024_S1x16x1024x1024_0_0_0_0) shapeCasts_S1x16x1024x1024_S16x1024x1024) (extf .f32 x bitsLt_bf16_f32)) transposes_S16x1024x16x32_S16x16x32x1024_2_0_3_1))) transposes_S16x1024x16x32_S16x16x32x1024_2_0_3_1) (broadcastInDim S16x16x32x1024 ![0, 1, 2, 3] bcast_S16x16x32x1_S16x16x32x1024_0_1_2_3 g)) bitsLt_bf16_f32 : FVec Ideal S16x16x32x1024 .bf16) (ix4 b e s d)
      = entry (fun k => x (ix4 b e s k)) (fun k f => wg (ix4 0 e k f)) (fun k f => wu (ix4 0 e k f)) (fun f => wd (ix4 0 e f d)) (g (ix4 b e s 0)) := by
  unfold entry
  pointwise
  have flip : ∀ (w : FVec Ideal S4x16x1024x1024 .f32) (f : Fin 1024),
      ∑ k, w (ix4 0 e k f) * x (ix4 b e s k) = ∑ k, x (ix4 b e s k) * w (ix4 0 e k f) :=
    fun w f => Finset.sum_congr rfl fun k _ => mul_comm _ _
  simp only [flip]
  congr 1
  exact Finset.sum_congr rfl fun f _ => mul_comm _ _

end

/-- On agreeing arguments kernel and reference end with the same array. -/
theorem algebraic : Cert.algebraic_Kernel3Ideal_Reference3Ideal := by
  intro m ρ m' ρ' _ hagree
  refine ⟨fun c => (Cert.Kernel3Ideal.Gen.dats m 0 c).arrAt 5 Cert.Kernel3Ideal.cfg0.N, Cert.Kernel3Ideal.Value.run_blocks (F := Ideal) m ρ, ?_⟩
  refine (θ_run Cert.Reference3Ideal.defs _ _).mono (fun _ h c => ?_) (Cert.Reference3Ideal.Value.run (F := Ideal) m' ρ')
  obtain rfl : c = 0 := Subsingleton.elim _ _
  obtain ⟨e0, e1, e2, e3, e4⟩ := hagree 0
  refine ⟨(h 0).1.trans ?_, (h 0).2⟩
  refine funext fun (i : Cert.Kernel3Ideal.S16x16x32x1024.Idx) => ?_
  rw [eq_ix4 i]
  refine (array_entry _ _ _ _ _ _ _ _ _).trans ?_
  refine Eq.trans ?_ (kernel_entry m 0 _ _ _ _).symm
  rw [e0, e1, e2, e3, e4]

end Cert.Proof.Ctx

end
-- ==== Proof.Out.Heads.lean ====
/- Sums over the 64 channels of a head, as the kernel takes them: against a matrix of ones, a value and the rest of its rounding apart. -/
module

public import proofs.«01_k».proof.Defs
public import Idealize.ShloMosaic.Lib.Pointwise
public import Idealize.ShloMosaic.Lib.Claim

@[expose] public section

set_option maxRecDepth 16384

noncomputable section

namespace Cert.Proof.Out

open Idealize.ShloMosaic Idealize.ShloMosaic.TcCoe Idealize.SL.Sem

/-- The number is a real one. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {n : ℕ} {f : Fin n → EReal} (hf : ∀ i, IsReal (f i)) : IsReal (∑ i, f i) := by
  induction (Finset.univ : Finset (Fin n)) using Finset.induction_on with
  | empty => exact ⟨0, by simp⟩
  | insert a S ha ih => rw [Finset.sum_insert ha]; exact (hf a).add ih
theorem IsReal.rest {x : EReal} (hx : IsReal x) : x - x = 0 := by
  obtain ⟨a, rfl⟩ := hx; rw [← EReal.coe_sub, sub_self, EReal.coe_zero]
theorem IsReal.spread {r a b c : EReal} (hr : IsReal r) (ha : IsReal a) (hb : IsReal b) (hc : IsReal c) : r * (a + b) * c = r * a * c + r * b * c := by
  obtain ⟨r, rfl⟩ := hr; obtain ⟨a, rfl⟩ := ha; obtain ⟨b, rfl⟩ := hb; obtain ⟨c, rfl⟩ := hc
  simp only [← EReal.coe_add, ← EReal.coe_mul]
  congr 1
  ring

/-- The channel of a lane in the head of a channel. -/
abbrev head (d : Fin 1024) (k : Fin 64) : Fin 1024 := ⟨d.val / 64 * 64 + k.val, by have := d.isLt; have := k.isLt; omega⟩
/-- A channel from its group of 256 and its place there. -/
abbrev chn (q : Fin 4) (s : Fin 256) : Fin 1024 := ⟨q.val * 256 + s.val, by have := q.isLt; have := s.isLt; omega⟩
abbrev grp (d : Fin 1024) : Fin 4 := ⟨d.val / 256, by have := d.isLt; omega⟩
abbrev lane (d : Fin 1024) : Fin 256 := ⟨d.val % 256, by omega⟩

/-- Whether two places of a group lie in one head. -/
def ind (s l : Fin 256) : EReal := if s.val / 64 = l.val / 64 then 1 else 0

/-- A sum over a group against the ones of a head is the sum over the head. -/
theorem group_sum (f : Fin 256 → EReal) (l : Fin 256) :
    ∑ s, f s * ind s l = ∑ k : Fin 64, f ⟨l.val / 64 * 64 + k.val, by have := l.isLt; have := k.isLt; omega⟩ := by
  have e : ∀ g : Fin 256 → EReal, ∑ s, g s = ∑ a : Fin 4, ∑ k : Fin 64, g ⟨a.val * 64 + k.val, by have := a.isLt; have := k.isLt; omega⟩ := by
    intro g
    rw [← Equiv.sum_comp (finProdFinEquiv (m := 4) (n := 64)) g, Fintype.sum_prod_type]
    refine Finset.sum_congr rfl fun a _ => Finset.sum_congr rfl fun k _ => congrArg g (Fin.ext ?_)
    show k.val + 64 * a.val = a.val * 64 + k.val
    omega
  rw [e, Finset.sum_eq_single (⟨l.val / 64, by have := l.isLt; omega⟩ : Fin 4)]
  · refine Finset.sum_congr rfl fun k _ => ?_
    unfold ind
    rw [if_pos (by show (l.val / 64 * 64 + k.val) / 64 = l.val / 64; have := k.isLt; omega), mul_one]
  · intro a _ ha
    refine Finset.sum_eq_zero fun k _ => ?_
    unfold ind
    rw [if_neg, mul_zero]
    intro h
    refine ha (Fin.ext ?_)
    have hk := k.isLt
    have : (a.val * 64 + k.val) / 64 = l.val / 64 := h
    show a.val = l.val / 64
    omega
  · intro h; exact absurd (Finset.mem_univ _) h

/-- The same with the rest of each value's rounding added, which is zero. -/
theorem group_split (f : Fin 256 → EReal) (hf : ∀ s, IsReal (f s)) (l : Fin 256) :
    ∑ s, f s * ind s l + ∑ s, (f s - f s) * ind s l = ∑ k : Fin 64, f ⟨l.val / 64 * 64 + k.val, by have := l.isLt; have := k.isLt; omega⟩ := by
  rw [show ∑ s, (f s - f s) * ind s l = 0 from Finset.sum_eq_zero fun s _ => by rw [(hf s).rest, zero_mul], add_zero, group_sum]

/-- The mean over a channel's head. -/
def mean (y : Fin 1024 → EReal) (d : Fin 1024) : EReal := Ideal.div (∑ k, y (head d k)) (Ideal.ofBits .f32 0x42800000#32)
/-- A head's values with mean zero and variance one. -/
def norm (y : Fin 1024 → EReal) (d : Fin 1024) : EReal :=
  (y d - mean y d) * Ideal.rsqrt (Ideal.div (∑ k, (y (head d k) - mean y d) * (y (head d k) - mean y d)) (Ideal.ofBits .f32 0x42800000#32) + Ideal.ofBits .f32 0x3A27C5AC#32)
/-- The bonus of a head: receptance and keys of the token itself, both directions. -/
def bonus (r k0 k1 rk : Fin 1024 → EReal) (d : Fin 1024) : EReal :=
  ∑ k, r (head d k) * k0 (head d k) * rk (head d k) + ∑ k, r (head d k) * k1 (head d k) * rk (head d k)
/-- One entry of the result. -/
def entry (x gate : EReal) (y r k0 k1 rk v g lw lb wo : Fin 1024 → EReal) : EReal :=
  x + gate * ∑ e, (norm y e * lw e + lb e + bonus r k0 k1 rk e * v e) * g e * wo e

theorem entry_congr {x x' gate gate' : EReal} {y y' r r' k0 k0' k1 k1' rk rk' v v' g g' lw lw' lb lb' wo wo' : Fin 1024 → EReal}
    (hx : x = x') (hgate : gate = gate') (hy : ∀ e, y e = y' e) (hr : ∀ e, r e = r' e) (h0 : ∀ e, k0 e = k0' e) (h1 : ∀ e, k1 e = k1' e) (hrk : ∀ e, rk e = rk' e)
    (hv : ∀ e, v e = v' e) (hg : ∀ e, g e = g' e) (hlw : ∀ e, lw e = lw' e) (hlb : ∀ e, lb e = lb' e) (hwo : ∀ e, wo e = wo' e) :
    entry x gate y r k0 k1 rk v g lw lb wo = entry x' gate' y' r' k0' k1' rk' v' g' lw' lb' wo' := by
  rw [hx, hgate, funext hy, funext hr, funext h0, funext h1, funext hrk, funext hv, funext hg, funext hlw, funext hlb, funext hwo]

/-- Over 64 is times a sixty-fourth. -/
theorem over (x : EReal) : x * Ideal.ofBits .f32 0x3C800000#32 = Ideal.div x (Ideal.ofBits .f32 0x42800000#32) := by
  have h64 : Ideal.ofBits .f32 0x42800000#32 = ((64 : ℝ) : EReal) := by
    simp [Ideal.ofBits, Ideal.ieee, -EReal.coe_mul]; norm_num
  have hinv : Ideal.ofBits .f32 0x3C800000#32 = ((1 / 64 : ℝ) : EReal) := by
    simp [Ideal.ofBits, Ideal.ieee, -EReal.coe_mul]; norm_num
  rw [h64, hinv, Ideal.div_coe (by norm_num)]

theorem real_over {x : EReal} (hx : IsReal x) : IsReal (Ideal.div x (Ideal.ofBits .f32 0x42800000#32)) := by
  rw [← over]
  refine hx.mul ⟨1 / 64, ?_⟩
  simp [Ideal.ofBits, Ideal.ieee, -EReal.coe_mul]; norm_num

theorem mean_real {y : Fin 1024 → EReal} (hy : ∀ e, IsReal (y e)) (d : Fin 1024) : IsReal (mean y d) := real_over (IsReal.sum fun k => hy _)

theorem head_head (d : Fin 1024) (k : Fin 64) : head (head d k) = head d := by
  funext j
  refine Fin.ext ?_
  show (d.val / 64 * 64 + k.val) / 64 * 64 + j.val = d.val / 64 * 64 + j.val
  have := k.isLt
  omega
theorem mean_head (y : Fin 1024 → EReal) (d : Fin 1024) (k : Fin 64) : mean y (head d k) = mean y d := by
  unfold mean; rw [head_head]

end Cert.Proof.Out

end
-- ==== Proof.Out.Block.lean ====
/- The kernel's block: its matrix of ones, the sums over heads against it, and one entry of the block. -/
module

public import proofs.«01_k».proof.Proof.Gen.Kernel4Ideal.Value
public import proofs.«01_k».proof.Proof.Out.Heads
public import proofs.«01_k».proof.Defs
public import Idealize.ShloMosaic.Lib.Pointwise
public import Idealize.ShloMosaic.Lib.Claim

@[expose] public section

set_option maxRecDepth 16384

noncomputable section

namespace Cert.Proof.Out

open Idealize.ShloMosaic Idealize.ShloMosaic.TcCoe Idealize.SL.Sem

open Cert.Kernel4Ideal Cert.Kernel4Ideal.Gen

/-- The matrix of ones, as the kernel builds it from lane numbers. -/
def ones : FVec Ideal S256x256 .bf16 := k0_pay7 (F := Ideal) k0_pay3 (iota .tc S256x256 32 [1] iota_S256x256_d1_w32) 64#32 k0_pay4 k0_pay5 k0_pay6

theorem row_apply (s l : Fin 256) : k0_pay3 (ix2 s l) = BitVec.ofNat 32 (s.val / 64) := by
  pointwise [k0_pay3]
  clear l
  revert s
  decide +kernel

/-- The head of a column. -/
def col : IVec S256x256 32 :=
  select (andi (cmpi .ne k0_pay5 k0_pay6) (cmpi .ne (remsi (iota .tc S256x256 32 [1] iota_S256x256_d1_w32) (broadcast S256x256 64#32)) (broadcast S256x256 0#32)))
    (subi k0_pay4 (broadcast S256x256 1#32)) k0_pay4

theorem col_apply (s l : Fin 256) : col (ix2 s l) = BitVec.ofNat 32 (l.val / 64) := by
  pointwise [col, k0_pay4, k0_pay5, k0_pay6]
  clear s
  revert l
  decide +kernel

theorem ones_eq : ones = truncf .bf16 (select (cmpi .eq k0_pay3 col) (broadcast S256x256 (Scalar.ofBits .f32 0x3F800000#32 : Ideal .f32)) (broadcast S256x256 (Scalar.ofBits .f32 0x00000000#32 : Ideal .f32))) bitsLt_bf16_f32 := rfl

theorem same_head : ∀ a b : Fin 4, IntOp.cmpi CmpIPredicate.eq (BitVec.ofNat 32 a.val) (BitVec.ofNat 32 b.val) = if a.val = b.val then 1#1 else 0#1 := by decide

theorem ones_apply (s l : Fin 256) : ones (ix2 s l) = ind s l := by
  rw [ones_eq]
  have hr := row_apply s l
  have hc := col_apply s l
  generalize k0_pay3 = R at hr ⊢
  generalize col = C at hc ⊢
  pointwise
  rw [hr, hc, same_head ⟨s.val / 64, by have := s.isLt; omega⟩ ⟨l.val / 64, by have := l.isLt; omega⟩]
  unfold ind
  by_cases h : s.val / 64 = l.val / 64
  · rw [if_pos h, if_pos h]; rfl
  · rw [if_neg h, if_neg h]; rfl

/-- One group's sums: its values rounded, and the rest. -/
def part (X : FVec Ideal S256x1024 .f32) (o : FVec Ideal S256x256 .bf16) (off : Fin 2 → Nat) (h : S256x1024.Slices off S256x256) : FVec Ideal S256x256 .f32 :=
  addf (matmul dot_S256x256_S256x256_S256x256_1_0_0_1_n_n none (truncf .bf16 (extractStridedSlice S256x256 off X h) bitsLt_bf16_f32) o (constant S256x256 .f32 0x00000000#32))
    (matmul dot_S256x256_S256x256_S256x256_1_0_0_1_n_n none (truncf .bf16 (subf (extractStridedSlice S256x256 off X h)
      (extf .f32 (truncf .bf16 (extractStridedSlice S256x256 off X h) bitsLt_bf16_f32) bitsLt_bf16_f32)) bitsLt_bf16_f32) o (constant S256x256 .f32 0x00000000#32))

/-- The sums over heads, each at every channel of its head. -/
def sums (X : FVec Ideal S256x1024 .f32) (o : FVec Ideal S256x256 .bf16) : FVec Ideal S256x1024 .f32 :=
  concatenate S256x1024 1 [⟨S256x256, part X o ![0, 0] slices_S256x1024_o0_0_S256x256⟩, ⟨S256x256, part X o ![0, 256] slices_S256x1024_o0_256_S256x256⟩,
    ⟨S256x256, part X o ![0, 512] slices_S256x1024_o0_512_S256x256⟩, ⟨S256x256, part X o ![0, 768] slices_S256x1024_o0_768_S256x256⟩] concatenates_S256x256_S256x256_S256x256_S256x256_S256x1024_d1

theorem sums_mean (X : FVec Ideal S256x1024 .f32) : k0_pay8 X k0_pay3 (iota .tc S256x256 32 [1] iota_S256x256_d1_w32) 64#32 k0_pay4 k0_pay5 k0_pay6 = sums X ones := rfl

theorem pair_congr (X : FVec Ideal S256x1024 .f32) (o : FVec Ideal S256x256 .bf16) (p : Fin 256) {f f' : Fin 256 → Fin 1024} {j j' : Fin 256} (hf : ∀ x, f x = f' x) (hj : j = j') :
    ∑ s, X (ix2 p (f s)) * o (ix2 s j) + ∑ s, (X (ix2 p (f s)) - X (ix2 p (f s))) * o (ix2 s j)
      = ∑ s, X (ix2 p (f' s)) * o (ix2 s j') + ∑ s, (X (ix2 p (f' s)) - X (ix2 p (f' s))) * o (ix2 s j') := by
  rw [hj, funext hf]

theorem sums_entry (X : FVec Ideal S256x1024 .f32) (o : FVec Ideal S256x256 .bf16) (p : Fin 256) (q : Fin 4) (l : Fin 256) :
    sums X o (ix2 p (chn q l)) = ∑ s, X (ix2 p (chn q s)) * o (ix2 s l) + ∑ s, (X (ix2 p (chn q s)) - X (ix2 p (chn q s))) * o (ix2 s l) := by
  have hl := l.isLt
  match q with
  | ⟨0, _⟩ =>
    pointwise [sums, part]
    exact pair_congr X o p (f := fun x => ⟨x.val, _⟩) (fun x => Fin.ext (by show x.val = 0 * 256 + x.val; omega)) rfl
  | ⟨1, _⟩ =>
    pointwise [sums, part]
    exact pair_congr X o p (f := fun x => ⟨256 + x.val, _⟩) (fun x => Fin.ext (by show 256 + x.val = 1 * 256 + x.val; omega)) rfl
  | ⟨2, _⟩ =>
    pointwise [sums, part]
    rw [dif_neg (by omega), dif_neg (by omega), dif_pos (by omega)]
    exact pair_congr X o p (f := fun x => ⟨512 + x.val, _⟩) (fun x => Fin.ext (by show 512 + x.val = 2 * 256 + x.val; omega)) (Fin.ext (by show 512 + l.val - 256 - 256 = l.val; omega))
  | ⟨3, _⟩ =>
    pointwise [sums, part]
    rw [dif_neg (by omega), dif_neg (by omega), dif_neg (by omega)]
    exact pair_congr X o p (f := fun x => ⟨768 + x.val, _⟩) (fun x => Fin.ext (by show 768 + x.val = 3 * 256 + x.val; omega)) (Fin.ext (by show 768 + l.val - 256 - 256 - 256 = l.val; omega))

theorem chn_grp (d : Fin 1024) : chn (grp d) (lane d) = d := Fin.ext (by show d.val / 256 * 256 + d.val % 256 = d.val; omega)

theorem sums_apply (X : FVec Ideal S256x1024 .f32) (p : Fin 256) (hX : ∀ e, IsReal (X (ix2 p e))) (d : Fin 1024) :
    sums X ones (ix2 p d) = ∑ k, X (ix2 p (head d k)) := by
  have h := sums_entry X ones p (grp d) (lane d)
  rw [chn_grp] at h
  rw [h]
  simp only [ones_apply]
  refine (group_split (fun s => X (ix2 p (chn (grp d) s))) (fun s => hX _) (lane d)).trans (Finset.sum_congr rfl fun k _ => congrArg (fun e => X (ix2 p e)) (Fin.ext ?_))
  show d.val / 256 * 256 + (d.val % 256 / 64 * 64 + k.val) = d.val / 64 * 64 + k.val
  omega

/-- A row with each head's mean taken away. -/
def centred (X : FVec Ideal S256x1024 .f32) (o : FVec Ideal S256x256 .bf16) : FVec Ideal S256x1024 .f32 :=
  subf X (mulf (sums X o) (broadcast S256x1024 (Scalar.ofBits .f32 0x3C800000#32 : Ideal .f32)))

theorem norm_eq (X : FVec Ideal S256x1024 .f32) (o : FVec Ideal S256x256 .bf16) (lw lb : FVec Ideal S1x1024 .f32) :
    k0_pay10 (k0_pay9 X o (sums X o) (Scalar.ofBits .f32 0x3C800000#32 : Ideal .f32) lw) lb
      = addf (mulf (mulf (centred X o) (rsqrt (addf (mulf (sums (mulf (centred X o) (centred X o)) o) (broadcast S256x1024 (Scalar.ofBits .f32 0x3C800000#32 : Ideal .f32)))
          (broadcast S256x1024 (Scalar.ofBits .f32 0x3A27C5AC#32 : Ideal .f32))))) (broadcastTo S256x1024 (shapeCast S1x1024 lw shapeCasts_S1x1024_S1x1024) broadcasts_S1x1024_S256x1024))
          (broadcastTo S256x1024 (shapeCast S1x1024 lb shapeCasts_S1x1024_S1x1024) broadcasts_S1x1024_S256x1024) := rfl

theorem centred_entry (X S : FVec Ideal S256x1024 .f32) (p : Fin 256) (d : Fin 1024) :
    (subf X (mulf S (broadcast S256x1024 (Scalar.ofBits .f32 0x3C800000#32 : Ideal .f32)))) (ix2 p d) = X (ix2 p d) - S (ix2 p d) * Ideal.ofBits .f32 0x3C800000#32 := by
  pointwise

theorem centred_apply (X : FVec Ideal S256x1024 .f32) (p : Fin 256) (hX : ∀ e, IsReal (X (ix2 p e))) (d : Fin 1024) :
    centred X ones (ix2 p d) = X (ix2 p d) - mean (fun e => X (ix2 p e)) d := by
  refine (centred_entry X (sums X ones) p d).trans ?_
  rw [sums_apply X p hX, over]
  rfl

theorem square_entry (C : FVec Ideal S256x1024 .f32) (p : Fin 256) (d : Fin 1024) : (mulf C C) (ix2 p d) = C (ix2 p d) * C (ix2 p d) := by
  pointwise

theorem norm_entry (C S : FVec Ideal S256x1024 .f32) (lw lb : FVec Ideal S1x1024 .f32) (p : Fin 256) (d : Fin 1024) :
    (addf (mulf (mulf C (rsqrt (addf (mulf S (broadcast S256x1024 (Scalar.ofBits .f32 0x3C800000#32 : Ideal .f32)))
          (broadcast S256x1024 (Scalar.ofBits .f32 0x3A27C5AC#32 : Ideal .f32))))) (broadcastTo S256x1024 (shapeCast S1x1024 lw shapeCasts_S1x1024_S1x1024) broadcasts_S1x1024_S256x1024))
          (broadcastTo S256x1024 (shapeCast S1x1024 lb shapeCasts_S1x1024_S1x1024) broadcasts_S1x1024_S256x1024)) (ix2 p d)
      = C (ix2 p d) * Ideal.rsqrt (S (ix2 p d) * Ideal.ofBits .f32 0x3C800000#32 + Ideal.ofBits .f32 0x3A27C5AC#32) * lw (ix2 0 d) + lb (ix2 0 d) := by
  pointwise

theorem norm_apply (X : FVec Ideal S256x1024 .f32) (lw lb : FVec Ideal S1x1024 .f32) (p : Fin 256) (hX : ∀ e, IsReal (X (ix2 p e))) (d : Fin 1024) :
    k0_pay10 (k0_pay9 X ones (sums X ones) (Scalar.ofBits .f32 0x3C800000#32 : Ideal .f32) lw) lb (ix2 p d)
      = norm (fun e => X (ix2 p e)) d * lw (ix2 0 d) + lb (ix2 0 d) := by
  have hc : ∀ e, centred X ones (ix2 p e) = X (ix2 p e) - mean (fun e => X (ix2 p e)) e := centred_apply X p hX
  have hr : ∀ e, IsReal (centred X ones (ix2 p e)) := fun e => hc e ▸ (hX e).sub (mean_real hX e)
  rw [norm_eq]
  refine (norm_entry _ _ lw lb p d).trans ?_
  rw [sums_apply _ p (fun e => (square_entry _ p e).symm ▸ (hr e).mul (hr e)), over, hc]
  simp only [square_entry, hc, mean_head]
  rfl

/-- The bonus's products, before the sums over heads. -/
theorem prods_apply (k0 k1 : Vec Ideal S1x1x256x1024 .bf16) (r : Vec Ideal S1x256x1024 .bf16) (rk : Vec Ideal S1x1024 .f32) (p : Fin 256) (d : Fin 1024) :
    k0_pay11 (F := Ideal) k0 k1 r rk (ix2 p d) = r (ix3 0 p d) * (k0 (ix4 0 0 p d) + k1 (ix4 0 0 p d)) * rk (ix2 0 d) := by
  pointwise [k0_pay11]

theorem bonus_apply (k0 k1 : Vec Ideal S1x1x256x1024 .bf16) (r : Vec Ideal S1x256x1024 .bf16) (rk : Vec Ideal S1x1024 .f32) (p : Fin 256)
    (h0 : ∀ e, IsReal (k0 (ix4 0 0 p e))) (h1 : ∀ e, IsReal (k1 (ix4 0 0 p e))) (hr : ∀ e, IsReal (r (ix3 0 p e))) (hk : ∀ e, IsReal (rk (ix2 0 e))) (d : Fin 1024) :
    sums (k0_pay11 (F := Ideal) k0 k1 r rk) ones (ix2 p d)
      = bonus (fun e => r (ix3 0 p e)) (fun e => k0 (ix4 0 0 p e)) (fun e => k1 (ix4 0 0 p e)) (fun e => rk (ix2 0 e)) d := by
  rw [sums_apply _ p (fun e => (prods_apply k0 k1 r rk p e).symm ▸ ((hr e).mul ((h0 e).add (h1 e))).mul (hk e))]
  unfold bonus
  rw [← Finset.sum_add_distrib]
  exact Finset.sum_congr rfl fun k _ => (prods_apply _ _ _ _ _ _).trans ((hr _).spread (h0 _) (h1 _) (hk _))

/-- The last steps of the kernel: the bonus added, the gate, the projection, the residual. -/
theorem last_eq (o : FVec Ideal S256x256 .bf16) (N : FVec Ideal S256x1024 .f32) (k0 k1 : FVec Ideal S1x1x256x1024 .bf16) (r : FVec Ideal S1x256x1024 .bf16) (rk : FVec Ideal S1x1024 .f32)
    (v : FVec Ideal S1x256x1024 .f32) (g : FVec Ideal S1x256x1024 .bf16) (x : FVec Ideal S1x256x1024 .f32) (gate : FVec Ideal S1x1x1024 .f32) (wo : FVec Ideal S1024x1024 .bf16) :
    k0_pay1 (F := Ideal) o N (k0_pay11 (F := Ideal) k0 k1 r rk) (k0_pay12 (F := Ideal) o k0 k1 r rk) (k0_pay13 (F := Ideal) o k0 k1 r rk) (k0_pay16 (F := Ideal) k0 k1 r rk) (k0_pay17 (F := Ideal) o k0 k1 r rk) v g x gate wo
      = shapeCast S1x256x1024 (addf (shapeCast S256x1024 x shapeCasts_S1x256x1024_S256x1024) (mulf (broadcastTo S256x1024 (shapeCast S1x1024 gate shapeCasts_S1x1x1024_S1x1024) broadcasts_S1x1024_S256x1024)
          (matmul dot_S256x1024_S1024x1024_S256x1024_1_0_0_1_n_n none (truncf .bf16 (mulf (addf N (mulf (sums (k0_pay11 (F := Ideal) k0 k1 r rk) o) (shapeCast S256x1024 v shapeCasts_S1x256x1024_S256x1024)))
            (extf .f32 (shapeCast S256x1024 g shapeCasts_S1x256x1024_S256x1024) bitsLt_bf16_f32)) bitsLt_bf16_f32) (shapeCast S1024x1024 wo shapeCasts_S1024x1024_S1024x1024) (constant S256x1024 .f32 0x00000000#32))))
          shapeCasts_S256x1024_S1x256x1024 := rfl

theorem last_entry (N B : FVec Ideal S256x1024 .f32)
    (v : FVec Ideal S1x256x1024 .f32) (g : FVec Ideal S1x256x1024 .bf16) (x : FVec Ideal S1x256x1024 .f32) (gate : FVec Ideal S1x1x1024 .f32) (wo : FVec Ideal S1024x1024 .bf16) (p : Fin 256) (d : Fin 1024) :
    (shapeCast S1x256x1024 (addf (shapeCast S256x1024 x shapeCasts_S1x256x1024_S256x1024) (mulf (broadcastTo S256x1024 (shapeCast S1x1024 gate shapeCasts_S1x1x1024_S1x1024) broadcasts_S1x1024_S256x1024)
          (matmul dot_S256x1024_S1024x1024_S256x1024_1_0_0_1_n_n none (truncf .bf16 (mulf (addf N (mulf B (shapeCast S256x1024 v shapeCasts_S1x256x1024_S256x1024)))
            (extf .f32 (shapeCast S256x1024 g shapeCasts_S1x256x1024_S256x1024) bitsLt_bf16_f32)) bitsLt_bf16_f32) (shapeCast S1024x1024 wo shapeCasts_S1024x1024_S1024x1024) (constant S256x1024 .f32 0x00000000#32))))
          shapeCasts_S256x1024_S1x256x1024 : FVec Ideal S1x256x1024 .f32) (ix3 0 p d)
      = x (ix3 0 p d) + gate (ix3 0 0 d) * ∑ e, (N (ix2 p e) + B (ix2 p e) * v (ix3 0 p e)) * g (ix3 0 p e) * wo (ix2 e d) := by
  pointwise

theorem zero4 : (![0, 0, 0, 0] : Fin 4 → Nat) = fun _ => 0 := funext fun a => by fin_cases a <;> rfl
theorem zero3 : (![0, 0, 0] : Fin 3 → Nat) = fun _ => 0 := funext fun a => by fin_cases a <;> rfl
theorem zero2 : (![0, 0] : Fin 2 → Nat) = fun _ => 0 := funext fun a => by fin_cases a <;> rfl

theorem k0_ld (x2 : Vec Ideal S2x1x256x1024 .bf16) (p : Fin 256) (d : Fin 1024) : (View.ld x2 r0_2 : Vec Ideal S1x1x256x1024 .bf16) (ix4 0 0 p d) = x2 (ix4 0 0 p d) := by
  show x2 (r0_2.idx (ix4 0 0 p d)) = _
  congr 1
  funext a
  apply Fin.ext
  match a with
  | ⟨0, _⟩ => rfl
  | ⟨1, _⟩ => rfl
  | ⟨2, _⟩ => show 0 + 1 * p.val = p.val; omega
  | ⟨3, _⟩ => show 0 + 1 * d.val = d.val; omega
theorem k1_ld (x2 : Vec Ideal S2x1x256x1024 .bf16) (p : Fin 256) (d : Fin 1024) : (View.ld x2 r0_3 : Vec Ideal S1x1x256x1024 .bf16) (ix4 0 0 p d) = x2 (ix4 1 0 p d) := by
  show x2 (r0_3.idx (ix4 0 0 p d)) = _
  congr 1
  funext a
  apply Fin.ext
  match a with
  | ⟨0, _⟩ => rfl
  | ⟨1, _⟩ => rfl
  | ⟨2, _⟩ => show 0 + 1 * p.val = p.val; omega
  | ⟨3, _⟩ => show 0 + 1 * d.val = d.val; omega

/-- The block as one expression. -/
theorem block_eq (x0 : Vec Ideal S1x256x1024 .f32) (x1 : Vec Ideal S1x256x1024 .bf16) (x2 : Vec Ideal S2x1x256x1024 .bf16) (x3 : Vec Ideal S1x256x1024 .f32)
    (x4 : Vec Ideal S1x256x1024 .bf16) (x5 x6 x7 : Vec Ideal S1x1024 .f32) (x8 : Vec Ideal S1024x1024 .bf16) (x9 : Vec Ideal S1x256x1024 .f32) (x10 : Vec Ideal S1x1x1024 .f32) :
    out0_11 (F := Ideal) x0 x1 x2 x3 x4 x5 x6 x7 x8 x9 x10
      = k0_pay1 (F := Ideal) ones (k0_pay10 (F := Ideal) (k0_pay9 (F := Ideal) (k0_pay2 (F := Ideal) x0) ones (sums (k0_pay2 (F := Ideal) x0) ones) (Scalar.ofBits .f32 0x3C800000#32 : Ideal .f32) x6) x7)
          (k0_pay11 (F := Ideal) (View.ld x2 r0_2) (View.ld x2 r0_3) x1 x5) (k0_pay12 (F := Ideal) ones (View.ld x2 r0_2) (View.ld x2 r0_3) x1 x5) (k0_pay13 (F := Ideal) ones (View.ld x2 r0_2) (View.ld x2 r0_3) x1 x5)
          (k0_pay16 (F := Ideal) (View.ld x2 r0_2) (View.ld x2 r0_3) x1 x5) (k0_pay17 (F := Ideal) ones (View.ld x2 r0_2) (View.ld x2 r0_3) x1 x5) x3 x4 x9 x10 x8 := by
  rw [← sums_mean]
  unfold out0_11 k0_pay24 k0_pay23 k0_pay22 k0_pay21 k0_pay20 k0_pay19 k0_pay18
  rw [View.canon_unit_zero zero3, View.ld_unit_zero (S := S1x256x1024) zero3, View.ld_unit_zero (S := S1x256x1024) zero3, View.ld_unit_zero (S := S1x256x1024) zero3,
    View.ld_unit_zero (S := S1x256x1024) zero3, View.ld_unit_zero (S := S1x256x1024) zero3, View.ld_unit_zero (S := S1x1024) zero2, View.ld_unit_zero (S := S1x1024) zero2,
    View.ld_unit_zero (S := S1x1024) zero2, View.ld_unit_zero (S := S1024x1024) zero2, View.ld_unit_zero (S := S1x1x1024) zero3]
  rfl

theorem y_entry (x0 : Vec Ideal S1x256x1024 .f32) (p : Fin 256) (d : Fin 1024) : k0_pay2 (F := Ideal) x0 (ix2 p d) = x0 (ix3 0 p d) := by
  pointwise [k0_pay2]

/-- One entry of the block. -/
theorem block_entry (x0 : Vec Ideal S1x256x1024 .f32) (x1 : Vec Ideal S1x256x1024 .bf16) (x2 : Vec Ideal S2x1x256x1024 .bf16) (x3 : Vec Ideal S1x256x1024 .f32)
    (x4 : Vec Ideal S1x256x1024 .bf16) (x5 x6 x7 : Vec Ideal S1x1024 .f32) (x8 : Vec Ideal S1024x1024 .bf16) (x9 : Vec Ideal S1x256x1024 .f32) (x10 : Vec Ideal S1x1x1024 .f32)
    (p : Fin 256) (d : Fin 1024) (hy : ∀ e, IsReal (x0 (ix3 0 p e))) (hr : ∀ e, IsReal (x1 (ix3 0 p e))) (h0 : ∀ e, IsReal (x2 (ix4 0 0 p e)))
    (h1 : ∀ e, IsReal (x2 (ix4 1 0 p e))) (hk : ∀ e, IsReal (x5 (ix2 0 e))) :
    out0_11 (F := Ideal) x0 x1 x2 x3 x4 x5 x6 x7 x8 x9 x10 (ix3 0 p d)
      = entry (x9 (ix3 0 p d)) (x10 (ix3 0 0 d)) (fun e => x0 (ix3 0 p e)) (fun e => x1 (ix3 0 p e)) (fun e => x2 (ix4 0 0 p e)) (fun e => x2 (ix4 1 0 p e))
          (fun e => x5 (ix2 0 e)) (fun e => x3 (ix3 0 p e)) (fun e => x4 (ix3 0 p e)) (fun e => x6 (ix2 0 e)) (fun e => x7 (ix2 0 e)) (fun e => x8 (ix2 e d)) := by
  rw [block_eq, last_eq]
  refine (last_entry _ _ x3 x4 x9 x10 x8 p d).trans ?_
  unfold entry
  refine congrArg _ (congrArg _ (Finset.sum_congr rfl fun e _ => ?_))
  have hb : sums (k0_pay11 (F := Ideal) (View.ld x2 r0_2) (View.ld x2 r0_3) x1 x5) ones (ix2 p e)
      = bonus (fun e => x1 (ix3 0 p e)) (fun e => x2 (ix4 0 0 p e)) (fun e => x2 (ix4 1 0 p e)) (fun e => x5 (ix2 0 e)) e :=
    (bonus_apply _ _ _ _ p (fun e => (k0_ld x2 p e).symm ▸ h0 e) (fun e => (k1_ld x2 p e).symm ▸ h1 e) hr hk e).trans
      (congrArg₂ (fun a b => bonus _ a b _ e) (funext (k0_ld x2 p)) (funext (k1_ld x2 p)))
  rw [norm_apply _ _ _ p (fun e => (y_entry x0 p e).symm ▸ hy e), hb]
  simp only [y_entry]

end Cert.Proof.Out

end
-- ==== Proof.Out.Spec.lean ====
/- The reference of the recurrence's output: the norm of each head, the bonus, the gate and the projection. -/
module

public import proofs.«01_k».proof.Proof.Gen.Reference4Ideal.Run
public import proofs.«01_k».proof.Proof.Out.Heads
public import proofs.«01_k».proof.Defs
public import Idealize.ShloMosaic.Lib.Pointwise
public import Idealize.ShloMosaic.Lib.Claim

@[expose] public section

set_option maxRecDepth 16384

noncomputable section

namespace Cert.Proof.Out

open Idealize.ShloMosaic Idealize.ShloMosaic.TcCoe Idealize.SL.Sem

open Cert.Reference4Ideal Cert.Reference4Ideal.Gen

/-- A channel's head and its lane there. -/
abbrev hd (d : Fin 1024) : Fin 16 := ⟨d.val / 64, by have := d.isLt; omega⟩
abbrev ln (d : Fin 1024) : Fin 64 := ⟨d.val % 64, by omega⟩
/-- A token after the condition's. -/
abbrev tok (t : Fin 2048) : Fin 2304 := ⟨256 + t.val, by have := t.isLt; omega⟩

theorem joined (z : FVec Ideal S16x2048x16x64 .f32) (b : Fin 16) (t : Fin 2048) (d : Fin 1024) :
    (shapeCast S16x2048x1024 z shapeCasts_S16x2048x16x64_S16x2048x1024) (ix3 b t d) = z (ix4 b t (hd d) (ln d)) := by
  refine Idealize.ShloMosaic.shapeCast_apply _ _ _ (ix4 b t (hd d) (ln d)) ?_
  rw [Shape.rowMajor_val_four, Shape.rowMajor_val_three]
  show ((b.val * 2048 + t.val) * 16 + d.val / 64) * 64 + d.val % 64 = (b.val * 2048 + t.val) * 1024 + d.val
  omega
theorem apart (z : FVec Ideal S16x2048x1024 .f32) (b : Fin 16) (t : Fin 2048) (d : Fin 1024) (k : Fin 64) :
    (shapeCast S16x2048x16x64 z shapeCasts_S16x2048x1024_S16x2048x16x64) (ix4 b t (hd d) k) = z (ix3 b t (head d k)) := by
  refine Idealize.ShloMosaic.shapeCast_apply _ _ _ (ix3 b t (head d k)) ?_
  rw [Shape.rowMajor_val_four, Shape.rowMajor_val_three]
  show (b.val * 2048 + t.val) * 1024 + (d.val / 64 * 64 + k.val) = ((b.val * 2048 + t.val) * 16 + d.val / 64) * 64 + k.val
  omega
theorem head_ln (d : Fin 1024) : head d (ln d) = d := Fin.ext (by show d.val / 64 * 64 + d.val % 64 = d.val; omega)

def y4 (y : FVec Ideal S16x2304x1024 .f32) : FVec Ideal S16x2048x16x64 .f32 := (shapeCast S16x2048x16x64 (extractStridedSlice S16x2048x1024 ![0, 256, 0] y slices_S16x2304x1024_S16x2048x1024_0_256_0) shapeCasts_S16x2048x1024_S16x2048x16x64)
def v4 (v : FVec Ideal S16x2304x1024 .f32) : FVec Ideal S16x2048x16x64 .f32 := (shapeCast S16x2048x16x64 (extractStridedSlice S16x2048x1024 ![0, 256, 0] v slices_S16x2304x1024_S16x2048x1024_0_256_0) shapeCasts_S16x2048x1024_S16x2048x16x64)
def r4 (r : FVec Ideal S16x2304x1024 .bf16) : FVec Ideal S16x2048x16x64 .f32 := (shapeCast S16x2048x16x64 (extf .f32 (extractStridedSlice S16x2048x1024 ![0, 256, 0] r slices_S16x2304x1024_S16x2048x1024_0_256_0) bitsLt_bf16_f32) shapeCasts_S16x2048x1024_S16x2048x16x64)
def a4 (kd : FVec Ideal S2x16x2304x1024 .bf16) : FVec Ideal S16x2048x16x64 .f32 := (shapeCast S16x2048x16x64 (extf .f32 (extractStridedSlice S16x2048x1024 ![0, 256, 0] (shapeCast S16x2304x1024 (extractStridedSlice S1x16x2304x1024 ![0, 0, 0, 0] kd slices_S2x16x2304x1024_S1x16x2304x1024_0_0_0_0) shapeCasts_S1x16x2304x1024_S16x2304x1024) slices_S16x2304x1024_S16x2048x1024_0_256_0) bitsLt_bf16_f32) shapeCasts_S16x2048x1024_S16x2048x16x64)
def b4 (kd : FVec Ideal S2x16x2304x1024 .bf16) : FVec Ideal S16x2048x16x64 .f32 := (shapeCast S16x2048x16x64 (extf .f32 (extractStridedSlice S16x2048x1024 ![0, 256, 0] (shapeCast S16x2304x1024 (extractStridedSlice S1x16x2304x1024 ![1, 0, 0, 0] kd slices_S2x16x2304x1024_S1x16x2304x1024_1_0_0_0) shapeCasts_S1x16x2304x1024_S16x2304x1024) slices_S16x2304x1024_S16x2048x1024_0_256_0) bitsLt_bf16_f32) shapeCasts_S16x2048x1024_S16x2048x16x64)

theorem y4_apply (y : FVec Ideal S16x2304x1024 .f32) (b : Fin 16) (t : Fin 2048) (d : Fin 1024) (k : Fin 64) : y4 y (ix4 b t (hd d) k) = y (ix3 b (tok t) (head d k)) := by
  refine (apart _ b t d k).trans ?_
  pointwise
theorem v4_apply (v : FVec Ideal S16x2304x1024 .f32) (b : Fin 16) (t : Fin 2048) (d : Fin 1024) (k : Fin 64) : v4 v (ix4 b t (hd d) k) = v (ix3 b (tok t) (head d k)) := by
  refine (apart _ b t d k).trans ?_
  pointwise
theorem r4_apply (r : FVec Ideal S16x2304x1024 .bf16) (b : Fin 16) (t : Fin 2048) (d : Fin 1024) (k : Fin 64) : r4 r (ix4 b t (hd d) k) = r (ix3 b (tok t) (head d k)) := by
  refine (apart _ b t d k).trans ?_
  pointwise
theorem a4_apply (kd : FVec Ideal S2x16x2304x1024 .bf16) (b : Fin 16) (t : Fin 2048) (d : Fin 1024) (k : Fin 64) : a4 kd (ix4 b t (hd d) k) = kd (ix4 0 b (tok t) (head d k)) := by
  refine (apart _ b t d k).trans ?_
  pointwise
theorem b4_apply (kd : FVec Ideal S2x16x2304x1024 .bf16) (b : Fin 16) (t : Fin 2048) (d : Fin 1024) (k : Fin 64) : b4 kd (ix4 b t (hd d) k) = kd (ix4 1 b (tok t) (head d k)) := by
  refine (apart _ b t d k).trans ?_
  pointwise

def n4 (y4 : FVec Ideal S16x2048x16x64 .f32) : FVec Ideal S16x2048x16x64 .f32 := (mulf (subf y4 (broadcastInDim S16x2048x16x64 ![0, 1, 2, 3] bcast_S16x2048x16x1_S16x2048x16x64_0_1_2_3 (Host.divf (broadcastInDim S16x2048x16x1 ![0, 1, 2] bcast_S16x2048x16_S16x2048x16x1_0_1_2 (Host.reduceAdd y4 (constant S_ .f32 0x00000000#32) reducesTo_S16x2048x16x64_S16x2048x16_d3 h_S_)) (broadcastInDim S16x2048x16x1 ![] bcast_S_S16x2048x16x1 (constant S_ .f32 0x42800000#32))))) (broadcastInDim S16x2048x16x64 ![0, 1, 2, 3] bcast_S16x2048x16x1_S16x2048x16x64_0_1_2_3 (Host.rsqrt (addf (Host.divf (broadcastInDim S16x2048x16x1 ![0, 1, 2] bcast_S16x2048x16_S16x2048x16x1_0_1_2 (Host.reduceAdd (mulf (subf y4 (broadcastInDim S16x2048x16x64 ![0, 1, 2, 3] bcast_S16x2048x16x1_S16x2048x16x64_0_1_2_3 (Host.divf (broadcastInDim S16x2048x16x1 ![0, 1, 2] bcast_S16x2048x16_S16x2048x16x1_0_1_2 (Host.reduceAdd y4 (constant S_ .f32 0x00000000#32) reducesTo_S16x2048x16x64_S16x2048x16_d3 h_S_)) (broadcastInDim S16x2048x16x1 ![] bcast_S_S16x2048x16x1 (constant S_ .f32 0x42800000#32))))) (subf y4 (broadcastInDim S16x2048x16x64 ![0, 1, 2, 3] bcast_S16x2048x16x1_S16x2048x16x64_0_1_2_3 (Host.divf (broadcastInDim S16x2048x16x1 ![0, 1, 2] bcast_S16x2048x16_S16x2048x16x1_0_1_2 (Host.reduceAdd y4 (constant S_ .f32 0x00000000#32) reducesTo_S16x2048x16x64_S16x2048x16_d3 h_S_)) (broadcastInDim S16x2048x16x1 ![] bcast_S_S16x2048x16x1 (constant S_ .f32 0x42800000#32)))))) (constant S_ .f32 0x00000000#32) reducesTo_S16x2048x16x64_S16x2048x16_d3 h_S_)) (broadcastInDim S16x2048x16x1 ![] bcast_S_S16x2048x16x1 (constant S_ .f32 0x42800000#32))) (broadcastInDim S16x2048x16x1 ![] bcast_S_S16x2048x16x1 (constant S_ .f32 0x3A27C5AC#32))))))
def bon4 (rk : FVec Ideal S16x64 .f32) (v4 r4 a4 b4 : FVec Ideal S16x2048x16x64 .f32) : FVec Ideal S16x2048x16x64 .f32 := (mulf (broadcastInDim S16x2048x16x64 ![0, 1, 2, 3] bcast_S16x2048x16x1_S16x2048x16x64_0_1_2_3 (addf (addf (broadcastInDim S16x2048x16x1 ![] bcast_S_S16x2048x16x1 (constant S_ .f32 0x00000000#32)) (broadcastInDim S16x2048x16x1 ![0, 1, 2] bcast_S16x2048x16_S16x2048x16x1_0_1_2 (Host.reduceAdd (mulf (mulf r4 a4) (broadcastInDim S16x2048x16x64 ![0, 1, 2, 3] bcast_S1x1x16x64_S16x2048x16x64_0_1_2_3 (broadcastInDim S1x1x16x64 ![2, 3] bcast_S16x64_S1x1x16x64_2_3 rk))) (constant S_ .f32 0x00000000#32) reducesTo_S16x2048x16x64_S16x2048x16_d3 h_S_))) (broadcastInDim S16x2048x16x1 ![0, 1, 2] bcast_S16x2048x16_S16x2048x16x1_0_1_2 (Host.reduceAdd (mulf (mulf r4 b4) (broadcastInDim S16x2048x16x64 ![0, 1, 2, 3] bcast_S1x1x16x64_S16x2048x16x64_0_1_2_3 (broadcastInDim S1x1x16x64 ![2, 3] bcast_S16x64_S1x1x16x64_2_3 rk))) (constant S_ .f32 0x00000000#32) reducesTo_S16x2048x16x64_S16x2048x16_d3 h_S_)))) v4)

theorem n4_apply (y : FVec Ideal S16x2048x16x64 .f32) (b : Fin 16) (t : Fin 2048) (h : Fin 16) (k : Fin 64) :
    n4 y (ix4 b t h k) = (y (ix4 b t h k) - Ideal.div (∑ j, y (ix4 b t h j)) (Ideal.ofBits .f32 0x42800000#32))
      * Ideal.rsqrt (Ideal.div (∑ i, (y (ix4 b t h i) - Ideal.div (∑ j, y (ix4 b t h j)) (Ideal.ofBits .f32 0x42800000#32))
          * (y (ix4 b t h i) - Ideal.div (∑ j, y (ix4 b t h j)) (Ideal.ofBits .f32 0x42800000#32))) (Ideal.ofBits .f32 0x42800000#32) + Ideal.ofBits .f32 0x3A27C5AC#32) := by
  pointwise [n4]
theorem bon4_apply (rk : FVec Ideal S16x64 .f32) (v r a c : FVec Ideal S16x2048x16x64 .f32) (b : Fin 16) (t : Fin 2048) (h : Fin 16) (k : Fin 64) :
    bon4 rk v r a c (ix4 b t h k) = (∑ j, r (ix4 b t h j) * a (ix4 b t h j) * rk (ix2 h j) + ∑ j, r (ix4 b t h j) * c (ix4 b t h j) * rk (ix2 h j)) * v (ix4 b t h k) := by
  pointwise [bon4]

theorem join (x : FVec Ideal S16x2048x1024 .f32) (gate : FVec Ideal S16x1024 .f32) (n3 b3 : FVec Ideal S16x2048x1024 .f32) (lw lb : FVec Ideal S1024 .f32)
    (g : FVec Ideal S16x2304x1024 .bf16) (wo : FVec Ideal S1024x1024 .f32) (b : Fin 16) (t : Fin 2048) (d : Fin 1024) :
    (addf x (mulf (broadcastInDim S16x2048x1024 ![0, 1, 2] bcast_S16x1x1024_S16x2048x1024_0_1_2 (broadcastInDim S16x1x1024 ![0, 2] bcast_S16x1024_S16x1x1024_0_2 gate)) (Host.dotGeneral dot_S16x2048x1024_S1024x1024_S16x2048x1024_2_0_01_1_n_n none (mulf (addf (addf (mulf n3 (broadcastInDim S16x2048x1024 ![0, 1, 2] bcast_S1x1x1024_S16x2048x1024_0_1_2 (broadcastInDim S1x1x1024 ![2] bcast_S1024_S1x1x1024_2 lw))) (broadcastInDim S16x2048x1024 ![0, 1, 2] bcast_S1x1x1024_S16x2048x1024_0_1_2 (broadcastInDim S1x1x1024 ![2] bcast_S1024_S1x1x1024_2 lb))) b3) (extf .f32 (extractStridedSlice S16x2048x1024 ![0, 256, 0] g slices_S16x2304x1024_S16x2048x1024_0_256_0) bitsLt_bf16_f32)) wo)) : FVec Ideal S16x2048x1024 .f32) (ix3 b t d)
      = x (ix3 b t d) + gate (ix2 b d) * ∑ e, (n3 (ix3 b t e) * lw (ix1 e) + lb (ix1 e) + b3 (ix3 b t e)) * g (ix3 b (tok t) e) * wo (ix2 e d) := by
  pointwise

/-- One entry of the reference's array. -/
theorem array_entry (y : FVec Ideal S16x2304x1024 .f32) (r : FVec Ideal S16x2304x1024 .bf16) (kd : FVec Ideal S2x16x2304x1024 .bf16) (v : FVec Ideal S16x2304x1024 .f32)
    (g : FVec Ideal S16x2304x1024 .bf16) (rk : FVec Ideal S16x64 .f32) (lw lb : FVec Ideal S1024 .f32) (wo : FVec Ideal S1024x1024 .f32)
    (x : FVec Ideal S16x2048x1024 .f32) (gate : FVec Ideal S16x1024 .f32) (b : Fin 16) (t : Fin 2048) (d : Fin 1024) :
    (addf x (mulf (broadcastInDim S16x2048x1024 ![0, 1, 2] bcast_S16x1x1024_S16x2048x1024_0_1_2 (broadcastInDim S16x1x1024 ![0, 2] bcast_S16x1024_S16x1x1024_0_2 gate)) (Host.dotGeneral dot_S16x2048x1024_S1024x1024_S16x2048x1024_2_0_01_1_n_n none (mulf (addf (addf (mulf (shapeCast S16x2048x1024 (n4 (y4 y)) shapeCasts_S16x2048x16x64_S16x2048x1024) (broadcastInDim S16x2048x1024 ![0, 1, 2] bcast_S1x1x1024_S16x2048x1024_0_1_2 (broadcastInDim S1x1x1024 ![2] bcast_S1024_S1x1x1024_2 lw))) (broadcastInDim S16x2048x1024 ![0, 1, 2] bcast_S1x1x1024_S16x2048x1024_0_1_2 (broadcastInDim S1x1x1024 ![2] bcast_S1024_S1x1x1024_2 lb))) (shapeCast S16x2048x1024 (bon4 rk (v4 v) (r4 r) (a4 kd) (b4 kd)) shapeCasts_S16x2048x16x64_S16x2048x1024)) (extf .f32 (extractStridedSlice S16x2048x1024 ![0, 256, 0] g slices_S16x2304x1024_S16x2048x1024_0_256_0) bitsLt_bf16_f32)) wo)) : FVec Ideal S16x2048x1024 .f32) (ix3 b t d)
      = entry (x (ix3 b t d)) (gate (ix2 b d)) (fun e => y (ix3 b (tok t) e)) (fun e => r (ix3 b (tok t) e)) (fun e => kd (ix4 0 b (tok t) e)) (fun e => kd (ix4 1 b (tok t) e))
          (fun e => rk (ix2 (hd e) (ln e))) (fun e => v (ix3 b (tok t) e)) (fun e => g (ix3 b (tok t) e)) (fun e => lw (ix1 e)) (fun e => lb (ix1 e)) (fun e => wo (ix2 e d)) := by
  refine (join _ _ _ _ _ _ _ _ b t d).trans ?_
  unfold entry
  refine congrArg _ (congrArg _ (Finset.sum_congr rfl fun e _ => ?_))
  have hh : ∀ k, hd (head e k) = hd e := fun k => Fin.ext (by show (e.val / 64 * 64 + k.val) / 64 = e.val / 64; have := k.isLt; omega)
  have hl : ∀ k, ln (head e k) = k := fun k => Fin.ext (by show (e.val / 64 * 64 + k.val) % 64 = k.val; have := k.isLt; omega)
  rw [joined, joined, n4_apply, bon4_apply]
  simp only [y4_apply, v4_apply, r4_apply, a4_apply, b4_apply, head_ln]
  unfold norm mean bonus
  simp only [hh, hl]

end Cert.Proof.Out

end
-- ==== Proof.Out.Finite.lean ====
/- What the precondition `finite4` says: the numbers the head sums read are real. -/
module

public import proofs.«01_k».proof.Proof.Wkv.Finite
public import proofs.«01_k».proof.Proof.Out.Heads
public import Idealize.ShloMosaic.Lib.ReduceAll
public import proofs.«01_k».proof.Defs
public import Idealize.ShloMosaic.Lib.Pointwise
public import Idealize.ShloMosaic.Lib.Claim

@[expose] public section

set_option maxRecDepth 16384

noncomputable section

namespace Cert.Proof.Out.Finite

open Idealize.ShloMosaic Idealize.ShloMosaic.TcCoe Idealize.SL.Sem

open Cert.Pre_finite4

/-- The predicate's side conditions. -/
theorem facts : Cert.Pre_finite4.Facts where
  bcast_S_S16x2304x1024 := by decide
  reducesTo_S16x2304x1024_S_d0_1_2 := by decide
  h_S_ := by decide
  bitsLt_bf16_f32 := by decide
  bcast_S_S2x16x2304x1024 := by decide
  reducesTo_S2x16x2304x1024_S_d0_1_2_3 := by decide
  bcast_S_S16x64 := by decide
  reducesTo_S16x64_S_d0_1 := by decide

attribute [local instance] facts

theorem real_of {x : EReal} (h : Wkv.Finite.lt x = 1#1) : IsReal x := ⟨_, Wkv.Finite.real_of_lt x h⟩

theorem all (a0 : Vec Ideal S16x2304x1024 .f32) (a1 : Vec Ideal S16x2304x1024 .bf16) (a2 : Vec Ideal S2x16x2304x1024 .bf16) (a3 : Vec Ideal S16x2304x1024 .f32) (a4 : Vec Ideal S16x2304x1024 .bf16)
    (a5 : Vec Ideal S16x64 .f32) (a6 a7 : Vec Ideal S1024 .f32) (a8 : Vec Ideal S1024x1024 .f32) (a9 : Vec Ideal S16x2048x1024 .f32) (a10 : Vec Ideal S16x1024 .f32) (j : S_.Idx)
    (h : Cert.Pre_finite4.fn (F := Ideal) a0 a1 a2 a3 a4 a5 a6 a7 a8 a9 a10 j = 1#1) :
    (∀ i, IsReal (a0 i)) ∧ (∀ i, IsReal (a1 i)) ∧ (∀ i, IsReal (a2 i)) ∧ (∀ i, IsReal (a5 i)) := by
  obtain ⟨h, h5⟩ := Wkv.Finite.and_one _ _ h
  obtain ⟨h, h2⟩ := Wkv.Finite.and_one _ _ h
  obtain ⟨h0, h1⟩ := Wkv.Finite.and_one _ _ h
  haveI : Subsingleton S_.Idx := ⟨fun a b => funext fun k => k.elim0⟩
  exact ⟨fun i => real_of (Host.reduce_andi_all _ _ _ _ j h0 i), fun i => real_of (Host.reduce_andi_all _ _ _ _ j h1 i),
    fun i => real_of (Host.reduce_andi_all _ _ _ _ j h2 i), fun i => real_of (Host.reduce_andi_all _ _ _ _ j h5 i)⟩

end Cert.Proof.Out.Finite

end
-- ==== Proof.Out.Value.lean ====
/- The output of the recurrence on the latents: kernel and reference end with the same array. -/
module

public import proofs.«01_k».proof.Proof.Out.Block
public import proofs.«01_k».proof.Proof.Out.Spec
public import proofs.«01_k».proof.Proof.Out.Finite
public import proofs.«01_k».proof.Defs
public import Idealize.ShloMosaic.Lib.Pointwise
public import Idealize.ShloMosaic.Lib.Claim

@[expose] public section

set_option maxRecDepth 16384

noncomputable section

namespace Cert.Proof.Out

open Idealize.ShloMosaic Idealize.ShloMosaic.TcCoe Idealize.SL.Sem

section
open Cert.Kernel4Ideal Cert.Kernel4Ideal.Gen

variable (m : (ℓ : Loc nD τ sig) → Buf (Elt Ideal) ℓ)

/-! ## The arrays the windows read -/

theorem v0_eq (c : Dev nD) : (V m c main_v0 : FVec Ideal S1024x1024 .bf16) = (truncf .bf16 (m ((c : Thread nD τ).loc main_arg8) : FVec Ideal S1024x1024 .f32) bitsLt_bf16_f32 : FVec Ideal S1024x1024 .bf16) := by
  unfold V
  simp only [hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem v1_eq (c : Dev nD) : (V m c main_v1 : FVec Ideal S16x1x1024 .f32) = shapeCast S16x1x1024 (m ((c : Thread nD τ).loc main_arg10) : FVec Ideal S16x1024 .f32) shapeCasts_S16x1024_S16x1x1024 := by
  unfold V
  simp only [hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem v2_eq (c : Dev nD) : (V m c main_v2 : FVec Ideal S1x1024 .f32) = shapeCast S1x1024 (m ((c : Thread nD τ).loc main_arg5) : FVec Ideal S16x64 .f32) shapeCasts_S16x64_S1x1024 := by
  unfold V
  simp only [hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem v3_eq (c : Dev nD) : (V m c main_v3 : FVec Ideal S1x1024 .f32) = shapeCast S1x1024 (m ((c : Thread nD τ).loc main_arg6) : FVec Ideal S1024 .f32) shapeCasts_S1024_S1x1024 := by
  unfold V
  simp only [hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem v4_eq (c : Dev nD) : (V m c main_v4 : FVec Ideal S1x1024 .f32) = shapeCast S1x1024 (m ((c : Thread nD τ).loc main_arg7) : FVec Ideal S1024 .f32) shapeCasts_S1024_S1x1024 := by
  unfold V
  simp only [hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem array0_apply (c : Dev nD) (e d : Fin 1024) : (V m c main_v0 : FVec Ideal S1024x1024 .bf16) (ix2 e d) = m ((c : Thread nD τ).loc main_arg8) (ix2 e d) := by
  refine (congrFun (v0_eq m c) _).trans ?_
  pointwise
theorem array1_apply (c : Dev nD) (b : Fin 16) (d : Fin 1024) : (V m c main_v1 : FVec Ideal S16x1x1024 .f32) (ix3 b 0 d) = m ((c : Thread nD τ).loc main_arg10) (ix2 b d) := by
  refine (congrFun (v1_eq m c) _).trans ?_
  pointwise
theorem array3_apply (c : Dev nD) (d : Fin 1024) : (V m c main_v3 : FVec Ideal S1x1024 .f32) (ix2 0 d) = m ((c : Thread nD τ).loc main_arg6) (ix1 d) := by
  refine (congrFun (v3_eq m c) _).trans ?_
  pointwise
theorem array4_apply (c : Dev nD) (d : Fin 1024) : (V m c main_v4 : FVec Ideal S1x1024 .f32) (ix2 0 d) = m ((c : Thread nD τ).loc main_arg7) (ix1 d) := by
  refine (congrFun (v4_eq m c) _).trans ?_
  pointwise
theorem array2_apply (c : Dev nD) (d : Fin 1024) : (V m c main_v2 : FVec Ideal S1x1024 .f32) (ix2 0 d) = m ((c : Thread nD τ).loc main_arg5) (ix2 (hd d) (ln d)) := by
  refine (congrFun (v2_eq m c) _).trans ?_
  refine Idealize.ShloMosaic.shapeCast_apply _ _ _ (ix2 (hd d) (ln d)) ?_
  rw [Shape.rowMajor_val_two, Shape.rowMajor_val_two]
  show d.val / 64 * 64 + d.val % 64 = 0 * 1024 + d.val
  omega

/-! ## The input blocks -/

theorem idx0 : ∀ t : Fin cfg0.N, win0_0.index t = ![t.val / 8, t.val % 8 + 1, 0] :=
  (by decide +kernel : ∀ t : Fin grid0.N, _)
theorem idx1 : ∀ t : Fin cfg0.N, win0_1.index t = ![t.val / 8, t.val % 8 + 1, 0] :=
  (by decide +kernel : ∀ t : Fin grid0.N, _)
theorem idx2 : ∀ t : Fin cfg0.N, win0_2.index t = ![0, t.val / 8, t.val % 8 + 1, 0] :=
  (by decide +kernel : ∀ t : Fin grid0.N, _)
theorem idx3 : ∀ t : Fin cfg0.N, win0_3.index t = ![t.val / 8, t.val % 8 + 1, 0] :=
  (by decide +kernel : ∀ t : Fin grid0.N, _)
theorem idx4 : ∀ t : Fin cfg0.N, win0_4.index t = ![t.val / 8, t.val % 8 + 1, 0] :=
  (by decide +kernel : ∀ t : Fin grid0.N, _)
theorem idx5 : ∀ t : Fin cfg0.N, win0_5.index t = ![0, 0] :=
  (by decide +kernel : ∀ t : Fin grid0.N, _)
theorem idx6 : ∀ t : Fin cfg0.N, win0_6.index t = ![0, 0] :=
  (by decide +kernel : ∀ t : Fin grid0.N, _)
theorem idx7 : ∀ t : Fin cfg0.N, win0_7.index t = ![0, 0] :=
  (by decide +kernel : ∀ t : Fin grid0.N, _)
theorem idx8 : ∀ t : Fin cfg0.N, win0_8.index t = ![0, 0] :=
  (by decide +kernel : ∀ t : Fin grid0.N, _)
theorem idx9 : ∀ t : Fin cfg0.N, win0_9.index t = ![t.val / 8, t.val % 8, 0] :=
  (by decide +kernel : ∀ t : Fin grid0.N, _)
theorem idx10 : ∀ t : Fin cfg0.N, win0_10.index t = ![t.val / 8, 0, 0] :=
  (by decide +kernel : ∀ t : Fin grid0.N, _)
theorem idx11 : ∀ t : Fin cfg0.N, win0_11.index t = ![t.val / 8, t.val % 8, 0] :=
  (by decide +kernel : ∀ t : Fin grid0.N, _)
theorem flush_out : ∀ t : Fin cfg0.N, (cfg0.win 11).flush t = true :=
  (by decide +kernel : ∀ t : Fin grid0.N, _)

/-- The sample of a point, and a position of its block among the latents. -/
abbrev smp (t : Fin cfg0.N) : Fin 16 := ⟨t.val / 8, by have := lt_of_lt_of_eq t.isLt N_0; omega⟩
abbrev pos (t : Fin cfg0.N) (p : Fin 256) : Fin 2048 := ⟨t.val % 8 * 256 + p.val, by have := p.isLt; omega⟩

theorem block0_apply (c : Dev nD) (t : Fin cfg0.N) (p : Fin 256) (d : Fin 1024) :
    iblk m c 0 t (ix3 0 p d) = V m c main_arg0 (ix3 (smp t) (tok (pos t p)) d) := by
  show V m c main_arg0 (((cfg0.win 0).blk t).view.emb (ix3 0 p d)) = _
  congr 1
  funext a
  apply Fin.ext
  match a with
  | ⟨0, _⟩ => show win0_0.index t (0 : Fin 3) * 1 + 1 * 0 = _; rw [idx0]; show (t.val / 8) * 1 + 1 * 0 = t.val / 8; omega
  | ⟨1, _⟩ => show win0_0.index t (1 : Fin 3) * 256 + 1 * p.val = _; rw [idx0]; show (t.val % 8 + 1) * 256 + 1 * p.val = 256 + (t.val % 8 * 256 + p.val); omega
  | ⟨2, _⟩ => show win0_0.index t (2 : Fin 3) * 1024 + 1 * d.val = _; rw [idx0]; show 0 * 1024 + 1 * d.val = d.val; omega

theorem block1_apply (c : Dev nD) (t : Fin cfg0.N) (p : Fin 256) (d : Fin 1024) :
    iblk m c 1 t (ix3 0 p d) = V m c main_arg1 (ix3 (smp t) (tok (pos t p)) d) := by
  show V m c main_arg1 (((cfg0.win 1).blk t).view.emb (ix3 0 p d)) = _
  congr 1
  funext a
  apply Fin.ext
  match a with
  | ⟨0, _⟩ => show win0_1.index t (0 : Fin 3) * 1 + 1 * 0 = _; rw [idx1]; show (t.val / 8) * 1 + 1 * 0 = t.val / 8; omega
  | ⟨1, _⟩ => show win0_1.index t (1 : Fin 3) * 256 + 1 * p.val = _; rw [idx1]; show (t.val % 8 + 1) * 256 + 1 * p.val = 256 + (t.val % 8 * 256 + p.val); omega
  | ⟨2, _⟩ => show win0_1.index t (2 : Fin 3) * 1024 + 1 * d.val = _; rw [idx1]; show 0 * 1024 + 1 * d.val = d.val; omega

theorem block3_apply (c : Dev nD) (t : Fin cfg0.N) (p : Fin 256) (d : Fin 1024) :
    iblk m c 3 t (ix3 0 p d) = V m c main_arg3 (ix3 (smp t) (tok (pos t p)) d) := by
  show V m c main_arg3 (((cfg0.win 3).blk t).view.emb (ix3 0 p d)) = _
  congr 1
  funext a
  apply Fin.ext
  match a with
  | ⟨0, _⟩ => show win0_3.index t (0 : Fin 3) * 1 + 1 * 0 = _; rw [idx3]; show (t.val / 8) * 1 + 1 * 0 = t.val / 8; omega
  | ⟨1, _⟩ => show win0_3.index t (1 : Fin 3) * 256 + 1 * p.val = _; rw [idx3]; show (t.val % 8 + 1) * 256 + 1 * p.val = 256 + (t.val % 8 * 256 + p.val); omega
  | ⟨2, _⟩ => show win0_3.index t (2 : Fin 3) * 1024 + 1 * d.val = _; rw [idx3]; show 0 * 1024 + 1 * d.val = d.val; omega

theorem block4_apply (c : Dev nD) (t : Fin cfg0.N) (p : Fin 256) (d : Fin 1024) :
    iblk m c 4 t (ix3 0 p d) = V m c main_arg4 (ix3 (smp t) (tok (pos t p)) d) := by
  show V m c main_arg4 (((cfg0.win 4).blk t).view.emb (ix3 0 p d)) = _
  congr 1
  funext a
  apply Fin.ext
  match a with
  | ⟨0, _⟩ => show win0_4.index t (0 : Fin 3) * 1 + 1 * 0 = _; rw [idx4]; show (t.val / 8) * 1 + 1 * 0 = t.val / 8; omega
  | ⟨1, _⟩ => show win0_4.index t (1 : Fin 3) * 256 + 1 * p.val = _; rw [idx4]; show (t.val % 8 + 1) * 256 + 1 * p.val = 256 + (t.val % 8 * 256 + p.val); omega
  | ⟨2, _⟩ => show win0_4.index t (2 : Fin 3) * 1024 + 1 * d.val = _; rw [idx4]; show 0 * 1024 + 1 * d.val = d.val; omega

theorem block2_apply (c : Dev nD) (t : Fin cfg0.N) (u : Fin 2) (p : Fin 256) (d : Fin 1024) :
    iblk m c 2 t (ix4 u 0 p d) = V m c main_arg2 (ix4 u (smp t) (tok (pos t p)) d) := by
  show V m c main_arg2 (((cfg0.win 2).blk t).view.emb (ix4 u 0 p d)) = _
  congr 1
  funext a
  apply Fin.ext
  match a with
  | ⟨0, _⟩ => show win0_2.index t (0 : Fin 4) * 2 + 1 * u.val = _; rw [idx2]; show 0 * 2 + 1 * u.val = u.val; omega
  | ⟨1, _⟩ => show win0_2.index t (1 : Fin 4) * 1 + 1 * 0 = _; rw [idx2]; show (t.val / 8) * 1 + 1 * 0 = t.val / 8; omega
  | ⟨2, _⟩ => show win0_2.index t (2 : Fin 4) * 256 + 1 * p.val = _; rw [idx2]; show (t.val % 8 + 1) * 256 + 1 * p.val = 256 + (t.val % 8 * 256 + p.val); omega
  | ⟨3, _⟩ => show win0_2.index t (3 : Fin 4) * 1024 + 1 * d.val = _; rw [idx2]; show 0 * 1024 + 1 * d.val = d.val; omega

theorem block5_apply (c : Dev nD) (t : Fin cfg0.N) (d : Fin 1024) :
    iblk m c 5 t (ix2 0 d) = V m c main_v2 (ix2 0 d) := by
  show V m c main_v2 (((cfg0.win 5).blk t).view.emb (ix2 0 d)) = _
  congr 1
  funext a
  apply Fin.ext
  match a with
  | ⟨0, _⟩ => show win0_5.index t (0 : Fin 2) * 1 + 1 * 0 = _; rw [idx5]; show 0 * 1 + 1 * 0 = 0; omega
  | ⟨1, _⟩ => show win0_5.index t (1 : Fin 2) * 1024 + 1 * d.val = _; rw [idx5]; show 0 * 1024 + 1 * d.val = d.val; omega

theorem block6_apply (c : Dev nD) (t : Fin cfg0.N) (d : Fin 1024) :
    iblk m c 6 t (ix2 0 d) = V m c main_v3 (ix2 0 d) := by
  show V m c main_v3 (((cfg0.win 6).blk t).view.emb (ix2 0 d)) = _
  congr 1
  funext a
  apply Fin.ext
  match a with
  | ⟨0, _⟩ => show win0_6.index t (0 : Fin 2) * 1 + 1 * 0 = _; rw [idx6]; show 0 * 1 + 1 * 0 = 0; omega
  | ⟨1, _⟩ => show win0_6.index t (1 : Fin 2) * 1024 + 1 * d.val = _; rw [idx6]; show 0 * 1024 + 1 * d.val = d.val; omega

theorem block7_apply (c : Dev nD) (t : Fin cfg0.N) (d : Fin 1024) :
    iblk m c 7 t (ix2 0 d) = V m c main_v4 (ix2 0 d) := by
  show V m c main_v4 (((cfg0.win 7).blk t).view.emb (ix2 0 d)) = _
  congr 1
  funext a
  apply Fin.ext
  match a with
  | ⟨0, _⟩ => show win0_7.index t (0 : Fin 2) * 1 + 1 * 0 = _; rw [idx7]; show 0 * 1 + 1 * 0 = 0; omega
  | ⟨1, _⟩ => show win0_7.index t (1 : Fin 2) * 1024 + 1 * d.val = _; rw [idx7]; show 0 * 1024 + 1 * d.val = d.val; omega

theorem block8_apply (c : Dev nD) (t : Fin cfg0.N) (e d : Fin 1024) :
    iblk m c 8 t (ix2 e d) = V m c main_v0 (ix2 e d) := by
  show V m c main_v0 (((cfg0.win 8).blk t).view.emb (ix2 e d)) = _
  congr 1
  funext a
  apply Fin.ext
  match a with
  | ⟨0, _⟩ => show win0_8.index t (0 : Fin 2) * 1024 + 1 * e.val = _; rw [idx8]; show 0 * 1024 + 1 * e.val = e.val; omega
  | ⟨1, _⟩ => show win0_8.index t (1 : Fin 2) * 1024 + 1 * d.val = _; rw [idx8]; show 0 * 1024 + 1 * d.val = d.val; omega

theorem block9_apply (c : Dev nD) (t : Fin cfg0.N) (p : Fin 256) (d : Fin 1024) :
    iblk m c 9 t (ix3 0 p d) = V m c main_arg9 (ix3 (smp t) (pos t p) d) := by
  show V m c main_arg9 (((cfg0.win 9).blk t).view.emb (ix3 0 p d)) = _
  congr 1
  funext a
  apply Fin.ext
  match a with
  | ⟨0, _⟩ => show win0_9.index t (0 : Fin 3) * 1 + 1 * 0 = _; rw [idx9]; show (t.val / 8) * 1 + 1 * 0 = t.val / 8; omega
  | ⟨1, _⟩ => show win0_9.index t (1 : Fin 3) * 256 + 1 * p.val = _; rw [idx9]; show (t.val % 8) * 256 + 1 * p.val = t.val % 8 * 256 + p.val; omega
  | ⟨2, _⟩ => show win0_9.index t (2 : Fin 3) * 1024 + 1 * d.val = _; rw [idx9]; show 0 * 1024 + 1 * d.val = d.val; omega

theorem block10_apply (c : Dev nD) (t : Fin cfg0.N) (d : Fin 1024) :
    iblk m c 10 t (ix3 0 0 d) = V m c main_v1 (ix3 (smp t) 0 d) := by
  show V m c main_v1 (((cfg0.win 10).blk t).view.emb (ix3 0 0 d)) = _
  congr 1
  funext a
  apply Fin.ext
  match a with
  | ⟨0, _⟩ => show win0_10.index t (0 : Fin 3) * 1 + 1 * 0 = _; rw [idx10]; show (t.val / 8) * 1 + 1 * 0 = t.val / 8; omega
  | ⟨1, _⟩ => show win0_10.index t (1 : Fin 3) * 1 + 1 * 0 = _; rw [idx10]; show 0 * 1 + 1 * 0 = 0; omega
  | ⟨2, _⟩ => show win0_10.index t (2 : Fin 3) * 1024 + 1 * d.val = _; rw [idx10]; show 0 * 1024 + 1 * d.val = d.val; omega

/-- The kernel's array at an index. -/
theorem kernel_entry (c : Dev nD) (hy : ∀ i, IsReal (m ((c : Thread nD τ).loc main_arg0) i)) (hr : ∀ i, IsReal (m ((c : Thread nD τ).loc main_arg1) i)) (hk : ∀ i, IsReal (m ((c : Thread nD τ).loc main_arg2) i)) (hq : ∀ i, IsReal (m ((c : Thread nD τ).loc main_arg5) i))
    (b : Fin 16) (s : Fin 2048) (d : Fin 1024) :
    ((dats m 0 c).arrAt 11 cfg0.N : FVec Ideal S16x2048x1024 .f32) (ix3 b s d)
      = entry (m ((c : Thread nD τ).loc main_arg9) (ix3 b s d)) (m ((c : Thread nD τ).loc main_arg10) (ix2 b d)) (fun e => m ((c : Thread nD τ).loc main_arg0) (ix3 b (tok s) e)) (fun e => m ((c : Thread nD τ).loc main_arg1) (ix3 b (tok s) e))
          (fun e => m ((c : Thread nD τ).loc main_arg2) (ix4 0 b (tok s) e)) (fun e => m ((c : Thread nD τ).loc main_arg2) (ix4 1 b (tok s) e)) (fun e => m ((c : Thread nD τ).loc main_arg5) (ix2 (hd e) (ln e)))
          (fun e => m ((c : Thread nD τ).loc main_arg3) (ix3 b (tok s) e)) (fun e => m ((c : Thread nD τ).loc main_arg4) (ix3 b (tok s) e)) (fun e => m ((c : Thread nD τ).loc main_arg6) (ix1 e)) (fun e => m ((c : Thread nD τ).loc main_arg7) (ix1 e))
          (fun e => m ((c : Thread nD τ).loc main_arg8) (ix2 e d)) := by
  have hb' := b.isLt
  have hs' := s.isLt
  have hN : b.val * 8 + s.val / 256 < cfg0.N := lt_of_lt_of_eq (by omega) N_0.symm
  obtain ⟨t, ht⟩ : ∃ t : Fin cfg0.N, t.val = b.val * 8 + s.val / 256 := ⟨⟨_, hN⟩, rfl⟩
  obtain ⟨p, hp⟩ : ∃ p : Fin 256, p.val = s.val % 256 := ⟨⟨s.val % 256, by omega⟩, rfl⟩
  have hbt : smp t = b := Fin.ext (show t.val / 8 = b.val by omega)
  have hst : pos t p = s := Fin.ext (show t.val % 8 * 256 + p.val = s.val by omega)
  have hb := congrFun (Cert.Kernel4Ideal.Value.blocks11 m c t (flush_out _)) (ix3 0 p d)
  rw [Cert.Kernel4Ideal.Value.flushed11] at hb
  have he : ((cfg0.win 11).blk t).view.emb (ix3 0 p d) = ix3 b s d := by
    funext a
    apply Fin.ext
    match a with
    | ⟨0, _⟩ => show win0_11.index t (0 : Fin 3) * 1 + 1 * 0 = _; rw [idx11]; show t.val / 8 * 1 + 1 * 0 = b.val; omega
    | ⟨1, _⟩ => show win0_11.index t (1 : Fin 3) * 256 + 1 * p.val = _; rw [idx11]; show t.val % 8 * 256 + 1 * p.val = s.val; omega
    | ⟨2, _⟩ => show win0_11.index t (2 : Fin 3) * 1024 + 1 * d.val = _; rw [idx11]; show 0 * 1024 + 1 * d.val = d.val; omega
  refine (congrArg _ he.symm).trans (hb.trans ?_)
  subst hbt
  subst hst
  have e0 := fun e => (block0_apply m c t p e).trans (congrFun (V_main_arg0 m c) _)
  have e1 := fun e => (block1_apply m c t p e).trans (congrFun (V_main_arg1 m c) _)
  have e2 := fun u e => (block2_apply m c t u p e).trans (congrFun (V_main_arg2 m c) _)
  have e5 := fun e => (block5_apply m c t e).trans (array2_apply m c e)
  refine (block_entry _ _ _ _ _ _ _ _ _ _ _ p d (fun e => (e0 e).symm ▸ hy _) (fun e => (e1 e).symm ▸ hr _) (fun e => (e2 0 e).symm ▸ hk _)
    (fun e => (e2 1 e).symm ▸ hk _) (fun e => (e5 e).symm ▸ hq _)).trans ?_
  exact entry_congr ((block9_apply m c t p d).trans (congrFun (V_main_arg9 m c) _)) ((block10_apply m c t d).trans (array1_apply m c _ d)) e0 e1 (e2 0) (e2 1) e5
    (fun e => (block3_apply m c t p e).trans (congrFun (V_main_arg3 m c) _)) (fun e => (block4_apply m c t p e).trans (congrFun (V_main_arg4 m c) _))
    (fun e => (block6_apply m c t e).trans (array3_apply m c e)) (fun e => (block7_apply m c t e).trans (array4_apply m c e)) (fun e => (block8_apply m c t e d).trans (array0_apply m c e d))

end

attribute [local instance] Finite.facts

/-- On agreeing arguments, those the head sums read real, kernel and reference end with the same array. -/
theorem algebraic : Cert.algebraic_Kernel4Ideal_Reference4Ideal_pre_finite4 := by
  intro m ρ m' ρ' hpre hagree
  refine ⟨fun c => (Cert.Kernel4Ideal.Gen.dats m 0 c).arrAt 11 Cert.Kernel4Ideal.cfg0.N, Cert.Kernel4Ideal.Value.run_blocks (F := Ideal) m ρ, ?_⟩
  refine (θ_run Cert.Reference4Ideal.defs _ _).mono (fun _ h c => ?_) (Cert.Reference4Ideal.Value.run (F := Ideal) m' ρ')
  obtain rfl : c = 0 := Subsingleton.elim _ _
  obtain ⟨e0, e1, e2, e3, e4, e5, e6, e7, e8, e9, e10⟩ := hagree 0
  obtain ⟨hy, hr, hk, hq⟩ := Finite.all _ _ _ _ _ _ _ _ _ _ _ (fun k => k.elim0) (congrFun (hpre 0) _)
  refine ⟨(h 0).1.trans ?_, (h 0).2⟩
  refine funext fun (i : Cert.Kernel4Ideal.S16x2048x1024.Idx) => ?_
  rw [eq_ix3 i]
  refine (array_entry _ _ _ _ _ _ _ _ _ _ _ _ _ _).trans ?_
  refine Eq.trans ?_ (kernel_entry m 0 hy hr hk hq _ _ _).symm
  rw [e0, e1, e2, e3, e4, e5, e6, e7, e8, e9, e10]

end Cert.Proof.Out

end
-- ==== Proof.Fourier.ChanSpec.lean ====
/- What the Fourier mixer's first call computes: the modulated norm of a row and the transform over the channels of a group. -/
module

public import proofs.«01_k».proof.Proof.Gen.Reference5Ideal.Run
public import proofs.«01_k».proof.Defs
public import Idealize.ShloMosaic.Lib.Pointwise
public import Idealize.ShloMosaic.Lib.Claim

@[expose] public section

set_option maxRecDepth 16384

noncomputable section

namespace Cert.Proof.Fourier.Chan

open Idealize.ShloMosaic Idealize.ShloMosaic.TcCoe Idealize.SL.Sem

/-- One channel of a row, normed and modulated: the row `x`, the norm's weight, the scale and the shift. -/
def modulated (x : Fin 1024 → EReal) (g sc sh : EReal) (d : Fin 1024) : EReal :=
  x d * Ideal.rsqrt (Ideal.div (∑ e, x e * x e) (Ideal.ofBits .f32 0x44800000#32) + Ideal.ofBits .f32 0x358637BD#32) * g * (1 + sc) + sh

theorem modulated_congr {x x' : Fin 1024 → EReal} {g g' sc sc' sh sh' : EReal} (hx : ∀ e, x e = x' e) (hg : g = g') (hc : sc = sc') (hh : sh = sh') (d : Fin 1024) :
    modulated x g sc sh d = modulated x' g' sc' sh' d := by
  rw [funext hx, hg, hc, hh]

/-- A channel's place in its group of 256. -/
abbrev grp (d : Fin 1024) : Fin 4 := ⟨d.val / 256, by have := d.isLt; omega⟩
abbrev lane (d : Fin 1024) : Fin 256 := ⟨d.val % 256, by omega⟩
/-- A channel from its group and its place there. -/
abbrev chn (q : Fin 4) (r : Fin 256) : Fin 1024 := ⟨q.val * 256 + r.val, by have := q.isLt; have := r.isLt; omega⟩

/-- The norm of the transform, the square root of its number of points. -/
def root : EReal := Ideal.sqrt (Ideal.ofBits .f32 0x49000000#32)

/-- One entry of the transform: a group's channels `h` against the weights `w`, over the norm. -/
def entry (h w : Fin 256 → EReal) : EReal := Ideal.div (∑ r, h r * w r) root

theorem root_real : ∃ s : ℝ, 0 < s ∧ root = (s : EReal) := by
  have hN : Ideal.ofBits .f32 0x49000000#32 = ((524288 : ℝ) : EReal) := by
    simp [Ideal.ofBits, Ideal.ieee, -EReal.coe_mul]
    norm_num
  refine ⟨Real.sqrt 524288, Real.sqrt_pos.mpr (by norm_num), ?_⟩
  unfold root
  rw [hN, Ideal.sqrt_coe, if_neg (by norm_num)]

/-- Scaling each weight is scaling the sum: the scale is a positive real. -/
theorem sum_scaled (h w : Fin 256 → EReal) : ∑ r, h r * (w r * Ideal.div 1 root) = entry h w := by
  unfold entry
  obtain ⟨s, hs, e⟩ := root_real
  rw [e, Ideal.div_coe hs.ne', Ideal.div_coe hs.ne', one_mul]
  have h0 : (0 : EReal) ≤ ((1 / s : ℝ) : EReal) := EReal.coe_nonneg.mpr (by positivity)
  have ht : ((1 / s : ℝ) : EReal) ≠ ⊤ := EReal.coe_ne_top _
  generalize ((1 / s : ℝ) : EReal) = q at h0 ht
  induction (Finset.univ : Finset (Fin 256)) using Finset.induction_on with
  | empty => simp
  | insert a S ha ih => rw [Finset.sum_insert ha, Finset.sum_insert ha, ih, EReal.right_distrib_of_nonneg_of_ne_top h0 ht, mul_assoc]

section
open Cert.Reference5Ideal Cert.Reference5Ideal.Gen

/-- The angles of the transform over the channels of a group. -/
def angle : FVec Ideal S256x256 .f32 :=
  (mulf (sitofp .f32 (select (andi (cmpi .ne (cmpi .slt (Host.remsi (muli (broadcastInDim S256x256 ![0, 1] bcast_S256x1_S256x256_0_1 (broadcastInDim S256x1 ![0] bcast_S256_S256x1_0 (iotaInDim S256 32 0))) (broadcastInDim S256x256 ![0, 1] bcast_S1x256_S256x256_0_1 (broadcastInDim S1x256 ![1] bcast_S256_S1x256_1 (iotaInDim S256 32 0)))) (broadcastInDim S256x256 ![] bcast_S_S256x256 (select (cmpi .eq (id (constantI S_ 32 256#32)) (constantI S_ 32 0#32)) (constantI S_ 32 1#32) (id (constantI S_ 32 256#32))))) (broadcastInDim S256x256 ![] bcast_S_S256x256 (constantI S_ 32 0#32))) (broadcastInDim S256x256 ![] bcast_S_S256x256 (cmpi .slt (select (cmpi .eq (id (constantI S_ 32 256#32)) (constantI S_ 32 0#32)) (constantI S_ 32 1#32) (id (constantI S_ 32 256#32))) (constantI S_ 32 0#32)))) (cmpi .ne (Host.remsi (muli (broadcastInDim S256x256 ![0, 1] bcast_S256x1_S256x256_0_1 (broadcastInDim S256x1 ![0] bcast_S256_S256x1_0 (iotaInDim S256 32 0))) (broadcastInDim S256x256 ![0, 1] bcast_S1x256_S256x256_0_1 (broadcastInDim S1x256 ![1] bcast_S256_S1x256_1 (iotaInDim S256 32 0)))) (broadcastInDim S256x256 ![] bcast_S_S256x256 (select (cmpi .eq (id (constantI S_ 32 256#32)) (constantI S_ 32 0#32)) (constantI S_ 32 1#32) (id (constantI S_ 32 256#32))))) (broadcastInDim S256x256 ![] bcast_S_S256x256 (constantI S_ 32 0#32)))) (addi (Host.remsi (muli (broadcastInDim S256x256 ![0, 1] bcast_S256x1_S256x256_0_1 (broadcastInDim S256x1 ![0] bcast_S256_S256x1_0 (iotaInDim S256 32 0))) (broadcastInDim S256x256 ![0, 1] bcast_S1x256_S256x256_0_1 (broadcastInDim S1x256 ![1] bcast_S256_S1x256_1 (iotaInDim S256 32 0)))) (broadcastInDim S256x256 ![] bcast_S_S256x256 (select (cmpi .eq (id (constantI S_ 32 256#32)) (constantI S_ 32 0#32)) (constantI S_ 32 1#32) (id (constantI S_ 32 256#32))))) (broadcastInDim S256x256 ![] bcast_S_S256x256 (select (cmpi .eq (id (constantI S_ 32 256#32)) (constantI S_ 32 0#32)) (constantI S_ 32 1#32) (id (constantI S_ 32 256#32))))) (Host.remsi (muli (broadcastInDim S256x256 ![0, 1] bcast_S256x1_S256x256_0_1 (broadcastInDim S256x1 ![0] bcast_S256_S256x1_0 (iotaInDim S256 32 0))) (broadcastInDim S256x256 ![0, 1] bcast_S1x256_S256x256_0_1 (broadcastInDim S1x256 ![1] bcast_S256_S1x256_1 (iotaInDim S256 32 0)))) (broadcastInDim S256x256 ![] bcast_S_S256x256 (select (cmpi .eq (id (constantI S_ 32 256#32)) (constantI S_ 32 0#32)) (constantI S_ 32 1#32) (id (constantI S_ 32 256#32))))))) (broadcastInDim S256x256 ![] bcast_S_S256x256 (constant S_ .f32 0x3CC90FDB#32)))

/-- The reference's modulated norm. -/
def normed (x : FVec Ideal S16x2048x1024 .f32) (g : FVec Ideal S1024 .f32) (sc sh : FVec Ideal S16x1024 .f32) : FVec Ideal S16x2048x1024 .f32 :=
  (addf (mulf (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) (broadcastInDim S16x2048x1024 ![0, 1, 2] bcast_S16x1x1024_S16x2048x1024_0_1_2 (addf (broadcastInDim S16x1x1024 ![] bcast_S_S16x1x1024 (constant S_ .f32 0x3F800000#32)) (broadcastInDim S16x1x1024 ![0, 2] bcast_S16x1024_S16x1x1024_0_2 sc)))) (broadcastInDim S16x2048x1024 ![0, 1, 2] bcast_S16x1x1024_S16x2048x1024_0_1_2 (broadcastInDim S16x1x1024 ![0, 2] bcast_S16x1024_S16x1x1024_0_2 sh)))

theorem normed_apply (x : FVec Ideal S16x2048x1024 .f32) (g : FVec Ideal S1024 .f32) (sc sh : FVec Ideal S16x1024 .f32) (b : Fin 16) (t : Fin 2048) (d : Fin 1024) :
    normed x g sc sh (ix3 b t d) = modulated (fun e => x (ix3 b t e)) (g (ix1 d)) (sc (ix2 b d)) (sh (ix2 b d)) d := by
  unfold modulated
  pointwise [normed]

theorem grouped (h : FVec Ideal S16x2048x1024 .f32) (b : Fin 16) (t : Fin 2048) (q : Fin 4) (r : Fin 256) :
    (shapeCast S16x2048x4x256 h shapeCasts_S16x2048x1024_S16x2048x4x256) (ix4 b t q r) = h (ix3 b t (chn q r)) := by
  refine Idealize.ShloMosaic.shapeCast_apply _ _ _ (ix3 b t (chn q r)) ?_
  rw [Shape.rowMajor_val_four, Shape.rowMajor_val_three]
  show (b.val * 2048 + t.val) * 1024 + (q.val * 256 + r.val) = ((b.val * 2048 + t.val) * 4 + q.val) * 256 + r.val
  omega

/-- The division by the norm, at an index. -/
theorem over_root (u : FVec Ideal S16x2x2048x1024 .f32) (b : Fin 16) (j : Fin 2) (t : Fin 2048) (d : Fin 1024) :
    (truncf .bf16 (Host.divf u (broadcastInDim S16x2x2048x1024 ![] bcast_S_S16x2x2048x1024 (Host.sqrt (constant S_ .f32 0x49000000#32)))) bitsLt_bf16_f32 : FVec Ideal S16x2x2048x1024 .bf16) (ix4 b j t d) = Ideal.div (u (ix4 b j t d)) root := by
  unfold root
  pointwise

/-- The two transforms of a group, one after the other. -/
theorem parts (θ : FVec Ideal S256x256 .f32) (z : FVec Ideal S16x2048x4x256 .f32) (b : Fin 16) (j : Fin 2) (t : Fin 2048) (q : Fin 4) (l : Fin 256) :
    ((concatenate S16x2x2048x4x256 1 [⟨S16x1x2048x4x256, (broadcastInDim S16x1x2048x4x256 ![0, 2, 3, 4] bcast_S16x2048x4x256_S16x1x2048x4x256_0_2_3_4 (Host.dotGeneral dot_S16x2048x4x256_S256x256_S16x2048x4x256_3_0_012_1_n_n none z (Host.cos θ)))⟩, ⟨S16x1x2048x4x256, (broadcastInDim S16x1x2048x4x256 ![0, 2, 3, 4] bcast_S16x2048x4x256_S16x1x2048x4x256_0_2_3_4 (Host.dotGeneral dot_S16x2048x4x256_S256x256_S16x2048x4x256_3_0_012_1_n_n none z (Host.sin θ)))⟩] concatenates_S16x1x2048x4x256_S16x1x2048x4x256_S16x2x2048x4x256_d1) : FVec Ideal S16x2x2048x4x256 .f32) (ix5 b j t q l)
      = ∑ r, z (ix4 b t q r) * (if j = 0 then Ideal.cos else Ideal.sin) (θ (ix2 r l)) := by
  match j with
  | ⟨0, _⟩ => pointwise
  | ⟨1, _⟩ => pointwise

/-- One entry of the reference's array: the part with the cosines, then the part with the sines. -/
theorem array_entry (θ : FVec Ideal S256x256 .f32) (h : FVec Ideal S16x2048x1024 .f32) (z : FVec Ideal S16x2048x4x256 .f32)
    (hz : z = shapeCast S16x2048x4x256 h shapeCasts_S16x2048x1024_S16x2048x4x256) (b : Fin 16) (j : Fin 2) (t : Fin 2048) (d : Fin 1024) :
    (truncf .bf16 (Host.divf (shapeCast S16x2x2048x1024 (concatenate S16x2x2048x4x256 1 [⟨S16x1x2048x4x256, (broadcastInDim S16x1x2048x4x256 ![0, 2, 3, 4] bcast_S16x2048x4x256_S16x1x2048x4x256_0_2_3_4 (Host.dotGeneral dot_S16x2048x4x256_S256x256_S16x2048x4x256_3_0_012_1_n_n none z (Host.cos θ)))⟩, ⟨S16x1x2048x4x256, (broadcastInDim S16x1x2048x4x256 ![0, 2, 3, 4] bcast_S16x2048x4x256_S16x1x2048x4x256_0_2_3_4 (Host.dotGeneral dot_S16x2048x4x256_S256x256_S16x2048x4x256_3_0_012_1_n_n none z (Host.sin θ)))⟩] concatenates_S16x1x2048x4x256_S16x1x2048x4x256_S16x2x2048x4x256_d1) shapeCasts_S16x2x2048x4x256_S16x2x2048x1024) (broadcastInDim S16x2x2048x1024 ![] bcast_S_S16x2x2048x1024 (Host.sqrt (constant S_ .f32 0x49000000#32)))) bitsLt_bf16_f32 : FVec Ideal S16x2x2048x1024 .bf16) (ix4 b j t d)
      = entry (fun r => h (ix3 b t (chn (grp d) r))) (fun r => (if j = 0 then Ideal.cos else Ideal.sin) (θ (ix2 r (lane d)))) := by
  have hz' : ∀ q r, z (ix4 b t q r) = h (ix3 b t (chn q r)) := fun q r => by rw [hz, grouped]
  clear hz
  have e : ∀ y : FVec Ideal S16x2x2048x4x256 .f32, (shapeCast S16x2x2048x1024 y shapeCasts_S16x2x2048x4x256_S16x2x2048x1024) (ix4 b j t d) = y (ix5 b j t (grp d) (lane d)) := by
    intro y
    refine Idealize.ShloMosaic.shapeCast_apply _ _ _ (ix5 b j t (grp d) (lane d)) ?_
    rw [Shape.rowMajor_val_five, Shape.rowMajor_val_four]
    show (((b.val * 2 + j.val) * 2048 + t.val) * 4 + d.val / 256) * 256 + d.val % 256 = ((b.val * 2 + j.val) * 2048 + t.val) * 1024 + d.val
    omega
  refine (over_root _ b j t d).trans (congrArg (fun v => Ideal.div v root) ?_)
  refine (e _).trans ((parts θ z b j t _ _).trans (Finset.sum_congr rfl fun r _ => ?_))
  rw [hz']

end

end Cert.Proof.Fourier.Chan

end
-- ==== Proof.Fourier.ChanBlock.lean ====
/- The block of the Fourier mixer's first call: its eight stores are pieces of one array. -/
module

public import proofs.«01_k».proof.Proof.Gen.Kernel5Ideal.Value
public import proofs.«01_k».proof.Proof.Fourier.ChanSpec
public import proofs.«01_k».proof.Defs
public import Idealize.ShloMosaic.Lib.Pointwise
public import Idealize.ShloMosaic.Lib.Claim
public import Idealize.ShloMosaic.Lib.Pipeline.ReadBack

@[expose] public section

set_option maxRecDepth 16384

noncomputable section

namespace Cert.Proof.Fourier.Chan

open Idealize.ShloMosaic Idealize.ShloMosaic.TcCoe Idealize.SL.Sem

open Cert.Kernel5Ideal Cert.Kernel5Ideal.Gen

theorem zero3 : (![0, 0, 0] : Fin 3 → Nat) = fun _ => 0 := funext fun a => by fin_cases a <;> rfl
theorem zero2 : (![0, 0] : Fin 2 → Nat) = fun _ => 0 := funext fun a => by fin_cases a <;> rfl

/-- A column of the weights from its part and its place there. -/
abbrev wcol (j : Fin 2) (r : Fin 256) : Fin 512 := ⟨j.val * 256 + r.val, by have := j.isLt; have := r.isLt; omega⟩

/-- An entry of the block: a group's channels of a row against a column of the weights. -/
def blockAt (h : FVec Ideal S512x1024 .f32) (w : FVec Ideal S256x512 .bf16) (j : Fin 2) (p : Fin 512) (d : Fin 1024) : EReal :=
  ∑ c, h (ix2 p (chn (grp d) c)) * w (ix2 c (wcol j (lane d)))
/-- The block, at an index. -/
def block (h : FVec Ideal S512x1024 .f32) (w : FVec Ideal S256x512 .bf16) : Vec Ideal S1x2x512x1024 .bf16 := fun i => blockAt h w (i 1) (i 2) (i 3)

theorem inb (j : Fin 2) (q : Fin 4) : ∀ a, (![0, j.val, 0, 256 * q.val] : Fin 4 → Nat) a + S1x1x512x256.size a ≤ S1x2x512x1024.size a := by
  revert j q; decide

/-- A store is its piece of the block. -/
theorem piece (h : FVec Ideal S512x1024 .f32) (w : FVec Ideal S256x512 .bf16) (j : Fin 2) (q : Fin 4) (y : Vec Ideal S1x1x512x256 .bf16)
    (hy : ∀ p r, y (ix4 0 0 p r) = ∑ c, h (ix2 p (chn q c)) * w (ix2 c (wcol j r))) (x : S1x1x512x256.Idx) :
    y x = block h w ((Rect.unit (s := S1x2x512x1024) ![0, j.val, 0, 256 * q.val] S1x1x512x256.size (inb j q)).emb x) := by
  obtain ⟨p, r, rfl⟩ : ∃ (p : Fin 512) (r : Fin 256), x = ix4 0 0 p r :=
    ⟨x 2, x 3, funext fun a => by
      match a with
      | ⟨0, _⟩ => exact Subsingleton.elim (α := Fin 1) _ _
      | ⟨1, _⟩ => exact Subsingleton.elim (α := Fin 1) _ _
      | ⟨2, _⟩ => rfl
      | ⟨3, _⟩ => rfl⟩
  have e1 : @Eq (Fin 2) ((Rect.unit (s := S1x2x512x1024) ![0, j.val, 0, 256 * q.val] S1x1x512x256.size (inb j q)).emb (ix4 0 0 p r) 1) j :=
    Fin.ext (by show j.val + 1 * 0 = _; omega)
  have e2 : @Eq (Fin 512) ((Rect.unit (s := S1x2x512x1024) ![0, j.val, 0, 256 * q.val] S1x1x512x256.size (inb j q)).emb (ix4 0 0 p r) 2) p :=
    Fin.ext (by show 0 + 1 * p.val = _; omega)
  have e3 : @Eq (Fin 1024) ((Rect.unit (s := S1x2x512x1024) ![0, j.val, 0, 256 * q.val] S1x1x512x256.size (inb j q)).emb (ix4 0 0 p r) 3) (chn q r) :=
    Fin.ext (by show 256 * q.val + 1 * r.val = q.val * 256 + r.val; omega)
  refine Eq.trans ?_ (congr (congrArg₂ (blockAt h w) e1 e2) e3).symm
  have f1 : grp (chn q r) = q := Fin.ext (by show (q.val * 256 + r.val) / 256 = q.val; have := r.isLt; omega)
  have f2 : lane (chn q r) = r := Fin.ext (by show (q.val * 256 + r.val) % 256 = r.val; have := r.isLt; omega)
  unfold blockAt
  rw [f1, f2, hy]

theorem store00 (v0 : Vec Ideal S1x512x1024 .f32) (v2 : Vec Ideal S1x1024 .f32) (v4 v6 : Vec Ideal S1x1x1024 .f32) (w : Vec Ideal S256x512 .bf16) (p : Fin 512) (r : Fin 256) :
    k0_pay7 v0 v2 v4 v6 w (ix4 0 0 p r) = ∑ c, (k0_pay4 v0 v2 v4 v6) (ix2 p (chn 0 c)) * w (ix2 c (wcol 0 r)) := by
  unfold k0_pay7 k0_pay6
  generalize k0_pay4 v0 v2 v4 v6 = h
  pointwise [k0_pay5]
  refine Finset.sum_congr rfl fun c _ => ?_
  congr 3 <;> exact Fin.ext (by show _ = _; simp)

theorem store10 (v0 : Vec Ideal S1x512x1024 .f32) (v2 : Vec Ideal S1x1024 .f32) (v4 v6 : Vec Ideal S1x1x1024 .f32) (w : Vec Ideal S256x512 .bf16) (p : Fin 512) (r : Fin 256) :
    k0_pay8 (k0_pay6 v0 v2 v4 v6 w) (ix4 0 0 p r) = ∑ c, (k0_pay4 v0 v2 v4 v6) (ix2 p (chn 0 c)) * w (ix2 c (wcol 1 r)) := by
  unfold k0_pay8 k0_pay6
  generalize k0_pay4 v0 v2 v4 v6 = h
  pointwise [k0_pay5]
  refine Finset.sum_congr rfl fun c _ => ?_
  congr 3 <;> exact Fin.ext (by show _ = _; simp)

theorem store01 (h : FVec Ideal S512x1024 .f32) (w : FVec Ideal S256x512 .bf16) (p : Fin 512) (r : Fin 256) :
    k0_pay10 h w (ix4 0 0 p r) = ∑ c, (h) (ix2 p (chn 1 c)) * w (ix2 c (wcol 0 r)) := by
  pointwise [k0_pay10, k0_pay9]
  refine Finset.sum_congr rfl fun c _ => ?_
  congr 3 <;> exact Fin.ext (by show _ = _; simp)

theorem store11 (h : FVec Ideal S512x1024 .f32) (w : FVec Ideal S256x512 .bf16) (p : Fin 512) (r : Fin 256) :
    k0_pay11 h w (ix4 0 0 p r) = ∑ c, (h) (ix2 p (chn 1 c)) * w (ix2 c (wcol 1 r)) := by
  pointwise [k0_pay11, k0_pay9]
  refine Finset.sum_congr rfl fun c _ => ?_
  congr 3 <;> exact Fin.ext (by show _ = _; simp)

theorem store02 (h : FVec Ideal S512x1024 .f32) (w : FVec Ideal S256x512 .bf16) (p : Fin 512) (r : Fin 256) :
    k0_pay13 h w (ix4 0 0 p r) = ∑ c, (h) (ix2 p (chn 2 c)) * w (ix2 c (wcol 0 r)) := by
  pointwise [k0_pay13, k0_pay12]
  refine Finset.sum_congr rfl fun c _ => ?_
  congr 3 <;> exact Fin.ext (by show _ = _; simp)

theorem store12 (h : FVec Ideal S512x1024 .f32) (w : FVec Ideal S256x512 .bf16) (p : Fin 512) (r : Fin 256) :
    k0_pay14 h w (ix4 0 0 p r) = ∑ c, (h) (ix2 p (chn 2 c)) * w (ix2 c (wcol 1 r)) := by
  pointwise [k0_pay14, k0_pay12]
  refine Finset.sum_congr rfl fun c _ => ?_
  congr 3 <;> exact Fin.ext (by show _ = _; simp)

theorem store03 (h : FVec Ideal S512x1024 .f32) (w : FVec Ideal S256x512 .bf16) (p : Fin 512) (r : Fin 256) :
    k0_pay2 w (k0_pay15 h) (ix4 0 0 p r) = ∑ c, (h) (ix2 p (chn 3 c)) * w (ix2 c (wcol 0 r)) := by
  pointwise [k0_pay2, k0_pay1, k0_pay15]
  refine Finset.sum_congr rfl fun c _ => ?_
  congr 3 <;> exact Fin.ext (by show _ = _; simp)

theorem store13 (h : FVec Ideal S512x1024 .f32) (w : FVec Ideal S256x512 .bf16) (p : Fin 512) (r : Fin 256) :
    k0_pay3 w (k0_pay15 h) (ix4 0 0 p r) = ∑ c, (h) (ix2 p (chn 3 c)) * w (ix2 c (wcol 1 r)) := by
  pointwise [k0_pay3, k0_pay1, k0_pay15]
  refine Finset.sum_congr rfl fun c _ => ?_
  congr 3 <;> exact Fin.ext (by show _ = _; simp)

/-- The modulated norm of a row of the block. -/
theorem norm_apply (v0 : Vec Ideal S1x512x1024 .f32) (v2 : Vec Ideal S1x1024 .f32) (v4 v6 : Vec Ideal S1x1x1024 .f32) (p : Fin 512) (d : Fin 1024) :
    k0_pay4 v0 v2 v4 v6 (ix2 p d) = modulated (fun e => v0 (ix3 0 p e)) (v2 (ix2 0 d)) (v4 (ix3 0 0 d)) (v6 (ix3 0 0 d)) d := by
  unfold modulated
  pointwise [k0_pay4]

/-- The output block of a point. -/
theorem block_eq (x0 : Vec Ideal S1x512x1024 .f32) (x1 : Vec Ideal S1x1024 .f32) (x2 x3 : Vec Ideal S1x1x1024 .f32) (x4 : Vec Ideal S256x512 .bf16) :
    out0_5 x0 x1 x2 x3 x4 = block (k0_pay4 x0 x1 x2 x3) x4 := by
  have hw : k0_pay5 x4 = x4 := shapeCast_self _ _
  unfold_out out0_5
  rw [View.ld_unit_zero (S := S1x512x1024) zero3, View.ld_unit_zero (S := S1x1024) zero2, View.ld_unit_zero (S := S1x1x1024) zero3,
    View.ld_unit_zero (S := S1x1x1024) zero3, View.ld_unit_zero (S := S256x512) zero2, hw]
  funext y
  refine (congrArg (fun L => View.canon L y) (List.append_nil _).symm).trans
    (View.canon_append_of_piecesOf (block (k0_pay4 x0 x1 x2 x3) x4) [] _ ?_ y (cover0_5 _ _ _ _ _ _ _ _ y))
  exact ⟨piece _ _ 1 3 _ (store13 _ _), piece _ _ 0 3 _ (store03 _ _), piece _ _ 1 2 _ (store12 _ _), piece _ _ 0 2 _ (store02 _ _),
    piece _ _ 1 1 _ (store11 _ _), piece _ _ 0 1 _ (store01 _ _), piece _ _ 1 0 _ (store10 _ _ _ _ _), piece _ _ 0 0 _ (store00 _ _ _ _ _), trivial⟩

end Cert.Proof.Fourier.Chan

end
-- ==== Proof.Fourier.Chan.lean ====
/- The Fourier mixer's first call: the norm, its modulation and the transform over the channels of each group. -/
module

public import proofs.«01_k».proof.Proof.Fourier.ChanBlock
public import proofs.«01_k».proof.Defs
public import Idealize.ShloMosaic.Lib.Pointwise
public import Idealize.ShloMosaic.Lib.Claim

@[expose] public section

set_option maxRecDepth 16384

noncomputable section

namespace Cert.Proof.Fourier.Chan

open Idealize.ShloMosaic Idealize.ShloMosaic.TcCoe Idealize.SL.Sem

section
open Cert.Kernel5Ideal Cert.Kernel5Ideal.Gen

variable (m : (ℓ : Loc nD τ sig) → Buf (Elt Ideal) ℓ)

/-! ## The arrays the windows read -/

theorem v0_eq (c : Dev nD) : (V m c main_v0 : FVec Ideal S16x1x1024 .f32)
    = shapeCast S16x1x1024 (m ((c : Thread nD τ).loc main_arg2) : FVec Ideal S16x1024 .f32) shapeCasts_S16x1024_S16x1x1024 := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem v1_eq (c : Dev nD) : (V m c main_v1 : FVec Ideal S16x1x1024 .f32)
    = shapeCast S16x1x1024 (m ((c : Thread nD τ).loc main_arg3) : FVec Ideal S16x1024 .f32) shapeCasts_S16x1024_S16x1x1024 := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem v35_eq (c : Dev nD) : (V m c main_v35 : FVec Ideal S1x1024 .f32)
    = shapeCast S1x1024 (m ((c : Thread nD τ).loc main_arg1) : FVec Ideal S1024 .f32) shapeCasts_S1024_S1x1024 := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem v34_eq (c : Dev nD) : (V m c main_v34 : FVec Ideal S256x512 .bf16)
    = truncf .bf16 (mulf (concatenate S256x512 1 [⟨S256x256, Host.cos angle⟩, ⟨S256x256, Host.sin angle⟩] concatenates_S256x256_S256x256_S256x512_d1) (broadcastInDim S256x512 ![] bcast_S_S256x512 (Host.divf (constant S_ .f32 0x3F800000#32) (Host.sqrt (constant S_ .f32 0x49000000#32))))) bitsLt_bf16_f32 := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem v34_apply (c : Dev nD) (r l : Fin 256) (j : Fin 2) :
    (V m c main_v34 : FVec Ideal S256x512 .bf16) (ix2 r (wcol j l)) = (if j = 0 then Ideal.cos else Ideal.sin) (angle (ix2 r l)) * Ideal.div 1 root := by
  refine (congrFun (v34_eq m c) _).trans ?_
  generalize angle = θ
  unfold root
  match j with
  | ⟨0, _⟩ =>
    pointwise
  | ⟨1, _⟩ =>
    pointwise
theorem v35_apply (c : Dev nD) (d : Fin 1024) : (V m c main_v35 : FVec Ideal S1x1024 .f32) (ix2 0 d) = m ((c : Thread nD τ).loc main_arg1) (ix1 d) := by
  refine (congrFun (v35_eq m c) _).trans ?_
  pointwise
theorem v0_apply (c : Dev nD) (b : Fin 16) (d : Fin 1024) : (V m c main_v0 : FVec Ideal S16x1x1024 .f32) (ix3 b 0 d) = m ((c : Thread nD τ).loc main_arg2) (ix2 b d) := by
  refine (congrFun (v0_eq m c) _).trans ?_
  pointwise
theorem v1_apply (c : Dev nD) (b : Fin 16) (d : Fin 1024) : (V m c main_v1 : FVec Ideal S16x1x1024 .f32) (ix3 b 0 d) = m ((c : Thread nD τ).loc main_arg3) (ix2 b d) := by
  refine (congrFun (v1_eq m c) _).trans ?_
  pointwise

/-! ## The input blocks -/

theorem idx_x : ∀ t : Fin cfg0.N, win0_0.index t = ![t.val / 4, t.val % 4, 0] :=
  (by decide +kernel : ∀ t : Fin grid0.N, _)
theorem idx_g : ∀ t : Fin cfg0.N, win0_1.index t = ![0, 0] :=
  (by decide +kernel : ∀ t : Fin grid0.N, _)
theorem idx_c : ∀ t : Fin cfg0.N, win0_2.index t = ![t.val / 4, 0, 0] :=
  (by decide +kernel : ∀ t : Fin grid0.N, _)
theorem idx_h : ∀ t : Fin cfg0.N, win0_3.index t = ![t.val / 4, 0, 0] :=
  (by decide +kernel : ∀ t : Fin grid0.N, _)
theorem idx_w : ∀ t : Fin cfg0.N, win0_4.index t = ![0, 0] :=
  (by decide +kernel : ∀ t : Fin grid0.N, _)
theorem idx_out : ∀ t : Fin cfg0.N, win0_5.index t = ![t.val / 4, 0, t.val % 4, 0] :=
  (by decide +kernel : ∀ t : Fin grid0.N, _)
theorem flush_out : ∀ t : Fin cfg0.N, (cfg0.win 5).flush t = true :=
  (by decide +kernel : ∀ t : Fin grid0.N, _)

/-- The sample of a point, and a position of its block among all positions. -/
abbrev smp (t : Fin cfg0.N) : Fin 16 := ⟨t.val / 4, by have := lt_of_lt_of_eq t.isLt N_0; omega⟩
abbrev pos (t : Fin cfg0.N) (p : Fin 512) : Fin 2048 := ⟨t.val % 4 * 512 + p.val, by have := p.isLt; omega⟩

theorem x_apply (c : Dev nD) (t : Fin cfg0.N) (p : Fin 512) (d : Fin 1024) :
    iblk m c 0 t (ix3 0 p d) = V m c main_arg0 (ix3 (smp t) (pos t p) d) := by
  show V m c main_arg0 (((cfg0.win 0).blk t).view.emb (ix3 0 p d)) = _
  congr 1
  funext a
  apply Fin.ext
  match a with
  | ⟨0, _⟩ => show win0_0.index t (0 : Fin 3) * 1 + 1 * 0 = _; rw [idx_x]; show (t.val / 4) * 1 + 1 * 0 = t.val / 4; omega
  | ⟨1, _⟩ => show win0_0.index t (1 : Fin 3) * 512 + 1 * p.val = _; rw [idx_x]; show (t.val % 4) * 512 + 1 * p.val = t.val % 4 * 512 + p.val; omega
  | ⟨2, _⟩ => show win0_0.index t (2 : Fin 3) * 1024 + 1 * d.val = _; rw [idx_x]; show 0 * 1024 + 1 * d.val = d.val; omega

theorem g_apply (c : Dev nD) (t : Fin cfg0.N) (d : Fin 1024) :
    iblk m c 1 t (ix2 0 d) = V m c main_v35 (ix2 0 d) := by
  show V m c main_v35 (((cfg0.win 1).blk t).view.emb (ix2 0 d)) = _
  congr 1
  funext a
  apply Fin.ext
  match a with
  | ⟨0, _⟩ => show win0_1.index t (0 : Fin 2) * 1 + 1 * 0 = _; rw [idx_g]; show 0 * 1 + 1 * 0 = 0; omega
  | ⟨1, _⟩ => show win0_1.index t (1 : Fin 2) * 1024 + 1 * d.val = _; rw [idx_g]; show 0 * 1024 + 1 * d.val = d.val; omega

theorem c_apply (c : Dev nD) (t : Fin cfg0.N) (d : Fin 1024) :
    iblk m c 2 t (ix3 0 0 d) = V m c main_v0 (ix3 (smp t) 0 d) := by
  show V m c main_v0 (((cfg0.win 2).blk t).view.emb (ix3 0 0 d)) = _
  congr 1
  funext a
  apply Fin.ext
  match a with
  | ⟨0, _⟩ => show win0_2.index t (0 : Fin 3) * 1 + 1 * 0 = _; rw [idx_c]; show (t.val / 4) * 1 + 1 * 0 = t.val / 4; omega
  | ⟨1, _⟩ => show win0_2.index t (1 : Fin 3) * 1 + 1 * 0 = _; rw [idx_c]; show 0 * 1 + 1 * 0 = 0; omega
  | ⟨2, _⟩ => show win0_2.index t (2 : Fin 3) * 1024 + 1 * d.val = _; rw [idx_c]; show 0 * 1024 + 1 * d.val = d.val; omega

theorem h_apply (c : Dev nD) (t : Fin cfg0.N) (d : Fin 1024) :
    iblk m c 3 t (ix3 0 0 d) = V m c main_v1 (ix3 (smp t) 0 d) := by
  show V m c main_v1 (((cfg0.win 3).blk t).view.emb (ix3 0 0 d)) = _
  congr 1
  funext a
  apply Fin.ext
  match a with
  | ⟨0, _⟩ => show win0_3.index t (0 : Fin 3) * 1 + 1 * 0 = _; rw [idx_h]; show (t.val / 4) * 1 + 1 * 0 = t.val / 4; omega
  | ⟨1, _⟩ => show win0_3.index t (1 : Fin 3) * 1 + 1 * 0 = _; rw [idx_h]; show 0 * 1 + 1 * 0 = 0; omega
  | ⟨2, _⟩ => show win0_3.index t (2 : Fin 3) * 1024 + 1 * d.val = _; rw [idx_h]; show 0 * 1024 + 1 * d.val = d.val; omega

theorem w_apply (c : Dev nD) (t : Fin cfg0.N) (r : Fin 256) (l : Fin 512) :
    iblk m c 4 t (ix2 r l) = V m c main_v34 (ix2 r l) := by
  show V m c main_v34 (((cfg0.win 4).blk t).view.emb (ix2 r l)) = _
  congr 1
  funext a
  apply Fin.ext
  match a with
  | ⟨0, _⟩ => show win0_4.index t (0 : Fin 2) * 256 + 1 * r.val = _; rw [idx_w]; show 0 * 256 + 1 * r.val = r.val; omega
  | ⟨1, _⟩ => show win0_4.index t (1 : Fin 2) * 512 + 1 * l.val = _; rw [idx_w]; show 0 * 512 + 1 * l.val = l.val; omega

/-- The kernel's array at an index. -/
theorem kernel_entry (c : Dev nD) (b : Fin 16) (j : Fin 2) (s : Fin 2048) (d : Fin 1024) :
    ((dats m 0 c).arrAt 5 cfg0.N : FVec Ideal S16x2x2048x1024 .bf16) (ix4 b j s d)
      = entry (fun r => modulated (fun e => m ((c : Thread nD τ).loc main_arg0) (ix3 b s e)) (m ((c : Thread nD τ).loc main_arg1) (ix1 (chn (grp d) r)))
            (m ((c : Thread nD τ).loc main_arg2) (ix2 b (chn (grp d) r))) (m ((c : Thread nD τ).loc main_arg3) (ix2 b (chn (grp d) r))) (chn (grp d) r))
          (fun r => (if j = 0 then Ideal.cos else Ideal.sin) (angle (ix2 r (lane d)))) := by
  have hb' := b.isLt
  have hs' := s.isLt
  have hN : b.val * 4 + s.val / 512 < cfg0.N := lt_of_lt_of_eq (by omega) N_0.symm
  obtain ⟨t, ht⟩ : ∃ t : Fin cfg0.N, t.val = b.val * 4 + s.val / 512 := ⟨⟨_, hN⟩, rfl⟩
  obtain ⟨p, hp⟩ : ∃ p : Fin 512, p.val = s.val % 512 := ⟨⟨s.val % 512, by omega⟩, rfl⟩
  have hbt : smp t = b := Fin.ext (show t.val / 4 = b.val by omega)
  have hst : pos t p = s := Fin.ext (show t.val % 4 * 512 + p.val = s.val by omega)
  have hb := congrFun (Cert.Kernel5Ideal.Value.blocks5 m c t (flush_out _)) (ix4 0 j p d)
  rw [Cert.Kernel5Ideal.Value.flushed5, block_eq] at hb
  have he : ((cfg0.win 5).blk t).view.emb (ix4 0 j p d) = ix4 b j s d := by
    funext a
    apply Fin.ext
    match a with
    | ⟨0, _⟩ => show win0_5.index t (0 : Fin 4) * 1 + 1 * 0 = _; rw [idx_out]; show t.val / 4 * 1 + 1 * 0 = b.val; omega
    | ⟨1, _⟩ => show win0_5.index t (1 : Fin 4) * 2 + 1 * j.val = _; rw [idx_out]; show 0 * 2 + 1 * j.val = j.val; omega
    | ⟨2, _⟩ => show win0_5.index t (2 : Fin 4) * 512 + 1 * p.val = _; rw [idx_out]; show t.val % 4 * 512 + 1 * p.val = s.val; omega
    | ⟨3, _⟩ => show win0_5.index t (3 : Fin 4) * 1024 + 1 * d.val = _; rw [idx_out]; show 0 * 1024 + 1 * d.val = d.val; omega
  refine (congrArg _ he.symm).trans (hb.trans ?_)
  show blockAt _ _ j p d = _
  subst hbt
  subst hst
  refine Eq.trans (Finset.sum_congr rfl fun r _ => ?_) (sum_scaled _ _)
  refine congrArg₂ _ ((norm_apply _ _ _ _ _ _).trans ?_) ((w_apply m c t r _).trans (v34_apply m c r _ j))
  refine modulated_congr (fun e => (x_apply m c t p e).trans (congrFun (V_main_arg0 m c) _)) ((g_apply m c t _).trans (v35_apply m c _))
    ((c_apply m c t _).trans (v0_apply m c _ _)) ((h_apply m c t _).trans (v1_apply m c _ _)) _

end

/-- On agreeing arguments kernel and reference end with the same array. -/
theorem algebraic : Cert.algebraic_Kernel5Ideal_Reference5Ideal := by
  intro m ρ m' ρ' _ hagree
  refine ⟨fun c => (Cert.Kernel5Ideal.Gen.dats m 0 c).arrAt 5 Cert.Kernel5Ideal.cfg0.N, Cert.Kernel5Ideal.Value.run_blocks (F := Ideal) m ρ, ?_⟩
  refine (θ_run Cert.Reference5Ideal.defs _ _).mono (fun _ h c => ?_) (Cert.Reference5Ideal.Value.run (F := Ideal) m' ρ')
  obtain rfl : c = 0 := Subsingleton.elim _ _
  obtain ⟨e0, e1, e2, e3⟩ := hagree 0
  refine ⟨(h 0).1.trans ?_, (h 0).2⟩
  refine funext fun (i : Cert.Kernel5Ideal.S16x2x2048x1024.Idx) => ?_
  rw [eq_ix4 i]
  refine (array_entry angle (normed _ _ _ _) _ rfl _ _ _ _).trans ?_
  refine Eq.trans ?_ (kernel_entry m 0 _ _ _ _).symm
  refine (congrArg (fun h => entry h _) (funext fun r => normed_apply _ _ _ _ _ _ _)).trans ?_
  rw [e0, e1, e2, e3]

end Cert.Proof.Fourier.Chan

end
-- ==== Proof.Fourier.Time.lean ====
/- The Fourier mixer's second call: the transform over the positions, its projection and the residual it adds. -/
module

public import proofs.«01_k».proof.Proof.Gen.Kernel6Ideal.Value
public import proofs.«01_k».proof.Proof.Gen.Reference6Ideal.Run
public import proofs.«01_k».proof.Defs
public import Idealize.ShloMosaic.Lib.Pointwise
public import Idealize.ShloMosaic.Lib.Claim

@[expose] public section

set_option maxRecDepth 16384

noncomputable section

namespace Cert.Proof.Fourier.Time

open Idealize.ShloMosaic Idealize.ShloMosaic.TcCoe Idealize.SL.Sem

/-- One entry of the result: the residual's `x`, its gate, the spectrum's two parts `re` and `im` over positions and channels,
    the angles' cosines and minus sines of that position, a column of the projection and its bias. -/
def entry (x g bo : EReal) (cs ns : Fin 2048 → EReal) (re im : Fin 2048 → Fin 1024 → EReal) (wo : Fin 1024 → EReal) : EReal :=
  x + g * (∑ e, (∑ u, cs u * re u e + ∑ u, ns u * im u e) * wo e + bo)

theorem entry_congr {x x' g g' bo bo' : EReal} {cs cs' ns ns' : Fin 2048 → EReal} {re re' im im' : Fin 2048 → Fin 1024 → EReal} {wo wo' : Fin 1024 → EReal}
    (hx : x = x') (hg : g = g') (hb : bo = bo') (hc : ∀ u, cs u = cs' u) (hn : ∀ u, ns u = ns' u) (hr : ∀ u e, re u e = re' u e) (hi : ∀ u e, im u e = im' u e)
    (hw : ∀ e, wo e = wo' e) : entry x g bo cs ns re im wo = entry x' g' bo' cs' ns' re' im' wo' := by
  rw [hx, hg, hb, funext hc, funext hn, funext fun u => funext (hr u), funext fun u => funext (hi u), funext hw]

section
open Cert.Reference6Ideal Cert.Reference6Ideal.Gen

/-- The angles of the transform over the positions. -/
def angle : FVec Ideal S2048x2048 .f32 :=
  (mulf (sitofp .f32 (select (andi (cmpi .ne (cmpi .slt (Host.remsi (muli (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))) (broadcastInDim S2048x2048 ![] bcast_S_S2048x2048 (select (cmpi .eq (id (constantI S_ 32 2048#32)) (constantI S_ 32 0#32)) (constantI S_ 32 1#32) (id (constantI S_ 32 2048#32))))) (broadcastInDim S2048x2048 ![] bcast_S_S2048x2048 (constantI S_ 32 0#32))) (broadcastInDim S2048x2048 ![] bcast_S_S2048x2048 (cmpi .slt (select (cmpi .eq (id (constantI S_ 32 2048#32)) (constantI S_ 32 0#32)) (constantI S_ 32 1#32) (id (constantI S_ 32 2048#32))) (constantI S_ 32 0#32)))) (cmpi .ne (Host.remsi (muli (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))) (broadcastInDim S2048x2048 ![] bcast_S_S2048x2048 (select (cmpi .eq (id (constantI S_ 32 2048#32)) (constantI S_ 32 0#32)) (constantI S_ 32 1#32) (id (constantI S_ 32 2048#32))))) (broadcastInDim S2048x2048 ![] bcast_S_S2048x2048 (constantI S_ 32 0#32)))) (addi (Host.remsi (muli (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))) (broadcastInDim S2048x2048 ![] bcast_S_S2048x2048 (select (cmpi .eq (id (constantI S_ 32 2048#32)) (constantI S_ 32 0#32)) (constantI S_ 32 1#32) (id (constantI S_ 32 2048#32))))) (broadcastInDim S2048x2048 ![] bcast_S_S2048x2048 (select (cmpi .eq (id (constantI S_ 32 2048#32)) (constantI S_ 32 0#32)) (constantI S_ 32 1#32) (id (constantI S_ 32 2048#32))))) (Host.remsi (muli (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))) (broadcastInDim S2048x2048 ![] bcast_S_S2048x2048 (select (cmpi .eq (id (constantI S_ 32 2048#32)) (constantI S_ 32 0#32)) (constantI S_ 32 1#32) (id (constantI S_ 32 2048#32))))))) (broadcastInDim S2048x2048 ![] bcast_S_S2048x2048 (constant S_ .f32 0x3B490FDB#32)))

/-- One entry of the reference's array. -/
theorem array_entry (θ : FVec Ideal S2048x2048 .f32) (h : FVec Ideal S16x2x2048x1024 .bf16) (wo : FVec Ideal S1024x1024 .f32) (bo : FVec Ideal S1024 .f32)
    (x : FVec Ideal S16x2048x1024 .f32) (g : FVec Ideal S16x1024 .f32) (b : Fin 16) (s : Fin 2048) (d : Fin 1024) :
    (addf x (mulf (broadcastInDim S16x2048x1024 ![0, 1, 2] bcast_S16x1x1024_S16x2048x1024_0_1_2 (broadcastInDim S16x1x1024 ![0, 2] bcast_S16x1024_S16x1x1024_0_2 g)) (addf (Host.dotGeneral dot_S16x2048x1024_S1024x1024_S16x2048x1024_2_0_01_1_n_n none (addf (transpose S16x2048x1024 [0, 2, 1] (Host.dotGeneral dot_S16x2048x1024_S2048x2048_S16x1024x2048_1_1_02_0_n_n none (shapeCast _ (extractStridedSlice S16x1x2048x1024 ![0, 0, 0, 0] (extf .f32 h bitsLt_bf16_f32) slices_S16x2x2048x1024_S16x1x2048x1024_0_0_0_0) shapeCasts_S16x1x2048x1024_S16x2048x1024) (Host.cos θ)) transposes_S16x1024x2048_S16x2048x1024_0_2_1) (transpose S16x2048x1024 [0, 2, 1] (Host.dotGeneral dot_S16x2048x1024_S2048x2048_S16x1024x2048_1_1_02_0_n_n none (shapeCast _ (extractStridedSlice S16x1x2048x1024 ![0, 1, 0, 0] (extf .f32 h bitsLt_bf16_f32) slices_S16x2x2048x1024_S16x1x2048x1024_0_1_0_0) shapeCasts_S16x1x2048x1024_S16x2048x1024) (Host.negf (Host.sin θ))) transposes_S16x1024x2048_S16x2048x1024_0_2_1)) wo) (broadcastInDim S16x2048x1024 ![0, 1, 2] bcast_S1x1x1024_S16x2048x1024_0_1_2 (broadcastInDim S1x1x1024 ![2] bcast_S1024_S1x1x1024_2 bo)))) : FVec Ideal S16x2048x1024 .f32) (ix3 b s d)
      = entry (x (ix3 b s d)) (g (ix2 b d)) (bo (ix1 d)) (fun u => Ideal.cos (θ (ix2 s u))) (fun u => -(Ideal.sin (θ (ix2 s u))))
          (fun u e => h (ix4 b 0 u e)) (fun u e => h (ix4 b 1 u e)) (fun e => wo (ix2 e d)) := by
  unfold entry
  pointwise
  simp only [mul_comm (h _)]

end

section
open Cert.Kernel6Ideal Cert.Kernel6Ideal.Gen

variable (m : (ℓ : Loc nD τ sig) → Buf (Elt Ideal) ℓ)

theorem zero3 : (![0, 0, 0] : Fin 3 → Nat) = fun _ => 0 := funext fun a => by fin_cases a <;> rfl
theorem zero2 : (![0, 0] : Fin 2 → Nat) = fun _ => 0 := funext fun a => by fin_cases a <;> rfl

/-- The output block of a point is its one payload. -/
theorem block_eq (x0 : Vec Ideal S512x4096 .bf16) (x1 : Vec Ideal S1x4096x1024 .bf16) (x2 : Vec Ideal S1024x1024 .bf16) (x3 : Vec Ideal S1x1024 .f32)
    (x4 : Vec Ideal S1x512x1024 .f32) (x5 : Vec Ideal S1x1x1024 .f32) : out0_6 x0 x1 x2 x3 x4 x5 = k0_pay1 x0 x1 x2 x3 x4 x5 := by
  unfold out0_6
  rw [View.canon_unit_zero zero3, View.ld_unit_zero (S := S512x4096) zero2, View.ld_unit_zero (S := S1x4096x1024) zero3,
    View.ld_unit_zero (S := S1024x1024) zero2, View.ld_unit_zero (S := S1x1024) zero2, View.ld_unit_zero (S := S1x512x1024) zero3,
    View.ld_unit_zero (S := S1x1x1024) zero3]

theorem block_entry (x0 : Vec Ideal S512x4096 .bf16) (x1 : Vec Ideal S1x4096x1024 .bf16) (x2 : Vec Ideal S1024x1024 .bf16) (x3 : Vec Ideal S1x1024 .f32)
    (x4 : Vec Ideal S1x512x1024 .f32) (x5 : Vec Ideal S1x1x1024 .f32) (p : Fin 512) (d : Fin 1024) :
    k0_pay1 x0 x1 x2 x3 x4 x5 (ix3 0 p d)
      = entry (x4 (ix3 0 p d)) (x5 (ix3 0 0 d)) (x3 (ix2 0 d)) (fun u => x0 (ix2 p (Fin.castAdd 2048 u))) (fun u => x0 (ix2 p (Fin.natAdd 2048 u)))
          (fun u e => x1 (ix3 0 (Fin.castAdd 2048 u) e)) (fun u e => x1 (ix3 0 (Fin.natAdd 2048 u) e)) (fun e => x2 (ix2 e d)) := by
  unfold entry
  have split : ∀ f : Fin 4096 → EReal, ∑ u, f u = ∑ u : Fin 2048, f (Fin.castAdd 2048 u) + ∑ u : Fin 2048, f (Fin.natAdd 2048 u) :=
    fun f => Fin.sum_univ_add (a := 2048) (b := 2048) f
  pointwise [k0_pay1]
  simp only [split]

/-! ## The arrays the windows read -/

theorem v28_eq (c : Dev nD) : (V m c main_v28 : FVec Ideal S2048x4096 .bf16)
    = truncf .bf16 (concatenate S2048x4096 1 [⟨S2048x2048, Host.cos angle⟩, ⟨S2048x2048, Host.negf (Host.sin angle)⟩] concatenates_S2048x2048_S2048x2048_S2048x4096_d1) bitsLt_bf16_f32 := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem v33_eq (c : Dev nD) : (V m c main_v33 : FVec Ideal S1024x1024 .bf16) = (truncf .bf16 (m ((c : Thread nD τ).loc main_arg1) : FVec Ideal S1024x1024 .f32) bitsLt_bf16_f32 : FVec Ideal S1024x1024 .bf16) := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem v34_eq (c : Dev nD) : (V m c main_v34 : FVec Ideal S16x1x1024 .f32) = shapeCast S16x1x1024 (m ((c : Thread nD τ).loc main_arg4) : FVec Ideal S16x1024 .f32) shapeCasts_S16x1024_S16x1x1024 := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem v35_eq (c : Dev nD) : (V m c main_v35 : FVec Ideal S16x4096x1024 .bf16) = shapeCast S16x4096x1024 (m ((c : Thread nD τ).loc main_arg0) : FVec Ideal S16x2x2048x1024 .bf16) shapeCasts_S16x2x2048x1024_S16x4096x1024 := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem v36_eq (c : Dev nD) : (V m c main_v36 : FVec Ideal S1x1024 .f32) = shapeCast S1x1024 (m ((c : Thread nD τ).loc main_arg2) : FVec Ideal S1024 .f32) shapeCasts_S1024_S1x1024 := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem v28_cos (c : Dev nD) (s u : Fin 2048) : (V m c main_v28 : FVec Ideal S2048x4096 .bf16) (ix2 s (Fin.castAdd 2048 u)) = Ideal.cos (angle (ix2 s u)) := by
  refine (congrFun (v28_eq m c) _).trans ?_
  generalize angle = θ
  pointwise
  exact dif_pos u.isLt
theorem v28_sin (c : Dev nD) (s u : Fin 2048) : (V m c main_v28 : FVec Ideal S2048x4096 .bf16) (ix2 s (Fin.natAdd 2048 u)) = -(Ideal.sin (angle (ix2 s u))) := by
  refine (congrFun (v28_eq m c) _).trans ?_
  generalize angle = θ
  pointwise
  refine (dif_neg (by simp)).trans ?_
  simp
theorem v33_apply (c : Dev nD) (e d : Fin 1024) : (V m c main_v33 : FVec Ideal S1024x1024 .bf16) (ix2 e d) = m ((c : Thread nD τ).loc main_arg1) (ix2 e d) := by
  refine (congrFun (v33_eq m c) _).trans ?_
  pointwise
theorem v34_apply (c : Dev nD) (b : Fin 16) (d : Fin 1024) : (V m c main_v34 : FVec Ideal S16x1x1024 .f32) (ix3 b 0 d) = m ((c : Thread nD τ).loc main_arg4) (ix2 b d) := by
  refine (congrFun (v34_eq m c) _).trans ?_
  pointwise
theorem v35_re (c : Dev nD) (b : Fin 16) (u : Fin 2048) (e : Fin 1024) :
    (V m c main_v35 : FVec Ideal S16x4096x1024 .bf16) (ix3 b (Fin.castAdd 2048 u) e) = m ((c : Thread nD τ).loc main_arg0) (ix4 b 0 u e) := by
  refine (congrFun (v35_eq m c) _).trans ?_
  refine Idealize.ShloMosaic.shapeCast_apply _ _ _ (ix4 b 0 u e) ?_
  rw [Shape.rowMajor_val_four, Shape.rowMajor_val_three]
  show (((b.val * 2 + 0) * 2048 + u.val) * 1024 + e.val = (b.val * 4096 + (Fin.castAdd 2048 u).val) * 1024 + e.val)
  simp only [Fin.val_castAdd, Fin.val_natAdd]
  omega
theorem v35_im (c : Dev nD) (b : Fin 16) (u : Fin 2048) (e : Fin 1024) :
    (V m c main_v35 : FVec Ideal S16x4096x1024 .bf16) (ix3 b (Fin.natAdd 2048 u) e) = m ((c : Thread nD τ).loc main_arg0) (ix4 b 1 u e) := by
  refine (congrFun (v35_eq m c) _).trans ?_
  refine Idealize.ShloMosaic.shapeCast_apply _ _ _ (ix4 b 1 u e) ?_
  rw [Shape.rowMajor_val_four, Shape.rowMajor_val_three]
  show (((b.val * 2 + 1) * 2048 + u.val) * 1024 + e.val = (b.val * 4096 + (Fin.natAdd 2048 u).val) * 1024 + e.val)
  simp only [Fin.val_castAdd, Fin.val_natAdd]
  omega
theorem v36_apply (c : Dev nD) (d : Fin 1024) : (V m c main_v36 : FVec Ideal S1x1024 .f32) (ix2 0 d) = m ((c : Thread nD τ).loc main_arg2) (ix1 d) := by
  refine (congrFun (v36_eq m c) _).trans ?_
  pointwise

/-! ## The input blocks -/

theorem idx_f : ∀ t : Fin cfg0.N, win0_0.index t = ![t.val % 4, 0] :=
  (by decide +kernel : ∀ t : Fin grid0.N, _)
theorem idx_h : ∀ t : Fin cfg0.N, win0_1.index t = ![t.val / 4, 0, 0] :=
  (by decide +kernel : ∀ t : Fin grid0.N, _)
theorem idx_w : ∀ t : Fin cfg0.N, win0_2.index t = ![0, 0] :=
  (by decide +kernel : ∀ t : Fin grid0.N, _)
theorem idx_b : ∀ t : Fin cfg0.N, win0_3.index t = ![0, 0] :=
  (by decide +kernel : ∀ t : Fin grid0.N, _)
theorem idx_x : ∀ t : Fin cfg0.N, win0_4.index t = ![t.val / 4, t.val % 4, 0] :=
  (by decide +kernel : ∀ t : Fin grid0.N, _)
theorem idx_g : ∀ t : Fin cfg0.N, win0_5.index t = ![t.val / 4, 0, 0] :=
  (by decide +kernel : ∀ t : Fin grid0.N, _)
theorem idx_out : ∀ t : Fin cfg0.N, win0_6.index t = ![t.val / 4, t.val % 4, 0] :=
  (by decide +kernel : ∀ t : Fin grid0.N, _)
theorem flush_out : ∀ t : Fin cfg0.N, (cfg0.win 6).flush t = true :=
  (by decide +kernel : ∀ t : Fin grid0.N, _)

/-- The sample of a point, and a position of its block among all positions. -/
abbrev smp (t : Fin cfg0.N) : Fin 16 := ⟨t.val / 4, by have := lt_of_lt_of_eq t.isLt N_0; omega⟩
abbrev pos (t : Fin cfg0.N) (p : Fin 512) : Fin 2048 := ⟨t.val % 4 * 512 + p.val, by have := p.isLt; omega⟩

theorem f_apply (c : Dev nD) (t : Fin cfg0.N) (p : Fin 512) (u : Fin 4096) :
    iblk m c 0 t (ix2 p u) = V m c main_v28 (ix2 (pos t p) u) := by
  show V m c main_v28 (((cfg0.win 0).blk t).view.emb (ix2 p u)) = _
  congr 1
  funext a
  apply Fin.ext
  match a with
  | ⟨0, _⟩ => show win0_0.index t (0 : Fin 2) * 512 + 1 * p.val = _; rw [idx_f]; show t.val % 4 * 512 + 1 * p.val = t.val % 4 * 512 + p.val; omega
  | ⟨1, _⟩ => show win0_0.index t (1 : Fin 2) * 4096 + 1 * u.val = _; rw [idx_f]; show 0 * 4096 + 1 * u.val = u.val; omega

theorem h_apply (c : Dev nD) (t : Fin cfg0.N) (u : Fin 4096) (e : Fin 1024) :
    iblk m c 1 t (ix3 0 u e) = V m c main_v35 (ix3 (smp t) u e) := by
  show V m c main_v35 (((cfg0.win 1).blk t).view.emb (ix3 0 u e)) = _
  congr 1
  funext a
  apply Fin.ext
  match a with
  | ⟨0, _⟩ => show win0_1.index t (0 : Fin 3) * 1 + 1 * 0 = _; rw [idx_h]; show (t.val / 4) * 1 + 1 * 0 = t.val / 4; omega
  | ⟨1, _⟩ => show win0_1.index t (1 : Fin 3) * 4096 + 1 * u.val = _; rw [idx_h]; show 0 * 4096 + 1 * u.val = u.val; omega
  | ⟨2, _⟩ => show win0_1.index t (2 : Fin 3) * 1024 + 1 * e.val = _; rw [idx_h]; show 0 * 1024 + 1 * e.val = e.val; omega

theorem w_apply (c : Dev nD) (t : Fin cfg0.N) (e d : Fin 1024) :
    iblk m c 2 t (ix2 e d) = V m c main_v33 (ix2 e d) := by
  show V m c main_v33 (((cfg0.win 2).blk t).view.emb (ix2 e d)) = _
  congr 1
  funext a
  apply Fin.ext
  match a with
  | ⟨0, _⟩ => show win0_2.index t (0 : Fin 2) * 1024 + 1 * e.val = _; rw [idx_w]; show 0 * 1024 + 1 * e.val = e.val; omega
  | ⟨1, _⟩ => show win0_2.index t (1 : Fin 2) * 1024 + 1 * d.val = _; rw [idx_w]; show 0 * 1024 + 1 * d.val = d.val; omega

theorem b_apply (c : Dev nD) (t : Fin cfg0.N) (d : Fin 1024) :
    iblk m c 3 t (ix2 0 d) = V m c main_v36 (ix2 0 d) := by
  show V m c main_v36 (((cfg0.win 3).blk t).view.emb (ix2 0 d)) = _
  congr 1
  funext a
  apply Fin.ext
  match a with
  | ⟨0, _⟩ => show win0_3.index t (0 : Fin 2) * 1 + 1 * 0 = _; rw [idx_b]; show 0 * 1 + 1 * 0 = 0; omega
  | ⟨1, _⟩ => show win0_3.index t (1 : Fin 2) * 1024 + 1 * d.val = _; rw [idx_b]; show 0 * 1024 + 1 * d.val = d.val; omega

theorem x_apply (c : Dev nD) (t : Fin cfg0.N) (p : Fin 512) (d : Fin 1024) :
    iblk m c 4 t (ix3 0 p d) = V m c main_arg3 (ix3 (smp t) (pos t p) d) := by
  show V m c main_arg3 (((cfg0.win 4).blk t).view.emb (ix3 0 p d)) = _
  congr 1
  funext a
  apply Fin.ext
  match a with
  | ⟨0, _⟩ => show win0_4.index t (0 : Fin 3) * 1 + 1 * 0 = _; rw [idx_x]; show (t.val / 4) * 1 + 1 * 0 = t.val / 4; omega
  | ⟨1, _⟩ => show win0_4.index t (1 : Fin 3) * 512 + 1 * p.val = _; rw [idx_x]; show (t.val % 4) * 512 + 1 * p.val = t.val % 4 * 512 + p.val; omega
  | ⟨2, _⟩ => show win0_4.index t (2 : Fin 3) * 1024 + 1 * d.val = _; rw [idx_x]; show 0 * 1024 + 1 * d.val = d.val; omega

theorem g_apply (c : Dev nD) (t : Fin cfg0.N) (d : Fin 1024) :
    iblk m c 5 t (ix3 0 0 d) = V m c main_v34 (ix3 (smp t) 0 d) := by
  show V m c main_v34 (((cfg0.win 5).blk t).view.emb (ix3 0 0 d)) = _
  congr 1
  funext a
  apply Fin.ext
  match a with
  | ⟨0, _⟩ => show win0_5.index t (0 : Fin 3) * 1 + 1 * 0 = _; rw [idx_g]; show (t.val / 4) * 1 + 1 * 0 = t.val / 4; omega
  | ⟨1, _⟩ => show win0_5.index t (1 : Fin 3) * 1 + 1 * 0 = _; rw [idx_g]; show 0 * 1 + 1 * 0 = 0; omega
  | ⟨2, _⟩ => show win0_5.index t (2 : Fin 3) * 1024 + 1 * d.val = _; rw [idx_g]; show 0 * 1024 + 1 * d.val = d.val; omega

/-- The kernel's array at an index. -/
theorem kernel_entry (c : Dev nD) (b : Fin 16) (s : Fin 2048) (d : Fin 1024) :
    ((dats m 0 c).arrAt 6 cfg0.N : FVec Ideal S16x2048x1024 .f32) (ix3 b s d)
      = entry (m ((c : Thread nD τ).loc main_arg3) (ix3 b s d)) (m ((c : Thread nD τ).loc main_arg4) (ix2 b d)) (m ((c : Thread nD τ).loc main_arg2) (ix1 d))
          (fun u => Ideal.cos (angle (ix2 s u))) (fun u => -(Ideal.sin (angle (ix2 s u))))
          (fun u e => m ((c : Thread nD τ).loc main_arg0) (ix4 b 0 u e)) (fun u e => m ((c : Thread nD τ).loc main_arg0) (ix4 b 1 u e))
          (fun e => m ((c : Thread nD τ).loc main_arg1) (ix2 e d)) := by
  have hb' := b.isLt
  have hs' := s.isLt
  have hN : b.val * 4 + s.val / 512 < cfg0.N := lt_of_lt_of_eq (by omega) N_0.symm
  obtain ⟨t, ht⟩ : ∃ t : Fin cfg0.N, t.val = b.val * 4 + s.val / 512 := ⟨⟨_, hN⟩, rfl⟩
  obtain ⟨p, hp⟩ : ∃ p : Fin 512, p.val = s.val % 512 := ⟨⟨s.val % 512, by omega⟩, rfl⟩
  have hbt : smp t = b := Fin.ext (show t.val / 4 = b.val by omega)
  have hst : pos t p = s := Fin.ext (show t.val % 4 * 512 + p.val = s.val by omega)
  have hb := congrFun (Cert.Kernel6Ideal.Value.blocks6 m c t (flush_out _)) (ix3 0 p d)
  rw [Cert.Kernel6Ideal.Value.flushed6, block_eq] at hb
  have he : ((cfg0.win 6).blk t).view.emb (ix3 0 p d) = ix3 b s d := by
    funext a
    apply Fin.ext
    match a with
    | ⟨0, _⟩ => show win0_6.index t (0 : Fin 3) * 1 + 1 * 0 = _; rw [idx_out]; show t.val / 4 * 1 + 1 * 0 = b.val; omega
    | ⟨1, _⟩ => show win0_6.index t (1 : Fin 3) * 512 + 1 * p.val = _; rw [idx_out]; show t.val % 4 * 512 + 1 * p.val = s.val; omega
    | ⟨2, _⟩ => show win0_6.index t (2 : Fin 3) * 1024 + 1 * d.val = _; rw [idx_out]; show 0 * 1024 + 1 * d.val = d.val; omega
  refine (congrArg _ he.symm).trans (hb.trans ?_)
  refine (block_entry _ _ _ _ _ _ p d).trans ?_
  subst hbt
  subst hst
  exact entry_congr ((x_apply m c t p d).trans (congrFun (V_main_arg3 m c) _)) ((g_apply m c t d).trans (v34_apply m c _ d)) ((b_apply m c t d).trans (v36_apply m c d))
    (fun u => (f_apply m c t p _).trans (v28_cos m c _ u)) (fun u => (f_apply m c t p _).trans (v28_sin m c _ u))
    (fun u e => (h_apply m c t _ e).trans (v35_re m c _ u e)) (fun u e => (h_apply m c t _ e).trans (v35_im m c _ u e))
    (fun e => (w_apply m c t e d).trans (v33_apply m c e d))

end

/-- On agreeing arguments kernel and reference end with the same array. -/
theorem algebraic : Cert.algebraic_Kernel6Ideal_Reference6Ideal := by
  intro m ρ m' ρ' _ hagree
  refine ⟨fun c => (Cert.Kernel6Ideal.Gen.dats m 0 c).arrAt 6 Cert.Kernel6Ideal.cfg0.N, Cert.Kernel6Ideal.Value.run_blocks (F := Ideal) m ρ, ?_⟩
  refine (θ_run Cert.Reference6Ideal.defs _ _).mono (fun _ h c => ?_) (Cert.Reference6Ideal.Value.run (F := Ideal) m' ρ')
  obtain rfl : c = 0 := Subsingleton.elim _ _
  obtain ⟨e0, e1, e2, e3, e4⟩ := hagree 0
  refine ⟨(h 0).1.trans ?_, (h 0).2⟩
  refine funext fun (i : Cert.Kernel6Ideal.S16x2048x1024.Idx) => ?_
  rw [eq_ix3 i]
  refine (array_entry angle _ _ _ _ _ _ _ _).trans ?_
  refine Eq.trans ?_ (kernel_entry m 0 _ _ _).symm
  rw [e0, e1, e2, e3, e4]

end Cert.Proof.Fourier.Time

end
-- ==== Proof.Combine.Places.lean ====
/- The experts' outputs put back at their tokens: a token's value as a sum over the experts that took it, as a sum against ones and by reading each place. -/
module

public import proofs.«01_k».proof.Defs
public import Idealize.ShloMosaic.Lib.Pointwise
public import Idealize.ShloMosaic.Lib.Claim

@[expose] public section

set_option maxRecDepth 16384

noncomputable section

namespace Cert.Proof.Combine

open Idealize.ShloMosaic Idealize.ShloMosaic.TcCoe Idealize.SL.Sem

/-- What one expert leaves a token: the expert's output at the token's place there, and nothing if the place is none of its 256. -/
def own (v : BitVec 32) (y : Fin 256 → EReal) : EReal := if h : v.toNat < 256 then y ⟨v.toNat, h⟩ else 0

/-- A place among the experts' outputs laid one after the other. -/
abbrev slot (e : Fin 16) (c : Fin 256) : Fin 4096 := ⟨e.val * 256 + c.val, by have := e.isLt; have := c.isLt; omega⟩

/-- Whether a token's place is the place `c`, as a number. -/
def ind (v : BitVec 32) (c : Fin 256) : EReal := if v = BitVec.ofNat 32 c.val then 1 else 0

/-- A sum over the places against the one of them a token has. -/
theorem sum_ind (v : BitVec 32) (y : Fin 256 → EReal) : ∑ c, ind v c * y c = own v y := by
  have hne : ∀ c : Fin 256, v = BitVec.ofNat 32 c.val → v.toNat = c.val := by
    intro c h
    rw [h, BitVec.toNat_ofNat]
    have := c.isLt
    omega
  unfold own
  by_cases h : v.toNat < 256
  · rw [dif_pos h, Finset.sum_eq_single (⟨v.toNat, h⟩ : Fin 256)]
    · unfold ind
      rw [if_pos (by simp), one_mul]
    · intro c _ hc
      unfold ind
      rw [if_neg (fun e => hc (Fin.ext (hne c e).symm)), zero_mul]
    · intro hn; exact absurd (Finset.mem_univ _) hn
  · rw [dif_neg h]
    refine Finset.sum_eq_zero fun c _ => ?_
    unfold ind
    rw [if_neg (fun e => h (by rw [hne c e]; exact c.isLt)), zero_mul]

/-- A sum over all the places is a sum over the experts and each one's places. -/
theorem sum_slots (f : Fin 4096 → EReal) : ∑ j, f j = ∑ e, ∑ c, f (slot e c) := by
  rw [← Equiv.sum_comp (finProdFinEquiv (m := 16) (n := 256)) f, Fintype.sum_prod_type]
  refine Finset.sum_congr rfl fun e _ => Finset.sum_congr rfl fun c _ => congrArg f (Fin.ext ?_)
  show c.val + 256 * e.val = e.val * 256 + c.val
  omega

/-- A place is one of the 256 just when, read with its sign, it is neither negative nor past them. -/
theorem taken (v : BitVec 32) : IntOp.cmpi CmpIPredicate.sge v 0#32 &&& IntOp.cmpi CmpIPredicate.slt v 256#32 = if v.toNat < 256 then 1#1 else 0#1 := by
  have hv := v.isLt
  have e : IntOp.cmpi CmpIPredicate.sge v 0#32 &&& IntOp.cmpi CmpIPredicate.slt v 256#32 = BitVec.ofBool (BitVec.sle 0#32 v && BitVec.slt v 256#32) := by
    unfold IntOp.cmpi
    cases h1 : BitVec.sle 0#32 v <;> cases h2 : BitVec.slt v 256#32 <;> simp_all
  rw [e]
  have hi : v.toInt = if 2 * v.toNat < 2 ^ 32 then (v.toNat : Int) else (v.toNat : Int) - 2 ^ 32 := BitVec.toInt_eq_toNat_cond v
  by_cases h : v.toNat < 256
  · rw [if_pos h]
    rw [if_pos (by omega)] at hi
    have a : BitVec.sle 0#32 v = true := by rw [BitVec.sle]; simp; omega
    have b : BitVec.slt v 256#32 = true := by rw [BitVec.slt]; simp; omega
    rw [a, b]; rfl
  · rw [if_neg h]
    have : (BitVec.sle 0#32 v && BitVec.slt v 256#32) = false := by
      rw [Bool.and_eq_false_iff, BitVec.sle, BitVec.slt]
      simp
      split at hi <;> omega
    rw [this]; rfl

/-- A place among the 256, held between their first and their last, is itself. -/
theorem held (v : BitVec 32) (h : v.toNat < 256) : min v.toInt.toNat 255 = v.toNat := by
  have hi : v.toInt = if 2 * v.toNat < 2 ^ 32 then (v.toNat : Int) else (v.toNat : Int) - 2 ^ 32 := BitVec.toInt_eq_toNat_cond v
  rw [if_pos (by omega)] at hi
  omega

/-- A row over the root of its mean square, at a channel, times the channel's weight. -/
def norm (h : Fin 1024 → EReal) (g : EReal) (d : Fin 1024) : EReal :=
  h d * Ideal.rsqrt (Ideal.div (∑ e, h e * h e) (Ideal.ofBits .f32 0x44800000#32) + Ideal.ofBits .f32 0x358637BD#32) * g

/-- A token's row with what the experts left it: the row `x`, the gate, the token's places and the experts' outputs. -/
def mixed (x gate : Fin 1024 → EReal) (code : Fin 16 → BitVec 32) (ys : Fin 16 → Fin 256 → Fin 1024 → EReal) (d : Fin 1024) : EReal :=
  x d + gate d * ∑ e, own (code e) (fun c => ys e c d)

/-- One entry of the result. -/
def entry (x gate : Fin 1024 → EReal) (code : Fin 16 → BitVec 32) (ys : Fin 16 → Fin 256 → Fin 1024 → EReal) (g : EReal) (d : Fin 1024) : EReal :=
  norm (mixed x gate code ys) g d

theorem entry_congr {x x' gate gate' : Fin 1024 → EReal} {code code' : Fin 16 → BitVec 32} {ys ys' : Fin 16 → Fin 256 → Fin 1024 → EReal} {g g' : EReal}
    (hx : ∀ e, x e = x' e) (hgate : ∀ e, gate e = gate' e) (hcode : ∀ e, code e = code' e) (hys : ∀ e c d, ys e c d = ys' e c d) (hg : g = g') (d : Fin 1024) :
    entry x gate code ys g d = entry x' gate' code' ys' g' d := by
  rw [funext hx, funext hgate, funext hcode, show ys = ys' from funext fun e => funext fun c => funext fun d => hys e c d, hg]

end Cert.Proof.Combine

end
-- ==== Proof.Combine.Block.lean ====
/- The kernel's block: its ones laid side by side, and one entry of the block. -/
module

public import proofs.«01_k».proof.Proof.Gen.Kernel7Ideal.Value
public import Idealize.ShloMosaic.Lib.Pipeline.Value
public import proofs.«01_k».proof.Proof.Combine.Places
public import proofs.«01_k».proof.Defs
public import Idealize.ShloMosaic.Lib.Pointwise
public import Idealize.ShloMosaic.Lib.Claim

@[expose] public section

set_option maxRecDepth 16384

noncomputable section

namespace Cert.Proof.Combine

open Idealize.ShloMosaic Idealize.ShloMosaic.TcCoe Idealize.SL.Sem

open Cert.Kernel7Ideal Cert.Kernel7Ideal.Gen

/-- The sixteen experts' ones, side by side. -/
def cat (z : Fin 16 → FVec Ideal S1024x256 .bf16) : FVec Ideal S1024x4096 .bf16 :=
  concatenate S1024x4096 1 (List.ofFn fun n : Fin 16 => (⟨S1024x256, z n⟩ : (s : Shape) × (s.Idx → Ideal .bf16))) concatenates_S1024x256_S1024x256_S1024x256_S1024x256_S1024x256_S1024x256_S1024x256_S1024x256_S1024x256_S1024x256_S1024x256_S1024x256_S1024x256_S1024x256_S1024x256_S1024x256_S1024x4096_d1

theorem cat_entry (z : Fin 16 → FVec Ideal S1024x256 .bf16) (p : Fin 1024) (e : Fin 16) (c : Fin 256) : cat z (ix2 p (slot e c)) = z e (ix2 p c) := by
  have hc := c.isLt
  refine Idealize.ShloMosaic.concatenate_ofFn_apply (t := S1024x4096) (s₁ := S1024x256) (1 : Fin 2) z _ rfl 256 rfl _ e ?_ _ ?_ ?_
  · show (e.val * 256 + c.val) / 256 = e.val
    omega
  · show c.val = (e.val * 256 + c.val) % 256
    omega
  · intro b hb
    match b with
    | ⟨0, _⟩ => rfl
    | ⟨1, _⟩ => exact absurd rfl hb

theorem same (a b : BitVec 32) : IntOp.cmpi CmpIPredicate.eq a b = if a = b then 1#1 else 0#1 := by
  unfold IntOp.cmpi
  by_cases h : a = b
  · subst h; simp
  · rw [if_neg h]
    show BitVec.ofBool (a == b) = 0#1
    rw [beq_false_of_ne h]
    rfl

/-- One expert's ones, at a token and a place. -/
theorem ones_entry (v : Vec Ideal S1x1024x1 .i32) (p : Fin 1024) (c : Fin 256) : k0_pay2 (F := Ideal) v (ix2 p c) = ind (v (ix3 0 p 0)) c := by
  pointwise [k0_pay2]
  rw [same]
  unfold ind
  split <;> rfl

theorem inb (e : Fin 16) : ∀ a, (![0, 0, e.val] : Fin 3 → Nat) a + S1x1024x1.size a ≤ S1x1024x16.size a := by
  revert e; decide
/-- The tokens' places at one expert. -/
abbrev column (x0 : Vec Ideal S1x1024x16 .i32) (e : Fin 16) : Vec Ideal S1x1024x1 .i32 :=
  View.ld x0 (Rect.unit (s := S1x1024x16) ![0, 0, e.val] S1x1024x1.size (inb e))
theorem column_entry (x0 : Vec Ideal S1x1024x16 .i32) (e : Fin 16) (p : Fin 1024) : column x0 e (ix3 0 p 0) = x0 (ix3 0 p e) := by
  show x0 _ = x0 _
  congr 1
  funext a
  refine Fin.ext ?_
  match a with
  | ⟨0, _⟩ => show 0 + 1 * 0 = 0; omega
  | ⟨1, _⟩ => show 0 + 1 * p.val = p.val; omega
  | ⟨2, _⟩ => show e.val + 1 * 0 = e.val; omega

/-- The kernel's matrix of ones. -/
def scat (x0 : Vec Ideal S1x1024x16 .i32) : FVec Ideal S1024x4096 .bf16 := cat fun e => k0_pay2 (F := Ideal) (column x0 e)

theorem scat_entry (x0 : Vec Ideal S1x1024x16 .i32) (p : Fin 1024) (e : Fin 16) (c : Fin 256) : scat x0 (ix2 p (slot e c)) = ind (x0 (ix3 0 p e)) c := by
  unfold scat
  rw [cat_entry, ones_entry, column_entry]

theorem zero3 : (![0, 0, 0] : Fin 3 → Nat) = fun _ => 0 := funext fun a => by fin_cases a <;> rfl
theorem zero2 : (![0, 0] : Fin 2 → Nat) = fun _ => 0 := funext fun a => by fin_cases a <;> rfl

theorem out_eq (x0 : Vec Ideal S1x1024x16 .i32) (x1 : Vec Ideal S1x4096x1024 .bf16) (x2 : Vec Ideal S1x1024x1024 .f32) (x3 : Vec Ideal S1x1x1024 .f32) (x4 : Vec Ideal S1x1024 .f32) :
    out0_5 x0 x1 x2 x3 x4 = k0_pay1 (F := Ideal) (scat x0) (k0_pay17 (F := Ideal) x2) (k0_pay18 (F := Ideal) x3) x1 x4 := by
  have e : out0_5 x0 x1 x2 x3 x4 = View.canon [⟨r0_16, k0_pay1 (F := Ideal) (scat x0) (k0_pay17 (F := Ideal) (View.ld x2 r0_16)) (k0_pay18 (F := Ideal) (View.ld x3 r0_17)) (View.ld x1 r0_18) (View.ld x4 r0_19)⟩] := rfl
  rw [e, View.canon_unit_zero zero3, View.ld_unit_zero (S := S1x1024x1024) zero3, View.ld_unit_zero (S := S1x1x1024) zero3, View.ld_unit_zero (S := S1x4096x1024) zero3, View.ld_unit_zero (S := S1x1024) zero2]

theorem row_norm (w : FVec Ideal S1024x4096 .bf16) (x1 : Vec Ideal S1x4096x1024 .bf16) (x2 : Vec Ideal S1x1024x1024 .f32) (x3 : Vec Ideal S1x1x1024 .f32) (x4 : Vec Ideal S1x1024 .f32) (p d : Fin 1024) :
    k0_pay1 (F := Ideal) w (k0_pay17 (F := Ideal) x2) (k0_pay18 (F := Ideal) x3) x1 x4 (ix3 0 p d)
      = norm (fun e => x2 (ix3 0 p e) + x3 (ix3 0 0 e) * ∑ j, w (ix2 p j) * x1 (ix3 0 j e)) (x4 (ix2 0 d)) d := by
  unfold norm
  pointwise [k0_pay1, k0_pay17, k0_pay18]

/-- One entry of the block. -/
theorem block_entry (x0 : Vec Ideal S1x1024x16 .i32) (x1 : Vec Ideal S1x4096x1024 .bf16) (x2 : Vec Ideal S1x1024x1024 .f32) (x3 : Vec Ideal S1x1x1024 .f32) (x4 : Vec Ideal S1x1024 .f32) (p d : Fin 1024) :
    out0_5 x0 x1 x2 x3 x4 (ix3 0 p d)
      = entry (fun e => x2 (ix3 0 p e)) (fun e => x3 (ix3 0 0 e)) (fun e => x0 (ix3 0 p e)) (fun e c d => x1 (ix3 0 (slot e c) d)) (x4 (ix2 0 d)) d := by
  rw [out_eq, row_norm]
  unfold entry
  refine congrArg (fun h => norm h (x4 (ix2 0 d)) d) (funext fun e => ?_)
  unfold mixed
  rw [sum_slots]
  refine congrArg (fun s => x2 (ix3 0 p e) + x3 (ix3 0 0 e) * s) (Finset.sum_congr rfl fun k _ => ?_)
  simp only [scat_entry]
  exact sum_ind _ fun c => x1 (ix3 0 (slot k c) e)

end Cert.Proof.Combine

end
-- ==== Proof.Combine.Spec.lean ====
/- The reference: its experts' outputs read at each token's place, their sum, and the norm of the row. -/
module

public import proofs.«01_k».proof.Proof.Gen.Reference7Ideal.Run
public import Idealize.ShloMosaic.Lib.IdealHost
public import proofs.«01_k».proof.Proof.Combine.Places
public import proofs.«01_k».proof.Defs
public import Idealize.ShloMosaic.Lib.Pointwise
public import Idealize.ShloMosaic.Lib.Claim

@[expose] public section

set_option maxRecDepth 16384

noncomputable section

namespace Cert.Proof.Combine

open Idealize.ShloMosaic Idealize.ShloMosaic.TcCoe Idealize.SL.Sem

section
open Cert.Reference7Ideal Cert.Reference7Ideal.Gen Cert.Reference7Ideal.Value

attribute [local instance] Cert.Reference7Ideal.Gen.facts

/-- The experts' outputs read at places: an expert's output at the place, held between its first and its last. -/
theorem gather_entry (ys : FVec Ideal S16x16x256x1024 .bf16) (at_ : IVec S16x16x2048x1 32) (b : Fin 16) (e : Fin 16) (t : Fin 2048) (d : Fin 1024) :
    Host.gather gather_S16x16x256x1024_S16x16x2048x1_S16x16x2048x1024_3_2_01_01_2_3_1111024 ys at_ (ix4 b e t d)
      = ys (ix4 b e ⟨min (at_ (ix4 b e t 0)).toInt.toNat 255, by omega⟩ d) := by
  unfold Host.gather
  congr 1
  funext a
  refine Fin.ext ?_
  generalize hy : (ix4 b e t d : S16x16x2048x1024.Idx) = y
  show gather_S16x16x256x1024_S16x16x2048x1_S16x16x2048x1024_3_2_01_01_2_3_1111024.start y at_ a
      + gather_S16x16x256x1024_S16x16x2048x1_S16x16x2048x1024_3_2_01_01_2_3_1111024.batchCoord y a
      + gather_S16x16x256x1024_S16x16x2048x1_S16x16x2048x1024_3_2_01_01_2_3_1111024.offCoord y a = _
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · rw [GatherDims.start_batching _ _ _ _ (by decide), GatherDims.offCoord_eq_zero _ _ _ (fun h => ((GatherDims.mem_sKept _ _).mp h).2 (by decide))]
    simp only [Nat.zero_add, Nat.add_zero]
    unfold GatherDims.batchCoord
    rw [dif_pos (by decide)]
    subst hy
    rfl
  · rw [GatherDims.start_batching _ _ _ _ (by decide), GatherDims.offCoord_eq_zero _ _ _ (fun h => ((GatherDims.mem_sKept _ _).mp h).2 (by decide))]
    simp only [Nat.zero_add, Nat.add_zero]
    unfold GatherDims.batchCoord
    rw [dif_pos (by decide)]
    subst hy
    rfl
  · rw [GatherDims.batchCoord_eq_zero _ _ _ (by decide), GatherDims.offCoord_eq_zero _ _ _ (fun h => ((GatherDims.mem_sKept _ _).mp h).1 (by decide))]
    simp only [Nat.add_zero]
    unfold GatherDims.start
    rw [dif_pos (by decide)]
    have hsi : ∀ k, gather_S16x16x256x1024_S16x16x2048x1_S16x16x2048x1024_3_2_01_01_2_3_1111024.siIdx y k = ix4 b e t 0 := by
      intro k
      subst hy
      funext b; refine Fin.ext ?_
      match b with
      | ⟨0, _⟩ => rfl
      | ⟨1, _⟩ => rfl
      | ⟨2, _⟩ => rfl
      | ⟨3, _⟩ => exact Nat.lt_one_iff.mp (Fin.isLt _)
    rw [hsi]
    rfl
  · rw [GatherDims.batchCoord_eq_zero _ _ _ (by decide)]
    unfold GatherDims.start
    rw [dif_neg (by decide)]
    simp only [Nat.zero_add, Nat.add_zero]
    unfold GatherDims.offCoord
    rw [dif_pos (by decide)]
    subst hy
    rfl

theorem taken_entry (v : BitVec 32) (y : Fin 256 → EReal) (z : EReal) (hz : z = 0) :
    (if IntOp.cmpi CmpIPredicate.sge v 0#32 &&& IntOp.cmpi CmpIPredicate.slt v 256#32 = 1#1 then y ⟨min v.toInt.toNat 255, by omega⟩ else z) = own v y := by
  rw [taken, hz]
  unfold own
  by_cases h : v.toNat < 256
  · rw [if_pos h, dif_pos h, if_pos rfl]
    exact congrArg y (Fin.ext (held v h))
  · rw [if_neg h, dif_neg h, if_neg (by decide)]

/-- What the experts left a token. -/
theorem left_entry (code : IVec S16x16x2048 32) (ys : FVec Ideal S16x16x256x1024 .bf16) (z : FVec Ideal S16x16x2048x1024 .bf16)
    (hz : z = Host.gather gather_S16x16x256x1024_S16x16x2048x1_S16x16x2048x1024_3_2_01_01_2_3_1111024 ys (broadcastInDim S16x16x2048x1 ![0, 1, 2] bcast_S16x16x2048_S16x16x2048x1_0_1_2 code)) (b : Fin 16) (t : Fin 2048) (d : Fin 1024) :
    ((Host.reduceAdd (select (broadcastInDim S16x16x2048x1024 ![0, 1, 2, 3] bcast_S16x16x2048x1_S16x16x2048x1024_0_1_2_3 (broadcastInDim S16x16x2048x1 ![0, 1, 2] bcast_S16x16x2048_S16x16x2048x1_0_1_2 (andi (cmpi .sge code (broadcastInDim S16x16x2048 ![] bcast_S_S16x16x2048 (constantI S_ 32 0#32))) (cmpi .slt code (broadcastInDim S16x16x2048 ![] bcast_S_S16x16x2048 (constantI S_ 32 256#32)))))) (extf .f32 z bitsLt_bf16_f32) (broadcastInDim S16x16x2048x1024 ![] bcast_S_S16x16x2048x1024 (id (constant S_ .f32 0x00000000#32)))) (constant S_ .f32 0x00000000#32) reducesTo_S16x16x2048x1024_S16x2048x1024_d1 h_S_) : FVec Ideal S16x2048x1024 .f32) (ix3 b t d) = ∑ e, own (code (ix3 b e t)) (fun c => ys (ix4 b e c d)) := by
  have hz' : ∀ e, z (ix4 b e t d) = ys (ix4 b e ⟨min (code (ix3 b e t)).toInt.toNat 255, by omega⟩ d) := by
    intro e
    rw [hz, gather_entry]
    pointwise
  clear hz
  pointwise
  refine Finset.sum_congr rfl fun e _ => ?_
  rw [hz']
  exact taken_entry _ (fun c => ys (ix4 b e c d)) _ (by show Ideal.ofBits .f32 0x00000000#32 = 0; exact Ideal.ofBits_zero_f32)

theorem row_entry (x s : FVec Ideal S16x2048x1024 .f32) (gate : FVec Ideal S16x1024 .f32) (b : Fin 16) (t : Fin 2048) (d : Fin 1024) :
    ((addf x (mulf (broadcastInDim S16x2048x1024 ![0, 1, 2] bcast_S16x1x1024_S16x2048x1024_0_1_2 (broadcastInDim S16x1x1024 ![0, 2] bcast_S16x1024_S16x1x1024_0_2 gate)) s)) : FVec Ideal S16x2048x1024 .f32) (ix3 b t d) = x (ix3 b t d) + gate (ix2 b d) * s (ix3 b t d) := by
  pointwise

theorem norm_entry (h : FVec Ideal S16x2048x1024 .f32) (g : FVec Ideal S1024 .f32) (b : Fin 16) (t : Fin 2048) (d : Fin 1024) :
    (mulf (mulf h (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf h h) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g)) : FVec Ideal S16x2048x1024 .f32) (ix3 b t d) = norm (fun e => h (ix3 b t e)) (g (ix1 d)) d := by
  unfold norm
  pointwise

/-- One entry of the reference's array. -/
theorem array_entry (code : IVec S16x16x2048 32) (ys : FVec Ideal S16x16x256x1024 .bf16) (x : FVec Ideal S16x2048x1024 .f32) (gate : FVec Ideal S16x1024 .f32) (g : FVec Ideal S1024 .f32) (b : Fin 16) (t : Fin 2048) (d : Fin 1024) :
    (mulf (mulf (addf x (mulf (broadcastInDim S16x2048x1024 ![0, 1, 2] bcast_S16x1x1024_S16x2048x1024_0_1_2 (broadcastInDim S16x1x1024 ![0, 2] bcast_S16x1024_S16x1x1024_0_2 gate)) (Host.reduceAdd (select (broadcastInDim S16x16x2048x1024 ![0, 1, 2, 3] bcast_S16x16x2048x1_S16x16x2048x1024_0_1_2_3 (broadcastInDim S16x16x2048x1 ![0, 1, 2] bcast_S16x16x2048_S16x16x2048x1_0_1_2 (andi (cmpi .sge code (broadcastInDim S16x16x2048 ![] bcast_S_S16x16x2048 (constantI S_ 32 0#32))) (cmpi .slt code (broadcastInDim S16x16x2048 ![] bcast_S_S16x16x2048 (constantI S_ 32 256#32)))))) (extf .f32 (Host.gather gather_S16x16x256x1024_S16x16x2048x1_S16x16x2048x1024_3_2_01_01_2_3_1111024 ys (broadcastInDim S16x16x2048x1 ![0, 1, 2] bcast_S16x16x2048_S16x16x2048x1_0_1_2 code)) bitsLt_bf16_f32) (broadcastInDim S16x16x2048x1024 ![] bcast_S_S16x16x2048x1024 (id (constant S_ .f32 0x00000000#32)))) (constant S_ .f32 0x00000000#32) reducesTo_S16x16x2048x1024_S16x2048x1024_d1 h_S_))) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (addf x (mulf (broadcastInDim S16x2048x1024 ![0, 1, 2] bcast_S16x1x1024_S16x2048x1024_0_1_2 (broadcastInDim S16x1x1024 ![0, 2] bcast_S16x1024_S16x1x1024_0_2 gate)) (Host.reduceAdd (select (broadcastInDim S16x16x2048x1024 ![0, 1, 2, 3] bcast_S16x16x2048x1_S16x16x2048x1024_0_1_2_3 (broadcastInDim S16x16x2048x1 ![0, 1, 2] bcast_S16x16x2048_S16x16x2048x1_0_1_2 (andi (cmpi .sge code (broadcastInDim S16x16x2048 ![] bcast_S_S16x16x2048 (constantI S_ 32 0#32))) (cmpi .slt code (broadcastInDim S16x16x2048 ![] bcast_S_S16x16x2048 (constantI S_ 32 256#32)))))) (extf .f32 (Host.gather gather_S16x16x256x1024_S16x16x2048x1_S16x16x2048x1024_3_2_01_01_2_3_1111024 ys (broadcastInDim S16x16x2048x1 ![0, 1, 2] bcast_S16x16x2048_S16x16x2048x1_0_1_2 code)) bitsLt_bf16_f32) (broadcastInDim S16x16x2048x1024 ![] bcast_S_S16x16x2048x1024 (id (constant S_ .f32 0x00000000#32)))) (constant S_ .f32 0x00000000#32) reducesTo_S16x16x2048x1024_S16x2048x1024_d1 h_S_))) (addf x (mulf (broadcastInDim S16x2048x1024 ![0, 1, 2] bcast_S16x1x1024_S16x2048x1024_0_1_2 (broadcastInDim S16x1x1024 ![0, 2] bcast_S16x1024_S16x1x1024_0_2 gate)) (Host.reduceAdd (select (broadcastInDim S16x16x2048x1024 ![0, 1, 2, 3] bcast_S16x16x2048x1_S16x16x2048x1024_0_1_2_3 (broadcastInDim S16x16x2048x1 ![0, 1, 2] bcast_S16x16x2048_S16x16x2048x1_0_1_2 (andi (cmpi .sge code (broadcastInDim S16x16x2048 ![] bcast_S_S16x16x2048 (constantI S_ 32 0#32))) (cmpi .slt code (broadcastInDim S16x16x2048 ![] bcast_S_S16x16x2048 (constantI S_ 32 256#32)))))) (extf .f32 (Host.gather gather_S16x16x256x1024_S16x16x2048x1_S16x16x2048x1024_3_2_01_01_2_3_1111024 ys (broadcastInDim S16x16x2048x1 ![0, 1, 2] bcast_S16x16x2048_S16x16x2048x1_0_1_2 code)) bitsLt_bf16_f32) (broadcastInDim S16x16x2048x1024 ![] bcast_S_S16x16x2048x1024 (id (constant S_ .f32 0x00000000#32)))) (constant S_ .f32 0x00000000#32) reducesTo_S16x16x2048x1024_S16x2048x1024_d1 h_S_)))) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g)) : FVec Ideal S16x2048x1024 .f32) (ix3 b t d)
      = entry (fun d => x (ix3 b t d)) (fun d => gate (ix2 b d)) (fun e => code (ix3 b e t)) (fun e c d => ys (ix4 b e c d)) (g (ix1 d)) d := by
  refine (norm_entry _ g b t d).trans ?_
  unfold entry
  refine congrArg (fun h => norm h (g (ix1 d)) d) (funext fun e => ?_)
  refine (row_entry x _ gate b t e).trans ?_
  unfold mixed
  rw [left_entry code ys _ rfl]

end

end Cert.Proof.Combine

end
-- ==== Proof.Combine.Value.lean ====
/- The experts' outputs put back at their tokens, with the final norm: kernel and reference end with the same array. -/
module

public import proofs.«01_k».proof.Proof.Combine.Block
public import proofs.«01_k».proof.Proof.Combine.Spec
public import proofs.«01_k».proof.Defs
public import Idealize.ShloMosaic.Lib.Pointwise
public import Idealize.ShloMosaic.Lib.Claim

@[expose] public section

set_option maxRecDepth 16384

noncomputable section

namespace Cert.Proof.Combine

open Idealize.ShloMosaic Idealize.ShloMosaic.TcCoe Idealize.SL.Sem

section
open Cert.Kernel7Ideal Cert.Kernel7Ideal.Gen

variable (m : (ℓ : Loc nD τ sig) → Buf (Elt Ideal) ℓ)

/-! ## The arrays the windows read -/

theorem v0_eq (c : Dev nD) : (V m c main_v0 : IVec S16x2048x16 32) = transpose S16x2048x16 [0, 2, 1] (m ((c : Thread nD τ).loc main_arg0) : IVec S16x16x2048 32) transposes_S16x16x2048_S16x2048x16_0_2_1 := by
  unfold V
  simp only [hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem v1_eq (c : Dev nD) : (V m c main_v1 : FVec Ideal S16x4096x1024 .bf16) = shapeCast S16x4096x1024 (m ((c : Thread nD τ).loc main_arg1) : FVec Ideal S16x16x256x1024 .bf16) shapeCasts_S16x16x256x1024_S16x4096x1024 := by
  unfold V
  simp only [hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem v2_eq (c : Dev nD) : (V m c main_v2 : FVec Ideal S16x1x1024 .f32) = shapeCast S16x1x1024 (m ((c : Thread nD τ).loc main_arg3) : FVec Ideal S16x1024 .f32) shapeCasts_S16x1024_S16x1x1024 := by
  unfold V
  simp only [hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem v3_eq (c : Dev nD) : (V m c main_v3 : FVec Ideal S1x1024 .f32) = shapeCast S1x1024 (m ((c : Thread nD τ).loc main_arg4) : FVec Ideal S1024 .f32) shapeCasts_S1024_S1x1024 := by
  unfold V
  simp only [hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem v0_apply (c : Dev nD) (b : Fin 16) (t : Fin 2048) (e : Fin 16) : (V m c main_v0 : IVec S16x2048x16 32) (ix3 b t e) = m ((c : Thread nD τ).loc main_arg0) (ix3 b e t) := by
  refine (congrFun (v0_eq m c) _).trans ?_
  pointwise
theorem v1_apply (c : Dev nD) (b : Fin 16) (e : Fin 16) (k : Fin 256) (d : Fin 1024) : (V m c main_v1 : FVec Ideal S16x4096x1024 .bf16) (ix3 b (slot e k) d) = m ((c : Thread nD τ).loc main_arg1) (ix4 b e k d) := by
  refine (congrFun (v1_eq m c) _).trans ?_
  refine Idealize.ShloMosaic.shapeCast_apply _ _ _ (ix4 b e k d) ?_
  rw [Shape.rowMajor_val_four, Shape.rowMajor_val_three]
  show ((b.val * 16 + e.val) * 256 + k.val) * 1024 + d.val = (b.val * 4096 + (e.val * 256 + k.val)) * 1024 + d.val
  omega
theorem v2_apply (c : Dev nD) (b : Fin 16) (d : Fin 1024) : (V m c main_v2 : FVec Ideal S16x1x1024 .f32) (ix3 b 0 d) = m ((c : Thread nD τ).loc main_arg3) (ix2 b d) := by
  refine (congrFun (v2_eq m c) _).trans ?_
  pointwise
theorem v3_apply (c : Dev nD) (d : Fin 1024) : (V m c main_v3 : FVec Ideal S1x1024 .f32) (ix2 0 d) = m ((c : Thread nD τ).loc main_arg4) (ix1 d) := by
  refine (congrFun (v3_eq m c) _).trans ?_
  pointwise

/-! ## The input blocks -/

theorem idx0 : ∀ t : Fin cfg0.N, win0_0.index t = ![t.val / 2, t.val % 2, 0] :=
  (by decide +kernel : ∀ t : Fin grid0.N, _)
theorem idx1 : ∀ t : Fin cfg0.N, win0_1.index t = ![t.val / 2, 0, 0] :=
  (by decide +kernel : ∀ t : Fin grid0.N, _)
theorem idx2 : ∀ t : Fin cfg0.N, win0_2.index t = ![t.val / 2, t.val % 2, 0] :=
  (by decide +kernel : ∀ t : Fin grid0.N, _)
theorem idx3 : ∀ t : Fin cfg0.N, win0_3.index t = ![t.val / 2, 0, 0] :=
  (by decide +kernel : ∀ t : Fin grid0.N, _)
theorem idx4 : ∀ t : Fin cfg0.N, win0_4.index t = ![0, 0] :=
  (by decide +kernel : ∀ t : Fin grid0.N, _)
theorem idx5 : ∀ t : Fin cfg0.N, win0_5.index t = ![t.val / 2, t.val % 2, 0] :=
  (by decide +kernel : ∀ t : Fin grid0.N, _)
theorem flush_out : ∀ t : Fin cfg0.N, (cfg0.win 5).flush t = true :=
  (by decide +kernel : ∀ t : Fin grid0.N, _)

/-- The sample of a point, and a position of its block. -/
abbrev smp (t : Fin cfg0.N) : Fin 16 := ⟨t.val / 2, by have := lt_of_lt_of_eq t.isLt N_0; omega⟩
abbrev pos (t : Fin cfg0.N) (p : Fin 1024) : Fin 2048 := ⟨t.val % 2 * 1024 + p.val, by have := p.isLt; omega⟩

theorem b0_apply (c : Dev nD) (t : Fin cfg0.N) (p : Fin 1024) (e : Fin 16) :
    iblk m c 0 t (ix3 0 p e) = V m c main_v0 (ix3 (smp t) (pos t p) e) := by
  show V m c main_v0 (((cfg0.win 0).blk t).view.emb (ix3 0 p e)) = _
  congr 1
  funext a
  apply Fin.ext
  match a with
  | ⟨0, _⟩ => show win0_0.index t (0 : Fin 3) * 1 + 1 * 0 = _; rw [idx0]; show (t.val / 2) * 1 + 1 * 0 = t.val / 2; omega
  | ⟨1, _⟩ => show win0_0.index t (1 : Fin 3) * 1024 + 1 * p.val = _; rw [idx0]; show (t.val % 2) * 1024 + 1 * p.val = t.val % 2 * 1024 + p.val; omega
  | ⟨2, _⟩ => show win0_0.index t (2 : Fin 3) * 16 + 1 * e.val = _; rw [idx0]; show 0 * 16 + 1 * e.val = e.val; omega

theorem b1_apply (c : Dev nD) (t : Fin cfg0.N) (j : Fin 4096) (d : Fin 1024) :
    iblk m c 1 t (ix3 0 j d) = V m c main_v1 (ix3 (smp t) j d) := by
  show V m c main_v1 (((cfg0.win 1).blk t).view.emb (ix3 0 j d)) = _
  congr 1
  funext a
  apply Fin.ext
  match a with
  | ⟨0, _⟩ => show win0_1.index t (0 : Fin 3) * 1 + 1 * 0 = _; rw [idx1]; show (t.val / 2) * 1 + 1 * 0 = t.val / 2; omega
  | ⟨1, _⟩ => show win0_1.index t (1 : Fin 3) * 4096 + 1 * j.val = _; rw [idx1]; show 0 * 4096 + 1 * j.val = j.val; omega
  | ⟨2, _⟩ => show win0_1.index t (2 : Fin 3) * 1024 + 1 * d.val = _; rw [idx1]; show 0 * 1024 + 1 * d.val = d.val; omega

theorem b2_apply (c : Dev nD) (t : Fin cfg0.N) (p : Fin 1024) (d : Fin 1024) :
    iblk m c 2 t (ix3 0 p d) = V m c main_arg2 (ix3 (smp t) (pos t p) d) := by
  show V m c main_arg2 (((cfg0.win 2).blk t).view.emb (ix3 0 p d)) = _
  congr 1
  funext a
  apply Fin.ext
  match a with
  | ⟨0, _⟩ => show win0_2.index t (0 : Fin 3) * 1 + 1 * 0 = _; rw [idx2]; show (t.val / 2) * 1 + 1 * 0 = t.val / 2; omega
  | ⟨1, _⟩ => show win0_2.index t (1 : Fin 3) * 1024 + 1 * p.val = _; rw [idx2]; show (t.val % 2) * 1024 + 1 * p.val = t.val % 2 * 1024 + p.val; omega
  | ⟨2, _⟩ => show win0_2.index t (2 : Fin 3) * 1024 + 1 * d.val = _; rw [idx2]; show 0 * 1024 + 1 * d.val = d.val; omega

theorem b3_apply (c : Dev nD) (t : Fin cfg0.N) (d : Fin 1024) :
    iblk m c 3 t (ix3 0 0 d) = V m c main_v2 (ix3 (smp t) 0 d) := by
  show V m c main_v2 (((cfg0.win 3).blk t).view.emb (ix3 0 0 d)) = _
  congr 1
  funext a
  apply Fin.ext
  match a with
  | ⟨0, _⟩ => show win0_3.index t (0 : Fin 3) * 1 + 1 * 0 = _; rw [idx3]; show (t.val / 2) * 1 + 1 * 0 = t.val / 2; omega
  | ⟨1, _⟩ => show win0_3.index t (1 : Fin 3) * 1 + 1 * 0 = _; rw [idx3]; show 0 * 1 + 1 * 0 = 0; omega
  | ⟨2, _⟩ => show win0_3.index t (2 : Fin 3) * 1024 + 1 * d.val = _; rw [idx3]; show 0 * 1024 + 1 * d.val = d.val; omega

theorem b4_apply (c : Dev nD) (t : Fin cfg0.N) (d : Fin 1024) :
    iblk m c 4 t (ix2 0 d) = V m c main_v3 (ix2 0 d) := by
  show V m c main_v3 (((cfg0.win 4).blk t).view.emb (ix2 0 d)) = _
  congr 1
  funext a
  apply Fin.ext
  match a with
  | ⟨0, _⟩ => show win0_4.index t (0 : Fin 2) * 1 + 1 * 0 = _; rw [idx4]; show 0 * 1 + 1 * 0 = 0; omega
  | ⟨1, _⟩ => show win0_4.index t (1 : Fin 2) * 1024 + 1 * d.val = _; rw [idx4]; show 0 * 1024 + 1 * d.val = d.val; omega

/-- The kernel's array at an index. -/
theorem kernel_entry (c : Dev nD) (b : Fin 16) (s : Fin 2048) (d : Fin 1024) :
    ((dats m 0 c).arrAt 5 cfg0.N : FVec Ideal S16x2048x1024 .f32) (ix3 b s d)
      = entry (fun d => m ((c : Thread nD τ).loc main_arg2) (ix3 b s d)) (fun d => m ((c : Thread nD τ).loc main_arg3) (ix2 b d)) (fun e => m ((c : Thread nD τ).loc main_arg0) (ix3 b e s))
          (fun e k d => m ((c : Thread nD τ).loc main_arg1) (ix4 b e k d)) (m ((c : Thread nD τ).loc main_arg4) (ix1 d)) d := by
  have hb' := b.isLt
  have hs' := s.isLt
  have hN : b.val * 2 + s.val / 1024 < cfg0.N := lt_of_lt_of_eq (by omega) N_0.symm
  obtain ⟨t, ht⟩ : ∃ t : Fin cfg0.N, t.val = b.val * 2 + s.val / 1024 := ⟨⟨_, hN⟩, rfl⟩
  obtain ⟨p, hp⟩ : ∃ p : Fin 1024, p.val = s.val % 1024 := ⟨⟨s.val % 1024, by omega⟩, rfl⟩
  have hbt : smp t = b := Fin.ext (show t.val / 2 = b.val by omega)
  have hst : pos t p = s := Fin.ext (show t.val % 2 * 1024 + p.val = s.val by omega)
  have hb := congrFun (Cert.Kernel7Ideal.Value.blocks5 m c t (flush_out _)) (ix3 0 p d)
  rw [Cert.Kernel7Ideal.Value.flushed5] at hb
  have he : ((cfg0.win 5).blk t).view.emb (ix3 0 p d) = ix3 b s d := by
    funext a
    apply Fin.ext
    match a with
    | ⟨0, _⟩ => show win0_5.index t (0 : Fin 3) * 1 + 1 * 0 = _; rw [idx5]; show t.val / 2 * 1 + 1 * 0 = b.val; omega
    | ⟨1, _⟩ => show win0_5.index t (1 : Fin 3) * 1024 + 1 * p.val = _; rw [idx5]; show t.val % 2 * 1024 + 1 * p.val = s.val; omega
    | ⟨2, _⟩ => show win0_5.index t (2 : Fin 3) * 1024 + 1 * d.val = _; rw [idx5]; show 0 * 1024 + 1 * d.val = d.val; omega
  refine (congrArg _ he.symm).trans (hb.trans ?_)
  subst hbt
  subst hst
  refine (block_entry _ _ _ _ _ p d).trans ?_
  exact entry_congr (fun e => (b2_apply m c t p e).trans (congrFun (V_main_arg2 m c) _)) (fun e => (b3_apply m c t e).trans (v2_apply m c _ e))
    (fun e => (b0_apply m c t p e).trans (v0_apply m c _ _ e)) (fun e k d => (b1_apply m c t (slot e k) d).trans (v1_apply m c _ e k d))
    ((b4_apply m c t d).trans (v3_apply m c d)) d

end

/-- On agreeing arguments kernel and reference end with the same array. -/
theorem algebraic : Cert.algebraic_Kernel7Ideal_Reference7Ideal := by
  intro m ρ m' ρ' _ hagree
  refine ⟨fun c => (Cert.Kernel7Ideal.Gen.dats m 0 c).arrAt 5 Cert.Kernel7Ideal.cfg0.N, Cert.Kernel7Ideal.Value.run_blocks (F := Ideal) m ρ, ?_⟩
  refine (θ_run Cert.Reference7Ideal.defs _ _).mono (fun _ h c => ?_) (Cert.Reference7Ideal.Value.run (F := Ideal) m' ρ')
  obtain rfl : c = 0 := Subsingleton.elim _ _
  obtain ⟨e0, e1, e2, e3, e4⟩ := hagree 0
  refine ⟨(h 0).1.trans ?_, (h 0).2⟩
  refine funext fun (i : Cert.Kernel7Ideal.S16x2048x1024.Idx) => ?_
  rw [eq_ix3 i]
  refine (array_entry _ _ _ _ _ _ _ _).trans ?_
  refine Eq.trans ?_ (kernel_entry m 0 _ _ _).symm
  rw [e0, e1, e2, e3, e4]

end Cert.Proof.Combine

end
-- ==== Proof.lean ====
/- The claims of Defs.lean, proved. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Ffn.Value
public import proofs.«01_k».proof.Proof.Wkv.Value
public import proofs.«01_k».proof.Proof.Ctx.Value
public import proofs.«01_k».proof.Proof.Out.Value
public import proofs.«01_k».proof.Proof.Fourier.Chan
public import proofs.«01_k».proof.Proof.Fourier.Time
public import proofs.«01_k».proof.Proof.Combine.Value
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.Kernel.Gen.frame m ρ
theorem frame_kernelIdeal : Cert.quiescent_KernelIdeal := fun m ρ _ => Cert.KernelIdeal.Gen.frame m ρ
theorem frame_kernelIdeal_finite : Cert.quiescent_KernelIdeal_pre_finite (hPre_finite := Wkv.Finite.facts) :=
  fun m ρ _ => Cert.KernelIdeal.Gen.frame m ρ
theorem frame_kernel2 : Cert.quiescent_Kernel2 := fun m ρ _ => Cert.Kernel2.Gen.frame m ρ
theorem frame_kernel2Ideal : Cert.quiescent_Kernel2Ideal := fun m ρ _ => Cert.Kernel2Ideal.Gen.frame m ρ

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_referenceIdeal_finite : Cert.quiescent_ReferenceIdeal_pre_finite (hPre_finite := Wkv.Finite.facts) :=
  fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_kernel3 : Cert.quiescent_Kernel3 := fun m ρ _ => Cert.Kernel3.Gen.frame m ρ
theorem frame_kernel3Ideal : Cert.quiescent_Kernel3Ideal := fun m ρ _ => Cert.Kernel3Ideal.Gen.frame m ρ
theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_kernel4 : Cert.quiescent_Kernel4 := fun m ρ _ => Cert.Kernel4.Gen.frame m ρ
theorem frame_kernel4Ideal : Cert.quiescent_Kernel4Ideal := fun m ρ _ => Cert.Kernel4Ideal.Gen.frame m ρ
theorem frame_kernel4Ideal_finite4 : Cert.quiescent_Kernel4Ideal_pre_finite4 (hPre_finite4 := Out.Finite.facts) :=
  fun m ρ _ => Cert.Kernel4Ideal.Gen.frame m ρ
theorem frame_reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)
theorem frame_reference4Ideal_finite4 : Cert.quiescent_Reference4Ideal_pre_finite4 (hPre_finite4 := Out.Finite.facts) :=
  fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_kernel5 : Cert.quiescent_Kernel5 := fun m ρ _ => Cert.Kernel5.Gen.frame m ρ
theorem frame_kernel5Ideal : Cert.quiescent_Kernel5Ideal := fun m ρ _ => Cert.Kernel5Ideal.Gen.frame m ρ
theorem frame_reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame_kernel6 : Cert.quiescent_Kernel6 := fun m ρ _ => Cert.Kernel6.Gen.frame m ρ
theorem frame_kernel6Ideal : Cert.quiescent_Kernel6Ideal := fun m ρ _ => Cert.Kernel6Ideal.Gen.frame m ρ
theorem frame_reference6Ideal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_kernel7 : Cert.quiescent_Kernel7 := fun m ρ _ => Cert.Kernel7.Gen.frame m ρ
theorem frame_kernel7Ideal : Cert.quiescent_Kernel7Ideal := fun m ρ _ => Cert.Kernel7Ideal.Gen.frame m ρ
theorem frame_reference7Ideal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Wkv.Finite.facts, Out.Finite.facts,
  frame_kernel, frame_kernelIdeal, frame_kernelIdeal_finite, frame_referenceIdeal, frame_referenceIdeal_finite,
  frame_kernel2, frame_kernel2Ideal, frame_reference2Ideal,
  frame_kernel3, frame_kernel3Ideal, frame_reference3Ideal, frame_kernel4, frame_kernel4Ideal, frame_kernel4Ideal_finite4, frame_reference4Ideal, frame_reference4Ideal_finite4, frame_kernel5, frame_kernel5Ideal, frame_reference5Ideal, frame_kernel6, frame_kernel6Ideal, frame_reference6Ideal,
  frame_kernel7, frame_kernel7Ideal, frame_reference7Ideal,
  trivial, Wkv.algebraic, trivial, Ffn.algebraic, trivial, Ctx.algebraic, trivial, Out.algebraic, trivial, Fourier.Chan.algebraic, trivial, Fourier.Time.algebraic, trivial, Combine.algebraic⟩

end Cert.Proof

end
